-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15)
      ∧ r.2.mem ((c.tc : Thread Cert.Kernel21.nD Cert.Kernel21.τ).loc Cert.Kernel21.main_arg16) = m ((c.tc : Thread Cert.Kernel21.nD Cert.Kernel21.τ).loc Cert.Kernel21.main_arg16)
      ∧ r.2.mem ((c.tc : Thread Cert.Kernel21.nD Cert.Kernel21.τ).loc Cert.Kernel21.main_arg17) = m ((c.tc : Thread Cert.Kernel21.nD Cert.Kernel21.τ).loc Cert.Kernel21.main_arg17)
      ∧ r.2.mem ((c.tc : Thread Cert.Kernel21.nD Cert.Kernel21.τ).loc Cert.Kernel21.main_arg18) = m ((c.tc : Thread Cert.Kernel21.nD Cert.Kernel21.τ).loc Cert.Kernel21.main_arg18)
      ∧ r.2.mem ((c.tc : Thread Cert.Kernel21.nD Cert.Kernel21.τ).loc Cert.Kernel21.main_arg19) = m ((c.tc : Thread Cert.Kernel21.nD Cert.Kernel21.τ).loc Cert.Kernel21.main_arg19)
      ∧ r.2.mem ((c.tc : Thread Cert.Kernel21.nD Cert.Kernel21.τ).loc Cert.Kernel21.main_arg20) = m ((c.tc : Thread Cert.Kernel21.nD Cert.Kernel21.τ).loc Cert.Kernel21.main_arg20)
      ∧ r.2.mem ((c.tc : Thread Cert.Kernel21.nD Cert.Kernel21.τ).loc Cert.Kernel21.main_arg21) = m ((c.tc : Thread Cert.Kernel21.nD Cert.Kernel21.τ).loc Cert.Kernel21.main_arg21)
      ∧ r.2.mem ((c.tc : Thread Cert.Kernel21.nD Cert.Kernel21.τ).loc Cert.Kernel21.main_arg22) = m ((c.tc : Thread Cert.Kernel21.nD Cert.Kernel21.τ).loc Cert.Kernel21.main_arg22)
      ∧ r.2.mem ((c.tc : Thread Cert.Kernel21.nD Cert.Kernel21.τ).loc Cert.Kernel21.main_arg23) = m ((c.tc : Thread Cert.Kernel21.nD Cert.Kernel21.τ).loc Cert.Kernel21.main_arg23)
      ∧ r.2.mem ((c.tc : Thread Cert.Kernel21.nD Cert.Kernel21.τ).loc Cert.Kernel21.main_arg24) = m ((c.tc : Thread Cert.Kernel21.nD Cert.Kernel21.τ).loc Cert.Kernel21.main_arg24)
      ∧ r.2.mem ((c.tc : Thread Cert.Kernel21.nD Cert.Kernel21.τ).loc Cert.Kernel21.main_arg25) = m ((c.tc : Thread Cert.Kernel21.nD Cert.Kernel21.τ).loc Cert.Kernel21.main_arg25)
      ∧ r.2.mem ((c.tc : Thread Cert.Kernel21.nD Cert.Kernel21.τ).loc Cert.Kernel21.main_arg26) = m ((c.tc : Thread Cert.Kernel21.nD Cert.Kernel21.τ).loc Cert.Kernel21.main_arg26)
      ∧ r.2.mem ((c.tc : Thread Cert.Kernel21.nD Cert.Kernel21.τ).loc Cert.Kernel21.main_arg27) = m ((c.tc : Thread Cert.Kernel21.nD Cert.Kernel21.τ).loc Cert.Kernel21.main_arg27)
      ∧ r.2.mem ((c.tc : Thread Cert.Kernel21.nD Cert.Kernel21.τ).loc Cert.Kernel21.main_arg28) = m ((c.tc : Thread Cert.Kernel21.nD Cert.Kernel21.τ).loc Cert.Kernel21.main_arg28)
      ∧ r.2.mem ((c.tc : Thread Cert.Kernel21.nD Cert.Kernel21.τ).loc Cert.Kernel21.main_arg29) = m ((c.tc : Thread Cert.Kernel21.nD Cert.Kernel21.τ).loc Cert.Kernel21.main_arg29)
      ∧ r.2.mem ((c.tc : Thread Cert.Kernel21.nD Cert.Kernel21.τ).loc Cert.Kernel21.main_arg30) = m ((c.tc : Thread Cert.Kernel21.nD Cert.Kernel21.τ).loc Cert.Kernel21.main_arg30)
      ∧ r.2.mem ((c.tc : Thread Cert.Kernel21.nD Cert.Kernel21.τ).loc Cert.Kernel21.main_arg31) = m ((c.tc : Thread Cert.Kernel21.nD Cert.Kernel21.τ).loc Cert.Kernel21.main_arg31)
      ∧ r.2.mem ((c.tc : Thread Cert.Kernel21.nD Cert.Kernel21.τ).loc Cert.Kernel21.main_arg32) = m ((c.tc : Thread Cert.Kernel21.nD Cert.Kernel21.τ).loc Cert.Kernel21.main_arg32))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
      ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
      ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
      ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
      ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
      ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
      ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
      ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
      ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
      ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24)
      ∧ r.2.mem ((c.tc : Thread Cert.Kernel21Ideal.nD Cert.Kernel21Ideal.τ).loc Cert.Kernel21Ideal.main_arg25) = m ((c.tc : Thread Cert.Kernel21Ideal.nD Cert.Kernel21Ideal.τ).loc Cert.Kernel21Ideal.main_arg25)
      ∧ r.2.mem ((c.tc : Thread Cert.Kernel21Ideal.nD Cert.Kernel21Ideal.τ).loc Cert.Kernel21Ideal.main_arg26) = m ((c.tc : Thread Cert.Kernel21Ideal.nD Cert.Kernel21Ideal.τ).loc Cert.Kernel21Ideal.main_arg26)
      ∧ r.2.mem ((c.tc : Thread Cert.Kernel21Ideal.nD Cert.Kernel21Ideal.τ).loc Cert.Kernel21Ideal.main_arg27) = m ((c.tc : Thread Cert.Kernel21Ideal.nD Cert.Kernel21Ideal.τ).loc Cert.Kernel21Ideal.main_arg27)
      ∧ r.2.mem ((c.tc : Thread Cert.Kernel21Ideal.nD Cert.Kernel21Ideal.τ).loc Cert.Kernel21Ideal.main_arg28) = m ((c.tc : Thread Cert.Kernel21Ideal.nD Cert.Kernel21Ideal.τ).loc Cert.Kernel21Ideal.main_arg28)
      ∧ r.2.mem ((c.tc : Thread Cert.Kernel21Ideal.nD Cert.Kernel21Ideal.τ).loc Cert.Kernel21Ideal.main_arg29) = m ((c.tc : Thread Cert.Kernel21Ideal.nD Cert.Kernel21Ideal.τ).loc Cert.Kernel21Ideal.main_arg29)
      ∧ r.2.mem ((c.tc : Thread Cert.Kernel21Ideal.nD Cert.Kernel21Ideal.τ).loc Cert.Kernel21Ideal.main_arg30) = m ((c.tc : Thread Cert.Kernel21Ideal.nD Cert.Kernel21Ideal.τ).loc Cert.Kernel21Ideal.main_arg30)
      ∧ r.2.mem ((c.tc : Thread Cert.Kernel21Ideal.nD Cert.Kernel21Ideal.τ).loc Cert.Kernel21Ideal.main_arg31) = m ((c.tc : Thread Cert.Kernel21Ideal.nD Cert.Kernel21Ideal.τ).loc Cert.Kernel21Ideal.main_arg31)
      ∧ r.2.mem ((c.tc : Thread Cert.Kernel21Ideal.nD Cert.Kernel21Ideal.τ).loc Cert.Kernel21Ideal.main_arg32) = m ((c.tc : Thread Cert.Kernel21Ideal.nD Cert.Kernel21Ideal.τ).loc Cert.Kernel21Ideal.main_arg32))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15)
      ∧ r.2.mem ((c.tc : Thread Cert.Reference21Ideal.nD Cert.Reference21Ideal.τ).loc Cert.Reference21Ideal.main_arg16) = m ((c.tc : Thread Cert.Reference21Ideal.nD Cert.Reference21Ideal.τ).loc Cert.Reference21Ideal.main_arg16)
      ∧ r.2.mem ((c.tc : Thread Cert.Reference21Ideal.nD Cert.Reference21Ideal.τ).loc Cert.Reference21Ideal.main_arg17) = m ((c.tc : Thread Cert.Reference21Ideal.nD Cert.Reference21Ideal.τ).loc Cert.Reference21Ideal.main_arg17)
      ∧ r.2.mem ((c.tc : Thread Cert.Reference21Ideal.nD Cert.Reference21Ideal.τ).loc Cert.Reference21Ideal.main_arg18) = m ((c.tc : Thread Cert.Reference21Ideal.nD Cert.Reference21Ideal.τ).loc Cert.Reference21Ideal.main_arg18)
      ∧ r.2.mem ((c.tc : Thread Cert.Reference21Ideal.nD Cert.Reference21Ideal.τ).loc Cert.Reference21Ideal.main_arg19) = m ((c.tc : Thread Cert.Reference21Ideal.nD Cert.Reference21Ideal.τ).loc Cert.Reference21Ideal.main_arg19)
      ∧ r.2.mem ((c.tc : Thread Cert.Reference21Ideal.nD Cert.Reference21Ideal.τ).loc Cert.Reference21Ideal.main_arg20) = m ((c.tc : Thread Cert.Reference21Ideal.nD Cert.Reference21Ideal.τ).loc Cert.Reference21Ideal.main_arg20)
      ∧ r.2.mem ((c.tc : Thread Cert.Reference21Ideal.nD Cert.Reference21Ideal.τ).loc Cert.Reference21Ideal.main_arg21) = m ((c.tc : Thread Cert.Reference21Ideal.nD Cert.Reference21Ideal.τ).loc Cert.Reference21Ideal.main_arg21)
      ∧ r.2.mem ((c.tc : Thread Cert.Reference21Ideal.nD Cert.Reference21Ideal.τ).loc Cert.Reference21Ideal.main_arg22) = m ((c.tc : Thread Cert.Reference21Ideal.nD Cert.Reference21Ideal.τ).loc Cert.Reference21Ideal.main_arg22)
      ∧ r.2.mem ((c.tc : Thread Cert.Reference21Ideal.nD Cert.Reference21Ideal.τ).loc Cert.Reference21Ideal.main_arg23) = m ((c.tc : Thread Cert.Reference21Ideal.nD Cert.Reference21Ideal.τ).loc Cert.Reference21Ideal.main_arg23)
      ∧ r.2.mem ((c.tc : Thread Cert.Reference21Ideal.nD Cert.Reference21Ideal.τ).loc Cert.Reference21Ideal.main_arg24) = m ((c.tc : Thread Cert.Reference21Ideal.nD Cert.Reference21Ideal.τ).loc Cert.Reference21Ideal.main_arg24)
      ∧ r.2.mem ((c.tc : Thread Cert.Reference21Ideal.nD Cert.Reference21Ideal.τ).loc Cert.Reference21Ideal.main_arg25) = m ((c.tc : Thread Cert.Reference21Ideal.nD Cert.Reference21Ideal.τ).loc Cert.Reference21Ideal.main_arg25)
      ∧ r.2.mem ((c.tc : Thread Cert.Reference21Ideal.nD Cert.Reference21Ideal.τ).loc Cert.Reference21Ideal.main_arg26) = m ((c.tc : Thread Cert.Reference21Ideal.nD Cert.Reference21Ideal.τ).loc Cert.Reference21Ideal.main_arg26)
      ∧ r.2.mem ((c.tc : Thread Cert.Reference21Ideal.nD Cert.Reference21Ideal.τ).loc Cert.Reference21Ideal.main_arg27) = m ((c.tc : Thread Cert.Reference21Ideal.nD Cert.Reference21Ideal.τ).loc Cert.Reference21Ideal.main_arg27)
      ∧ r.2.mem ((c.tc : Thread Cert.Reference21Ideal.nD Cert.Reference21Ideal.τ).loc Cert.Reference21Ideal.main_arg28) = m ((c.tc : Thread Cert.Reference21Ideal.nD Cert.Reference21Ideal.τ).loc Cert.Reference21Ideal.main_arg28)
      ∧ r.2.mem ((c.tc : Thread Cert.Reference21Ideal.nD Cert.Reference21Ideal.τ).loc Cert.Reference21Ideal.main_arg29) = m ((c.tc : Thread Cert.Reference21Ideal.nD Cert.Reference21Ideal.τ).loc Cert.Reference21Ideal.main_arg29)
      ∧ r.2.mem ((c.tc : Thread Cert.Reference21Ideal.nD Cert.Reference21Ideal.τ).loc Cert.Reference21Ideal.main_arg30) = m ((c.tc : Thread Cert.Reference21Ideal.nD Cert.Reference21Ideal.τ).loc Cert.Reference21Ideal.main_arg30)
      ∧ r.2.mem ((c.tc : Thread Cert.Reference21Ideal.nD Cert.Reference21Ideal.τ).loc Cert.Reference21Ideal.main_arg31) = m ((c.tc : Thread Cert.Reference21Ideal.nD Cert.Reference21Ideal.τ).loc Cert.Reference21Ideal.main_arg31)
      ∧ r.2.mem ((c.tc : Thread Cert.Reference21Ideal.nD Cert.Reference21Ideal.τ).loc Cert.Reference21Ideal.main_arg32) = m ((c.tc : Thread Cert.Reference21Ideal.nD Cert.Reference21Ideal.τ).loc Cert.Reference21Ideal.main_arg32))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)) (v5 : (c : Dev Cert.KernelIdeal.nD) → Buf (Elt Ideal) ((c.tc : Thread Cert.KernelIdeal.nD Cert.KernelIdeal.τ).loc Cert.KernelIdeal.main_v62_5)) (v6 : (c : Dev Cert.KernelIdeal.nD) → Buf (Elt Ideal) ((c.tc : Thread Cert.KernelIdeal.nD Cert.KernelIdeal.τ).loc Cert.KernelIdeal.main_v62_6)) (v7 : (c : Dev Cert.KernelIdeal.nD) → Buf (Elt Ideal) ((c.tc : Thread Cert.KernelIdeal.nD Cert.KernelIdeal.τ).loc Cert.KernelIdeal.main_v62_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_v62_5) = v5 c
          ∧ r.2.mem ((c.tc : Thread Cert.KernelIdeal.nD Cert.KernelIdeal.τ).loc Cert.KernelIdeal.main_v62_6) = v6 c
          ∧ r.2.mem ((c.tc : Thread Cert.KernelIdeal.nD Cert.KernelIdeal.τ).loc Cert.KernelIdeal.main_v62_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_v129) = v5 c
          ∧ r.2.mem ((c.tc : Thread Cert.ReferenceIdeal.nD Cert.ReferenceIdeal.τ).loc Cert.ReferenceIdeal.main_v130) = v6 c
          ∧ r.2.mem ((c.tc : Thread Cert.ReferenceIdeal.nD Cert.ReferenceIdeal.τ).loc Cert.ReferenceIdeal.main_v131) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v51_0)) (v1 : (c : Dev Cert.Kernel4Ideal.nD) → Buf (Elt Ideal) ((c.tc : Thread Cert.Kernel4Ideal.nD Cert.Kernel4Ideal.τ).loc Cert.Kernel4Ideal.main_v51_1)) (v2 : (c : Dev Cert.Kernel4Ideal.nD) → Buf (Elt Ideal) ((c.tc : Thread Cert.Kernel4Ideal.nD Cert.Kernel4Ideal.τ).loc Cert.Kernel4Ideal.main_v51_2)) (v3 : (c : Dev Cert.Kernel4Ideal.nD) → Buf (Elt Ideal) ((c.tc : Thread Cert.Kernel4Ideal.nD Cert.Kernel4Ideal.τ).loc Cert.Kernel4Ideal.main_v51_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51_0) = v0 c
          ∧ r.2.mem ((c.tc : Thread Cert.Kernel4Ideal.nD Cert.Kernel4Ideal.τ).loc Cert.Kernel4Ideal.main_v51_1) = v1 c
          ∧ r.2.mem ((c.tc : Thread Cert.Kernel4Ideal.nD Cert.Kernel4Ideal.τ).loc Cert.Kernel4Ideal.main_v51_2) = v2 c
          ∧ r.2.mem ((c.tc : Thread Cert.Kernel4Ideal.nD Cert.Kernel4Ideal.τ).loc Cert.Kernel4Ideal.main_v51_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v60) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)) (v3 : (c : Dev Cert.Kernel11Ideal.nD) → Buf (Elt Ideal) ((c.tc : Thread Cert.Kernel11Ideal.nD Cert.Kernel11Ideal.τ).loc Cert.Kernel11Ideal.main_v11_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_v11_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v56) = v0 c
          ∧ r.2.mem ((c.tc : Thread Cert.Reference11Ideal.nD Cert.Reference11Ideal.τ).loc Cert.Reference11Ideal.main_v57) = v1 c
          ∧ r.2.mem ((c.tc : Thread Cert.Reference11Ideal.nD Cert.Reference11Ideal.τ).loc Cert.Reference11Ideal.main_v58) = v2 c
          ∧ r.2.mem ((c.tc : Thread Cert.Reference11Ideal.nD Cert.Reference11Ideal.τ).loc Cert.Reference11Ideal.main_v59) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_v27) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v13_0)) (v1 : (c : Dev Cert.Kernel13Ideal.nD) → Buf (Elt Ideal) ((c.tc : Thread Cert.Kernel13Ideal.nD Cert.Kernel13Ideal.τ).loc Cert.Kernel13Ideal.main_v13_1)) (v2 : (c : Dev Cert.Kernel13Ideal.nD) → Buf (Elt Ideal) ((c.tc : Thread Cert.Kernel13Ideal.nD Cert.Kernel13Ideal.τ).loc Cert.Kernel13Ideal.main_v13_2)) (v3 : (c : Dev Cert.Kernel13Ideal.nD) → Buf (Elt Ideal) ((c.tc : Thread Cert.Kernel13Ideal.nD Cert.Kernel13Ideal.τ).loc Cert.Kernel13Ideal.main_v13_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13_0) = v0 c
          ∧ r.2.mem ((c.tc : Thread Cert.Kernel13Ideal.nD Cert.Kernel13Ideal.τ).loc Cert.Kernel13Ideal.main_v13_1) = v1 c
          ∧ r.2.mem ((c.tc : Thread Cert.Kernel13Ideal.nD Cert.Kernel13Ideal.τ).loc Cert.Kernel13Ideal.main_v13_2) = v2 c
          ∧ r.2.mem ((c.tc : Thread Cert.Kernel13Ideal.nD Cert.Kernel13Ideal.τ).loc Cert.Kernel13Ideal.main_v13_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_v31) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v13_0)) (v1 : (c : Dev Cert.Kernel14Ideal.nD) → Buf (Elt Ideal) ((c.tc : Thread Cert.Kernel14Ideal.nD Cert.Kernel14Ideal.τ).loc Cert.Kernel14Ideal.main_v13_1)) (v2 : (c : Dev Cert.Kernel14Ideal.nD) → Buf (Elt Ideal) ((c.tc : Thread Cert.Kernel14Ideal.nD Cert.Kernel14Ideal.τ).loc Cert.Kernel14Ideal.main_v13_2)) (v3 : (c : Dev Cert.Kernel14Ideal.nD) → Buf (Elt Ideal) ((c.tc : Thread Cert.Kernel14Ideal.nD Cert.Kernel14Ideal.τ).loc Cert.Kernel14Ideal.main_v13_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v13_0) = v0 c
          ∧ r.2.mem ((c.tc : Thread Cert.Kernel14Ideal.nD Cert.Kernel14Ideal.τ).loc Cert.Kernel14Ideal.main_v13_1) = v1 c
          ∧ r.2.mem ((c.tc : Thread Cert.Kernel14Ideal.nD Cert.Kernel14Ideal.τ).loc Cert.Kernel14Ideal.main_v13_2) = v2 c
          ∧ r.2.mem ((c.tc : Thread Cert.Kernel14Ideal.nD Cert.Kernel14Ideal.τ).loc Cert.Kernel14Ideal.main_v13_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v29) = v2 c
          ∧ r.2.mem ((c.tc : Thread Cert.Reference14Ideal.nD Cert.Reference14Ideal.τ).loc Cert.Reference14Ideal.main_v31) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_v27) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v15_0)) (v1 : (c : Dev Cert.Kernel18Ideal.nD) → Buf (Elt Ideal) ((c.tc : Thread Cert.Kernel18Ideal.nD Cert.Kernel18Ideal.τ).loc Cert.Kernel18Ideal.main_v15_1)) (v2 : (c : Dev Cert.Kernel18Ideal.nD) → Buf (Elt Ideal) ((c.tc : Thread Cert.Kernel18Ideal.nD Cert.Kernel18Ideal.τ).loc Cert.Kernel18Ideal.main_v15_2)) (v3 : (c : Dev Cert.Kernel18Ideal.nD) → Buf (Elt Ideal) ((c.tc : Thread Cert.Kernel18Ideal.nD Cert.Kernel18Ideal.τ).loc Cert.Kernel18Ideal.main_v15_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v15_0) = v0 c
          ∧ r.2.mem ((c.tc : Thread Cert.Kernel18Ideal.nD Cert.Kernel18Ideal.τ).loc Cert.Kernel18Ideal.main_v15_1) = v1 c
          ∧ r.2.mem ((c.tc : Thread Cert.Kernel18Ideal.nD Cert.Kernel18Ideal.τ).loc Cert.Kernel18Ideal.main_v15_2) = v2 c
          ∧ r.2.mem ((c.tc : Thread Cert.Kernel18Ideal.nD Cert.Kernel18Ideal.τ).loc Cert.Kernel18Ideal.main_v15_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v25) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v29) = v2 c
          ∧ r.2.mem ((c.tc : Thread Cert.Reference18Ideal.nD Cert.Reference18Ideal.τ).loc Cert.Reference18Ideal.main_v31) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v15_0)) (v1 : (c : Dev Cert.Kernel19Ideal.nD) → Buf (Elt Ideal) ((c.tc : Thread Cert.Kernel19Ideal.nD Cert.Kernel19Ideal.τ).loc Cert.Kernel19Ideal.main_v15_1)) (v2 : (c : Dev Cert.Kernel19Ideal.nD) → Buf (Elt Ideal) ((c.tc : Thread Cert.Kernel19Ideal.nD Cert.Kernel19Ideal.τ).loc Cert.Kernel19Ideal.main_v15_2)) (v3 : (c : Dev Cert.Kernel19Ideal.nD) → Buf (Elt Ideal) ((c.tc : Thread Cert.Kernel19Ideal.nD Cert.Kernel19Ideal.τ).loc Cert.Kernel19Ideal.main_v15_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v15_0) = v0 c
          ∧ r.2.mem ((c.tc : Thread Cert.Kernel19Ideal.nD Cert.Kernel19Ideal.τ).loc Cert.Kernel19Ideal.main_v15_1) = v1 c
          ∧ r.2.mem ((c.tc : Thread Cert.Kernel19Ideal.nD Cert.Kernel19Ideal.τ).loc Cert.Kernel19Ideal.main_v15_2) = v2 c
          ∧ r.2.mem ((c.tc : Thread Cert.Kernel19Ideal.nD Cert.Kernel19Ideal.τ).loc Cert.Kernel19Ideal.main_v15_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_v31) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v12_0)) (v1 : (c : Dev Cert.Kernel20Ideal.nD) → Buf (Elt Ideal) ((c.tc : Thread Cert.Kernel20Ideal.nD Cert.Kernel20Ideal.τ).loc Cert.Kernel20Ideal.main_v12_1)) (v2 : (c : Dev Cert.Kernel20Ideal.nD) → Buf (Elt Ideal) ((c.tc : Thread Cert.Kernel20Ideal.nD Cert.Kernel20Ideal.τ).loc Cert.Kernel20Ideal.main_v12_2)) (v3 : (c : Dev Cert.Kernel20Ideal.nD) → Buf (Elt Ideal) ((c.tc : Thread Cert.Kernel20Ideal.nD Cert.Kernel20Ideal.τ).loc Cert.Kernel20Ideal.main_v12_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v12_0) = v0 c
          ∧ r.2.mem ((c.tc : Thread Cert.Kernel20Ideal.nD Cert.Kernel20Ideal.τ).loc Cert.Kernel20Ideal.main_v12_1) = v1 c
          ∧ r.2.mem ((c.tc : Thread Cert.Kernel20Ideal.nD Cert.Kernel20Ideal.τ).loc Cert.Kernel20Ideal.main_v12_2) = v2 c
          ∧ r.2.mem ((c.tc : Thread Cert.Kernel20Ideal.nD Cert.Kernel20Ideal.τ).loc Cert.Kernel20Ideal.main_v12_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)
      ∧ m' ((c.tc : Thread Cert.Reference21Ideal.nD Cert.Reference21Ideal.τ).loc Cert.Reference21Ideal.main_arg16) = m ((c.tc : Thread Cert.Kernel21Ideal.nD Cert.Kernel21Ideal.τ).loc Cert.Kernel21Ideal.main_arg16)
      ∧ m' ((c.tc : Thread Cert.Reference21Ideal.nD Cert.Reference21Ideal.τ).loc Cert.Reference21Ideal.main_arg17) = m ((c.tc : Thread Cert.Kernel21Ideal.nD Cert.Kernel21Ideal.τ).loc Cert.Kernel21Ideal.main_arg17)
      ∧ m' ((c.tc : Thread Cert.Reference21Ideal.nD Cert.Reference21Ideal.τ).loc Cert.Reference21Ideal.main_arg18) = m ((c.tc : Thread Cert.Kernel21Ideal.nD Cert.Kernel21Ideal.τ).loc Cert.Kernel21Ideal.main_arg18)
      ∧ m' ((c.tc : Thread Cert.Reference21Ideal.nD Cert.Reference21Ideal.τ).loc Cert.Reference21Ideal.main_arg19) = m ((c.tc : Thread Cert.Kernel21Ideal.nD Cert.Kernel21Ideal.τ).loc Cert.Kernel21Ideal.main_arg19)
      ∧ m' ((c.tc : Thread Cert.Reference21Ideal.nD Cert.Reference21Ideal.τ).loc Cert.Reference21Ideal.main_arg20) = m ((c.tc : Thread Cert.Kernel21Ideal.nD Cert.Kernel21Ideal.τ).loc Cert.Kernel21Ideal.main_arg20)
      ∧ m' ((c.tc : Thread Cert.Reference21Ideal.nD Cert.Reference21Ideal.τ).loc Cert.Reference21Ideal.main_arg21) = m ((c.tc : Thread Cert.Kernel21Ideal.nD Cert.Kernel21Ideal.τ).loc Cert.Kernel21Ideal.main_arg21)
      ∧ m' ((c.tc : Thread Cert.Reference21Ideal.nD Cert.Reference21Ideal.τ).loc Cert.Reference21Ideal.main_arg22) = m ((c.tc : Thread Cert.Kernel21Ideal.nD Cert.Kernel21Ideal.τ).loc Cert.Kernel21Ideal.main_arg22)
      ∧ m' ((c.tc : Thread Cert.Reference21Ideal.nD Cert.Reference21Ideal.τ).loc Cert.Reference21Ideal.main_arg23) = m ((c.tc : Thread Cert.Kernel21Ideal.nD Cert.Kernel21Ideal.τ).loc Cert.Kernel21Ideal.main_arg23)
      ∧ m' ((c.tc : Thread Cert.Reference21Ideal.nD Cert.Reference21Ideal.τ).loc Cert.Reference21Ideal.main_arg24) = m ((c.tc : Thread Cert.Kernel21Ideal.nD Cert.Kernel21Ideal.τ).loc Cert.Kernel21Ideal.main_arg24)
      ∧ m' ((c.tc : Thread Cert.Reference21Ideal.nD Cert.Reference21Ideal.τ).loc Cert.Reference21Ideal.main_arg25) = m ((c.tc : Thread Cert.Kernel21Ideal.nD Cert.Kernel21Ideal.τ).loc Cert.Kernel21Ideal.main_arg25)
      ∧ m' ((c.tc : Thread Cert.Reference21Ideal.nD Cert.Reference21Ideal.τ).loc Cert.Reference21Ideal.main_arg26) = m ((c.tc : Thread Cert.Kernel21Ideal.nD Cert.Kernel21Ideal.τ).loc Cert.Kernel21Ideal.main_arg26)
      ∧ m' ((c.tc : Thread Cert.Reference21Ideal.nD Cert.Reference21Ideal.τ).loc Cert.Reference21Ideal.main_arg27) = m ((c.tc : Thread Cert.Kernel21Ideal.nD Cert.Kernel21Ideal.τ).loc Cert.Kernel21Ideal.main_arg27)
      ∧ m' ((c.tc : Thread Cert.Reference21Ideal.nD Cert.Reference21Ideal.τ).loc Cert.Reference21Ideal.main_arg28) = m ((c.tc : Thread Cert.Kernel21Ideal.nD Cert.Kernel21Ideal.τ).loc Cert.Kernel21Ideal.main_arg28)
      ∧ m' ((c.tc : Thread Cert.Reference21Ideal.nD Cert.Reference21Ideal.τ).loc Cert.Reference21Ideal.main_arg29) = m ((c.tc : Thread Cert.Kernel21Ideal.nD Cert.Kernel21Ideal.τ).loc Cert.Kernel21Ideal.main_arg29)
      ∧ m' ((c.tc : Thread Cert.Reference21Ideal.nD Cert.Reference21Ideal.τ).loc Cert.Reference21Ideal.main_arg30) = m ((c.tc : Thread Cert.Kernel21Ideal.nD Cert.Kernel21Ideal.τ).loc Cert.Kernel21Ideal.main_arg30)
      ∧ m' ((c.tc : Thread Cert.Reference21Ideal.nD Cert.Reference21Ideal.τ).loc Cert.Reference21Ideal.main_arg31) = m ((c.tc : Thread Cert.Kernel21Ideal.nD Cert.Kernel21Ideal.τ).loc Cert.Kernel21Ideal.main_arg31)
      ∧ m' ((c.tc : Thread Cert.Reference21Ideal.nD Cert.Reference21Ideal.τ).loc Cert.Reference21Ideal.main_arg32) = m ((c.tc : Thread Cert.Kernel21Ideal.nD Cert.Kernel21Ideal.τ).loc Cert.Kernel21Ideal.main_arg32)) →
    ∃ (v0 : (c : Dev Cert.Kernel21Ideal.nD) → Buf (Elt Ideal) ((c.tc : Thread Cert.Kernel21Ideal.nD Cert.Kernel21Ideal.τ).loc Cert.Kernel21Ideal.main_v64)) (v1 : (c : Dev Cert.Kernel21Ideal.nD) → Buf (Elt Ideal) ((c.tc : Thread Cert.Kernel21Ideal.nD Cert.Kernel21Ideal.τ).loc Cert.Kernel21Ideal.main_v66)) (v2 : (c : Dev Cert.Kernel21Ideal.nD) → Buf (Elt Ideal) ((c.tc : Thread Cert.Kernel21Ideal.nD Cert.Kernel21Ideal.τ).loc Cert.Kernel21Ideal.main_v68)) (v3 : (c : Dev Cert.Kernel21Ideal.nD) → Buf (Elt Ideal) ((c.tc : Thread Cert.Kernel21Ideal.nD Cert.Kernel21Ideal.τ).loc Cert.Kernel21Ideal.main_v70)) (v4 : (c : Dev Cert.Kernel21Ideal.nD) → Buf (Elt Ideal) ((c.tc : Thread Cert.Kernel21Ideal.nD Cert.Kernel21Ideal.τ).loc Cert.Kernel21Ideal.main_v71)) (v5 : (c : Dev Cert.Kernel21Ideal.nD) → Buf (Elt Ideal) ((c.tc : Thread Cert.Kernel21Ideal.nD Cert.Kernel21Ideal.τ).loc Cert.Kernel21Ideal.main_v73)) (v6 : (c : Dev Cert.Kernel21Ideal.nD) → Buf (Elt Ideal) ((c.tc : Thread Cert.Kernel21Ideal.nD Cert.Kernel21Ideal.τ).loc Cert.Kernel21Ideal.main_v75)) (v7 : (c : Dev Cert.Kernel21Ideal.nD) → Buf (Elt Ideal) ((c.tc : Thread Cert.Kernel21Ideal.nD Cert.Kernel21Ideal.τ).loc Cert.Kernel21Ideal.main_v77)) (v8 : (c : Dev Cert.Kernel21Ideal.nD) → Buf (Elt Ideal) ((c.tc : Thread Cert.Kernel21Ideal.nD Cert.Kernel21Ideal.τ).loc Cert.Kernel21Ideal.main_v82)) (v9 : (c : Dev Cert.Kernel21Ideal.nD) → Buf (Elt Ideal) ((c.tc : Thread Cert.Kernel21Ideal.nD Cert.Kernel21Ideal.τ).loc Cert.Kernel21Ideal.main_v84)) (v10 : (c : Dev Cert.Kernel21Ideal.nD) → Buf (Elt Ideal) ((c.tc : Thread Cert.Kernel21Ideal.nD Cert.Kernel21Ideal.τ).loc Cert.Kernel21Ideal.main_v86)) (v11 : (c : Dev Cert.Kernel21Ideal.nD) → Buf (Elt Ideal) ((c.tc : Thread Cert.Kernel21Ideal.nD Cert.Kernel21Ideal.τ).loc Cert.Kernel21Ideal.main_v88)) (v12 : (c : Dev Cert.Kernel21Ideal.nD) → Buf (Elt Ideal) ((c.tc : Thread Cert.Kernel21Ideal.nD Cert.Kernel21Ideal.τ).loc Cert.Kernel21Ideal.main_v89)) (v13 : (c : Dev Cert.Kernel21Ideal.nD) → Buf (Elt Ideal) ((c.tc : Thread Cert.Kernel21Ideal.nD Cert.Kernel21Ideal.τ).loc Cert.Kernel21Ideal.main_v91)) (v14 : (c : Dev Cert.Kernel21Ideal.nD) → Buf (Elt Ideal) ((c.tc : Thread Cert.Kernel21Ideal.nD Cert.Kernel21Ideal.τ).loc Cert.Kernel21Ideal.main_v93)) (v15 : (c : Dev Cert.Kernel21Ideal.nD) → Buf (Elt Ideal) ((c.tc : Thread Cert.Kernel21Ideal.nD Cert.Kernel21Ideal.τ).loc Cert.Kernel21Ideal.main_v95)) (v16 : (c : Dev Cert.Kernel21Ideal.nD) → Buf (Elt Ideal) ((c.tc : Thread Cert.Kernel21Ideal.nD Cert.Kernel21Ideal.τ).loc Cert.Kernel21Ideal.main_v100)) (v17 : (c : Dev Cert.Kernel21Ideal.nD) → Buf (Elt Ideal) ((c.tc : Thread Cert.Kernel21Ideal.nD Cert.Kernel21Ideal.τ).loc Cert.Kernel21Ideal.main_v102)) (v18 : (c : Dev Cert.Kernel21Ideal.nD) → Buf (Elt Ideal) ((c.tc : Thread Cert.Kernel21Ideal.nD Cert.Kernel21Ideal.τ).loc Cert.Kernel21Ideal.main_v104)) (v19 : (c : Dev Cert.Kernel21Ideal.nD) → Buf (Elt Ideal) ((c.tc : Thread Cert.Kernel21Ideal.nD Cert.Kernel21Ideal.τ).loc Cert.Kernel21Ideal.main_v106)) (v20 : (c : Dev Cert.Kernel21Ideal.nD) → Buf (Elt Ideal) ((c.tc : Thread Cert.Kernel21Ideal.nD Cert.Kernel21Ideal.τ).loc Cert.Kernel21Ideal.main_v107)) (v21 : (c : Dev Cert.Kernel21Ideal.nD) → Buf (Elt Ideal) ((c.tc : Thread Cert.Kernel21Ideal.nD Cert.Kernel21Ideal.τ).loc Cert.Kernel21Ideal.main_v109)) (v22 : (c : Dev Cert.Kernel21Ideal.nD) → Buf (Elt Ideal) ((c.tc : Thread Cert.Kernel21Ideal.nD Cert.Kernel21Ideal.τ).loc Cert.Kernel21Ideal.main_v111)) (v23 : (c : Dev Cert.Kernel21Ideal.nD) → Buf (Elt Ideal) ((c.tc : Thread Cert.Kernel21Ideal.nD Cert.Kernel21Ideal.τ).loc Cert.Kernel21Ideal.main_v113)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v64) = v0 c
          ∧ r.2.mem ((c.tc : Thread Cert.Kernel21Ideal.nD Cert.Kernel21Ideal.τ).loc Cert.Kernel21Ideal.main_v66) = v1 c
          ∧ r.2.mem ((c.tc : Thread Cert.Kernel21Ideal.nD Cert.Kernel21Ideal.τ).loc Cert.Kernel21Ideal.main_v68) = v2 c
          ∧ r.2.mem ((c.tc : Thread Cert.Kernel21Ideal.nD Cert.Kernel21Ideal.τ).loc Cert.Kernel21Ideal.main_v70) = v3 c
          ∧ r.2.mem ((c.tc : Thread Cert.Kernel21Ideal.nD Cert.Kernel21Ideal.τ).loc Cert.Kernel21Ideal.main_v71) = v4 c
          ∧ r.2.mem ((c.tc : Thread Cert.Kernel21Ideal.nD Cert.Kernel21Ideal.τ).loc Cert.Kernel21Ideal.main_v73) = v5 c
          ∧ r.2.mem ((c.tc : Thread Cert.Kernel21Ideal.nD Cert.Kernel21Ideal.τ).loc Cert.Kernel21Ideal.main_v75) = v6 c
          ∧ r.2.mem ((c.tc : Thread Cert.Kernel21Ideal.nD Cert.Kernel21Ideal.τ).loc Cert.Kernel21Ideal.main_v77) = v7 c
          ∧ r.2.mem ((c.tc : Thread Cert.Kernel21Ideal.nD Cert.Kernel21Ideal.τ).loc Cert.Kernel21Ideal.main_v82) = v8 c
          ∧ r.2.mem ((c.tc : Thread Cert.Kernel21Ideal.nD Cert.Kernel21Ideal.τ).loc Cert.Kernel21Ideal.main_v84) = v9 c
          ∧ r.2.mem ((c.tc : Thread Cert.Kernel21Ideal.nD Cert.Kernel21Ideal.τ).loc Cert.Kernel21Ideal.main_v86) = v10 c
          ∧ r.2.mem ((c.tc : Thread Cert.Kernel21Ideal.nD Cert.Kernel21Ideal.τ).loc Cert.Kernel21Ideal.main_v88) = v11 c
          ∧ r.2.mem ((c.tc : Thread Cert.Kernel21Ideal.nD Cert.Kernel21Ideal.τ).loc Cert.Kernel21Ideal.main_v89) = v12 c
          ∧ r.2.mem ((c.tc : Thread Cert.Kernel21Ideal.nD Cert.Kernel21Ideal.τ).loc Cert.Kernel21Ideal.main_v91) = v13 c
          ∧ r.2.mem ((c.tc : Thread Cert.Kernel21Ideal.nD Cert.Kernel21Ideal.τ).loc Cert.Kernel21Ideal.main_v93) = v14 c
          ∧ r.2.mem ((c.tc : Thread Cert.Kernel21Ideal.nD Cert.Kernel21Ideal.τ).loc Cert.Kernel21Ideal.main_v95) = v15 c
          ∧ r.2.mem ((c.tc : Thread Cert.Kernel21Ideal.nD Cert.Kernel21Ideal.τ).loc Cert.Kernel21Ideal.main_v100) = v16 c
          ∧ r.2.mem ((c.tc : Thread Cert.Kernel21Ideal.nD Cert.Kernel21Ideal.τ).loc Cert.Kernel21Ideal.main_v102) = v17 c
          ∧ r.2.mem ((c.tc : Thread Cert.Kernel21Ideal.nD Cert.Kernel21Ideal.τ).loc Cert.Kernel21Ideal.main_v104) = v18 c
          ∧ r.2.mem ((c.tc : Thread Cert.Kernel21Ideal.nD Cert.Kernel21Ideal.τ).loc Cert.Kernel21Ideal.main_v106) = v19 c
          ∧ r.2.mem ((c.tc : Thread Cert.Kernel21Ideal.nD Cert.Kernel21Ideal.τ).loc Cert.Kernel21Ideal.main_v107) = v20 c
          ∧ r.2.mem ((c.tc : Thread Cert.Kernel21Ideal.nD Cert.Kernel21Ideal.τ).loc Cert.Kernel21Ideal.main_v109) = v21 c
          ∧ r.2.mem ((c.tc : Thread Cert.Kernel21Ideal.nD Cert.Kernel21Ideal.τ).loc Cert.Kernel21Ideal.main_v111) = v22 c
          ∧ r.2.mem ((c.tc : Thread Cert.Kernel21Ideal.nD Cert.Kernel21Ideal.τ).loc Cert.Kernel21Ideal.main_v113) = v23 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
          ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
          ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
          ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
          ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
          ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
          ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
          ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
          ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
          ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24)
          ∧ r.2.mem ((c.tc : Thread Cert.Kernel21Ideal.nD Cert.Kernel21Ideal.τ).loc Cert.Kernel21Ideal.main_arg25) = m ((c.tc : Thread Cert.Kernel21Ideal.nD Cert.Kernel21Ideal.τ).loc Cert.Kernel21Ideal.main_arg25)
          ∧ r.2.mem ((c.tc : Thread Cert.Kernel21Ideal.nD Cert.Kernel21Ideal.τ).loc Cert.Kernel21Ideal.main_arg26) = m ((c.tc : Thread Cert.Kernel21Ideal.nD Cert.Kernel21Ideal.τ).loc Cert.Kernel21Ideal.main_arg26)
          ∧ r.2.mem ((c.tc : Thread Cert.Kernel21Ideal.nD Cert.Kernel21Ideal.τ).loc Cert.Kernel21Ideal.main_arg27) = m ((c.tc : Thread Cert.Kernel21Ideal.nD Cert.Kernel21Ideal.τ).loc Cert.Kernel21Ideal.main_arg27)
          ∧ r.2.mem ((c.tc : Thread Cert.Kernel21Ideal.nD Cert.Kernel21Ideal.τ).loc Cert.Kernel21Ideal.main_arg28) = m ((c.tc : Thread Cert.Kernel21Ideal.nD Cert.Kernel21Ideal.τ).loc Cert.Kernel21Ideal.main_arg28)
          ∧ r.2.mem ((c.tc : Thread Cert.Kernel21Ideal.nD Cert.Kernel21Ideal.τ).loc Cert.Kernel21Ideal.main_arg29) = m ((c.tc : Thread Cert.Kernel21Ideal.nD Cert.Kernel21Ideal.τ).loc Cert.Kernel21Ideal.main_arg29)
          ∧ r.2.mem ((c.tc : Thread Cert.Kernel21Ideal.nD Cert.Kernel21Ideal.τ).loc Cert.Kernel21Ideal.main_arg30) = m ((c.tc : Thread Cert.Kernel21Ideal.nD Cert.Kernel21Ideal.τ).loc Cert.Kernel21Ideal.main_arg30)
          ∧ r.2.mem ((c.tc : Thread Cert.Kernel21Ideal.nD Cert.Kernel21Ideal.τ).loc Cert.Kernel21Ideal.main_arg31) = m ((c.tc : Thread Cert.Kernel21Ideal.nD Cert.Kernel21Ideal.τ).loc Cert.Kernel21Ideal.main_arg31)
          ∧ r.2.mem ((c.tc : Thread Cert.Kernel21Ideal.nD Cert.Kernel21Ideal.τ).loc Cert.Kernel21Ideal.main_arg32) = m ((c.tc : Thread Cert.Kernel21Ideal.nD Cert.Kernel21Ideal.τ).loc Cert.Kernel21Ideal.main_arg32))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v47) = v1 c
          ∧ r.2.mem ((c.tc : Thread Cert.Reference21Ideal.nD Cert.Reference21Ideal.τ).loc Cert.Reference21Ideal.main_v71) = v2 c
          ∧ r.2.mem ((c.tc : Thread Cert.Reference21Ideal.nD Cert.Reference21Ideal.τ).loc Cert.Reference21Ideal.main_v95) = v3 c
          ∧ r.2.mem ((c.tc : Thread Cert.Reference21Ideal.nD Cert.Reference21Ideal.τ).loc Cert.Reference21Ideal.main_v119) = v4 c
          ∧ r.2.mem ((c.tc : Thread Cert.Reference21Ideal.nD Cert.Reference21Ideal.τ).loc Cert.Reference21Ideal.main_v143) = v5 c
          ∧ r.2.mem ((c.tc : Thread Cert.Reference21Ideal.nD Cert.Reference21Ideal.τ).loc Cert.Reference21Ideal.main_v167) = v6 c
          ∧ r.2.mem ((c.tc : Thread Cert.Reference21Ideal.nD Cert.Reference21Ideal.τ).loc Cert.Reference21Ideal.main_v191) = v7 c
          ∧ r.2.mem ((c.tc : Thread Cert.Reference21Ideal.nD Cert.Reference21Ideal.τ).loc Cert.Reference21Ideal.main_v4) = v8 c
          ∧ r.2.mem ((c.tc : Thread Cert.Reference21Ideal.nD Cert.Reference21Ideal.τ).loc Cert.Reference21Ideal.main_v28) = v9 c
          ∧ r.2.mem ((c.tc : Thread Cert.Reference21Ideal.nD Cert.Reference21Ideal.τ).loc Cert.Reference21Ideal.main_v52) = v10 c
          ∧ r.2.mem ((c.tc : Thread Cert.Reference21Ideal.nD Cert.Reference21Ideal.τ).loc Cert.Reference21Ideal.main_v76) = v11 c
          ∧ r.2.mem ((c.tc : Thread Cert.Reference21Ideal.nD Cert.Reference21Ideal.τ).loc Cert.Reference21Ideal.main_v100) = v12 c
          ∧ r.2.mem ((c.tc : Thread Cert.Reference21Ideal.nD Cert.Reference21Ideal.τ).loc Cert.Reference21Ideal.main_v124) = v13 c
          ∧ r.2.mem ((c.tc : Thread Cert.Reference21Ideal.nD Cert.Reference21Ideal.τ).loc Cert.Reference21Ideal.main_v148) = v14 c
          ∧ r.2.mem ((c.tc : Thread Cert.Reference21Ideal.nD Cert.Reference21Ideal.τ).loc Cert.Reference21Ideal.main_v172) = v15 c
          ∧ r.2.mem ((c.tc : Thread Cert.Reference21Ideal.nD Cert.Reference21Ideal.τ).loc Cert.Reference21Ideal.main_v10) = v16 c
          ∧ r.2.mem ((c.tc : Thread Cert.Reference21Ideal.nD Cert.Reference21Ideal.τ).loc Cert.Reference21Ideal.main_v34) = v17 c
          ∧ r.2.mem ((c.tc : Thread Cert.Reference21Ideal.nD Cert.Reference21Ideal.τ).loc Cert.Reference21Ideal.main_v58) = v18 c
          ∧ r.2.mem ((c.tc : Thread Cert.Reference21Ideal.nD Cert.Reference21Ideal.τ).loc Cert.Reference21Ideal.main_v82) = v19 c
          ∧ r.2.mem ((c.tc : Thread Cert.Reference21Ideal.nD Cert.Reference21Ideal.τ).loc Cert.Reference21Ideal.main_v106) = v20 c
          ∧ r.2.mem ((c.tc : Thread Cert.Reference21Ideal.nD Cert.Reference21Ideal.τ).loc Cert.Reference21Ideal.main_v130) = v21 c
          ∧ r.2.mem ((c.tc : Thread Cert.Reference21Ideal.nD Cert.Reference21Ideal.τ).loc Cert.Reference21Ideal.main_v154) = v22 c
          ∧ r.2.mem ((c.tc : Thread Cert.Reference21Ideal.nD Cert.Reference21Ideal.τ).loc Cert.Reference21Ideal.main_v178) = v23 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15)
          ∧ r.2.mem ((c.tc : Thread Cert.Reference21Ideal.nD Cert.Reference21Ideal.τ).loc Cert.Reference21Ideal.main_arg16) = m' ((c.tc : Thread Cert.Reference21Ideal.nD Cert.Reference21Ideal.τ).loc Cert.Reference21Ideal.main_arg16)
          ∧ r.2.mem ((c.tc : Thread Cert.Reference21Ideal.nD Cert.Reference21Ideal.τ).loc Cert.Reference21Ideal.main_arg17) = m' ((c.tc : Thread Cert.Reference21Ideal.nD Cert.Reference21Ideal.τ).loc Cert.Reference21Ideal.main_arg17)
          ∧ r.2.mem ((c.tc : Thread Cert.Reference21Ideal.nD Cert.Reference21Ideal.τ).loc Cert.Reference21Ideal.main_arg18) = m' ((c.tc : Thread Cert.Reference21Ideal.nD Cert.Reference21Ideal.τ).loc Cert.Reference21Ideal.main_arg18)
          ∧ r.2.mem ((c.tc : Thread Cert.Reference21Ideal.nD Cert.Reference21Ideal.τ).loc Cert.Reference21Ideal.main_arg19) = m' ((c.tc : Thread Cert.Reference21Ideal.nD Cert.Reference21Ideal.τ).loc Cert.Reference21Ideal.main_arg19)
          ∧ r.2.mem ((c.tc : Thread Cert.Reference21Ideal.nD Cert.Reference21Ideal.τ).loc Cert.Reference21Ideal.main_arg20) = m' ((c.tc : Thread Cert.Reference21Ideal.nD Cert.Reference21Ideal.τ).loc Cert.Reference21Ideal.main_arg20)
          ∧ r.2.mem ((c.tc : Thread Cert.Reference21Ideal.nD Cert.Reference21Ideal.τ).loc Cert.Reference21Ideal.main_arg21) = m' ((c.tc : Thread Cert.Reference21Ideal.nD Cert.Reference21Ideal.τ).loc Cert.Reference21Ideal.main_arg21)
          ∧ r.2.mem ((c.tc : Thread Cert.Reference21Ideal.nD Cert.Reference21Ideal.τ).loc Cert.Reference21Ideal.main_arg22) = m' ((c.tc : Thread Cert.Reference21Ideal.nD Cert.Reference21Ideal.τ).loc Cert.Reference21Ideal.main_arg22)
          ∧ r.2.mem ((c.tc : Thread Cert.Reference21Ideal.nD Cert.Reference21Ideal.τ).loc Cert.Reference21Ideal.main_arg23) = m' ((c.tc : Thread Cert.Reference21Ideal.nD Cert.Reference21Ideal.τ).loc Cert.Reference21Ideal.main_arg23)
          ∧ r.2.mem ((c.tc : Thread Cert.Reference21Ideal.nD Cert.Reference21Ideal.τ).loc Cert.Reference21Ideal.main_arg24) = m' ((c.tc : Thread Cert.Reference21Ideal.nD Cert.Reference21Ideal.τ).loc Cert.Reference21Ideal.main_arg24)
          ∧ r.2.mem ((c.tc : Thread Cert.Reference21Ideal.nD Cert.Reference21Ideal.τ).loc Cert.Reference21Ideal.main_arg25) = m' ((c.tc : Thread Cert.Reference21Ideal.nD Cert.Reference21Ideal.τ).loc Cert.Reference21Ideal.main_arg25)
          ∧ r.2.mem ((c.tc : Thread Cert.Reference21Ideal.nD Cert.Reference21Ideal.τ).loc Cert.Reference21Ideal.main_arg26) = m' ((c.tc : Thread Cert.Reference21Ideal.nD Cert.Reference21Ideal.τ).loc Cert.Reference21Ideal.main_arg26)
          ∧ r.2.mem ((c.tc : Thread Cert.Reference21Ideal.nD Cert.Reference21Ideal.τ).loc Cert.Reference21Ideal.main_arg27) = m' ((c.tc : Thread Cert.Reference21Ideal.nD Cert.Reference21Ideal.τ).loc Cert.Reference21Ideal.main_arg27)
          ∧ r.2.mem ((c.tc : Thread Cert.Reference21Ideal.nD Cert.Reference21Ideal.τ).loc Cert.Reference21Ideal.main_arg28) = m' ((c.tc : Thread Cert.Reference21Ideal.nD Cert.Reference21Ideal.τ).loc Cert.Reference21Ideal.main_arg28)
          ∧ r.2.mem ((c.tc : Thread Cert.Reference21Ideal.nD Cert.Reference21Ideal.τ).loc Cert.Reference21Ideal.main_arg29) = m' ((c.tc : Thread Cert.Reference21Ideal.nD Cert.Reference21Ideal.τ).loc Cert.Reference21Ideal.main_arg29)
          ∧ r.2.mem ((c.tc : Thread Cert.Reference21Ideal.nD Cert.Reference21Ideal.τ).loc Cert.Reference21Ideal.main_arg30) = m' ((c.tc : Thread Cert.Reference21Ideal.nD Cert.Reference21Ideal.τ).loc Cert.Reference21Ideal.main_arg30)
          ∧ r.2.mem ((c.tc : Thread Cert.Reference21Ideal.nD Cert.Reference21Ideal.τ).loc Cert.Reference21Ideal.main_arg31) = m' ((c.tc : Thread Cert.Reference21Ideal.nD Cert.Reference21Ideal.τ).loc Cert.Reference21Ideal.main_arg31)
          ∧ r.2.mem ((c.tc : Thread Cert.Reference21Ideal.nD Cert.Reference21Ideal.τ).loc Cert.Reference21Ideal.main_arg32) = m' ((c.tc : Thread Cert.Reference21Ideal.nD Cert.Reference21Ideal.τ).loc Cert.Reference21Ideal.main_arg32))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v9_0)) (v1 : (c : Dev Cert.Kernel22Ideal.nD) → Buf (Elt Ideal) ((c.tc : Thread Cert.Kernel22Ideal.nD Cert.Kernel22Ideal.τ).loc Cert.Kernel22Ideal.main_v9_1)) (v2 : (c : Dev Cert.Kernel22Ideal.nD) → Buf (Elt Ideal) ((c.tc : Thread Cert.Kernel22Ideal.nD Cert.Kernel22Ideal.τ).loc Cert.Kernel22Ideal.main_v9_2)) (v3 : (c : Dev Cert.Kernel22Ideal.nD) → Buf (Elt Ideal) ((c.tc : Thread Cert.Kernel22Ideal.nD Cert.Kernel22Ideal.τ).loc Cert.Kernel22Ideal.main_v9_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v9_0) = v0 c
          ∧ r.2.mem ((c.tc : Thread Cert.Kernel22Ideal.nD Cert.Kernel22Ideal.τ).loc Cert.Kernel22Ideal.main_v9_1) = v1 c
          ∧ r.2.mem ((c.tc : Thread Cert.Kernel22Ideal.nD Cert.Kernel22Ideal.τ).loc Cert.Kernel22Ideal.main_v9_2) = v2 c
          ∧ r.2.mem ((c.tc : Thread Cert.Kernel22Ideal.nD Cert.Kernel22Ideal.τ).loc Cert.Kernel22Ideal.main_v9_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v59) = v0 c
          ∧ r.2.mem ((c.tc : Thread Cert.Reference22Ideal.nD Cert.Reference22Ideal.τ).loc Cert.Reference22Ideal.main_v60) = v1 c
          ∧ r.2.mem ((c.tc : Thread Cert.Reference22Ideal.nD Cert.Reference22Ideal.τ).loc Cert.Reference22Ideal.main_v61) = v2 c
          ∧ r.2.mem ((c.tc : Thread Cert.Reference22Ideal.nD Cert.Reference22Ideal.τ).loc Cert.Reference22Ideal.main_v62) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S2x1024 : S_.BroadcastsInDim S2x1024 (![] : Fin 0 → Fin S2x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S2816x1024 .f32) (main_arg8 : FVec F S2x2048x1024 .f32) (main_v2 : IVec S2x2048x1024 1) (main_v5 : IVec S1024 1) (main_v8 : IVec S2x1024 1) (main_v11 : IVec S2x1024 1) (main_v14 : IVec S2x1024 1) (main_v17 : IVec S1024x2816 1) : IVec S2x2048x1024 1 × IVec S1024 1 × IVec S2x1024 1 × IVec S2x1024 1 × IVec S2x1024 1 × IVec S1024x2816 1 × IVec S1024x2816 1 × IVec S2816x1024 1 × IVec S2x2048x1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_v24 : FVec F S2x2048x1024 .f32 := Host.absf main_arg8
  let main_cst_7 : FVec F S_ .f32 := constant S_ .f32 0x7F800000#32
  let main_v25 : FVec F S2x2048x1024 .f32 := broadcastInDim S2x2048x1024 ![] bcast_S_S2x2048x1024 main_cst_7
  let main_v26 : IVec S2x2048x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S1024 .f32) (main_arg2 : FVec F S2x1024 .f32) (main_arg3 : FVec F S2x1024 .f32) (main_arg4 : FVec F S2x1024 .f32) (main_arg5 : FVec F S1024x2816 .f32) (main_arg6 : FVec F S1024x2816 .f32) (main_arg7 : FVec F S2816x1024 .f32) (main_arg8 : FVec F S2x2048x1024 .f32) : IVec S2x2048x1024 1 × IVec S1024 1 × IVec S2x1024 1 × IVec S2x1024 1 × IVec S2x1024 1 × IVec S1024x2816 1 × IVec S1024x2816 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_arg8 main_v2 main_v5 main_v8 main_v11 main_v14 main_v17
-- ==== Pre_finite3.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S2x1024 : S_.BroadcastsInDim S2x1024 (![] : Fin 0 → Fin S2x1024.rank)
  bcast_S_S1024x2816 : S_.BroadcastsInDim S1024x2816 (![] : Fin 0 → Fin S1024x2816.rank)

variable [Facts]

def fn {F : FTy → Type} [FloatOps F] (main_arg0 : FVec F S2x2048x1024 .f32) (main_arg1 : FVec F S1024 .f32) (main_arg2 : FVec F S2x1024 .f32) (main_arg3 : FVec F S2x1024 .f32) (main_arg4 : FVec F S1024x2816 .f32) (main_arg5 : FVec F S1024x2816 .f32) : IVec S2x2048x1024 1 × IVec S1024 1 × IVec S2x1024 1 × IVec S2x1024 1 × IVec S1024x2816 1 × IVec S1024x2816 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  (main_v2, main_v5, main_v8, main_v11, main_v14, main_v17)
-- ==== Kernel.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S4096x2816 : Shape := ⟨2, ![4096, 2816]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x2x1024x704 : Shape := ⟨4, ![4, 2, 1024, 704]⟩
abbrev S4x1x704x1024 : Shape := ⟨4, ![4, 1, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S256x1024 : Shape := ⟨2, ![256, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S1x1x1024x704 : Shape := ⟨4, ![1, 1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 87
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x1024, .f32⟩
  | .hbm, ⟨57, _⟩ => ⟨S1024x4x704, .f32⟩
  | .hbm, ⟨58, _⟩ => ⟨S4x1024x704, .f32⟩
  | .hbm, ⟨59, _⟩ => ⟨S1024x4x704, .f32⟩
  | .hbm, ⟨60, _⟩ => ⟨S4x1024x704, .f32⟩
  | .hbm, ⟨61, _⟩ => ⟨S4x1x1024x704, .f32⟩
  | .hbm, ⟨62, _⟩ => ⟨S4x1x1024x704, .f32⟩
  | .hbm, ⟨63, _⟩ => ⟨S4x2x1024x704, .f32⟩
  | .hbm, ⟨64, _⟩ => ⟨S4x2x1024x704, .bf16⟩
  | .hbm, ⟨65, _⟩ => ⟨S4x1x704x1024, .f32⟩
  | .hbm, ⟨66, _⟩ => ⟨S4x1x704x1024, .bf16⟩
  | .hbm, ⟨67, _⟩ => ⟨S4096x1024, .f32⟩
  | .hbm, ⟨68, _⟩ => ⟨S2x1x1024, .f32⟩
  | .hbm, ⟨69, _⟩ => ⟨S4096x1024, .bf16⟩
  | .hbm, ⟨70, _⟩ => ⟨S4096x4x704, .f32⟩
  | .hbm, ⟨71, _⟩ => ⟨S4x4096x704, .f32⟩
  | .hbm, ⟨72, _⟩ => ⟨S4x4096x704, .bf16⟩
  | .hbm, ⟨73, _⟩ => ⟨S4096x4x704, .f32⟩
  | .hbm, ⟨74, _⟩ => ⟨S4x4096x704, .f32⟩
  | .hbm, ⟨75, _⟩ => ⟨S4x4096x704, .bf16⟩
  | .hbm, ⟨76, _⟩ => ⟨S4096x1024, .f32⟩
  | .hbm, ⟨77, _⟩ => ⟨S1x1024, .f32⟩
  | .hbm, ⟨78, _⟩ => ⟨S2x1x1024, .f32⟩
  | .hbm, ⟨79, _⟩ => ⟨S4x4096x704, .bf16⟩
  | .hbm, ⟨80, _⟩ => ⟨S4x4096x704, .bf16⟩
  | .hbm, ⟨81, _⟩ => ⟨S4096x1024, .bf16⟩
  | .hbm, ⟨82, _⟩ => ⟨S2x1x1024, .f32⟩
  | .hbm, ⟨83, _⟩ => ⟨S4096x1024, .f32⟩
  | .hbm, ⟨84, _⟩ => ⟨S2x1x1024, .f32⟩
  | .hbm, ⟨85, _⟩ => ⟨S2x1x1024, .f32⟩
  | .hbm, ⟨86, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S256x1024, .bf16⟩
  | .local _ .vmem, ⟨5, _⟩ => ⟨S256x1024, .bf16⟩
  | .local _ .vmem, ⟨6, _⟩ => ⟨S4x1x704x1024, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x2x1024x704, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S256x1024, .bf16⟩
  | .local _ .vmem, ⟨22, _⟩ => ⟨S256x1024, .bf16⟩
  | .local _ .vmem, ⟨23, _⟩ => ⟨S1x1x1024, .f32⟩
  | .local _ .vmem, ⟨24, _⟩ => ⟨S1x1x1024, .f32⟩
  | .local _ .vmem, ⟨25, _⟩ => ⟨S256x1024, .f32⟩
  | .local _ .vmem, ⟨26, _⟩ => ⟨S256x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v62_5 : Ref sig .tc := ⟨.hbm, 84, rfl⟩
abbrev main_v62_6 : Ref sig .tc := ⟨.hbm, 85, rfl⟩
abbrev main_v62_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v18 : BitVec 1 := Scalar.cmpi .eq c8_i32 c0_i32
  let c1_i32 : BitVec 32 := 1#32
  let v19 : BitVec 32 := Scalar.select v18 c1_i32 c8_i32
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v29 : BitVec 32 := Scalar.extui v28
  let c0_i32_14 : BitVec 32 := 0#32
  let v30 : BitVec 1 := Scalar.cmpi .ne v29 c0_i32_14
  v30

def k0_cond2 (i : grid0.Coords) : BitVec 1 :=
  let arg0 : BitVec 32 := BitVec.ofNat 32 (i 0).val
  let c8_i32 : BitVec 32 := 8#32
  let c0_i32 : BitVec 32 := 0#32
  let v18 : BitVec 1 := Scalar.cmpi .eq c8_i32 c0_i32
  let c1_i32 : BitVec 32 := 1#32
  let v19 : BitVec 32 := Scalar.select v18 c1_i32 c8_i32
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond3 (i : grid0.Coords) : BitVec 1 :=
  let arg0 : BitVec 32 := BitVec.ofNat 32 (i 0).val
  let c8_i32_139 : BitVec 32 := 8#32
  let c0_i32_140 : BitVec 32 := 0#32
  let v185 : BitVec 1 := Scalar.cmpi .eq c8_i32_139 c0_i32_140
  let c1_i32_141 : BitVec 32 := 1#32
  let v186 : BitVec 32 := Scalar.select v185 c1_i32_141 c8_i32_139
  let v187 : BitVec 32 := Scalar.remsi arg0 v186
  let c0_i32_143 : BitVec 32 := 0#32
  let v189 : BitVec 1 := Scalar.cmpi .slt v187 c0_i32_143
  let c0_i32_144 : BitVec 32 := 0#32
  let v190 : BitVec 1 := Scalar.cmpi .slt v186 c0_i32_144
  let v191 : BitVec 1 := Scalar.xori v189 v190
  let c0_i32_142 : BitVec 32 := 0#32
  let v188 : BitVec 1 := Scalar.cmpi .ne v187 c0_i32_142
  let v192 : BitVec 1 := Scalar.andi v191 v188
  let v193 : BitVec 32 := Scalar.addi v187 v186
  let v194 : BitVec 32 := Scalar.select v192 v193 v187
  let c0_i32_145 : BitVec 32 := 0#32
  let v195 : BitVec 1 := Scalar.cmpi .eq v194 c0_i32_145
  let v196 : BitVec 32 := Scalar.extui v195
  let c0_i32_146 : BitVec 32 := 0#32
  let v197 : BitVec 1 := Scalar.cmpi .ne v196 c0_i32_146
  v197

def k0_cond4 (i : grid0.Coords) : BitVec 1 :=
  let arg0 : BitVec 32 := BitVec.ofNat 32 (i 0).val
  let c8_i32_139 : BitVec 32 := 8#32
  let c0_i32_140 : BitVec 32 := 0#32
  let v185 : BitVec 1 := Scalar.cmpi .eq c8_i32_139 c0_i32_140
  let c1_i32_141 : BitVec 32 := 1#32
  let v186 : BitVec 32 := Scalar.select v185 c1_i32_141 c8_i32_139
  let v187 : BitVec 32 := Scalar.remsi arg0 v186
  let c0_i32_143 : BitVec 32 := 0#32
  let v189 : BitVec 1 := Scalar.cmpi .slt v187 c0_i32_143
  let c0_i32_144 : BitVec 32 := 0#32
  let v190 : BitVec 1 := Scalar.cmpi .slt v186 c0_i32_144
  let v191 : BitVec 1 := Scalar.xori v189 v190
  let c0_i32_142 : BitVec 32 := 0#32
  let v188 : BitVec 1 := Scalar.cmpi .ne v187 c0_i32_142
  let v192 : BitVec 1 := Scalar.andi v191 v188
  let v193 : BitVec 32 := Scalar.addi v187 v186
  let v194 : BitVec 32 := Scalar.select v192 v193 v187
  let c0_i32_145 : BitVec 32 := 0#32
  let v195 : BitVec 1 := Scalar.cmpi .eq v194 c0_i32_145
  let true_147 : BitVec 1 := 1#1
  let v198 : BitVec 1 := Scalar.xori v195 true_147
  let v199 : BitVec 32 := Scalar.extui v198
  let c0_i32_148 : BitVec 32 := 0#32
  let v200 : BitVec 1 := Scalar.cmpi .ne v199 c0_i32_148
  v200

def k0_cond5 (i : grid0.Coords) : BitVec 1 :=
  let arg0 : BitVec 32 := BitVec.ofNat 32 (i 0).val
  let c8_i32_149 : BitVec 32 := 8#32
  let c0_i32_150 : BitVec 32 := 0#32
  let v201 : BitVec 1 := Scalar.cmpi .eq c8_i32_149 c0_i32_150
  let c1_i32_151 : BitVec 32 := 1#32
  let v202 : BitVec 32 := Scalar.select v201 c1_i32_151 c8_i32_149
  let v203 : BitVec 32 := Scalar.remsi arg0 v202
  let c0_i32_153 : BitVec 32 := 0#32
  let v205 : BitVec 1 := Scalar.cmpi .slt v203 c0_i32_153
  let c0_i32_154 : BitVec 32 := 0#32
  let v206 : BitVec 1 := Scalar.cmpi .slt v202 c0_i32_154
  let v207 : BitVec 1 := Scalar.xori v205 v206
  let c0_i32_152 : BitVec 32 := 0#32
  let v204 : BitVec 1 := Scalar.cmpi .ne v203 c0_i32_152
  let v208 : BitVec 1 := Scalar.andi v207 v204
  let v209 : BitVec 32 := Scalar.addi v203 v202
  let v210 : BitVec 32 := Scalar.select v208 v209 v203
  let c0_i32_155 : BitVec 32 := 0#32
  let v211 : BitVec 1 := Scalar.cmpi .eq v210 c0_i32_155
  let v212 : BitVec 32 := Scalar.extui v211
  let c0_i32_156 : BitVec 32 := 0#32
  let v213 : BitVec 1 := Scalar.cmpi .ne v212 c0_i32_156
  v213

def k0_cond6 (i : grid0.Coords) : BitVec 1 :=
  let arg0 : BitVec 32 := BitVec.ofNat 32 (i 0).val
  let c8_i32_149 : BitVec 32 := 8#32
  let c0_i32_150 : BitVec 32 := 0#32
  let v201 : BitVec 1 := Scalar.cmpi .eq c8_i32_149 c0_i32_150
  let c1_i32_151 : BitVec 32 := 1#32
  let v202 : BitVec 32 := Scalar.select v201 c1_i32_151 c8_i32_149
  let v203 : BitVec 32 := Scalar.remsi arg0 v202
  let c0_i32_153 : BitVec 32 := 0#32
  let v205 : BitVec 1 := Scalar.cmpi .slt v203 c0_i32_153
  let c0_i32_154 : BitVec 32 := 0#32
  let v206 : BitVec 1 := Scalar.cmpi .slt v202 c0_i32_154
  let v207 : BitVec 1 := Scalar.xori v205 v206
  let c0_i32_152 : BitVec 32 := 0#32
  let v204 : BitVec 1 := Scalar.cmpi .ne v203 c0_i32_152
  let v208 : BitVec 1 := Scalar.andi v207 v204
  let v209 : BitVec 32 := Scalar.addi v203 v202
  let v210 : BitVec 32 := Scalar.select v208 v209 v203
  let c0_i32_155 : BitVec 32 := 0#32
  let v211 : BitVec 1 := Scalar.cmpi .eq v210 c0_i32_155
  let true_157 : BitVec 1 := 1#1
  let v214 : BitVec 1 := Scalar.xori v211 true_157
  let v215 : BitVec 32 := Scalar.extui v214
  let c0_i32_158 : BitVec 32 := 0#32
  let v216 : BitVec 1 := Scalar.cmpi .ne v215 c0_i32_158
  v216

def k0_cond7 (i : grid0.Coords) : BitVec 1 :=
  let arg0 : BitVec 32 := BitVec.ofNat 32 (i 0).val
  let c0_i32_159 : BitVec 32 := 0#32
  let v217 : BitVec 1 := Scalar.cmpi .eq arg0 c0_i32_159
  let v218 : BitVec 32 := Scalar.extui v217
  let c0_i32_160 : BitVec 32 := 0#32
  let v219 : BitVec 1 := Scalar.cmpi .ne v218 c0_i32_160
  v219

def k0_cond8 (i : grid0.Coords) : BitVec 1 :=
  let arg0 : BitVec 32 := BitVec.ofNat 32 (i 0).val
  let c0_i32_159 : BitVec 32 := 0#32
  let v217 : BitVec 1 := Scalar.cmpi .eq arg0 c0_i32_159
  let true_161 : BitVec 1 := 1#1
  let v220 : BitVec 1 := Scalar.xori v217 true_161
  let v221 : BitVec 32 := Scalar.extui v220
  let c0_i32_162 : BitVec 32 := 0#32
  let v222 : BitVec 1 := Scalar.cmpi .ne v221 c0_i32_162
  v222

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S1x1024 : Shape := ⟨2, ![1, 1024]⟩

abbrev nBuf : Space → Nat
  | .hbm => 194
  | .vmem => 0
  | .smem => 0
  | _ => 0

abbrev hbmTy0_0 (i : Nat) : BufTy := match i % 128 with
  | 0 => ⟨S2x2048x1024, .f32⟩
  | 1 => ⟨S1024, .f32⟩
  | 2 => ⟨S2x1024, .f32⟩
  | 3 => ⟨S2x1024, .f32⟩
  | 4 => ⟨S2x1024, .f32⟩
  | 5 => ⟨S1024x2816, .f32⟩
  | 6 => ⟨S1024x2816, .f32⟩
  | 7 => ⟨S2816x1024, .f32⟩
  | 8 => ⟨S2x2048x1024, .f32⟩
  | 9 => ⟨S2x1x1024, .f32⟩
  | 10 => ⟨S_, .f32⟩
  | 11 => ⟨S2x1x1024, .f32⟩
  | 12 => ⟨S2x1x1024, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1, .f32⟩
  | 24 => ⟨S2x2048x1, .f32⟩
  | 25 => ⟨S_, .f32⟩
  | 26 => ⟨S2x2048x1, .f32⟩
  | 27 => ⟨S2x2048x1, .f32⟩
  | 28 => ⟨S2x2048x1024, .f32⟩
  | 29 => ⟨S2x2048x1024, .f32⟩
  | 30 => ⟨S1x1x1024, .f32⟩
  | 31 => ⟨S2x2048x1024, .f32⟩
  | 32 => ⟨S2x2048x1024, .f32⟩
  | 33 => ⟨S2x1x1024, .f32⟩
  | 34 => ⟨S_, .f32⟩
  | 35 => ⟨S2x1x1024, .f32⟩
  | 36 => ⟨S2x1x1024, .f32⟩
  | 37 => ⟨S2x2048x1024, .f32⟩
  | 38 => ⟨S2x2048x1024, .f32⟩
  | 39 => ⟨S2x1x1024, .f32⟩
  | 40 => ⟨S2x2048x1024, .f32⟩
  | 41 => ⟨S2x2048x1024, .f32⟩
  | 42 => ⟨S2x2048x2816, .f32⟩
  | 43 => ⟨S2x2048x2816, .f32⟩
  | 44 => ⟨S2x2048x2816, .f32⟩
  | 45 => ⟨S_, .f32⟩
  | 46 => ⟨S2x2048x2816, .f32⟩
  | 47 => ⟨S2x2048x2816, .f32⟩
  | 48 => ⟨S_, .f32⟩
  | 49 => ⟨S2x2048x2816, .f32⟩
  | 50 => ⟨S2x2048x2816, .f32⟩
  | 51 => ⟨S_, .f32⟩
  | 52 => ⟨S2x2048x2816, .f32⟩
  | 53 => ⟨S2x2048x2816, .f32⟩
  | 54 => ⟨S2x2048x2816, .f32⟩
  | 55 => ⟨S2x2048x2816, .f32⟩
  | 56 => ⟨S2x2048x2816, .f32⟩
  | 57 => ⟨S2x2048x2816, .f32⟩
  | 58 => ⟨S2x2048x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x1024, .f32⟩
  | 68 => ⟨S2x1x1024, .f32⟩
  | 69 => ⟨S2x2048x2816, .f32⟩
  | 70 => ⟨S2x2048x2816, .f32⟩
  | 71 => ⟨S2x2048x2816, .f32⟩
  | 72 => ⟨S2x2048x1024, .f32⟩
  | 73 => ⟨S2x2048x2816, .f32⟩
  | 74 => ⟨S2x2048x2816, .f32⟩
  | 75 => ⟨S2x2048x2816, .f32⟩
  | 76 => ⟨S2x2048x2816, .f32⟩
  | 77 => ⟨S2x2048x1024, .f32⟩
  | 78 => ⟨S2x2048x1024, .f32⟩
  | 79 => ⟨S_, .f32⟩
  | 80 => ⟨S2x1024, .f32⟩
  | 81 => ⟨S2x1x1024, .f32⟩
  | 82 => ⟨S_, .f32⟩
  | 83 => ⟨S2x1024, .f32⟩
  | 84 => ⟨S2x2048x1024, .f32⟩
  | 85 => ⟨S_, .f32⟩
  | 86 => ⟨S2x1024, .f32⟩
  | 87 => ⟨S2x1x1024, .f32⟩
  | 88 => ⟨S2x2048x1024, .f32⟩
  | 89 => ⟨S2x2048x1024, .f32⟩
  | 90 => ⟨S_, .f32⟩
  | 91 => ⟨S2x1024, .f32⟩
  | 92 => ⟨S2x2048x1024, .f32⟩
  | 93 => ⟨S_, .f32⟩
  | 94 => ⟨S1024, .f32⟩
  | 95 => ⟨S1x1x1024, .f32⟩
  | 96 => ⟨S2x2048x1024, .f32⟩
  | 97 => ⟨S2x2048x1024, .f32⟩
  | 98 => ⟨S_, .f32⟩
  | 99 => ⟨S1024, .f32⟩
  | 100 => ⟨S2x2048x1024, .f32⟩
  | 101 => ⟨S_, .f32⟩
  | 102 => ⟨S2x2048, .f32⟩
  | 103 => ⟨S2x2048x1, .f32⟩
  | 104 => ⟨S2x2048x1024, .f32⟩
  | 105 => ⟨S2x2048x1024, .f32⟩
  | 106 => ⟨S2x2048x1024, .f32⟩
  | 107 => ⟨S2x2048x1, .f32⟩
  | 108 => ⟨S_, .f32⟩
  | 109 => ⟨S2x2048x1, .f32⟩
  | 110 => ⟨S2x2048x1, .f32⟩
  | 111 => ⟨S_, .f32⟩
  | 112 => ⟨S2x2048, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S_, .f32⟩
  | 119 => ⟨S2x1x1024, .f32⟩
  | 120 => ⟨S2x1x1024, .f32⟩
  | 121 => ⟨S_, .f32⟩
  | 122 => ⟨S2x1024, .f32⟩
  | 123 => ⟨S2x2048x1024, .f32⟩
  | 124 => ⟨S_, .f32⟩
  | 125 => ⟨S2x2048, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048x1, .f32⟩
  | 1 => ⟨S2x2048x1, .f32⟩
  | 2 => ⟨S_, .f32⟩
  | 3 => ⟨S2x2048x1, .f32⟩
  | 4 => ⟨S2x2048x1, .f32⟩
  | 5 => ⟨S2x2048x1, .f32⟩
  | 6 => ⟨S2x2048x1024, .f32⟩
  | 7 => ⟨S2x2048x1024, .f32⟩
  | 8 => ⟨S1x1x1024, .f32⟩
  | 9 => ⟨S2x2048x1024, .f32⟩
  | 10 => ⟨S2x2048x1024, .f32⟩
  | 11 => ⟨S2x1x1024, .f32⟩
  | 12 => ⟨S_, .f32⟩
  | 13 => ⟨S2x1x1024, .f32⟩
  | 14 => ⟨S2x1x1024, .f32⟩
  | 15 => ⟨S2x2048x1024, .f32⟩
  | 16 => ⟨S2x2048x1024, .f32⟩
  | 17 => ⟨S2x1x1024, .f32⟩
  | 18 => ⟨S2x2048x1024, .f32⟩
  | 19 => ⟨S2x2048x1024, .f32⟩
  | 20 => ⟨S2x2048x2816, .f32⟩
  | 21 => ⟨S2x2048x2816, .f32⟩
  | 22 => ⟨S2x2048x2816, .f32⟩
  | 23 => ⟨S2x2048x2816, .f32⟩
  | 24 => ⟨S_, .f32⟩
  | 25 => ⟨S2x2048x2816, .f32⟩
  | 26 => ⟨S2x2048x2816, .f32⟩
  | 27 => ⟨S_, .f32⟩
  | 28 => ⟨S2x2048x2816, .f32⟩
  | 29 => ⟨S2x2048x2816, .f32⟩
  | 30 => ⟨S_, .f32⟩
  | 31 => ⟨S2x2048x2816, .f32⟩
  | 32 => ⟨S2x2048x2816, .f32⟩
  | 33 => ⟨S2x2048x2816, .f32⟩
  | 34 => ⟨S2x2048x2816, .f32⟩
  | 35 => ⟨S2x2048x2816, .f32⟩
  | 36 => ⟨S2x2048x1024, .f32⟩
  | 37 => ⟨S2x1x1024, .f32⟩
  | 38 => ⟨S_, .f32⟩
  | 39 => ⟨S2x1x1024, .f32⟩
  | 40 => ⟨S2x1x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x2048x2816, .f32⟩
  | 47 => ⟨S2x2048x2816, .f32⟩
  | 48 => ⟨S2x2048x2816, .f32⟩
  | 49 => ⟨S2x2048x2816, .f32⟩
  | 50 => ⟨S2x2048x2816, .f32⟩
  | 51 => ⟨S2x2048x2816, .f32⟩
  | 52 => ⟨S2x2048x2816, .f32⟩
  | 53 => ⟨S4096x4x704, .f32⟩
  | 54 => ⟨S4x4096x704, .f32⟩
  | 55 => ⟨S4x4096x704, .bf16⟩
  | 56 => ⟨S4096x4x704, .f32⟩
  | 57 => ⟨S4x4096x704, .f32⟩
  | 58 => ⟨S4x4096x704, .bf16⟩
  | 59 => ⟨S4096x1024, .f32⟩
  | 60 => ⟨S4096x1024, .bf16⟩
  | 61 => ⟨S2x1x1024, .f32⟩
  | 62 => ⟨S4096x1024, .f32⟩
  | 63 => ⟨S2x1x1024, .f32⟩
  | 64 => ⟨S2x1x1024, .f32⟩
  | 65 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v28_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v28_1 : Ref sig .tc := ⟨.hbm, 54, rfl⟩
abbrev main_v28_0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_6 : Ref sig .tc := ⟨.hbm, 79, rfl⟩
abbrev main_v48 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_v62 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_13 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_v80 : Ref sig .tc := ⟨.hbm, 122, rfl⟩
abbrev main_v81 : Ref sig .tc := ⟨.hbm, 123, rfl⟩
abbrev main_cst_17 : Ref sig .tc := ⟨.hbm, 124, rfl⟩
abbrev main_v82 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_cst_19 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_20 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_v104_2 : Ref sig .tc := ⟨.hbm, 157, rfl⟩
abbrev main_call2_cst_1 : Ref sig .tc := ⟨.hbm, 158, rfl⟩
abbrev main_call2_v6 : Ref sig .tc := ⟨.hbm, 159, rfl⟩
abbrev main_call2_v7 : Ref sig .tc := ⟨.hbm, 160, rfl⟩
abbrev main_v104_1 : Ref sig .tc := ⟨.hbm, 161, rfl⟩
abbrev main_v104_0 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_21 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x3x704x1024 : Shape := ⟨4, ![4, 3, 704, 1024]⟩
abbrev S1x1024x704 : Shape := ⟨3, ![1, 1024, 704]⟩
abbrev S1024x1024 : Shape := ⟨2, ![1024, 1024]⟩
abbrev S1x3x704x1024 : Shape := ⟨4, ![1, 3, 704, 1024]⟩
abbrev S1024x704 : Shape := ⟨2, ![1024, 704]⟩
abbrev S704x1024 : Shape := ⟨2, ![704, 1024]⟩
abbrev S1x1x704x1024 : Shape := ⟨4, ![1, 1, 704, 1024]⟩

abbrev nBuf : Space → Nat
  | .hbm => 19
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4096x1024, .f32⟩
  | .hbm, ⟨17, _⟩ => ⟨S4096x1024, .bf16⟩
  | .hbm, ⟨18, _⟩ => ⟨S4x3x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .bf16⟩
  | .local _ .vmem, ⟨9, _⟩ => ⟨S1024x1024, .bf16⟩
  | .local _ .vmem, ⟨10, _⟩ => ⟨S1x3x704x1024, .f32⟩
  | .local _ .vmem, ⟨11, _⟩ => ⟨S1x3x704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_16 : BitVec 32 := 0#32
  let v17 : BitVec 1 := Scalar.cmpi .ne v16 c0_i32_16
  v17

def k0_cond2 (i : grid0.Coords) : BitVec 1 :=
  let arg1 : BitVec 32 := BitVec.ofNat 32 (i 1).val
  let c0_i32_17 : BitVec 32 := 0#32
  let v18 : BitVec 1 := Scalar.cmpi .ne arg1 c0_i32_17
  let v19 : BitVec 32 := Scalar.extui v18
  let c0_i32_18 : BitVec 32 := 0#32
  let v20 : BitVec 1 := Scalar.cmpi .ne v19 c0_i32_18
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x2048x1024 : Shape := ⟨3, ![2, 2048, 1024]⟩
abbrev S2x2048x2816 : Shape := ⟨3, ![2, 2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S_, .f32⟩
  | .hbm, ⟨6, _⟩ => ⟨S1024x2816, .f32⟩
  | .hbm, ⟨7, _⟩ => ⟨S2816x1024, .f32⟩
  | .hbm, ⟨8, _⟩ => ⟨S2x2048x2816, .f32⟩
  | .hbm, ⟨9, _⟩ => ⟨S2x2048x2816, .f32⟩
  | .hbm, ⟨10, _⟩ => ⟨S2x2048x1024, .f32⟩
  | .hbm, ⟨11, _⟩ => ⟨S1024x2816, .f32⟩
  | .hbm, ⟨12, _⟩ => ⟨S2816x1024, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S4x1x704x1024, .f32⟩
  | .hbm, ⟨23, _⟩ => ⟨S4x1x704x1024, .f32⟩
  | .hbm, ⟨24, _⟩ => ⟨S4x1x704x1024, .f32⟩
  | .hbm, ⟨25, _⟩ => ⟨S4x3x704x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x2x1024x704 : Shape := ⟨4, ![4, 2, 1024, 704]⟩
abbrev S4096x1024 : Shape := ⟨2, ![4096, 1024]⟩
abbrev S1x1024 : Shape := ⟨2, ![1, 1024]⟩
abbrev S2x1x1024 : Shape := ⟨3, ![2, 1, 1024]⟩
abbrev S4x4096x704 : Shape := ⟨3, ![4, 4096, 704]⟩
abbrev S512x1024 : Shape := ⟨2, ![512, 1024]⟩
abbrev S1x1x1024 : Shape := ⟨3, ![1, 1, 1024]⟩
abbrev S4x512x704 : Shape := ⟨3, ![4, 512, 704]⟩
abbrev S512 : Shape := ⟨1, ![512]⟩
abbrev S512x1 : Shape := ⟨2, ![512, 1]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 22
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S1024x4x704, .f32⟩
  | .hbm, ⟨7, _⟩ => ⟨S4x1024x704, .f32⟩
  | .hbm, ⟨8, _⟩ => ⟨S1024x4x704, .f32⟩
  | .hbm, ⟨9, _⟩ => ⟨S4x1024x704, .f32⟩
  | .hbm, ⟨10, _⟩ => ⟨S4x1x1024x704, .f32⟩
  | .hbm, ⟨11, _⟩ => ⟨S4x1x1024x704, .f32⟩
  | .hbm, ⟨12, _⟩ => ⟨S4x2x1024x704, .f32⟩
  | .hbm, ⟨13, _⟩ => ⟨S4x2x1024x704, .bf16⟩
  | .hbm, ⟨14, _⟩ => ⟨S4096x1024, .f32⟩
  | .hbm, ⟨15, _⟩ => ⟨S1x1024, .f32⟩
  | .hbm, ⟨16, _⟩ => ⟨S2x1x1024, .f32⟩
  | .hbm, ⟨17, _⟩ => ⟨S2x1x1024, .f32⟩
  | .hbm, ⟨18, _⟩ => ⟨S4096x1024, .bf16⟩
  | .hbm, ⟨19, _⟩ => ⟨S4x4096x704, .bf16⟩
  | .hbm, ⟨20, _⟩ => ⟨S4x4096x704, .bf16⟩
  | .hbm, ⟨21, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S4x2x1024x704, .bf16⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x2x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S_, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S4096x4x704, .f32⟩
  | .hbm, ⟨56, _⟩ => ⟨S4x4096x704, .f32⟩
  | .hbm, ⟨57, _⟩ => ⟨S4x4096x704, .bf16⟩
  | .hbm, ⟨58, _⟩ => ⟨S4096x4x704, .f32⟩
  | .hbm, ⟨59, _⟩ => ⟨S4x4096x704, .f32⟩
  | .hbm, ⟨60, _⟩ => ⟨S4x4096x704, .bf16⟩
  | .hbm, ⟨61, _⟩ => ⟨S4096x4x704, .f32⟩
  | .hbm, ⟨62, _⟩ => ⟨S4x4096x704, .f32⟩
  | .hbm, ⟨63, _⟩ => ⟨S4x4096x704, .bf16⟩
  | .hbm, ⟨64, _⟩ => ⟨S4096x1024, .f32⟩
  | .hbm, ⟨65, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S4096x2816 : Shape := ⟨2, ![4096, 2816]⟩
abbrev S4x1x704x1024 : Shape := ⟨4, ![4, 1, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x512x704 : Shape := ⟨3, ![4, 512, 704]⟩
abbrev S1x1024 : Shape := ⟨2, ![1, 1024]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 72
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x1024, .f32⟩
  | .hbm, ⟨57, _⟩ => ⟨S4x1x704x1024, .f32⟩
  | .hbm, ⟨58, _⟩ => ⟨S4x1x704x1024, .bf16⟩
  | .hbm, ⟨59, _⟩ => ⟨S4096x1024, .f32⟩
  | .hbm, ⟨60, _⟩ => ⟨S2x1x1024, .f32⟩
  | .hbm, ⟨61, _⟩ => ⟨S4096x1024, .bf16⟩
  | .hbm, ⟨62, _⟩ => ⟨S4096x4x704, .f32⟩
  | .hbm, ⟨63, _⟩ => ⟨S4x4096x704, .f32⟩
  | .hbm, ⟨64, _⟩ => ⟨S4x4096x704, .bf16⟩
  | .hbm, ⟨65, _⟩ => ⟨S4096x4x704, .f32⟩
  | .hbm, ⟨66, _⟩ => ⟨S4x4096x704, .f32⟩
  | .hbm, ⟨67, _⟩ => ⟨S4x4096x704, .bf16⟩
  | .hbm, ⟨68, _⟩ => ⟨S4x4096x704, .bf16⟩
  | .hbm, ⟨69, _⟩ => ⟨S4x4096x704, .bf16⟩
  | .hbm, ⟨70, _⟩ => ⟨S4096x1024, .bf16⟩
  | .hbm, ⟨71, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S4x1x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .bf16⟩
  | .local _ .vmem, ⟨16, _⟩ => ⟨S512x1024, .bf16⟩
  | .local _ .vmem, ⟨17, _⟩ => ⟨S1x1x1024, .f32⟩
  | .local _ .vmem, ⟨18, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v29 : BitVec 32 := Scalar.extui v28
  let c0_i32_14 : BitVec 32 := 0#32
  let v30 : BitVec 1 := Scalar.cmpi .ne v29 c0_i32_14
  v30

def k0_cond2 (i : grid0.Coords) : BitVec 1 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 130
  | .vmem => 0
  | .smem => 0
  | _ => 0

abbrev hbmTy0_0 (i : Nat) : BufTy := match i % 128 with
  | 0 => ⟨S2x2048x1024, .f32⟩
  | 1 => ⟨S1024, .f32⟩
  | 2 => ⟨S2x1024, .f32⟩
  | 3 => ⟨S2x1024, .f32⟩
  | 4 => ⟨S2x1024, .f32⟩
  | 5 => ⟨S1024x2816, .f32⟩
  | 6 => ⟨S1024x2816, .f32⟩
  | 7 => ⟨S2816x1024, .f32⟩
  | 8 => ⟨S2x2048x1024, .f32⟩
  | 9 => ⟨S2x1x1024, .f32⟩
  | 10 => ⟨S_, .f32⟩
  | 11 => ⟨S2x1x1024, .f32⟩
  | 12 => ⟨S2x1x1024, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x1x1024, .f32⟩
  | 30 => ⟨S_, .f32⟩
  | 31 => ⟨S2x1x1024, .f32⟩
  | 32 => ⟨S2x1x1024, .f32⟩
  | 33 => ⟨S2x2048x1024, .f32⟩
  | 34 => ⟨S2x2048x1024, .f32⟩
  | 35 => ⟨S2x1x1024, .f32⟩
  | 36 => ⟨S2x2048x1024, .f32⟩
  | 37 => ⟨S2x2048x1024, .f32⟩
  | 38 => ⟨S2x2048x2816, .f32⟩
  | 39 => ⟨S2x2048x2816, .f32⟩
  | 40 => ⟨S2x2048x2816, .f32⟩
  | 41 => ⟨S_, .f32⟩
  | 42 => ⟨S2x2048x2816, .f32⟩
  | 43 => ⟨S2x2048x2816, .f32⟩
  | 44 => ⟨S_, .f32⟩
  | 45 => ⟨S2x2048x2816, .f32⟩
  | 46 => ⟨S2x2048x2816, .f32⟩
  | 47 => ⟨S2x2048x2816, .f32⟩
  | 48 => ⟨S2x2048x2816, .f32⟩
  | 49 => ⟨S2x2048x2816, .f32⟩
  | 50 => ⟨S2x2048x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S_, .f32⟩
  | 56 => ⟨S2x1024, .f32⟩
  | 57 => ⟨S2x1x1024, .f32⟩
  | 58 => ⟨S_, .f32⟩
  | 59 => ⟨S2x1x1024, .f32⟩
  | 60 => ⟨S2x1x1024, .f32⟩
  | 61 => ⟨S_, .f32⟩
  | 62 => ⟨S2x1024, .f32⟩
  | 63 => ⟨S2x2048x1024, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S_, .f32⟩
  | 71 => ⟨S2x2048x1, .f32⟩
  | 72 => ⟨S2x2048x1, .f32⟩
  | 73 => ⟨S2x2048x1, .f32⟩
  | 74 => ⟨S2x2048x1024, .f32⟩
  | 75 => ⟨S2x2048x1024, .f32⟩
  | 76 => ⟨S1x1x1024, .f32⟩
  | 77 => ⟨S2x2048x1024, .f32⟩
  | 78 => ⟨S2x2048x1024, .f32⟩
  | 79 => ⟨S2x1x1024, .f32⟩
  | 80 => ⟨S_, .f32⟩
  | 81 => ⟨S2x1x1024, .f32⟩
  | 82 => ⟨S2x1x1024, .f32⟩
  | 83 => ⟨S2x2048x1024, .f32⟩
  | 84 => ⟨S2x2048x1024, .f32⟩
  | 85 => ⟨S2x1x1024, .f32⟩
  | 86 => ⟨S2x2048x1024, .f32⟩
  | 87 => ⟨S2x2048x1024, .f32⟩
  | 88 => ⟨S2x2048x2816, .f32⟩
  | 89 => ⟨S2x2048x2816, .f32⟩
  | 90 => ⟨S2x2048x2816, .f32⟩
  | 91 => ⟨S2x2048x2816, .f32⟩
  | 92 => ⟨S_, .f32⟩
  | 93 => ⟨S2x2048x2816, .f32⟩
  | 94 => ⟨S2x2048x2816, .f32⟩
  | 95 => ⟨S_, .f32⟩
  | 96 => ⟨S2x2048x2816, .f32⟩
  | 97 => ⟨S2x2048x2816, .f32⟩
  | 98 => ⟨S_, .f32⟩
  | 99 => ⟨S2x2048x2816, .f32⟩
  | 100 => ⟨S2x2048x2816, .f32⟩
  | 101 => ⟨S2x2048x2816, .f32⟩
  | 102 => ⟨S2x2048x2816, .f32⟩
  | 103 => ⟨S2x2048x2816, .f32⟩
  | 104 => ⟨S2x2048x1024, .f32⟩
  | 105 => ⟨S2x1x1024, .f32⟩
  | 106 => ⟨S_, .f32⟩
  | 107 => ⟨S2x1x1024, .f32⟩
  | 108 => ⟨S2x1x1024, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S2x2048x2816, .f32⟩
  | 115 => ⟨S2x2048x2816, .f32⟩
  | 116 => ⟨S2x2048x2816, .f32⟩
  | 117 => ⟨S2x2048x2816, .f32⟩
  | 118 => ⟨S2x2048x2816, .f32⟩
  | 119 => ⟨S2x2048x2816, .f32⟩
  | 120 => ⟨S2x2048x2816, .f32⟩
  | 121 => ⟨S4096x4x704, .f32⟩
  | 122 => ⟨S4x4096x704, .f32⟩
  | 123 => ⟨S4x4096x704, .bf16⟩
  | 124 => ⟨S4096x4x704, .f32⟩
  | 125 => ⟨S4x4096x704, .f32⟩
  | 126 => ⟨S4x4096x704, .bf16⟩
  | 127 => ⟨S4096x1024, .f32⟩
  | _ => ⟨S2x2048x1024, .f32⟩

abbrev hbmTy0_1 (i : Nat) : BufTy := match i % 128 with
  | 0 => ⟨S4096x1024, .bf16⟩
  | 1 => ⟨S2x1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_v61_2 : Ref sig .tc := ⟨.hbm, 97, rfl⟩
abbrev main_call1_cst_1 : Ref sig .tc := ⟨.hbm, 98, rfl⟩
abbrev main_call1_v6 : Ref sig .tc := ⟨.hbm, 99, rfl⟩
abbrev main_call1_v7 : Ref sig .tc := ⟨.hbm, 100, rfl⟩
abbrev main_v61_1 : Ref sig .tc := ⟨.hbm, 101, rfl⟩
abbrev main_v61_0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2x2048x2816 : Shape := ⟨3, ![2, 2048, 2816]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x2x1024x704 : Shape := ⟨4, ![4, 2, 1024, 704]⟩
abbrev S4096x4x704 : Shape := ⟨3, ![4096, 4, 704]⟩
abbrev S4x4096x704 : Shape := ⟨3, ![4, 4096, 704]⟩
abbrev S4096x1024 : Shape := ⟨2, ![4096, 1024]⟩
abbrev S1x1024 : Shape := ⟨2, ![1, 1024]⟩
abbrev S2x1x1024 : Shape := ⟨3, ![2, 1, 1024]⟩
abbrev S4x512x704 : Shape := ⟨3, ![4, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 31
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2x2048x2816, .f32⟩
  | .hbm, ⟨7, _⟩ => ⟨S2x2048x2816, .f32⟩
  | .hbm, ⟨8, _⟩ => ⟨S2x2048x1024, .f32⟩
  | .hbm, ⟨9, _⟩ => ⟨S1024x4x704, .f32⟩
  | .hbm, ⟨10, _⟩ => ⟨S4x1024x704, .f32⟩
  | .hbm, ⟨11, _⟩ => ⟨S1024x4x704, .f32⟩
  | .hbm, ⟨12, _⟩ => ⟨S4x1024x704, .f32⟩
  | .hbm, ⟨13, _⟩ => ⟨S4x1x1024x704, .f32⟩
  | .hbm, ⟨14, _⟩ => ⟨S4x1x1024x704, .f32⟩
  | .hbm, ⟨15, _⟩ => ⟨S4x2x1024x704, .f32⟩
  | .hbm, ⟨16, _⟩ => ⟨S4x2x1024x704, .bf16⟩
  | .hbm, ⟨17, _⟩ => ⟨S4096x4x704, .f32⟩
  | .hbm, ⟨18, _⟩ => ⟨S4x4096x704, .f32⟩
  | .hbm, ⟨19, _⟩ => ⟨S4x4096x704, .bf16⟩
  | .hbm, ⟨20, _⟩ => ⟨S4096x4x704, .f32⟩
  | .hbm, ⟨21, _⟩ => ⟨S4x4096x704, .f32⟩
  | .hbm, ⟨22, _⟩ => ⟨S4x4096x704, .bf16⟩
  | .hbm, ⟨23, _⟩ => ⟨S4096x1024, .f32⟩
  | .hbm, ⟨24, _⟩ => ⟨S1x1024, .f32⟩
  | .hbm, ⟨25, _⟩ => ⟨S2x1x1024, .f32⟩
  | .hbm, ⟨26, _⟩ => ⟨S4096x1024, .f32⟩
  | .hbm, ⟨27, _⟩ => ⟨S4096x1024, .f32⟩
  | .hbm, ⟨28, _⟩ => ⟨S2x1x1024, .f32⟩
  | .hbm, ⟨29, _⟩ => ⟨S2x1x1024, .f32⟩
  | .hbm, ⟨30, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x2x1024x704, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v93 : BitVec 1 := Scalar.cmpi .eq c4_i32 c0_i32
  let c1_i32 : BitVec 32 := 1#32
  let v94 : BitVec 32 := Scalar.select v93 c1_i32 c4_i32
  let v95 : BitVec 32 := Scalar.remsi arg0 v94
  let c0_i32_80 : BitVec 32 := 0#32
  let v97 : BitVec 1 := Scalar.cmpi .slt v95 c0_i32_80
  let c0_i32_81 : BitVec 32 := 0#32
  let v98 : BitVec 1 := Scalar.cmpi .slt v94 c0_i32_81
  let v99 : BitVec 1 := Scalar.xori v97 v98
  let c0_i32_79 : BitVec 32 := 0#32
  let v96 : BitVec 1 := Scalar.cmpi .ne v95 c0_i32_79
  let v100 : BitVec 1 := Scalar.andi v99 v96
  let v101 : BitVec 32 := Scalar.addi v95 v94
  let v102 : BitVec 32 := Scalar.select v100 v101 v95
  let c0_i32_82 : BitVec 32 := 0#32
  let v103 : BitVec 1 := Scalar.cmpi .eq v102 c0_i32_82
  let v104 : BitVec 32 := Scalar.extui v103
  let c0_i32_83 : BitVec 32 := 0#32
  let v105 : BitVec 1 := Scalar.cmpi .ne v104 c0_i32_83
  v105

def k0_cond2 (i : grid0.Coords) : BitVec 1 :=
  let arg0 : BitVec 32 := BitVec.ofNat 32 (i 0).val
  let c4_i32 : BitVec 32 := 4#32
  let c0_i32 : BitVec 32 := 0#32
  let v93 : BitVec 1 := Scalar.cmpi .eq c4_i32 c0_i32
  let c1_i32 : BitVec 32 := 1#32
  let v94 : BitVec 32 := Scalar.select v93 c1_i32 c4_i32
  let v95 : BitVec 32 := Scalar.remsi arg0 v94
  let c0_i32_80 : BitVec 32 := 0#32
  let v97 : BitVec 1 := Scalar.cmpi .slt v95 c0_i32_80
  let c0_i32_81 : BitVec 32 := 0#32
  let v98 : BitVec 1 := Scalar.cmpi .slt v94 c0_i32_81
  let v99 : BitVec 1 := Scalar.xori v97 v98
  let c0_i32_79 : BitVec 32 := 0#32
  let v96 : BitVec 1 := Scalar.cmpi .ne v95 c0_i32_79
  let v100 : BitVec 1 := Scalar.andi v99 v96
  let v101 : BitVec 32 := Scalar.addi v95 v94
  let v102 : BitVec 32 := Scalar.select v100 v101 v95
  let c0_i32_82 : BitVec 32 := 0#32
  let v103 : BitVec 1 := Scalar.cmpi .eq v102 c0_i32_82
  let v_true : BitVec 1 := 1#1
  let v106 : BitVec 1 := Scalar.xori v103 v_true
  let v107 : BitVec 32 := Scalar.extui v106
  let c0_i32_84 : BitVec 32 := 0#32
  let v108 : BitVec 1 := Scalar.cmpi .ne v107 c0_i32_84
  v108

def k0_cond3 (i : grid0.Coords) : BitVec 1 :=
  let arg0 : BitVec 32 := BitVec.ofNat 32 (i 0).val
  let c4_i32_85 : BitVec 32 := 4#32
  let c0_i32_86 : BitVec 32 := 0#32
  let v109 : BitVec 1 := Scalar.cmpi .eq c4_i32_85 c0_i32_86
  let c1_i32_87 : BitVec 32 := 1#32
  let v110 : BitVec 32 := Scalar.select v109 c1_i32_87 c4_i32_85
  let v111 : BitVec 32 := Scalar.remsi arg0 v110
  let c0_i32_89 : BitVec 32 := 0#32
  let v113 : BitVec 1 := Scalar.cmpi .slt v111 c0_i32_89
  let c0_i32_90 : BitVec 32 := 0#32
  let v114 : BitVec 1 := Scalar.cmpi .slt v110 c0_i32_90
  let v115 : BitVec 1 := Scalar.xori v113 v114
  let c0_i32_88 : BitVec 32 := 0#32
  let v112 : BitVec 1 := Scalar.cmpi .ne v111 c0_i32_88
  let v116 : BitVec 1 := Scalar.andi v115 v112
  let v117 : BitVec 32 := Scalar.addi v111 v110
  let v118 : BitVec 32 := Scalar.select v116 v117 v111
  let c0_i32_91 : BitVec 32 := 0#32
  let v119 : BitVec 1 := Scalar.cmpi .eq v118 c0_i32_91
  let v120 : BitVec 32 := Scalar.extui v119
  let c0_i32_92 : BitVec 32 := 0#32
  let v121 : BitVec 1 := Scalar.cmpi .ne v120 c0_i32_92
  v121

def k0_cond4 (i : grid0.Coords) : BitVec 1 :=
  let arg0 : BitVec 32 := BitVec.ofNat 32 (i 0).val
  let c4_i32_85 : BitVec 32 := 4#32
  let c0_i32_86 : BitVec 32 := 0#32
  let v109 : BitVec 1 := Scalar.cmpi .eq c4_i32_85 c0_i32_86
  let c1_i32_87 : BitVec 32 := 1#32
  let v110 : BitVec 32 := Scalar.select v109 c1_i32_87 c4_i32_85
  let v111 : BitVec 32 := Scalar.remsi arg0 v110
  let c0_i32_89 : BitVec 32 := 0#32
  let v113 : BitVec 1 := Scalar.cmpi .slt v111 c0_i32_89
  let c0_i32_90 : BitVec 32 := 0#32
  let v114 : BitVec 1 := Scalar.cmpi .slt v110 c0_i32_90
  let v115 : BitVec 1 := Scalar.xori v113 v114
  let c0_i32_88 : BitVec 32 := 0#32
  let v112 : BitVec 1 := Scalar.cmpi .ne v111 c0_i32_88
  let v116 : BitVec 1 := Scalar.andi v115 v112
  let v117 : BitVec 32 := Scalar.addi v111 v110
  let v118 : BitVec 32 := Scalar.select v116 v117 v111
  let c0_i32_91 : BitVec 32 := 0#32
  let v119 : BitVec 1 := Scalar.cmpi .eq v118 c0_i32_91
  let true_93 : BitVec 1 := 1#1
  let v122 : BitVec 1 := Scalar.xori v119 true_93
  let v123 : BitVec 32 := Scalar.extui v122
  let c0_i32_94 : BitVec 32 := 0#32
  let v124 : BitVec 1 := Scalar.cmpi .ne v123 c0_i32_94
  v124

def k0_cond5 (i : grid0.Coords) : BitVec 1 :=
  let arg0 : BitVec 32 := BitVec.ofNat 32 (i 0).val
  let c0_i32_95 : BitVec 32 := 0#32
  let v125 : BitVec 1 := Scalar.cmpi .eq arg0 c0_i32_95
  let v126 : BitVec 32 := Scalar.extui v125
  let c0_i32_96 : BitVec 32 := 0#32
  let v127 : BitVec 1 := Scalar.cmpi .ne v126 c0_i32_96
  v127

def k0_cond6 (i : grid0.Coords) : BitVec 1 :=
  let arg0 : BitVec 32 := BitVec.ofNat 32 (i 0).val
  let c0_i32_95 : BitVec 32 := 0#32
  let v125 : BitVec 1 := Scalar.cmpi .eq arg0 c0_i32_95
  let true_97 : BitVec 1 := 1#1
  let v128 : BitVec 1 := Scalar.xori v125 true_97
  let v129 : BitVec 32 := Scalar.extui v128
  let c0_i32_98 : BitVec 32 := 0#32
  let v130 : BitVec 1 := Scalar.cmpi .ne v129 c0_i32_98
  v130

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S2x2048x1024 : Shape := ⟨3, ![2, 2048, 1024]⟩
abbrev S1024 : Shape := ⟨1, ![1024]⟩
abbrev S2x1024 : Shape := ⟨2, ![2, 1024]⟩
abbrev S1024x2816 : Shape := ⟨2, ![1024, 2816]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2x2048x2816, .f32⟩
  | .hbm, ⟨7, _⟩ => ⟨S2x2048x2816, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x2816, .f32⟩
  | .hbm, ⟨39, _⟩ => ⟨S2x2048x2816, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S2x1x1024, .f32⟩
  | .hbm, ⟨84, _⟩ => ⟨S2x1x1024, .f32⟩
  | .hbm, ⟨85, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x1x704x1024 : Shape := ⟨4, ![4, 1, 704, 1024]⟩
abbrev S1x1024x704 : Shape := ⟨3, ![1, 1024, 704]⟩
abbrev S1024x1024 : Shape := ⟨2, ![1024, 1024]⟩
abbrev S1x1x704x1024 : Shape := ⟨4, ![1, 1, 704, 1024]⟩
abbrev S1024x704 : Shape := ⟨2, ![1024, 704]⟩
abbrev S704x1024 : Shape := ⟨2, ![704, 1024]⟩

abbrev nBuf : Space → Nat
  | .hbm => 19
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4096x1024, .f32⟩
  | .hbm, ⟨17, _⟩ => ⟨S4096x1024, .bf16⟩
  | .hbm, ⟨18, _⟩ => ⟨S4x1x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x704x1024, .f32⟩
  | .local _ .vmem, ⟨5, _⟩ => ⟨S1x1x704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .ne arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2x2048x1024 : Shape := ⟨3, ![2, 2048, 1024]⟩
abbrev S2x2048x2816 : Shape := ⟨3, ![2, 2048, 2816]⟩
abbrev S_ : Shape := ⟨0, ![]⟩
abbrev S2816x1024 : Shape := ⟨2, ![2816, 1024]⟩
abbrev S1024x2816 : Shape := ⟨2, ![1024, 2816]⟩
abbrev S4x1x704x1024 : Shape := ⟨4, ![4, 1, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S_, .f32⟩
  | .hbm, ⟨6, _⟩ => ⟨S2816x1024, .f32⟩
  | .hbm, ⟨7, _⟩ => ⟨S2x2048x1024, .f32⟩
  | .hbm, ⟨8, _⟩ => ⟨S1024x2816, .f32⟩
  | .hbm, ⟨9, _⟩ => ⟨S2816x1024, .f32⟩
  | .hbm, ⟨10, _⟩ => ⟨S4x1x704x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x2x704x1024 : Shape := ⟨4, ![4, 2, 704, 1024]⟩
abbrev S1x1024x704 : Shape := ⟨3, ![1, 1024, 704]⟩
abbrev S1024x1024 : Shape := ⟨2, ![1024, 1024]⟩
abbrev S1x2x704x1024 : Shape := ⟨4, ![1, 2, 704, 1024]⟩
abbrev S1024x704 : Shape := ⟨2, ![1024, 704]⟩
abbrev S704x1024 : Shape := ⟨2, ![704, 1024]⟩
abbrev S1x1x704x1024 : Shape := ⟨4, ![1, 1, 704, 1024]⟩

abbrev nBuf : Space → Nat
  | .hbm => 19
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4096x1024, .f32⟩
  | .hbm, ⟨17, _⟩ => ⟨S4096x1024, .bf16⟩
  | .hbm, ⟨18, _⟩ => ⟨S4x2x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2x704x1024, .f32⟩
  | .local _ .vmem, ⟨7, _⟩ => ⟨S1x2x704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_10 : BitVec 32 := 0#32
  let v12 : BitVec 1 := Scalar.cmpi .ne v11 c0_i32_10
  v12

def k0_cond2 (i : grid0.Coords) : BitVec 1 :=
  let arg1 : BitVec 32 := BitVec.ofNat 32 (i 1).val
  let c0_i32_11 : BitVec 32 := 0#32
  let v13 : BitVec 1 := Scalar.cmpi .ne arg1 c0_i32_11
  let v14 : BitVec 32 := Scalar.extui v13
  let c0_i32_12 : BitVec 32 := 0#32
  let v15 : BitVec 1 := Scalar.cmpi .ne v14 c0_i32_12
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S2x2048x1024 : Shape := ⟨3, ![2, 2048, 1024]⟩
abbrev S2x2048x2816 : Shape := ⟨3, ![2, 2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x2x704x1024 : Shape := ⟨4, ![4, 2, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S_, .f32⟩
  | .hbm, ⟨6, _⟩ => ⟨S1024x2816, .f32⟩
  | .hbm, ⟨7, _⟩ => ⟨S2x2048x2816, .f32⟩
  | .hbm, ⟨8, _⟩ => ⟨S2x2048x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S2816x1024, .f32⟩
  | .hbm, ⟨15, _⟩ => ⟨S4x704x1024, .f32⟩
  | .hbm, ⟨16, _⟩ => ⟨S4x704x1024, .f32⟩
  | .hbm, ⟨17, _⟩ => ⟨S4x1x704x1024, .f32⟩
  | .hbm, ⟨18, _⟩ => ⟨S4x1x704x1024, .f32⟩
  | .hbm, ⟨19, _⟩ => ⟨S4x2x704x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x1024 : Shape := ⟨2, ![2, 1024]⟩
abbrev S4096x4x704 : Shape := ⟨3, ![4096, 4, 704]⟩
abbrev S4x4096x704 : Shape := ⟨3, ![4, 4096, 704]⟩
abbrev S4x1x704x1024 : Shape := ⟨4, ![4, 1, 704, 1024]⟩
abbrev S4096x1024 : Shape := ⟨2, ![4096, 1024]⟩
abbrev S2x1x1024 : Shape := ⟨3, ![2, 1, 1024]⟩
abbrev S4x512x704 : Shape := ⟨3, ![4, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S1x1024 : Shape := ⟨2, ![1, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4x1x704x1024, .f32⟩
  | .hbm, ⟨8, _⟩ => ⟨S4x1x704x1024, .bf16⟩
  | .hbm, ⟨9, _⟩ => ⟨S4096x1024, .f32⟩
  | .hbm, ⟨10, _⟩ => ⟨S2x1x1024, .f32⟩
  | .hbm, ⟨11, _⟩ => ⟨S4096x1024, .bf16⟩
  | .hbm, ⟨12, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x1024 : Shape := ⟨2, ![2, 1024]⟩
abbrev S4096x1024 : Shape := ⟨2, ![4096, 1024]⟩
abbrev S2x1x1024 : Shape := ⟨3, ![2, 1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S4096x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel9.lean ====
abbrev S2x2048x1024 : Shape := ⟨3, ![2, 2048, 1024]⟩
abbrev S2x2048x3072 : Shape := ⟨3, ![2, 2048, 3072]⟩
abbrev S4096x6x512 : Shape := ⟨3, ![4096, 6, 512]⟩
abbrev S6x4096x512 : Shape := ⟨3, ![6, 4096, 512]⟩
abbrev S4096x1024 : Shape := ⟨2, ![4096, 1024]⟩
abbrev S4x1x1024x768 : Shape := ⟨4, ![4, 1, 1024, 768]⟩
abbrev S1024x1024 : Shape := ⟨2, ![1024, 1024]⟩
abbrev S6x1024x512 : Shape := ⟨3, ![6, 1024, 512]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S1024x768 : Shape := ⟨2, ![1024, 768]⟩
abbrev S1x1x1024x768 : Shape := ⟨4, ![1, 1, 1024, 768]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S4096x6x512, .f32⟩
  | .hbm, ⟨3, _⟩ => ⟨S6x4096x512, .f32⟩
  | .hbm, ⟨4, _⟩ => ⟨S6x4096x512, .bf16⟩
  | .hbm, ⟨5, _⟩ => ⟨S4096x1024, .f32⟩
  | .hbm, ⟨6, _⟩ => ⟨S4096x1024, .bf16⟩
  | .hbm, ⟨7, _⟩ => ⟨S4x1x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S6x1024x512, .bf16⟩
  | .local _ .vmem, ⟨3, _⟩ => ⟨S6x1024x512, .bf16⟩
  | .local _ .vmem, ⟨4, _⟩ => ⟨S4x1x1024x768, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg0 : BitVec 32 := BitVec.ofNat 32 (i 0).val
  let c0_i32_7 : BitVec 32 := 0#32
  let v11 : BitVec 1 := Scalar.cmpi .ne arg0 c0_i32_7
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_14 : BitVec 32 := 0#32
  let v20 : BitVec 1 := Scalar.cmpi .eq arg0 c0_i32_14
  let v21 : BitVec 32 := Scalar.extui v20
  let c0_i32_15 : BitVec 32 := 0#32
  let v22 : BitVec 1 := Scalar.cmpi .ne v21 c0_i32_15
  v22

def k0_cond4 (i : grid0.Coords) : BitVec 1 :=
  let arg0 : BitVec 32 := BitVec.ofNat 32 (i 0).val
  let c0_i32_16 : BitVec 32 := 0#32
  let v23 : BitVec 1 := Scalar.cmpi .ne arg0 c0_i32_16
  let v24 : BitVec 32 := Scalar.extui v23
  let c0_i32_17 : BitVec 32 := 0#32
  let v25 : BitVec 1 := Scalar.cmpi .ne v24 c0_i32_17
  v25

def k0_cond5 (i : grid0.Coords) : BitVec 1 :=
  let arg0 : BitVec 32 := BitVec.ofNat 32 (i 0).val
  let c0_i32_23 : BitVec 32 := 0#32
  let v32 : BitVec 1 := Scalar.cmpi .eq arg0 c0_i32_23
  let v33 : BitVec 32 := Scalar.extui v32
  let c0_i32_24 : BitVec 32 := 0#32
  let v34 : BitVec 1 := Scalar.cmpi .ne v33 c0_i32_24
  v34

def k0_cond6 (i : grid0.Coords) : BitVec 1 :=
  let arg0 : BitVec 32 := BitVec.ofNat 32 (i 0).val
  let c0_i32_25 : BitVec 32 := 0#32
  let v35 : BitVec 1 := Scalar.cmpi .ne arg0 c0_i32_25
  let v36 : BitVec 32 := Scalar.extui v35
  let c0_i32_26 : BitVec 32 := 0#32
  let v37 : BitVec 1 := Scalar.cmpi .ne v36 c0_i32_26
  v37

def k0_cond7 (i : grid0.Coords) : BitVec 1 :=
  let arg0 : BitVec 32 := BitVec.ofNat 32 (i 0).val
  let c0_i32_33 : BitVec 32 := 0#32
  let v44 : BitVec 1 := Scalar.cmpi .eq arg0 c0_i32_33
  let v45 : BitVec 32 := Scalar.extui v44
  let c0_i32_34 : BitVec 32 := 0#32
  let v46 : BitVec 1 := Scalar.cmpi .ne v45 c0_i32_34
  v46

def k0_cond8 (i : grid0.Coords) : BitVec 1 :=
  let arg0 : BitVec 32 := BitVec.ofNat 32 (i 0).val
  let c0_i32_35 : BitVec 32 := 0#32
  let v47 : BitVec 1 := Scalar.cmpi .ne arg0 c0_i32_35
  let v48 : BitVec 32 := Scalar.extui v47
  let c0_i32_36 : BitVec 32 := 0#32
  let v49 : BitVec 1 := Scalar.cmpi .ne v48 c0_i32_36
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S2x2048x1024 : Shape := ⟨3, ![2, 2048, 1024]⟩
abbrev S2x2048x3072 : Shape := ⟨3, ![2, 2048, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S_, .f32⟩
  | .hbm, ⟨3, _⟩ => ⟨S1024x3072, .f32⟩
  | .hbm, ⟨4, _⟩ => ⟨S2x2048x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | .hbm, ⟨9, _⟩ => ⟨S4x1x1024x768, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2x2048x512 : Shape := ⟨3, ![2, 2048, 512]⟩
abbrev S1024x1024 : Shape := ⟨2, ![1024, 1024]⟩
abbrev S2x2048x1024 : Shape := ⟨3, ![2, 2048, 1024]⟩
abbrev S2x1024 : Shape := ⟨2, ![2, 1024]⟩
abbrev S4096x512 : Shape := ⟨2, ![4096, 512]⟩
abbrev S4096x1024 : Shape := ⟨2, ![4096, 1024]⟩
abbrev S2x1x1024 : Shape := ⟨3, ![2, 1, 1024]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S2x1024, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S1024x1024, .bf16⟩
  | .hbm, ⟨10, _⟩ => ⟨S4096x1024, .f32⟩
  | .hbm, ⟨11, _⟩ => ⟨S2x1x1024, .f32⟩
  | .hbm, ⟨12, _⟩ => ⟨S4096x1024, .bf16⟩
  | .hbm, ⟨13, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2x2048x512 : Shape := ⟨3, ![2, 2048, 512]⟩
abbrev S1024x1024 : Shape := ⟨2, ![1024, 1024]⟩
abbrev S2x2048x1024 : Shape := ⟨3, ![2, 2048, 1024]⟩
abbrev S2x1024 : Shape := ⟨2, ![2, 1024]⟩
abbrev S4096x1024 : Shape := ⟨2, ![4096, 1024]⟩
abbrev S2x1x1024 : Shape := ⟨3, ![2, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S2x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S4096x1024, .bf16⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S4096x1024, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S2x1024 : Shape := ⟨2, ![2, 1024]⟩
abbrev S1024x3072 : Shape := ⟨2, ![1024, 3072]⟩
abbrev S2x2048x3072 : Shape := ⟨3, ![2, 2048, 3072]⟩
abbrev S4096x6x512 : Shape := ⟨3, ![4096, 6, 512]⟩
abbrev S6x4096x512 : Shape := ⟨3, ![6, 4096, 512]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S4096x1024 : Shape := ⟨2, ![4096, 1024]⟩
abbrev S1x1024 : Shape := ⟨2, ![1, 1024]⟩
abbrev S2x1x1024 : Shape := ⟨3, ![2, 1, 1024]⟩
abbrev S6x512x512 : Shape := ⟨3, ![6, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S512x768 : Shape := ⟨2, ![512, 768]⟩
abbrev S1x1x1024x768 : Shape := ⟨4, ![1, 1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S2x2048x3072, .f32⟩
  | .hbm, ⟨6, _⟩ => ⟨S2x2048x1024, .f32⟩
  | .hbm, ⟨7, _⟩ => ⟨S4096x6x512, .f32⟩
  | .hbm, ⟨8, _⟩ => ⟨S6x4096x512, .f32⟩
  | .hbm, ⟨9, _⟩ => ⟨S6x4096x512, .bf16⟩
  | .hbm, ⟨10, _⟩ => ⟨S1024x4x768, .f32⟩
  | .hbm, ⟨11, _⟩ => ⟨S4x1024x768, .f32⟩
  | .hbm, ⟨12, _⟩ => ⟨S4x1x1024x768, .f32⟩
  | .hbm, ⟨13, _⟩ => ⟨S4x1x1024x768, .bf16⟩
  | .hbm, ⟨14, _⟩ => ⟨S4096x1024, .f32⟩
  | .hbm, ⟨15, _⟩ => ⟨S1x1024, .f32⟩
  | .hbm, ⟨16, _⟩ => ⟨S2x1x1024, .f32⟩
  | .hbm, ⟨17, _⟩ => ⟨S4096x1024, .f32⟩
  | .hbm, ⟨18, _⟩ => ⟨S4096x1024, .f32⟩
  | .hbm, ⟨19, _⟩ => ⟨S2x1x1024, .f32⟩
  | .hbm, ⟨20, _⟩ => ⟨S2x1x1024, .f32⟩
  | .hbm, ⟨21, _⟩ => ⟨S1x1024, .f32⟩
  | .local _ .vmem, ⟨0, _⟩ => ⟨S6x512x512, .bf16⟩
  | .local _ .vmem, ⟨1, _⟩ => ⟨S6x512x512, .bf16⟩
  | .local _ .vmem, ⟨2, _⟩ => ⟨S4x1x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v81 : BitVec 1 := Scalar.cmpi .eq c4_i32 c0_i32
  let c1_i32 : BitVec 32 := 1#32
  let v82 : BitVec 32 := Scalar.select v81 c1_i32 c4_i32
  let v83 : BitVec 32 := Scalar.remsi arg0 v82
  let c0_i32_57 : BitVec 32 := 0#32
  let v85 : BitVec 1 := Scalar.cmpi .slt v83 c0_i32_57
  let c0_i32_58 : BitVec 32 := 0#32
  let v86 : BitVec 1 := Scalar.cmpi .slt v82 c0_i32_58
  let v87 : BitVec 1 := Scalar.xori v85 v86
  let c0_i32_56 : BitVec 32 := 0#32
  let v84 : BitVec 1 := Scalar.cmpi .ne v83 c0_i32_56
  let v88 : BitVec 1 := Scalar.andi v87 v84
  let v89 : BitVec 32 := Scalar.addi v83 v82
  let v90 : BitVec 32 := Scalar.select v88 v89 v83
  let c0_i32_59 : BitVec 32 := 0#32
  let v91 : BitVec 1 := Scalar.cmpi .eq v90 c0_i32_59
  let v92 : BitVec 32 := Scalar.extui v91
  let c0_i32_60 : BitVec 32 := 0#32
  let v93 : BitVec 1 := Scalar.cmpi .ne v92 c0_i32_60
  v93

def k0_cond2 (i : grid0.Coords) : BitVec 1 :=
  let arg0 : BitVec 32 := BitVec.ofNat 32 (i 0).val
  let c4_i32 : BitVec 32 := 4#32
  let c0_i32 : BitVec 32 := 0#32
  let v81 : BitVec 1 := Scalar.cmpi .eq c4_i32 c0_i32
  let c1_i32 : BitVec 32 := 1#32
  let v82 : BitVec 32 := Scalar.select v81 c1_i32 c4_i32
  let v83 : BitVec 32 := Scalar.remsi arg0 v82
  let c0_i32_57 : BitVec 32 := 0#32
  let v85 : BitVec 1 := Scalar.cmpi .slt v83 c0_i32_57
  let c0_i32_58 : BitVec 32 := 0#32
  let v86 : BitVec 1 := Scalar.cmpi .slt v82 c0_i32_58
  let v87 : BitVec 1 := Scalar.xori v85 v86
  let c0_i32_56 : BitVec 32 := 0#32
  let v84 : BitVec 1 := Scalar.cmpi .ne v83 c0_i32_56
  let v88 : BitVec 1 := Scalar.andi v87 v84
  let v89 : BitVec 32 := Scalar.addi v83 v82
  let v90 : BitVec 32 := Scalar.select v88 v89 v83
  let c0_i32_59 : BitVec 32 := 0#32
  let v91 : BitVec 1 := Scalar.cmpi .eq v90 c0_i32_59
  let v_true : BitVec 1 := 1#1
  let v94 : BitVec 1 := Scalar.xori v91 v_true
  let v95 : BitVec 32 := Scalar.extui v94
  let c0_i32_61 : BitVec 32 := 0#32
  let v96 : BitVec 1 := Scalar.cmpi .ne v95 c0_i32_61
  v96

def k0_cond3 (i : grid0.Coords) : BitVec 1 :=
  let arg0 : BitVec 32 := BitVec.ofNat 32 (i 0).val
  let c4_i32_62 : BitVec 32 := 4#32
  let c0_i32_63 : BitVec 32 := 0#32
  let v97 : BitVec 1 := Scalar.cmpi .eq c4_i32_62 c0_i32_63
  let c1_i32_64 : BitVec 32 := 1#32
  let v98 : BitVec 32 := Scalar.select v97 c1_i32_64 c4_i32_62
  let v99 : BitVec 32 := Scalar.remsi arg0 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c0_i32_68 : BitVec 32 := 0#32
  let v107 : BitVec 1 := Scalar.cmpi .eq v106 c0_i32_68
  let v108 : BitVec 32 := Scalar.extui v107
  let c0_i32_69 : BitVec 32 := 0#32
  let v109 : BitVec 1 := Scalar.cmpi .ne v108 c0_i32_69
  v109

def k0_cond4 (i : grid0.Coords) : BitVec 1 :=
  let arg0 : BitVec 32 := BitVec.ofNat 32 (i 0).val
  let c4_i32_62 : BitVec 32 := 4#32
  let c0_i32_63 : BitVec 32 := 0#32
  let v97 : BitVec 1 := Scalar.cmpi .eq c4_i32_62 c0_i32_63
  let c1_i32_64 : BitVec 32 := 1#32
  let v98 : BitVec 32 := Scalar.select v97 c1_i32_64 c4_i32_62
  let v99 : BitVec 32 := Scalar.remsi arg0 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c0_i32_68 : BitVec 32 := 0#32
  let v107 : BitVec 1 := Scalar.cmpi .eq v106 c0_i32_68
  let true_70 : BitVec 1 := 1#1
  let v110 : BitVec 1 := Scalar.xori v107 true_70
  let v111 : BitVec 32 := Scalar.extui v110
  let c0_i32_71 : BitVec 32 := 0#32
  let v112 : BitVec 1 := Scalar.cmpi .ne v111 c0_i32_71
  v112

def k0_cond5 (i : grid0.Coords) : BitVec 1 :=
  let arg0 : BitVec 32 := BitVec.ofNat 32 (i 0).val
  let c0_i32_72 : BitVec 32 := 0#32
  let v113 : BitVec 1 := Scalar.cmpi .eq arg0 c0_i32_72
  let v114 : BitVec 32 := Scalar.extui v113
  let c0_i32_73 : BitVec 32 := 0#32
  let v115 : BitVec 1 := Scalar.cmpi .ne v114 c0_i32_73
  v115

def k0_cond6 (i : grid0.Coords) : BitVec 1 :=
  let arg0 : BitVec 32 := BitVec.ofNat 32 (i 0).val
  let c0_i32_72 : BitVec 32 := 0#32
  let v113 : BitVec 1 := Scalar.cmpi .eq arg0 c0_i32_72
  let true_74 : BitVec 1 := 1#1
  let v116 : BitVec 1 := Scalar.xori v113 true_74
  let v117 : BitVec 32 := Scalar.extui v116
  let c0_i32_75 : BitVec 32 := 0#32
  let v118 : BitVec 1 := Scalar.cmpi .ne v117 c0_i32_75
  v118

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S2x2048x1024 : Shape := ⟨3, ![2, 2048, 1024]⟩
abbrev S1024 : Shape := ⟨1, ![1024]⟩
abbrev S2x1024 : Shape := ⟨2, ![2, 1024]⟩
abbrev S1024x3072 : Shape := ⟨2, ![1024, 3072]⟩
abbrev S2x2048x3072 : Shape := ⟨3, ![2, 2048, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S2x2048x3072, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x2048x3072, .f32⟩
  | .hbm, ⟨37, _⟩ => ⟨S2x2048x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S_, .f32⟩
  | .hbm, ⟨42, _⟩ => ⟨S2x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S4096x1024, .f32⟩
  | .hbm, ⟨78, _⟩ => ⟨S2x1x1024, .f32⟩
  | .hbm, ⟨79, _⟩ => ⟨S2x1x1024, .f32⟩
  | .hbm, ⟨80, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel12.lean ====
abbrev S1x1024x2304 : Shape := ⟨3, ![1, 1024, 2304]⟩
abbrev S1024x2304 : Shape := ⟨2, ![1024, 2304]⟩
abbrev S64x2304 : Shape := ⟨2, ![64, 2304]⟩
abbrev S1x64x2304 : Shape := ⟨3, ![1, 64, 2304]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S1x64x2304, .f32⟩
  | .local _ .vmem, ⟨3, _⟩ => ⟨S1x64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | .local _ .vmem, ⟨14, _⟩ => ⟨S64x2304, .f32⟩
  | .local _ .vmem, ⟨15, _⟩ => ⟨S64x2304, .f32⟩
  | _, _ => ⟨S1x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1x1024x2304 : Shape := ⟨3, ![1, 1024, 2304]⟩
abbrev S_ : Shape := ⟨0, ![]⟩
abbrev S1024x2304 : Shape := ⟨2, ![1024, 2304]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S_, .f32⟩
  | .hbm, ⟨5, _⟩ => ⟨S1x1024x2304, .f32⟩
  | .hbm, ⟨6, _⟩ => ⟨S1x1024x2304, .f32⟩
  | .hbm, ⟨7, _⟩ => ⟨S_, .f32⟩
  | .hbm, ⟨8, _⟩ => ⟨S1x1024x2304, .f32⟩
  | .hbm, ⟨9, _⟩ => ⟨S1x1024x2304, .f32⟩
  | .hbm, ⟨10, _⟩ => ⟨S1x1024x2304, .f32⟩
  | .hbm, ⟨11, _⟩ => ⟨S_, .f32⟩
  | .hbm, ⟨12, _⟩ => ⟨S1x1024x2304, .f32⟩
  | .hbm, ⟨13, _⟩ => ⟨S1x1024x2304, .f32⟩
  | .hbm, ⟨14, _⟩ => ⟨S1x1024x2304, .f32⟩
  | .hbm, ⟨15, _⟩ => ⟨S_, .f32⟩
  | .hbm, ⟨16, _⟩ => ⟨S1x1024x2304, .f32⟩
  | .hbm, ⟨17, _⟩ => ⟨S1x1024x2304, .f32⟩
  | .hbm, ⟨18, _⟩ => ⟨S1x1024x2304, .f32⟩
  | .hbm, ⟨19, _⟩ => ⟨S_, .f32⟩
  | .hbm, ⟨20, _⟩ => ⟨S1x1024x2304, .f32⟩
  | .hbm, ⟨21, _⟩ => ⟨S1x1024x2304, .f32⟩
  | .hbm, ⟨22, _⟩ => ⟨S_, .f32⟩
  | .hbm, ⟨23, _⟩ => ⟨S1x1024x2304, .f32⟩
  | .hbm, ⟨24, _⟩ => ⟨S1x1024x2304, .f32⟩
  | .hbm, ⟨25, _⟩ => ⟨S1x1024x2304, .f32⟩
  | .hbm, ⟨26, _⟩ => ⟨S_, .f32⟩
  | .hbm, ⟨27, _⟩ => ⟨S1x1024x2304, .f32⟩
  | .hbm, ⟨28, _⟩ => ⟨S1x1024x2304, .f32⟩
  | .hbm, ⟨29, _⟩ => ⟨S1x1024x2304, .f32⟩
  | .hbm, ⟨30, _⟩ => ⟨S_, .f32⟩
  | .hbm, ⟨31, _⟩ => ⟨S1x1024x2304, .f32⟩
  | .hbm, ⟨32, _⟩ => ⟨S1x1024x2304, .f32⟩
  | .hbm, ⟨33, _⟩ => ⟨S1x1024x2304, .f32⟩
  | .hbm, ⟨34, _⟩ => ⟨S_, .f32⟩
  | .hbm, ⟨35, _⟩ => ⟨S1x1024x2304, .f32⟩
  | .hbm, ⟨36, _⟩ => ⟨S1x1024x2304, .f32⟩
  | .hbm, ⟨37, _⟩ => ⟨S1024x2304, .f32⟩
  | .hbm, ⟨38, _⟩ => ⟨S1024x2304, .f32⟩
  | .hbm, ⟨39, _⟩ => ⟨S1024x2304, .f32⟩
  | .hbm, ⟨40, _⟩ => ⟨S1024x2304, .f32⟩
  | _, _ => ⟨S1x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel13.lean ====
abbrev S1x1024x704 : Shape := ⟨3, ![1, 1024, 704]⟩
abbrev S1x704x1024 : Shape := ⟨3, ![1, 704, 1024]⟩
abbrev S704x1024 : Shape := ⟨2, ![704, 1024]⟩
abbrev S2x704x1024 : Shape := ⟨3, ![2, 704, 1024]⟩
abbrev S176x1024 : Shape := ⟨2, ![176, 1024]⟩
abbrev S1x176x1024 : Shape := ⟨3, ![1, 176, 1024]⟩

abbrev nBuf : Space → Nat
  | .hbm => 22
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x704x1024, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S1x704x1024, .f32⟩
  | .hbm, ⟨13, _⟩ => ⟨S704x1024, .f32⟩
  | .hbm, ⟨14, _⟩ => ⟨S1x704x1024, .f32⟩
  | .hbm, ⟨15, _⟩ => ⟨S704x1024, .f32⟩
  | .hbm, ⟨16, _⟩ => ⟨S1x704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1x1024x704 : Shape := ⟨3, ![1, 1024, 704]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S_, .f32⟩
  | .hbm, ⟨6, _⟩ => ⟨S1x1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x704x1024, .f32⟩
  | .hbm, ⟨39, _⟩ => ⟨S704x1024, .f32⟩
  | .hbm, ⟨40, _⟩ => ⟨S1x704x1024, .f32⟩
  | .hbm, ⟨41, _⟩ => ⟨S704x1024, .f32⟩
  | .hbm, ⟨42, _⟩ => ⟨S1x704x1024, .f32⟩
  | .hbm, ⟨43, _⟩ => ⟨S704x1024, .f32⟩
  | .hbm, ⟨44, _⟩ => ⟨S1x704x1024, .f32⟩
  | .hbm, ⟨45, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel14.lean ====
abbrev S1x1024x704 : Shape := ⟨3, ![1, 1024, 704]⟩
abbrev S1x704x1024 : Shape := ⟨3, ![1, 704, 1024]⟩
abbrev S704x1024 : Shape := ⟨2, ![704, 1024]⟩
abbrev S2x704x1024 : Shape := ⟨3, ![2, 704, 1024]⟩
abbrev S176x1024 : Shape := ⟨2, ![176, 1024]⟩
abbrev S1x176x1024 : Shape := ⟨3, ![1, 176, 1024]⟩

abbrev nBuf : Space → Nat
  | .hbm => 22
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x704x1024, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S1x704x1024, .f32⟩
  | .hbm, ⟨13, _⟩ => ⟨S704x1024, .f32⟩
  | .hbm, ⟨14, _⟩ => ⟨S1x704x1024, .f32⟩
  | .hbm, ⟨15, _⟩ => ⟨S704x1024, .f32⟩
  | .hbm, ⟨16, _⟩ => ⟨S1x704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x1024x704 : Shape := ⟨3, ![1, 1024, 704]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S_, .f32⟩
  | .hbm, ⟨6, _⟩ => ⟨S1x1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x704x1024, .f32⟩
  | .hbm, ⟨39, _⟩ => ⟨S704x1024, .f32⟩
  | .hbm, ⟨40, _⟩ => ⟨S1x704x1024, .f32⟩
  | .hbm, ⟨41, _⟩ => ⟨S704x1024, .f32⟩
  | .hbm, ⟨42, _⟩ => ⟨S1x704x1024, .f32⟩
  | .hbm, ⟨43, _⟩ => ⟨S704x1024, .f32⟩
  | .hbm, ⟨44, _⟩ => ⟨S1x704x1024, .f32⟩
  | .hbm, ⟨45, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel15.lean ====
abbrev S1x704x1024 : Shape := ⟨3, ![1, 704, 1024]⟩
abbrev S704x1024 : Shape := ⟨2, ![704, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel16.lean ====
abbrev S1x1024x768 : Shape := ⟨3, ![1, 1024, 768]⟩
abbrev S1024x768 : Shape := ⟨2, ![1024, 768]⟩
abbrev S256x768 : Shape := ⟨2, ![256, 768]⟩
abbrev S1x256x768 : Shape := ⟨3, ![1, 256, 768]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1024x768, .f32⟩
  | .hbm, ⟨38, _⟩ => ⟨S1024x768, .f32⟩
  | .hbm, ⟨39, _⟩ => ⟨S1024x768, .f32⟩
  | .hbm, ⟨40, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel18.lean ====
abbrev S1x1024x704 : Shape := ⟨3, ![1, 1024, 704]⟩
abbrev S1x704x1024 : Shape := ⟨3, ![1, 704, 1024]⟩
abbrev S704x1024 : Shape := ⟨2, ![704, 1024]⟩
abbrev S3x704x1024 : Shape := ⟨3, ![3, 704, 1024]⟩
abbrev S176x1024 : Shape := ⟨2, ![176, 1024]⟩
abbrev S1x176x1024 : Shape := ⟨3, ![1, 176, 1024]⟩

abbrev nBuf : Space → Nat
  | .hbm => 25
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x1024x704, .f32⟩
  | .hbm, ⟨5, _⟩ => ⟨S1x1024x704, .f32⟩
  | .hbm, ⟨6, _⟩ => ⟨S1x704x1024, .f32⟩
  | .hbm, ⟨7, _⟩ => ⟨S704x1024, .f32⟩
  | .hbm, ⟨8, _⟩ => ⟨S1x704x1024, .f32⟩
  | .hbm, ⟨9, _⟩ => ⟨S704x1024, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S3x704x1024, .f32⟩
  | .hbm, ⟨15, _⟩ => ⟨S1x704x1024, .f32⟩
  | .hbm, ⟨16, _⟩ => ⟨S704x1024, .f32⟩
  | .hbm, ⟨17, _⟩ => ⟨S1x704x1024, .f32⟩
  | .hbm, ⟨18, _⟩ => ⟨S704x1024, .f32⟩
  | .hbm, ⟨19, _⟩ => ⟨S1x704x1024, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1x1024x704 : Shape := ⟨3, ![1, 1024, 704]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x1024x704, .f32⟩
  | .hbm, ⟨5, _⟩ => ⟨S1x1024x704, .f32⟩
  | .hbm, ⟨6, _⟩ => ⟨S_, .f32⟩
  | .hbm, ⟨7, _⟩ => ⟨S1x1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S1x1024x704, .f32⟩
  | .hbm, ⟨13, _⟩ => ⟨S_, .f32⟩
  | .hbm, ⟨14, _⟩ => ⟨S1x1024x704, .f32⟩
  | .hbm, ⟨15, _⟩ => ⟨S1x1024x704, .f32⟩
  | .hbm, ⟨16, _⟩ => ⟨S1x1024x704, .f32⟩
  | .hbm, ⟨17, _⟩ => ⟨S_, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S1x1024x704, .f32⟩
  | .hbm, ⟨28, _⟩ => ⟨S_, .f32⟩
  | .hbm, ⟨29, _⟩ => ⟨S1x1024x704, .f32⟩
  | .hbm, ⟨30, _⟩ => ⟨S1x1024x704, .f32⟩
  | .hbm, ⟨31, _⟩ => ⟨S1x1024x704, .f32⟩
  | .hbm, ⟨32, _⟩ => ⟨S_, .f32⟩
  | .hbm, ⟨33, _⟩ => ⟨S1x1024x704, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | .hbm, ⟨39, _⟩ => ⟨S1x704x1024, .f32⟩
  | .hbm, ⟨40, _⟩ => ⟨S704x1024, .f32⟩
  | .hbm, ⟨41, _⟩ => ⟨S1x704x1024, .f32⟩
  | .hbm, ⟨42, _⟩ => ⟨S704x1024, .f32⟩
  | .hbm, ⟨43, _⟩ => ⟨S1x704x1024, .f32⟩
  | .hbm, ⟨44, _⟩ => ⟨S704x1024, .f32⟩
  | .hbm, ⟨45, _⟩ => ⟨S1x704x1024, .f32⟩
  | .hbm, ⟨46, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel19.lean ====
abbrev S1x1024x704 : Shape := ⟨3, ![1, 1024, 704]⟩
abbrev S1x704x1024 : Shape := ⟨3, ![1, 704, 1024]⟩
abbrev S704x1024 : Shape := ⟨2, ![704, 1024]⟩
abbrev S3x704x1024 : Shape := ⟨3, ![3, 704, 1024]⟩
abbrev S176x1024 : Shape := ⟨2, ![176, 1024]⟩
abbrev S1x176x1024 : Shape := ⟨3, ![1, 176, 1024]⟩

abbrev nBuf : Space → Nat
  | .hbm => 25
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x1024x704, .f32⟩
  | .hbm, ⟨5, _⟩ => ⟨S1x1024x704, .f32⟩
  | .hbm, ⟨6, _⟩ => ⟨S1x704x1024, .f32⟩
  | .hbm, ⟨7, _⟩ => ⟨S704x1024, .f32⟩
  | .hbm, ⟨8, _⟩ => ⟨S1x704x1024, .f32⟩
  | .hbm, ⟨9, _⟩ => ⟨S704x1024, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S3x704x1024, .f32⟩
  | .hbm, ⟨15, _⟩ => ⟨S1x704x1024, .f32⟩
  | .hbm, ⟨16, _⟩ => ⟨S704x1024, .f32⟩
  | .hbm, ⟨17, _⟩ => ⟨S1x704x1024, .f32⟩
  | .hbm, ⟨18, _⟩ => ⟨S704x1024, .f32⟩
  | .hbm, ⟨19, _⟩ => ⟨S1x704x1024, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1x1024x704 : Shape := ⟨3, ![1, 1024, 704]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x1024x704, .f32⟩
  | .hbm, ⟨5, _⟩ => ⟨S1x1024x704, .f32⟩
  | .hbm, ⟨6, _⟩ => ⟨S_, .f32⟩
  | .hbm, ⟨7, _⟩ => ⟨S1x1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S1x1024x704, .f32⟩
  | .hbm, ⟨13, _⟩ => ⟨S_, .f32⟩
  | .hbm, ⟨14, _⟩ => ⟨S1x1024x704, .f32⟩
  | .hbm, ⟨15, _⟩ => ⟨S1x1024x704, .f32⟩
  | .hbm, ⟨16, _⟩ => ⟨S1x1024x704, .f32⟩
  | .hbm, ⟨17, _⟩ => ⟨S_, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S1x1024x704, .f32⟩
  | .hbm, ⟨28, _⟩ => ⟨S_, .f32⟩
  | .hbm, ⟨29, _⟩ => ⟨S1x1024x704, .f32⟩
  | .hbm, ⟨30, _⟩ => ⟨S1x1024x704, .f32⟩
  | .hbm, ⟨31, _⟩ => ⟨S1x1024x704, .f32⟩
  | .hbm, ⟨32, _⟩ => ⟨S_, .f32⟩
  | .hbm, ⟨33, _⟩ => ⟨S1x1024x704, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | .hbm, ⟨39, _⟩ => ⟨S1x704x1024, .f32⟩
  | .hbm, ⟨40, _⟩ => ⟨S704x1024, .f32⟩
  | .hbm, ⟨41, _⟩ => ⟨S1x704x1024, .f32⟩
  | .hbm, ⟨42, _⟩ => ⟨S704x1024, .f32⟩
  | .hbm, ⟨43, _⟩ => ⟨S1x704x1024, .f32⟩
  | .hbm, ⟨44, _⟩ => ⟨S704x1024, .f32⟩
  | .hbm, ⟨45, _⟩ => ⟨S1x704x1024, .f32⟩
  | .hbm, ⟨46, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel20.lean ====
abbrev S1x704x1024 : Shape := ⟨3, ![1, 704, 1024]⟩
abbrev S1x1024x704 : Shape := ⟨3, ![1, 1024, 704]⟩
abbrev S704x1024 : Shape := ⟨2, ![704, 1024]⟩
abbrev S3x704x1024 : Shape := ⟨3, ![3, 704, 1024]⟩
abbrev S176x1024 : Shape := ⟨2, ![176, 1024]⟩
abbrev S1x176x1024 : Shape := ⟨3, ![1, 176, 1024]⟩

abbrev nBuf : Space → Nat
  | .hbm => 22
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S704x1024, .f32⟩
  | .hbm, ⟨8, _⟩ => ⟨S1x704x1024, .f32⟩
  | .hbm, ⟨9, _⟩ => ⟨S704x1024, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S3x704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1x704x1024 : Shape := ⟨3, ![1, 704, 1024]⟩
abbrev S1x1024x704 : Shape := ⟨3, ![1, 1024, 704]⟩
abbrev S_ : Shape := ⟨0, ![]⟩
abbrev S704x1024 : Shape := ⟨2, ![704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x1024x704, .f32⟩
  | .hbm, ⟨2, _⟩ => ⟨S1x1024x704, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S_, .f32⟩
  | .hbm, ⟨7, _⟩ => ⟨S1x704x1024, .f32⟩
  | .hbm, ⟨8, _⟩ => ⟨S1x704x1024, .f32⟩
  | .hbm, ⟨9, _⟩ => ⟨S_, .f32⟩
  | .hbm, ⟨10, _⟩ => ⟨S1x704x1024, .f32⟩
  | .hbm, ⟨11, _⟩ => ⟨S1x704x1024, .f32⟩
  | .hbm, ⟨12, _⟩ => ⟨S1x704x1024, .f32⟩
  | .hbm, ⟨13, _⟩ => ⟨S_, .f32⟩
  | .hbm, ⟨14, _⟩ => ⟨S1x704x1024, .f32⟩
  | .hbm, ⟨15, _⟩ => ⟨S1x704x1024, .f32⟩
  | .hbm, ⟨16, _⟩ => ⟨S1x704x1024, .f32⟩
  | .hbm, ⟨17, _⟩ => ⟨S_, .f32⟩
  | .hbm, ⟨18, _⟩ => ⟨S1x704x1024, .f32⟩
  | .hbm, ⟨19, _⟩ => ⟨S1x704x1024, .f32⟩
  | .hbm, ⟨20, _⟩ => ⟨S1x704x1024, .f32⟩
  | .hbm, ⟨21, _⟩ => ⟨S_, .f32⟩
  | .hbm, ⟨22, _⟩ => ⟨S1x704x1024, .f32⟩
  | .hbm, ⟨23, _⟩ => ⟨S1x704x1024, .f32⟩
  | .hbm, ⟨24, _⟩ => ⟨S_, .f32⟩
  | .hbm, ⟨25, _⟩ => ⟨S1x704x1024, .f32⟩
  | .hbm, ⟨26, _⟩ => ⟨S1x704x1024, .f32⟩
  | .hbm, ⟨27, _⟩ => ⟨S1x704x1024, .f32⟩
  | .hbm, ⟨28, _⟩ => ⟨S_, .f32⟩
  | .hbm, ⟨29, _⟩ => ⟨S1x704x1024, .f32⟩
  | .hbm, ⟨30, _⟩ => ⟨S1x704x1024, .f32⟩
  | .hbm, ⟨31, _⟩ => ⟨S1x704x1024, .f32⟩
  | .hbm, ⟨32, _⟩ => ⟨S_, .f32⟩
  | .hbm, ⟨33, _⟩ => ⟨S1x704x1024, .f32⟩
  | .hbm, ⟨34, _⟩ => ⟨S1x704x1024, .f32⟩
  | .hbm, ⟨35, _⟩ => ⟨S1x704x1024, .f32⟩
  | .hbm, ⟨36, _⟩ => ⟨S_, .f32⟩
  | .hbm, ⟨37, _⟩ => ⟨S1x704x1024, .f32⟩
  | .hbm, ⟨38, _⟩ => ⟨S1x704x1024, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel21.lean ====
abbrev S_ : Shape := ⟨0, ![]⟩
abbrev S1x9216 : Shape := ⟨2, ![1, 9216]⟩
abbrev S1x1024 : Shape := ⟨2, ![1, 1024]⟩
abbrev S1024 : Shape := ⟨1, ![1024]⟩
abbrev S1x8x64 : Shape := ⟨3, ![1, 8, 64]⟩
abbrev S32x8 : Shape := ⟨2, ![32, 8]⟩
abbrev S9216 : Shape := ⟨1, ![9216]⟩
abbrev S512 : Shape := ⟨1, ![512]⟩
abbrev S256 : Shape := ⟨1, ![256]⟩
abbrev S768 : Shape := ⟨1, ![768]⟩
abbrev S15360 : Shape := ⟨1, ![15360]⟩
abbrev S120x128 : Shape := ⟨2, ![120, 128]⟩
abbrev S1 : Shape := ⟨1, ![1]⟩
abbrev S1x120x128 : Shape := ⟨3, ![1, 120, 128]⟩

abbrev nBuf : Space → Nat
  | .hbm => 157
  | .vmem => 8
  | .smem => 0
  | _ => 0

abbrev hbmTy0_0 (i : Nat) : BufTy := match i % 128 with
  | 0 => ⟨S_, .f32⟩
  | 1 => ⟨S1x9216, .f32⟩
  | 2 => ⟨S1x1024, .f32⟩
  | 3 => ⟨S1x1024, .f32⟩
  | 4 => ⟨S1x1024, .f32⟩
  | 5 => ⟨S1024, .f32⟩
  | 6 => ⟨S1x8x64, .f32⟩
  | 7 => ⟨S1x8x64, .f32⟩
  | 8 => ⟨S32x8, .f32⟩
  | 9 => ⟨S1x9216, .f32⟩
  | 10 => ⟨S1x1024, .f32⟩
  | 11 => ⟨S1x1024, .f32⟩
  | 12 => ⟨S1x1024, .f32⟩
  | 13 => ⟨S1024, .f32⟩
  | 14 => ⟨S1x8x64, .f32⟩
  | 15 => ⟨S1x8x64, .f32⟩
  | 16 => ⟨S32x8, .f32⟩
  | 17 => ⟨S1x9216, .f32⟩
  | 18 => ⟨S1x1024, .f32⟩
  | 19 => ⟨S1x1024, .f32⟩
  | 20 => ⟨S1x1024, .f32⟩
  | 21 => ⟨S1024, .f32⟩
  | 22 => ⟨S1x8x64, .f32⟩
  | 23 => ⟨S1x8x64, .f32⟩
  | 24 => ⟨S32x8, .f32⟩
  | 25 => ⟨S1x9216, .f32⟩
  | 26 => ⟨S1x1024, .f32⟩
  | 27 => ⟨S1x1024, .f32⟩
  | 28 => ⟨S1x1024, .f32⟩
  | 29 => ⟨S1024, .f32⟩
  | 30 => ⟨S1x8x64, .f32⟩
  | 31 => ⟨S1x8x64, .f32⟩
  | 32 => ⟨S32x8, .f32⟩
  | 33 => ⟨S9216, .f32⟩
  | 34 => ⟨S1024, .f32⟩
  | 35 => ⟨S1024, .f32⟩
  | 36 => ⟨S1024, .f32⟩
  | 37 => ⟨S512, .f32⟩
  | 38 => ⟨S512, .f32⟩
  | 39 => ⟨S256, .f32⟩
  | 40 => ⟨S_, .f32⟩
  | 41 => ⟨S768, .f32⟩
  | 42 => ⟨S15360, .f32⟩
  | 43 => ⟨S120x128, .f32⟩
  | 44 => ⟨S9216, .f32⟩
  | 45 => ⟨S1024, .f32⟩
  | 46 => ⟨S1024, .f32⟩
  | 47 => ⟨S1024, .f32⟩
  | 48 => ⟨S512, .f32⟩
  | 49 => ⟨S512, .f32⟩
  | 50 => ⟨S256, .f32⟩
  | 51 => ⟨S_, .f32⟩
  | 52 => ⟨S768, .f32⟩
  | 53 => ⟨S_, .i32⟩
  | 54 => ⟨S1, .i32⟩
  | 55 => ⟨S768, .f32⟩
  | 56 => ⟨S15360, .f32⟩
  | 57 => ⟨S120x128, .f32⟩
  | 58 => ⟨S1x120x128, .f32⟩
  | 59 => ⟨S9216, .f32⟩
  | 60 => ⟨S1024, .f32⟩
  | 61 => ⟨S1024, .f32⟩
  | 62 => ⟨S1024, .f32⟩
  | 63 => ⟨S512, .f32⟩
  | 64 => ⟨S512, .f32⟩
  | 65 => ⟨S256, .f32⟩
  | 66 => ⟨S_, .f32⟩
  | 67 => ⟨S768, .f32⟩
  | 68 => ⟨S15360, .f32⟩
  | 69 => ⟨S120x128, .f32⟩
  | 70 => ⟨S9216, .f32⟩
  | 71 => ⟨S1024, .f32⟩
  | 72 => ⟨S1024, .f32⟩
  | 73 => ⟨S1024, .f32⟩
  | 74 => ⟨S512, .f32⟩
  | 75 => ⟨S512, .f32⟩
  | 76 => ⟨S256, .f32⟩
  | 77 => ⟨S_, .f32⟩
  | 78 => ⟨S768, .f32⟩
  | 79 => ⟨S15360, .f32⟩
  | 80 => ⟨S120x128, .f32⟩
  | 81 => ⟨S120x128, .f32⟩
  | 82 => ⟨S120x128, .f32⟩
  | 83 => ⟨S120x128, .f32⟩
  | 84 => ⟨S120x128, .f32⟩
  | 85 => ⟨S15360, .f32⟩
  | 86 => ⟨S9216, .f32⟩
  | 87 => ⟨S1x9216, .f32⟩
  | 88 => ⟨S1024, .f32⟩
  | 89 => ⟨S1x1024, .f32⟩
  | 90 => ⟨S1024, .f32⟩
  | 91 => ⟨S1x1024, .f32⟩
  | 92 => ⟨S1024, .f32⟩
  | 93 => ⟨S1x1024, .f32⟩
  | 94 => ⟨S1024, .f32⟩
  | 95 => ⟨S512, .f32⟩
  | 96 => ⟨S1x8x64, .f32⟩
  | 97 => ⟨S512, .f32⟩
  | 98 => ⟨S1x8x64, .f32⟩
  | 99 => ⟨S256, .f32⟩
  | 100 => ⟨S32x8, .f32⟩
  | 101 => ⟨S1, .f32⟩
  | 102 => ⟨S_, .f32⟩
  | 103 => ⟨S15360, .f32⟩
  | 104 => ⟨S9216, .f32⟩
  | 105 => ⟨S1x9216, .f32⟩
  | 106 => ⟨S1024, .f32⟩
  | 107 => ⟨S1x1024, .f32⟩
  | 108 => ⟨S1024, .f32⟩
  | 109 => ⟨S1x1024, .f32⟩
  | 110 => ⟨S1024, .f32⟩
  | 111 => ⟨S1x1024, .f32⟩
  | 112 => ⟨S1024, .f32⟩
  | 113 => ⟨S512, .f32⟩
  | 114 => ⟨S1x8x64, .f32⟩
  | 115 => ⟨S512, .f32⟩
  | 116 => ⟨S1x8x64, .f32⟩
  | 117 => ⟨S256, .f32⟩
  | 118 => ⟨S32x8, .f32⟩
  | 119 => ⟨S1, .f32⟩
  | 120 => ⟨S_, .f32⟩
  | 121 => ⟨S15360, .f32⟩
  | 122 => ⟨S9216, .f32⟩
  | 123 => ⟨S1x9216, .f32⟩
  | 124 => ⟨S1024, .f32⟩
  | 125 => ⟨S1x1024, .f32⟩
  | 126 => ⟨S1024, .f32⟩
  | 127 => ⟨S1x1024, .f32⟩
  | _ => ⟨S_, .f32⟩

abbrev hbmTy0_1 (i : Nat) : BufTy := match i % 128 with
  | 0 => ⟨S1024, .f32⟩
  | 1 => ⟨S1x1024, .f32⟩
  | 2 => ⟨S1024, .f32⟩
  | 3 => ⟨S512, .f32⟩
  | 4 => ⟨S1x8x64, .f32⟩
  | 5 => ⟨S512, .f32⟩
  | 6 => ⟨S1x8x64, .f32⟩
  | 7 => ⟨S256, .f32⟩
  | 8 => ⟨S32x8, .f32⟩
  | 9 => ⟨S1, .f32⟩
  | 10 => ⟨S_, .f32⟩
  | 11 => ⟨S15360, .f32⟩
  | 12 => ⟨S9216, .f32⟩
  | 13 => ⟨S1x9216, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S1x1024, .f32⟩
  | 20 => ⟨S1024, .f32⟩
  | 21 => ⟨S512, .f32⟩
  | 22 => ⟨S1x8x64, .f32⟩
  | 23 => ⟨S512, .f32⟩
  | 24 => ⟨S1x8x64, .f32⟩
  | 25 => ⟨S256, .f32⟩
  | 26 => ⟨S32x8, .f32⟩
  | 27 => ⟨S1, .f32⟩
  | 28 => ⟨S_, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | .local _ .vmem, ⟨0, _⟩ => ⟨S120x128, .f32⟩
  | .local _ .vmem, ⟨1, _⟩ => ⟨S1x120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_0 : Ref sig .tc := ⟨.hbm, 51, rfl⟩
abbrev main_v17 : Ref sig .tc := ⟨.hbm, 52, rfl⟩
abbrev main_c : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43_0 : Ref sig .tc := ⟨.hbm, 81, rfl⟩
abbrev main_v43_1 : Ref sig .tc := ⟨.hbm, 82, rfl⟩
abbrev main_v43_2 : Ref sig .tc := ⟨.hbm, 83, rfl⟩
abbrev main_v43_3 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S_ : Shape := ⟨0, ![]⟩
abbrev S1x9216 : Shape := ⟨2, ![1, 9216]⟩
abbrev S1x1024 : Shape := ⟨2, ![1, 1024]⟩
abbrev S1024 : Shape := ⟨1, ![1024]⟩
abbrev S1x8x64 : Shape := ⟨3, ![1, 8, 64]⟩
abbrev S32x8 : Shape := ⟨2, ![32, 8]⟩

abbrev nBuf : Space → Nat
  | .hbm => 297
  | .vmem => 0
  | .smem => 0
  | _ => 0

abbrev hbmTy0_0 (i : Nat) : BufTy := match i % 128 with
  | 0 => ⟨S_, .f32⟩
  | 1 => ⟨S1x9216, .f32⟩
  | 2 => ⟨S1x1024, .f32⟩
  | 3 => ⟨S1x1024, .f32⟩
  | 4 => ⟨S1x1024, .f32⟩
  | 5 => ⟨S1024, .f32⟩
  | 6 => ⟨S1x8x64, .f32⟩
  | 7 => ⟨S1x8x64, .f32⟩
  | 8 => ⟨S32x8, .f32⟩
  | 9 => ⟨S1x9216, .f32⟩
  | 10 => ⟨S1x1024, .f32⟩
  | 11 => ⟨S1x1024, .f32⟩
  | 12 => ⟨S1x1024, .f32⟩
  | 13 => ⟨S1024, .f32⟩
  | 14 => ⟨S1x8x64, .f32⟩
  | 15 => ⟨S1x8x64, .f32⟩
  | 16 => ⟨S32x8, .f32⟩
  | 17 => ⟨S1x9216, .f32⟩
  | 18 => ⟨S1x1024, .f32⟩
  | 19 => ⟨S1x1024, .f32⟩
  | 20 => ⟨S1x1024, .f32⟩
  | 21 => ⟨S1024, .f32⟩
  | 22 => ⟨S1x8x64, .f32⟩
  | 23 => ⟨S1x8x64, .f32⟩
  | 24 => ⟨S32x8, .f32⟩
  | 25 => ⟨S1x9216, .f32⟩
  | 26 => ⟨S1x1024, .f32⟩
  | 27 => ⟨S1x1024, .f32⟩
  | 28 => ⟨S1x1024, .f32⟩
  | 29 => ⟨S1024, .f32⟩
  | 30 => ⟨S1x8x64, .f32⟩
  | 31 => ⟨S1x8x64, .f32⟩
  | 32 => ⟨S32x8, .f32⟩
  | 33 => ⟨S_, .f32⟩
  | 34 => ⟨S1x9216, .f32⟩
  | 35 => ⟨S1x9216, .f32⟩
  | 36 => ⟨S_, .f32⟩
  | 37 => ⟨S1x9216, .f32⟩
  | 38 => ⟨S1x9216, .f32⟩
  | 39 => ⟨S1x9216, .f32⟩
  | 40 => ⟨S_, .f32⟩
  | 41 => ⟨S1x9216, .f32⟩
  | 42 => ⟨S1x9216, .f32⟩
  | 43 => ⟨S1x9216, .f32⟩
  | 44 => ⟨S_, .f32⟩
  | 45 => ⟨S1x9216, .f32⟩
  | 46 => ⟨S1x9216, .f32⟩
  | 47 => ⟨S1x9216, .f32⟩
  | 48 => ⟨S_, .f32⟩
  | 49 => ⟨S1x9216, .f32⟩
  | 50 => ⟨S1x9216, .f32⟩
  | 51 => ⟨S_, .f32⟩
  | 52 => ⟨S1x9216, .f32⟩
  | 53 => ⟨S1x9216, .f32⟩
  | 54 => ⟨S1x9216, .f32⟩
  | 55 => ⟨S_, .f32⟩
  | 56 => ⟨S1x9216, .f32⟩
  | 57 => ⟨S1x9216, .f32⟩
  | 58 => ⟨S1x9216, .f32⟩
  | 59 => ⟨S_, .f32⟩
  | 60 => ⟨S1x9216, .f32⟩
  | 61 => ⟨S1x9216, .f32⟩
  | 62 => ⟨S1x9216, .f32⟩
  | 63 => ⟨S_, .f32⟩
  | 64 => ⟨S1x9216, .f32⟩
  | 65 => ⟨S1x9216, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S_, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S1024, .f32⟩
  | 44 => ⟨S_, .f32⟩
  | 45 => ⟨S1024, .f32⟩
  | 46 => ⟨S1024, .f32⟩
  | 47 => ⟨S1024, .f32⟩
  | 48 => ⟨S_, .f32⟩
  | 49 => ⟨S1024, .f32⟩
  | 50 => ⟨S1024, .f32⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S_, .f32⟩
  | 71 => ⟨S1x8x64, .f32⟩
  | 72 => ⟨S1x8x64, .f32⟩
  | 73 => ⟨S_, .f32⟩
  | 74 => ⟨S1x8x64, .f32⟩
  | 75 => ⟨S1x8x64, .f32⟩
  | 76 => ⟨S1x8x64, .f32⟩
  | 77 => ⟨S_, .f32⟩
  | 78 => ⟨S1x8x64, .f32⟩
  | 79 => ⟨S1x8x64, .f32⟩
  | 80 => ⟨S1x8x64, .f32⟩
  | 81 => ⟨S_, .f32⟩
  | 82 => ⟨S1x8x64, .f32⟩
  | 83 => ⟨S1x8x64, .f32⟩
  | 84 => ⟨S1x8x64, .f32⟩
  | 85 => ⟨S_, .f32⟩
  | 86 => ⟨S1x8x64, .f32⟩
  | 87 => ⟨S1x8x64, .f32⟩
  | 88 => ⟨S_, .f32⟩
  | 89 => ⟨S1x8x64, .f32⟩
  | 90 => ⟨S1x8x64, .f32⟩
  | 91 => ⟨S1x8x64, .f32⟩
  | 92 => ⟨S_, .f32⟩
  | 93 => ⟨S1x8x64, .f32⟩
  | 94 => ⟨S1x8x64, .f32⟩
  | 95 => ⟨S1x8x64, .f32⟩
  | 96 => ⟨S_, .f32⟩
  | 97 => ⟨S1x8x64, .f32⟩
  | 98 => ⟨S1x8x64, .f32⟩
  | 99 => ⟨S1x8x64, .f32⟩
  | 100 => ⟨S_, .f32⟩
  | 101 => ⟨S1x8x64, .f32⟩
  | 102 => ⟨S1x8x64, .f32⟩
  | 103 => ⟨S_, .f32⟩
  | 104 => ⟨S1x8x64, .f32⟩
  | 105 => ⟨S1x8x64, .f32⟩
  | 106 => ⟨S_, .f32⟩
  | 107 => ⟨S1x8x64, .f32⟩
  | 108 => ⟨S1x8x64, .f32⟩
  | 109 => ⟨S1x8x64, .f32⟩
  | 110 => ⟨S_, .f32⟩
  | 111 => ⟨S1x8x64, .f32⟩
  | 112 => ⟨S1x8x64, .f32⟩
  | 113 => ⟨S1x8x64, .f32⟩
  | 114 => ⟨S_, .f32⟩
  | 115 => ⟨S1x8x64, .f32⟩
  | 116 => ⟨S1x8x64, .f32⟩
  | 117 => ⟨S1x8x64, .f32⟩
  | 118 => ⟨S_, .f32⟩
  | 119 => ⟨S1x8x64, .f32⟩
  | 120 => ⟨S1x8x64, .f32⟩
  | 121 => ⟨S_, .f32⟩
  | 122 => ⟨S1x8x64, .f32⟩
  | 123 => ⟨S1x8x64, .f32⟩
  | 124 => ⟨S1x8x64, .f32⟩
  | 125 => ⟨S_, .f32⟩
  | 126 => ⟨S1x8x64, .f32⟩
  | 127 => ⟨S1x8x64, .f32⟩
  | _ => ⟨S_, .f32⟩

abbrev hbmTy0_2 (i : Nat) : BufTy := match i % 128 with
  | 0 => ⟨S1x8x64, .f32⟩
  | 1 => ⟨S_, .f32⟩
  | 2 => ⟨S1x8x64, .f32⟩
  | 3 => ⟨S1x8x64, .f32⟩
  | 4 => ⟨S1x8x64, .f32⟩
  | 5 => ⟨S_, .f32⟩
  | 6 => ⟨S1x8x64, .f32⟩
  | 7 => ⟨S1x8x64, .f32⟩
  | 8 => ⟨S_, .f32⟩
  | 9 => ⟨S32x8, .f32⟩
  | 10 => ⟨S32x8, .f32⟩
  | 11 => ⟨S_, .f32⟩
  | 12 => ⟨S32x8, .f32⟩
  | 13 => ⟨S32x8, .f32⟩
  | 14 => ⟨S32x8, .f32⟩
  | 15 => ⟨S_, .f32⟩
  | 16 => ⟨S32x8, .f32⟩
  | 17 => ⟨S32x8, .f32⟩
  | 18 => ⟨S32x8, .f32⟩
  | 19 => ⟨S_, .f32⟩
  | 20 => ⟨S32x8, .f32⟩
  | 21 => ⟨S32x8, .f32⟩
  | 22 => ⟨S32x8, .f32⟩
  | 23 => ⟨S_, .f32⟩
  | 24 => ⟨S32x8, .f32⟩
  | 25 => ⟨S32x8, .f32⟩
  | 26 => ⟨S_, .f32⟩
  | 27 => ⟨S32x8, .f32⟩
  | 28 => ⟨S32x8, .f32⟩
  | 29 => ⟨S32x8, .f32⟩
  | 30 => ⟨S_, .f32⟩
  | 31 => ⟨S32x8, .f32⟩
  | 32 => ⟨S32x8, .f32⟩
  | 33 => ⟨S32x8, .f32⟩
  | 34 => ⟨S_, .f32⟩
  | 35 => ⟨S32x8, .f32⟩
  | 36 => ⟨S32x8, .f32⟩
  | 37 => ⟨S32x8, .f32⟩
  | 38 => ⟨S_, .f32⟩
  | 39 => ⟨S32x8, .f32⟩
  | 40 => ⟨S32x8, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_v1 : Ref sig .tc := ⟨.hbm, 35, rfl⟩
abbrev main_cst_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_2 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_3 : Ref sig .tc := ⟨.hbm, 48, rfl⟩
abbrev main_v11 : Ref sig .tc := ⟨.hbm, 49, rfl⟩
abbrev main_v12 : Ref sig .tc := ⟨.hbm, 50, rfl⟩
abbrev main_cst_4 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_5 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_6 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_7 : Ref sig .tc := ⟨.hbm, 63, rfl⟩
abbrev main_v22 : Ref sig .tc := ⟨.hbm, 64, rfl⟩
abbrev main_v23 : Ref sig .tc := ⟨.hbm, 65, rfl⟩
abbrev main_cst_8 : Ref sig .tc := ⟨.hbm, 66, rfl⟩
abbrev main_v24 : Ref sig .tc := ⟨.hbm, 67, rfl⟩
abbrev main_v25 : Ref sig .tc := ⟨.hbm, 68, rfl⟩
abbrev main_cst_9 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_10 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_11 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_12 : Ref sig .tc := ⟨.hbm, 81, rfl⟩
abbrev main_v35 : Ref sig .tc := ⟨.hbm, 82, rfl⟩
abbrev main_v36 : Ref sig .tc := ⟨.hbm, 83, rfl⟩
abbrev main_cst_13 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_14 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_15 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_16 : Ref sig .tc := ⟨.hbm, 96, rfl⟩
abbrev main_v46 : Ref sig .tc := ⟨.hbm, 97, rfl⟩
abbrev main_v47 : Ref sig .tc := ⟨.hbm, 98, rfl⟩
abbrev main_cst_17 : Ref sig .tc := ⟨.hbm, 99, rfl⟩
abbrev main_v48 : Ref sig .tc := ⟨.hbm, 100, rfl⟩
abbrev main_v49 : Ref sig .tc := ⟨.hbm, 101, rfl⟩
abbrev main_cst_18 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_19 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_20 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_21 : Ref sig .tc := ⟨.hbm, 114, rfl⟩
abbrev main_v59 : Ref sig .tc := ⟨.hbm, 115, rfl⟩
abbrev main_v60 : Ref sig .tc := ⟨.hbm, 116, rfl⟩
abbrev main_cst_22 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_23 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_24 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_25 : Ref sig .tc := ⟨.hbm, 129, rfl⟩
abbrev main_v70 : Ref sig .tc := ⟨.hbm, 130, rfl⟩
abbrev main_v71 : Ref sig .tc := ⟨.hbm, 131, rfl⟩
abbrev main_cst_26 : Ref sig .tc := ⟨.hbm, 132, rfl⟩
abbrev main_v72 : Ref sig .tc := ⟨.hbm, 133, rfl⟩
abbrev main_v73 : Ref sig .tc := ⟨.hbm, 134, rfl⟩
abbrev main_cst_27 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_28 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_29 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_30 : Ref sig .tc := ⟨.hbm, 147, rfl⟩
abbrev main_v83 : Ref sig .tc := ⟨.hbm, 148, rfl⟩
abbrev main_v84 : Ref sig .tc := ⟨.hbm, 149, rfl⟩
abbrev main_cst_31 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_32 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_cst_33 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_34 : Ref sig .tc := ⟨.hbm, 162, rfl⟩
abbrev main_v94 : Ref sig .tc := ⟨.hbm, 163, rfl⟩
abbrev main_v95 : Ref sig .tc := ⟨.hbm, 164, rfl⟩
abbrev main_cst_35 : Ref sig .tc := ⟨.hbm, 165, rfl⟩
abbrev main_v96 : Ref sig .tc := ⟨.hbm, 166, rfl⟩
abbrev main_v97 : Ref sig .tc := ⟨.hbm, 167, rfl⟩
abbrev main_cst_36 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_37 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_cst_38 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_cst_39 : Ref sig .tc := ⟨.hbm, 180, rfl⟩
abbrev main_v107 : Ref sig .tc := ⟨.hbm, 181, rfl⟩
abbrev main_v108 : Ref sig .tc := ⟨.hbm, 182, rfl⟩
abbrev main_cst_40 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_41 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_42 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_43 : Ref sig .tc := ⟨.hbm, 195, rfl⟩
abbrev main_v118 : Ref sig .tc := ⟨.hbm, 196, rfl⟩
abbrev main_v119 : Ref sig .tc := ⟨.hbm, 197, rfl⟩
abbrev main_cst_44 : Ref sig .tc := ⟨.hbm, 198, rfl⟩
abbrev main_v120 : Ref sig .tc := ⟨.hbm, 199, rfl⟩
abbrev main_v121 : Ref sig .tc := ⟨.hbm, 200, rfl⟩
abbrev main_cst_45 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_46 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_cst_47 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_48 : Ref sig .tc := ⟨.hbm, 213, rfl⟩
abbrev main_v131 : Ref sig .tc := ⟨.hbm, 214, rfl⟩
abbrev main_v132 : Ref sig .tc := ⟨.hbm, 215, rfl⟩
abbrev main_cst_49 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_cst_50 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_cst_51 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_cst_52 : Ref sig .tc := ⟨.hbm, 228, rfl⟩
abbrev main_v142 : Ref sig .tc := ⟨.hbm, 229, rfl⟩
abbrev main_v143 : Ref sig .tc := ⟨.hbm, 230, rfl⟩
abbrev main_cst_53 : Ref sig .tc := ⟨.hbm, 231, rfl⟩
abbrev main_v144 : Ref sig .tc := ⟨.hbm, 232, rfl⟩
abbrev main_v145 : Ref sig .tc := ⟨.hbm, 233, rfl⟩
abbrev main_cst_54 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_55 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_cst_56 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_57 : Ref sig .tc := ⟨.hbm, 246, rfl⟩
abbrev main_v155 : Ref sig .tc := ⟨.hbm, 247, rfl⟩
abbrev main_v156 : Ref sig .tc := ⟨.hbm, 248, rfl⟩
abbrev main_cst_58 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_cst_59 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_cst_60 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_cst_61 : Ref sig .tc := ⟨.hbm, 261, rfl⟩
abbrev main_v166 : Ref sig .tc := ⟨.hbm, 262, rfl⟩
abbrev main_v167 : Ref sig .tc := ⟨.hbm, 263, rfl⟩
abbrev main_cst_62 : Ref sig .tc := ⟨.hbm, 264, rfl⟩
abbrev main_v168 : Ref sig .tc := ⟨.hbm, 265, rfl⟩
abbrev main_v169 : Ref sig .tc := ⟨.hbm, 266, rfl⟩
abbrev main_cst_63 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_64 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_cst_65 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_cst_66 : Ref sig .tc := ⟨.hbm, 279, rfl⟩
abbrev main_v179 : Ref sig .tc := ⟨.hbm, 280, rfl⟩
abbrev main_v180 : Ref sig .tc := ⟨.hbm, 281, rfl⟩
abbrev main_cst_67 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_cst_68 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_cst_69 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_cst_70 : Ref sig .tc := ⟨.hbm, 294, rfl⟩
abbrev main_v190 : Ref sig .tc := ⟨.hbm, 295, rfl⟩
abbrev main_v191 : Ref sig .tc := ⟨.hbm, 296, rfl⟩

abbrev nD : Nat := 1
abbrev τ : Topo := Topo.v7x

variable {F : FTy → Type} [FloatOps F]
-- ==== Kernel22.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x1024 : Shape := ⟨2, ![2, 1024]⟩
abbrev S1024 : Shape := ⟨1, ![1024]⟩
abbrev S4096x4x704 : Shape := ⟨3, ![4096, 4, 704]⟩
abbrev S4x4096x704 : Shape := ⟨3, ![4, 4096, 704]⟩
abbrev S4x1x704x1024 : Shape := ⟨4, ![4, 1, 704, 1024]⟩
abbrev S4096x1024 : Shape := ⟨2, ![4096, 1024]⟩
abbrev S2x1x1024 : Shape := ⟨3, ![2, 1, 1024]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 19
  | .vmem => 17
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x1024, .f32⟩
  | .hbm, ⟨4, _⟩ => ⟨S1024, .f32⟩
  | .hbm, ⟨5, _⟩ => ⟨S2x2048x1024, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4x1x704x1024, .f32⟩
  | .hbm, ⟨10, _⟩ => ⟨S4x1x704x1024, .bf16⟩
  | .hbm, ⟨11, _⟩ => ⟨S4096x1024, .f32⟩
  | .hbm, ⟨12, _⟩ => ⟨S2x1x1024, .f32⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S1x1024, .f32⟩
  | .hbm, ⟨18, _⟩ => ⟨S1x128, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x128, .f32⟩
  | .local _ .vmem, ⟨16, _⟩ => ⟨S1x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_44 : BitVec 32 := 0#32
  let v58 : BitVec 1 := Scalar.cmpi .ne v57 c0_i32_44
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_45 : BitVec 32 := 0#32
  let v61 : BitVec 1 := Scalar.cmpi .ne v60 c0_i32_45
  v61

def k0_cond5 (i : grid0.Coords) : BitVec 1 :=
  let arg0 : BitVec 32 := BitVec.ofNat 32 (i 0).val
  let c7_i32 : BitVec 32 := 7#32
  let v84 : BitVec 1 := Scalar.cmpi .eq arg0 c7_i32
  let v85 : BitVec 32 := Scalar.extui v84
  let c0_i32_55 : BitVec 32 := 0#32
  let v86 : BitVec 1 := Scalar.cmpi .ne v85 c0_i32_55
  v86

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference22Ideal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x1024 : Shape := ⟨2, ![2, 1024]⟩
abbrev S1024 : Shape := ⟨1, ![1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x1024, .f32⟩
  | .hbm, ⟨4, _⟩ => ⟨S1024, .f32⟩
  | .hbm, ⟨5, _⟩ => ⟨S2x2048x1024, .f32⟩
  | .hbm, ⟨6, _⟩ => ⟨S2x2048x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x2048, .f32⟩
  | .hbm, ⟨52, _⟩ => ⟨S_, .f32⟩
  | .hbm, ⟨53, _⟩ => ⟨S2x2048, .f32⟩
  | .hbm, ⟨54, _⟩ => ⟨S2x2048, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S4096x1024, .bf16⟩
  | .hbm, ⟨84, _⟩ => ⟨S4096x1024, .f32⟩
  | .hbm, ⟨85, _⟩ => ⟨S1x1024, .f32⟩
  | .hbm, ⟨86, _⟩ => ⟨S1x128, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.Ffn.Row.lean ====
/- One token of a feed-forward half over the real numbers.

   A token is a row `x` of 1024 features with the modulation of its example (`sh`, `sc`, `gt`), the norm's gain `g`, the
   three weight matrices and the incoming gradient `ct`.  This module states the forward values (`h`, `a`, `u`, `q`, `p`,
   `f`) and the gradients (`df`, `ds`, `da`, `du`, `dh`, `dx`, …) of that row in real arithmetic, and proves the two
   identities that the rest rests on: the derivative of `a · σ(a)` in its two spellings, and the gradient through the
   root mean square in its two spellings. -/
module

public import Idealize.ShloMosaic.PureOps.Ideal.Laws
public import Idealize.ShloMosaic.Lib.IdealHost

@[expose] public section

noncomputable section

namespace Cert.Ffn

open Idealize.ShloMosaic

/-! ## Extended reals that are real -/

/-- A sum of real numbers, taken among the extended reals. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A quotient of real numbers with a nonzero divisor. -/
theorem div_real (x : ℝ) {y : ℝ} (h : y ≠ 0) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The word of one half. -/
theorem word_half : Ideal.ofBits .f32 0x3F000000#32 = ((1 / 2 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The word of one. -/
theorem word_one : Ideal.ofBits .f32 0x3F800000#32 = ((1 : ℝ) : EReal) := by
  simp [Ideal.ofBits, Ideal.ieee, -EReal.coe_mul]; norm_num

/-- The word of the number of features, 1024. -/
theorem word_1024 : Ideal.ofBits .f32 0x44800000#32 = ((1024 : ℝ) : EReal) := by
  simp [Ideal.ofBits, Ideal.ieee, -EReal.coe_mul]; norm_num

/-- The number the word of the norm's small constant denotes. -/
def eps : ℝ := (Ideal.ofBits .f32 0x358637BD#32).toReal

theorem word_eps_pos : Ideal.ofBits .f32 0x358637BD#32 = (eps : EReal) ∧ 0 < eps := by
  have h : ∃ e : ℝ, 0 < e ∧ Ideal.ofBits .f32 0x358637BD#32 = (e : EReal) := by
    refine ⟨8796093 * (2 : ℝ) ^ (-43 : ℤ), by positivity, ?_⟩
    simp [Ideal.ofBits, Ideal.ieee, -EReal.coe_mul]
    try norm_num
  obtain ⟨e, he, h⟩ := h
  have : eps = e := by rw [eps, h, EReal.toReal_coe]
  rw [this]; exact ⟨h, he⟩

theorem word_eps : Ideal.ofBits .f32 0x358637BD#32 = (eps : EReal) := word_eps_pos.1

theorem eps_pos : 0 < eps := word_eps_pos.2

/-! ## The row -/

/-- What one token's feed-forward half reads. -/
structure Row where
  x : Fin 1024 → ℝ
  g : Fin 1024 → ℝ
  sh : Fin 1024 → ℝ
  sc : Fin 1024 → ℝ
  gt : Fin 1024 → ℝ
  wg : Fin 1024 → Fin 2816 → ℝ
  wu : Fin 1024 → Fin 2816 → ℝ
  wd : Fin 2816 → Fin 1024 → ℝ
  ct : Fin 1024 → ℝ

namespace Row

variable (R : Row)

/-- The mean of the squared features, plus the norm's small constant. -/
def ms : ℝ := (∑ d, R.x d * R.x d) / 1024 + eps
/-- The reciprocal root mean square. -/
def r : ℝ := (Real.sqrt R.ms)⁻¹
/-- The normalised features. -/
def n (d : Fin 1024) : ℝ := R.x d * R.r
/-- … with the gain. -/
def ng (d : Fin 1024) : ℝ := R.n d * R.g d
/-- … and modulated: what the two up projections read. -/
def h (d : Fin 1024) : ℝ := R.ng d * (1 + R.sc d) + R.sh d
/-- The gate's projection. -/
def a (k : Fin 2816) : ℝ := ∑ d, R.h d * R.wg d k
/-- The other projection. -/
def u (k : Fin 2816) : ℝ := ∑ d, R.h d * R.wu d k
/-- The logistic function of the gate. -/
def sg (k : Fin 2816) : ℝ := 1 / (1 + Real.exp (-R.a k))
/-- The gate `a · σ(a)`. -/
def q (k : Fin 2816) : ℝ := R.a k * R.sg k
/-- The derivative of `a · σ(a) · u` in `a`. -/
def p (k : Fin 2816) : ℝ := R.u k * (R.sg k * (1 + R.a k * (1 - R.sg k)))
/-- The gated product. -/
def s (k : Fin 2816) : ℝ := R.q k * R.u k
/-- The half's output before its gate and its residual. -/
def f (d : Fin 1024) : ℝ := ∑ k, R.s k * R.wd k d

/-- The gradient at `f`. -/
def df (d : Fin 1024) : ℝ := 1 / 2 * R.gt d * R.ct d
/-- The gradient at the gated product. -/
def ds (k : Fin 2816) : ℝ := ∑ d, R.df d * R.wd k d
/-- The gradient at the gate's projection. -/
def da (k : Fin 2816) : ℝ := R.ds k * R.p k
/-- The gradient at the other projection. -/
def du (k : Fin 2816) : ℝ := R.ds k * R.q k
/-- The gradient at the modulated row. -/
def dh (d : Fin 1024) : ℝ := (∑ k, R.da k * R.wg d k) + ∑ k, R.du k * R.wu d k
/-- The gradient at the normalised row with its gain. -/
def dy (d : Fin 1024) : ℝ := R.dh d * (1 + R.sc d)
/-- The gradient at the normalised row. -/
def dn (d : Fin 1024) : ℝ := R.dy d * R.g d
/-- The gradient at the row itself, the residual's part included. -/
def dx (d : Fin 1024) : ℝ := R.ct d + R.r * (R.dn d - R.n d * ((∑ e, R.dn e * R.n e) / 1024))

theorem ms_pos : 0 < R.ms :=
  add_pos_of_nonneg_of_pos (div_nonneg (Finset.sum_nonneg fun d _ => mul_self_nonneg (R.x d)) (by norm_num)) eps_pos

theorem ms_ne : R.ms ≠ 0 := R.ms_pos.ne'

theorem one_add_exp_ne (t : ℝ) : 1 + Real.exp t ≠ 0 := (add_pos one_pos (Real.exp_pos t)).ne'

/-- The gate's gradient as the chain rule spells it: through the product `a · σ` and through `σ`, whose derivative is
    `σ (1 - σ)`. -/
theorem da_chain (k : Fin 2816) :
    R.ds k * R.u k * R.sg k + R.a k * (R.ds k * R.u k) * (R.sg k * (1 - R.sg k)) = R.da k := by
  unfold da p; ring

/-- The row's gradient as the chain rule spells it: through the product with the reciprocal root, and twice through the
    square under the root. -/
theorem dx_chain (d : Fin 1024) :
    R.ct d + R.dn d * R.r + R.x d * ((∑ e, R.x e * R.dn e) * (-(1 / 2) * (R.r / R.ms)) / 1024)
      + (∑ e, R.x e * R.dn e) * (-(1 / 2) * (R.r / R.ms)) / 1024 * R.x d = R.dx d := by
  have hr : R.r / R.ms = R.r * (R.r * R.r) := by
    have h2 : R.r * R.r = R.ms⁻¹ := by
      unfold r; rw [← mul_inv, Real.mul_self_sqrt R.ms_pos.le]
    rw [h2, div_eq_mul_inv]
  have hs : (∑ e, R.dn e * R.n e) = (∑ e, R.x e * R.dn e) * R.r := by
    rw [Finset.sum_mul]; exact Finset.sum_congr rfl fun e _ => by unfold n; ring
  rw [hr]; unfold dx; rw [hs]; unfold n; ring

end Row

/-- A sum over the 2816 columns is the sum over the four chips of the sums over each chip's 704. -/
theorem sum_chips (F : Fin 2816 → ℝ) (chip : Fin 4 → Fin 704 → Fin 2816)
    (hc : ∀ j k, (chip j k).val = j.val * 704 + k.val) : (∑ k, F k) = ∑ j, ∑ k, F (chip j k) := by
  rw [← Finset.sum_product', Finset.univ_product_univ]
  refine (Finset.sum_bijective (fun z : Fin 4 × Fin 704 => chip z.1 z.2) ⟨?_, ?_⟩ (by simp) fun _ _ => rfl).symm
  · rintro ⟨j, k⟩ ⟨j', k'⟩ h
    have := congrArg Fin.val h; simp only [hc] at this
    ext <;> simp <;> omega
  · intro c
    refine ⟨(⟨c.val / 704, by omega⟩, ⟨c.val % 704, by omega⟩), Fin.ext ?_⟩
    simp only [hc]; omega

end Cert.Ffn

end
-- ==== Proof.Ffn.Inputs.lean ====
/- The arguments of the step as arrays of real numbers, and the rows of tokens in them.

   `In` holds the nine arguments as real functions of their indices; `In.x0` … `In.x8` are the same arrays as the programs
   read them (extended reals), and `In.row b s` is token `s` of example `b`. -/
module

public import proofs.«01_k».proof.ReferenceIdeal
public import proofs.«01_k».proof.Proof.Ffn.Row

@[expose] public section

noncomputable section

namespace Cert.Ffn

open Idealize.ShloMosaic Cert.ReferenceIdeal

/-- The arguments, real. -/
structure In where
  X : Fin 2 → Fin 2048 → Fin 1024 → ℝ
  G : Fin 1024 → ℝ
  Sh : Fin 2 → Fin 1024 → ℝ
  Sc : Fin 2 → Fin 1024 → ℝ
  Gt : Fin 2 → Fin 1024 → ℝ
  Wg : Fin 1024 → Fin 2816 → ℝ
  Wu : Fin 1024 → Fin 2816 → ℝ
  Wd : Fin 2816 → Fin 1024 → ℝ
  Ct : Fin 2 → Fin 2048 → Fin 1024 → ℝ

/-- Column `k` of chip `j`. -/
def col (j : Fin 4) (k : Fin 704) : Fin 2816 := ⟨j.val * 704 + k.val, by omega⟩

namespace In

variable (A : In)

/-- Token `s` of example `b`. -/
def row (b : Fin 2) (s : Fin 2048) : Row where
  x := A.X b s
  g := A.G
  sh := A.Sh b
  sc := A.Sc b
  gt := A.Gt b
  wg := A.Wg
  wu := A.Wu
  wd := A.Wd
  ct := A.Ct b s

def x0 : (⟨S2x2048x1024, .f32⟩ : BufTy).Contents (Elt Ideal) := fun i => ((A.X (i 0) (i 1) (i 2) : ℝ) : EReal)
def x1 : (⟨S1024, .f32⟩ : BufTy).Contents (Elt Ideal) := fun i => ((A.G (i 0) : ℝ) : EReal)
def x2 : (⟨S2x1024, .f32⟩ : BufTy).Contents (Elt Ideal) := fun i => ((A.Sh (i 0) (i 1) : ℝ) : EReal)
def x3 : (⟨S2x1024, .f32⟩ : BufTy).Contents (Elt Ideal) := fun i => ((A.Sc (i 0) (i 1) : ℝ) : EReal)
def x4 : (⟨S2x1024, .f32⟩ : BufTy).Contents (Elt Ideal) := fun i => ((A.Gt (i 0) (i 1) : ℝ) : EReal)
def x5 : (⟨S1024x2816, .f32⟩ : BufTy).Contents (Elt Ideal) := fun i => ((A.Wg (i 0) (i 1) : ℝ) : EReal)
def x6 : (⟨S1024x2816, .f32⟩ : BufTy).Contents (Elt Ideal) := fun i => ((A.Wu (i 0) (i 1) : ℝ) : EReal)
def x7 : (⟨S2816x1024, .f32⟩ : BufTy).Contents (Elt Ideal) := fun i => ((A.Wd (i 0) (i 1) : ℝ) : EReal)
def x8 : (⟨S2x2048x1024, .f32⟩ : BufTy).Contents (Elt Ideal) := fun i => ((A.Ct (i 0) (i 1) (i 2) : ℝ) : EReal)

/-- Token `t` of the flattened batch. -/
def tok (t : Fin 4096) : Row := A.row ⟨t.val / 2048, by omega⟩ ⟨t.val % 2048, by omega⟩

/-- The gradient of the shift of example `b`. -/
def dsh (b : Fin 2) (d : Fin 1024) : ℝ := ∑ s, (A.row b s).dh d
/-- The gradient of the scale of example `b`. -/
def dsc (b : Fin 2) (d : Fin 1024) : ℝ := ∑ s, (A.row b s).dh d * (A.row b s).ng d
/-- The gradient of the gate of example `b`. -/
def dgt (b : Fin 2) (d : Fin 1024) : ℝ := ∑ s, 1 / 2 * (A.Ct b s d * (A.row b s).f d)
/-- The gradient of the norm's gain. -/
def dg (d : Fin 1024) : ℝ := ∑ b, ∑ s, (A.row b s).dy d * (A.row b s).n d

end In

end Cert.Ffn

end
-- ==== Proof.Ffn.Reference.lean ====
/- The reference's arrays, one stage at a time, at real arguments: each is the row quantity it names. -/
module

public import proofs.«01_k».proof.Proof.Gen.ReferenceIdeal.Read
public import proofs.«01_k».proof.Proof.Ffn.Inputs

@[expose] public section

noncomputable section

namespace Cert.Ffn.Ref

open Idealize.ShloMosaic Cert.ReferenceIdeal Cert.ReferenceIdeal.Read Cert.Ffn

variable (A : In)

/-! ## Indices through the reference's reshapes -/

theorem ix_ex (i : S2x1x1024.Idx) : idx_main_v40 i = ValueIdx.ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => show (((i 0).val * 1 + (i 1).val) * 1024 + (i 2).val) / 1024 = (i 0).val; omega
  | ⟨1, _⟩ => show (((i 0).val * 1 + (i 1).val) * 1024 + (i 2).val) % 1024 = (i 2).val; omega

theorem ix_tok (i : S2x2048x1.Idx) : idx_main_v65 i = ValueIdx.ix2 (n0 := 2) (n1 := 2048) (i 0) (i 1) := by
  have h0 : (i 0).val < 2 := (i 0).isLt
  have h1 : (i 1).val < 2048 := (i 1).isLt
  have h2 : (i 2).val < 1 := (i 2).isLt
  refine funext fun a => Fin.ext ?_
  match a with
  | ⟨0, _⟩ => show (((i 0).val * 2048 + (i 1).val) * 1 + (i 2).val) / 2048 = (i 0).val; omega
  | ⟨1, _⟩ => show (((i 0).val * 2048 + (i 1).val) * 1 + (i 2).val) % 2048 = (i 1).val; omega

theorem ix_vec (i : S1x1x1024.Idx) : idx_main_v59 i = ValueIdx.ix1 (n := 1024) (i 2) := by
  have h0 : (i 0).val < 1 := (i 0).isLt
  have h1 : (i 1).val < 1 := (i 1).isLt
  refine funext fun a => Fin.ext ?_
  match a with
  | ⟨0, _⟩ => show ((i 0).val * 1 + (i 1).val) * 1024 + (i 2).val = (i 2).val; omega

theorem ix_flat (i : S4096x1024.Idx) : idx_main_v128 i
    = ValueIdx.ix3 (n0 := 2) (n1 := 2048) (n2 := 1024) ⟨(i 0).val / 2048, by have : (i 0).val < 4096 := (i 0).isLt; omega⟩
        ⟨(i 0).val % 2048, by omega⟩ (i 1) := by
  have h0 : (i 0).val < 4096 := (i 0).isLt
  have h1 : (i 1).val < 1024 := (i 1).isLt
  refine funext fun a => Fin.ext ?_
  match a with
  | ⟨0, _⟩ => show ((i 0).val * 1024 + (i 1).val) / 2097152 = (i 0).val / 2048; omega
  | ⟨1, _⟩ => show ((i 0).val * 1024 + (i 1).val) / 1024 % 2048 = (i 0).val % 2048; omega
  | ⟨2, _⟩ => show ((i 0).val * 1024 + (i 1).val) % 1024 = (i 1).val; omega

theorem ix_chips (i : S4096x4x704.Idx) : idx_main_v119 i
    = ValueIdx.ix3 (n0 := 2) (n1 := 2048) (n2 := 2816) ⟨(i 0).val / 2048, by have : (i 0).val < 4096 := (i 0).isLt; omega⟩
        ⟨(i 0).val % 2048, by omega⟩ (col (i 1) (i 2)) := by
  have h0 : (i 0).val < 4096 := (i 0).isLt
  have h1 : (i 1).val < 4 := (i 1).isLt
  have h2 : (i 2).val < 704 := (i 2).isLt
  refine funext fun a => Fin.ext ?_
  match a with
  | ⟨0, _⟩ => show (((i 0).val * 4 + (i 1).val) * 704 + (i 2).val) / 5767168 = (i 0).val / 2048; omega
  | ⟨1, _⟩ => show (((i 0).val * 4 + (i 1).val) * 704 + (i 2).val) / 2816 % 2048 = (i 0).val % 2048; omega
  | ⟨2, _⟩ => show (((i 0).val * 4 + (i 1).val) * 704 + (i 2).val) % 2816 = (i 1).val * 704 + (i 2).val; omega

/-! ## The forward row -/

theorem v4 (i : S2x2048.Idx) :
    val_main_v4 (F := Ideal) A.x0 i = ((∑ d, (A.row (i 0) (i 1)).x d * (A.row (i 0) (i 1)).x d : ℝ) : EReal) := by
  rw [val_main_v4_apply, val_main_cst_0_apply, Ideal.ofBits_def, Ideal.ofBits_zero_f32, zero_add, ← sum_coe]
  exact Finset.sum_congr rfl fun k _ => (EReal.coe_mul _ _).symm

theorem v9 (i : S2x2048x1.Idx) : val_main_v9 (F := Ideal) A.x0 i = ((A.row (i 0) (i 1)).ms : EReal) := by
  rw [val_main_v9_apply, val_main_v7_apply, val_main_v5_apply, v4, val_main_v6_apply, val_main_cst_1_apply,
    val_main_v8_apply, val_main_cst_2_apply, Ideal.ofBits_def, Ideal.ofBits_def, word_1024, word_eps, Ideal.hostDivf_def,
    div_real _ (by norm_num), Ideal.addf_def, ← EReal.coe_add]
  rfl

theorem v10 (i : S2x2048x1.Idx) : val_main_v10 (F := Ideal) A.x0 i = ((A.row (i 0) (i 1)).r : EReal) := by
  rw [val_main_v10_apply, v9, Ideal.hostUnary_rsqrt_def, rsqrt_real (Row.ms_pos _)]; rfl

theorem v13 (i : S2x2048x1.Idx) :
    val_main_v13 (F := Ideal) A.x0 i
      = ((-(1 / 2) * ((A.row (i 0) (i 1)).r / (A.row (i 0) (i 1)).ms) : ℝ) : EReal) := by
  rw [val_main_v13_apply, val_main_v12_apply, val_main_cst_3_apply, val_main_v11_apply, v10, v9, Ideal.ofBits_def,
    word_neg_half, Ideal.hostDivf_def, div_real _ (Row.ms_ne _), Ideal.mulf_def, ← EReal.coe_mul]

theorem v15 (i : S2x2048x1024.Idx) : val_main_v15 (F := Ideal) A.x0 i = ((A.row (i 0) (i 1)).n (i 2) : EReal) := by
  rw [val_main_v15_apply, val_main_v14_apply, v10]; exact (EReal.coe_mul _ _).symm

theorem v18 (i : S2x2048x1024.Idx) : val_main_v18 (F := Ideal) A.x0 A.x1 i = ((A.row (i 0) (i 1)).ng (i 2) : EReal) := by
  rw [val_main_v18_apply, v15, val_main_v17_apply, val_main_v16_apply]; exact (EReal.coe_mul _ _).symm

theorem v21 (i : S2x1x1024.Idx) : val_main_v21 (F := Ideal) A.x3 i = ((1 + A.Sc (i 0) (i 2) : ℝ) : EReal) := by
  rw [val_main_v21_apply, val_main_v20_apply, val_main_cst_4_apply, val_main_v19_apply, Ideal.ofBits_def, word_one]
  exact (EReal.coe_add _ _).symm

theorem v26 (i : S2x2048x1024.Idx) :
    val_main_v26 (F := Ideal) A.x0 A.x1 A.x2 A.x3 i = ((A.row (i 0) (i 1)).h (i 2) : EReal) := by
  rw [val_main_v26_apply, val_main_v23_apply, v18, val_main_v22_apply, v21, val_main_v25_apply, val_main_v24_apply,
    Ideal.mulf_def, ← EReal.coe_mul]
  exact (EReal.coe_add _ _).symm

theorem v27 (i : S2x2048x2816.Idx) :
    val_main_v27 (F := Ideal) A.x0 A.x1 A.x2 A.x3 A.x5 i = ((A.row (i 0) (i 1)).a (i 2) : EReal) := by
  rw [val_main_v27_apply]; unfold Row.a; rw [← sum_coe]
  exact Finset.sum_congr rfl fun k _ => by rw [v26]; exact (EReal.coe_mul _ _).symm

theorem v29 (i : S2x2048x2816.Idx) :
    val_main_v29 (F := Ideal) A.x0 A.x1 A.x2 A.x3 A.x6 i = ((A.row (i 0) (i 1)).u (i 2) : EReal) := by
  rw [val_main_v29_apply]; unfold Row.u; rw [← sum_coe]
  exact Finset.sum_congr rfl fun k _ => by rw [v26]; exact (EReal.coe_mul _ _).symm

theorem v28_2 (i : S2x2048x2816.Idx) :
    val_main_v28_2 (F := Ideal) A.x0 A.x1 A.x2 A.x3 A.x5 i = ((A.row (i 0) (i 1)).sg (i 2) : EReal) := by
  rw [val_main_v28_2_apply, val_main_call0_v4_apply, val_main_call0_cst_0_apply, val_main_call0_v3_apply,
    val_main_call0_v2_apply, val_main_call0_cst_apply, val_main_call0_v1_apply, val_main_call0_v0_apply, v27,
    Ideal.ofBits_def, word_one, Ideal.hostUnary_exp_def, Ideal.hostNegf_def, Ideal.negf_def, ← EReal.coe_neg, Ideal.exp_coe, Ideal.addf_def, ← EReal.coe_add,
    Ideal.hostDivf_def, div_real _ (Row.one_add_exp_ne _)]
  rfl

theorem v28_0 (i : S2x2048x2816.Idx) :
    val_main_v28_0 (F := Ideal) A.x0 A.x1 A.x2 A.x3 A.x5 i = ((A.row (i 0) (i 1)).q (i 2) : EReal) := by
  rw [val_main_v28_0_apply, v27, v28_2]; exact (EReal.coe_mul _ _).symm

theorem v28_1 (i : S2x2048x2816.Idx) :
    val_main_v28_1 (F := Ideal) A.x0 A.x1 A.x2 A.x3 A.x5 i
      = (((A.row (i 0) (i 1)).sg (i 2) * (1 - (A.row (i 0) (i 1)).sg (i 2)) : ℝ) : EReal) := by
  rw [val_main_v28_1_apply, val_main_call0_v7_apply, v28_2, val_main_call0_v6_apply, val_main_call0_cst_1_apply,
    Ideal.ofBits_def, word_one, Ideal.subf_def, ← EReal.coe_sub, Ideal.mulf_def, ← EReal.coe_mul]

theorem v31 (i : S2x2048x1024.Idx) :
    val_main_v31 (F := Ideal) A.x0 A.x1 A.x2 A.x3 A.x5 A.x6 A.x7 i = ((A.row (i 0) (i 1)).f (i 2) : EReal) := by
  rw [val_main_v31_apply]; unfold Row.f; rw [← sum_coe]
  refine Finset.sum_congr rfl fun k _ => ?_
  rw [val_main_v30_apply, v28_0, v29, Ideal.mulf_def, ← EReal.coe_mul]; exact (EReal.coe_mul _ _).symm

/-! ## The gradients of a row -/

theorem v2 (i : S2x1x1024.Idx) : val_main_v2 (F := Ideal) A.x4 i = ((1 / 2 * A.Gt (i 0) (i 2) : ℝ) : EReal) := by
  rw [val_main_v2_apply, val_main_v1_apply, val_main_cst_apply, val_main_v0_apply, Ideal.ofBits_def, word_half]
  exact (EReal.coe_mul _ _).symm

theorem v35 (i : S2x2048x1024.Idx) : val_main_v35 (F := Ideal) A.x8 i = A.x8 i := by
  rw [val_main_v35_apply]
  refine congrArg A.x8 (funext fun a => Fin.ext ?_)
  have h0 : (i 0).val < 2 := (i 0).isLt
  have h1 : (i 1).val < 2048 := (i 1).isLt
  have h2 : (i 2).val < 1024 := (i 2).isLt
  match a with
  | ⟨0, _⟩ => show (((i 0).val * 2048 + (i 1).val) * 1024 + (i 2).val) / 2097152 = (i 0).val; omega
  | ⟨1, _⟩ => show (((i 0).val * 2048 + (i 1).val) * 1024 + (i 2).val) / 1024 % 2048 = (i 1).val; omega
  | ⟨2, _⟩ => show (((i 0).val * 2048 + (i 1).val) * 1024 + (i 2).val) % 1024 = (i 2).val; omega

theorem v37 (i : S2x2048x1024.Idx) : val_main_v37 (F := Ideal) A.x4 A.x8 i = ((A.row (i 0) (i 1)).df (i 2) : EReal) := by
  rw [val_main_v37_apply, val_main_v36_apply, v2, v35]; exact (EReal.coe_mul _ _).symm

theorem v41 (i : S2x2048x2816.Idx) :
    val_main_v41 (F := Ideal) A.x4 A.x7 A.x8 i = ((A.row (i 0) (i 1)).ds (i 2) : EReal) := by
  rw [val_main_v41_apply]; unfold Row.ds; rw [← sum_coe]
  exact Finset.sum_congr rfl fun k _ => by rw [v37]; exact (EReal.coe_mul _ _).symm

theorem v42 (i : S2x2048x2816.Idx) :
    val_main_v42 (F := Ideal) A.x0 A.x1 A.x2 A.x3 A.x4 A.x5 A.x7 A.x8 i = ((A.row (i 0) (i 1)).du (i 2) : EReal) := by
  rw [val_main_v42_apply, v28_0, v41, Ideal.mulf_def, ← EReal.coe_mul, mul_comm]; rfl

theorem v45 (i : S2x2048x2816.Idx) :
    val_main_v45 (F := Ideal) A.x0 A.x1 A.x2 A.x3 A.x4 A.x5 A.x6 A.x7 A.x8 i = ((A.row (i 0) (i 1)).da (i 2) : EReal) := by
  rw [val_main_v45_apply, val_main_call1_v1_apply, val_main_call1_v2_apply, val_main_call1_v0_apply, val_main_v43_apply,
    v41, v29, v28_2, v27, v28_1]
  simp only [Ideal.mulf_def, Ideal.addf_def, ← EReal.coe_mul, ← EReal.coe_add]
  exact congrArg _ (Row.da_chain _ _)

theorem v47 (i : S2x2048x1024.Idx) :
    val_main_v47 (F := Ideal) A.x0 A.x1 A.x2 A.x3 A.x4 A.x5 A.x6 A.x7 A.x8 i = ((A.row (i 0) (i 1)).dh (i 2) : EReal) := by
  rw [val_main_v47_apply, val_main_v44_apply, val_main_v46_apply, Ideal.addf_def, add_comm]
  unfold Row.dh; rw [EReal.coe_add, ← sum_coe, ← sum_coe]
  exact congrArg₂ (· + ·) (Finset.sum_congr rfl fun k _ => by rw [v45]; exact (EReal.coe_mul _ _).symm)
    (Finset.sum_congr rfl fun k _ => by rw [v42]; exact (EReal.coe_mul _ _).symm)

theorem v55 (i : S2x2048x1024.Idx) :
    val_main_v55 (F := Ideal) A.x0 A.x1 A.x2 A.x3 A.x4 A.x5 A.x6 A.x7 A.x8 i = ((A.row (i 0) (i 1)).dy (i 2) : EReal) := by
  rw [val_main_v55_apply, v47, val_main_v54_apply, v21]; exact (EReal.coe_mul _ _).symm

theorem v61 (i : S2x2048x1024.Idx) :
    val_main_v61 (F := Ideal) A.x0 A.x1 A.x2 A.x3 A.x4 A.x5 A.x6 A.x7 A.x8 i = ((A.row (i 0) (i 1)).dn (i 2) : EReal) := by
  rw [val_main_v61_apply, v55, val_main_v60_apply, val_main_v16_apply]; exact (EReal.coe_mul _ _).symm

theorem v64 (i : S2x2048.Idx) :
    val_main_v64 (F := Ideal) A.x0 A.x1 A.x2 A.x3 A.x4 A.x5 A.x6 A.x7 A.x8 i
      = ((∑ d, (A.row (i 0) (i 1)).x d * (A.row (i 0) (i 1)).dn d : ℝ) : EReal) := by
  rw [val_main_v64_apply, val_main_cst_12_apply, Ideal.ofBits_def, Ideal.ofBits_zero_f32, zero_add, ← sum_coe]
  exact Finset.sum_congr rfl fun k _ => by rw [val_main_v63_apply, v61]; exact (EReal.coe_mul _ _).symm

theorem v73 (i : S2x2048x1024.Idx) :
    val_main_v73 (F := Ideal) A.x0 A.x1 A.x2 A.x3 A.x4 A.x5 A.x6 A.x7 A.x8 i
      = (((∑ d, (A.row (i 0) (i 1)).x d * (A.row (i 0) (i 1)).dn d)
          * (-(1 / 2) * ((A.row (i 0) (i 1)).r / (A.row (i 0) (i 1)).ms)) / 1024 : ℝ) : EReal) := by
  rw [val_main_v73_apply, val_main_v72_apply, val_main_cst_14_apply, Ideal.ofBits_def, Ideal.ofBits_zero_f32, zero_add,
    Fin.sum_univ_one, val_main_v71_apply, val_main_v69_apply, val_main_v65_apply, ix_tok, v64, v13, val_main_v70_apply,
    val_main_cst_13_apply, Ideal.ofBits_def, word_1024, Ideal.mulf_def, ← EReal.coe_mul, Ideal.hostDivf_def,
    div_real _ (by norm_num)]
  rfl

theorem v77 (i : S2x2048x1024.Idx) :
    val_main_v77 (F := Ideal) A.x0 A.x1 A.x2 A.x3 A.x4 A.x5 A.x6 A.x7 A.x8 i = ((A.row (i 0) (i 1)).dx (i 2) : EReal) := by
  have e := congrArg (fun z : ℝ => (z : EReal)) (Row.dx_chain (A.row (i 0) (i 1)) (i 2))
  simp only [EReal.coe_add, EReal.coe_mul] at e
  rw [val_main_v77_apply, val_main_v75_apply, val_main_v68_apply, val_main_v67_apply, v61, val_main_v66_apply, v10,
    val_main_v74_apply, val_main_v76_apply, v73]
  refine Eq.trans ?_ e
  simp only [EReal.coe_mul]
  rfl

/-! ## The sums over tokens -/

theorem v50 (i : S2x1024.Idx) :
    val_main_v50 (F := Ideal) A.x0 A.x1 A.x2 A.x3 A.x4 A.x5 A.x6 A.x7 A.x8 i = (A.dsh (i 0) (i 1) : EReal) := by
  rw [val_main_v50_apply, val_main_cst_7_apply, Fin.sum_univ_one, val_main_v49_apply, show idx_main_v49 = idx_main_v40 from rfl, ix_ex, val_main_v48_apply,
    val_main_cst_6_apply, Ideal.ofBits_def, Ideal.ofBits_zero_f32, zero_add, zero_add]
  unfold In.dsh; rw [← sum_coe]
  exact Finset.sum_congr rfl fun k _ => by rw [v47]; rfl

theorem v56 (i : S2x1024.Idx) :
    val_main_v56 (F := Ideal) A.x0 A.x1 A.x2 A.x3 A.x4 A.x5 A.x6 A.x7 A.x8 i = (A.dsc (i 0) (i 1) : EReal) := by
  rw [val_main_v56_apply, val_main_cst_9_apply, Fin.sum_univ_one, val_main_v53_apply, show idx_main_v53 = idx_main_v40 from rfl, ix_ex, val_main_v52_apply,
    val_main_cst_8_apply, Ideal.ofBits_def, Ideal.ofBits_zero_f32, zero_add, zero_add]
  unfold In.dsc; rw [← sum_coe]
  exact Finset.sum_congr rfl fun k _ => by
    rw [val_main_v51_apply, v18, v47, Ideal.mulf_def, ← EReal.coe_mul, mul_comm]; rfl

theorem v80 (i : S2x1024.Idx) :
    val_main_v80 (F := Ideal) A.x0 A.x1 A.x2 A.x3 A.x5 A.x6 A.x7 A.x8 i = (A.dgt (i 0) (i 1) : EReal) := by
  rw [val_main_v80_apply, val_main_cst_16_apply, Fin.sum_univ_one, val_main_v79_apply, val_main_v78_apply,
    val_main_cst_15_apply, val_main_v40_apply, ix_ex, val_main_v39_apply, val_main_cst_5_apply, Ideal.ofBits_def, Ideal.ofBits_def,
    Ideal.ofBits_zero_f32, zero_add, zero_add, word_half]
  have e : (∑ k : Fin 2048, val_main_v38 (F := Ideal) A.x0 A.x1 A.x2 A.x3 A.x5 A.x6 A.x7 A.x8
        (idx_main_v39 (ValueIdx.ix2 (n0 := 2) (n1 := 1024) (idx_main_v80 i 0 0) (idx_main_v80 i 0 2)) k))
      = ((∑ s, A.Ct (i 0) s (i 1) * (A.row (i 0) s).f (i 1) : ℝ) : EReal) := by
    rw [← sum_coe]
    exact Finset.sum_congr rfl fun k _ => by rw [val_main_v38_apply, v31, v35]; exact (EReal.coe_mul _ _).symm
  rw [e, Ideal.mulf_def, ← EReal.coe_mul, Finset.mul_sum]; rfl

/-- A sum over the first two axes of a three-axis array. -/
theorem hostReduceAdd_two {n0 n1 n2 : Nat} {axes : List (Fin 3)}
    (h : (⟨3, ![n0, n1, n2]⟩ : Shape).ReducesTo axes ⟨1, ![n2]⟩)
    (hd : ∀ i, (h.drop i 0).val = (i 2).val) (x : (⟨3, ![n0, n1, n2]⟩ : Shape).Idx → EReal) (init : EReal)
    (j : (⟨1, ![n2]⟩ : Shape).Idx) :
    Ideal.hostReduceAdd h x init j = init + ∑ b : Fin n0, ∑ s : Fin n1, x (ValueIdx.ix3 b s (j 0)) := by
  unfold Ideal.hostReduceAdd
  rw [← Finset.sum_product', Finset.univ_product_univ]
  refine congrArg (init + ·) (Finset.sum_bij' (fun i _ => ((i 0 : Fin n0), (i 1 : Fin n1)))
    (fun z _ => ValueIdx.ix3 z.1 z.2 (j 0)) ?_ ?_ ?_ ?_ ?_)
  · intro i _; exact Finset.mem_univ _
  · intro z _
    refine Finset.mem_filter.mpr ⟨Finset.mem_univ _, funext fun a => Fin.ext ?_⟩
    match a with
    | ⟨0, _⟩ => exact hd _
  · intro i hi
    have e := congrArg (fun z => (z 0).val) (Finset.mem_filter.mp hi).2
    refine funext fun a => Fin.ext ?_
    match a with
    | ⟨0, _⟩ => rfl
    | ⟨1, _⟩ => rfl
    | ⟨2, _⟩ => exact e.symm.trans (hd i)
  · intro z _; rfl
  · intro i hi
    have e := congrArg (fun z => (z 0).val) (Finset.mem_filter.mp hi).2
    refine congrArg x (funext fun a => Fin.ext ?_)
    match a with
    | ⟨0, _⟩ => rfl
    | ⟨1, _⟩ => rfl
    | ⟨2, _⟩ => exact (hd i).symm.trans e

theorem v58 (i : S1024.Idx) :
    val_main_v58 (F := Ideal) A.x0 A.x1 A.x2 A.x3 A.x4 A.x5 A.x6 A.x7 A.x8 i = (A.dg (i 0) : EReal) := by
  unfold val_main_v58
  simp only [Host.reduceAdd, Ideal.hostReduceAdd_def]
  rw [hostReduceAdd_two _ (fun _ => rfl), val_main_cst_10_apply, Ideal.ofBits_def, Ideal.ofBits_zero_f32, zero_add]
  unfold In.dg; rw [← sum_coe]
  refine Finset.sum_congr rfl fun b _ => ?_
  rw [← sum_coe]
  refine Finset.sum_congr rfl fun s _ => ?_
  rw [val_main_v57_apply, v15, v55, Ideal.mulf_def, ← EReal.coe_mul, mul_comm]

theorem v62 (i : S1024.Idx) :
    val_main_v62 (F := Ideal) A.x0 A.x1 A.x2 A.x3 A.x4 A.x5 A.x6 A.x7 A.x8 i = (A.dg (i 0) : EReal) := by
  unfold val_main_v62
  simp only [Host.reduceAdd, Ideal.hostReduceAdd_def]
  rw [hostReduceAdd_two _ (fun _ => rfl), val_main_cst_11_apply, Ideal.ofBits_def, Ideal.ofBits_zero_f32, zero_add,
    Fin.sum_univ_one, Fin.sum_univ_one, val_main_v59_apply, ix_vec, v58]

/-! ## The eight results -/

theorem v114_eq : val_main_v114 (F := Ideal) A.x4 A.x8 = val_main_v37 (F := Ideal) A.x4 A.x8 :=
  funext fun i => by rw [val_main_v37_apply, v35]; rfl

theorem v115_eq : val_main_v115 (F := Ideal) A.x4 A.x7 A.x8 = val_main_v41 (F := Ideal) A.x4 A.x7 A.x8 := by
  unfold val_main_v115 val_main_v41; rw [v114_eq]

theorem v116_eq : val_main_v116 (F := Ideal) A.x0 A.x1 A.x2 A.x3 A.x4 A.x5 A.x7 A.x8 = val_main_v42 (F := Ideal) A.x0 A.x1 A.x2 A.x3 A.x4 A.x5 A.x7 A.x8 := by
  unfold val_main_v116 val_main_v42; rw [v115_eq]; rfl

theorem v118_eq : val_main_v118 (F := Ideal) A.x0 A.x1 A.x2 A.x3 A.x4 A.x5 A.x6 A.x7 A.x8
    = val_main_v45 (F := Ideal) A.x0 A.x1 A.x2 A.x3 A.x4 A.x5 A.x6 A.x7 A.x8 := by
  unfold val_main_v118 val_main_call3_v1 val_main_call3_v2 val_main_call3_v0 val_main_v117
  rw [v115_eq]; rfl

theorem v121 (i : S4x4096x704.Idx) :
    val_main_v121 (F := Ideal) A.x0 A.x1 A.x2 A.x3 A.x4 A.x5 A.x6 A.x7 A.x8 i
      = ((A.tok (i 1)).da (col (i 0) (i 2)) : EReal) := by
  rw [val_main_v121_apply, val_main_v120_apply, val_main_v119_apply, ix_chips, v118_eq, v45]; rfl

theorem v124 (i : S4x4096x704.Idx) :
    val_main_v124 (F := Ideal) A.x0 A.x1 A.x2 A.x3 A.x4 A.x5 A.x7 A.x8 i = ((A.tok (i 1)).du (col (i 0) (i 2)) : EReal) := by
  rw [val_main_v124_apply, val_main_v123_apply, val_main_v122_apply, show idx_main_v122 = idx_main_v119 from rfl, ix_chips,
    v116_eq, v42]
  rfl

theorem v126 (i : S4096x1024.Idx) :
    val_main_v126 (F := Ideal) A.x4 A.x8 i = ((A.tok (i 0)).df (i 1) : EReal) := by
  rw [val_main_v126_apply, val_main_v125_apply, show idx_main_v125 = idx_main_v128 from rfl, ix_flat, v114_eq, v37]; rfl

theorem v127 (i : S2x1x1024.Idx) :
    val_main_v127 (F := Ideal) A.x0 A.x1 A.x2 A.x3 A.x5 A.x6 A.x7 A.x8 i = (A.dgt (i 0) (i 2) : EReal) := by
  rw [val_main_v127_apply, v80]; rfl

theorem v128 (i : S4096x1024.Idx) :
    val_main_v128 (F := Ideal) A.x0 A.x1 A.x2 A.x3 A.x4 A.x5 A.x6 A.x7 A.x8 i = ((A.tok (i 0)).dx (i 1) : EReal) := by
  rw [val_main_v128_apply, ix_flat, v77]; rfl

theorem v129 (i : S2x1x1024.Idx) :
    val_main_v129 (F := Ideal) A.x0 A.x1 A.x2 A.x3 A.x4 A.x5 A.x6 A.x7 A.x8 i = (A.dsh (i 0) (i 2) : EReal) := by
  rw [val_main_v129_apply, v50]; rfl

theorem v130 (i : S2x1x1024.Idx) :
    val_main_v130 (F := Ideal) A.x0 A.x1 A.x2 A.x3 A.x4 A.x5 A.x6 A.x7 A.x8 i = (A.dsc (i 0) (i 2) : EReal) := by
  rw [val_main_v130_apply, v56]; rfl

theorem v131 (i : S1x1024.Idx) :
    val_main_v131 (F := Ideal) A.x0 A.x1 A.x2 A.x3 A.x4 A.x5 A.x6 A.x7 A.x8 i = (A.dg (i 1) : EReal) := by
  rw [val_main_v131_apply, v62]; rfl

end Cert.Ffn.Ref

end
-- ==== Proof.Ffn.Host.lean ====
/- What the host prepares for the call, at real arguments: the forward values the call reads, the weights cut in chips, and
   the reshaped arguments, each read at an index.  The modulated row is the reference's own stage. -/
module

public import proofs.«01_k».proof.Proof.Gen.KernelIdeal.Frame.Runs
public import proofs.«01_k».proof.Proof.Ffn.Reference
public import Idealize.ShloMosaic.Lib.StableHlo.RunRead
public import Idealize.ShloMosaic.Lib.Pointwise

@[expose] public section

set_option maxRecDepth 16384

noncomputable section

namespace Cert.Ffn.Host

open Idealize.ShloMosaic Idealize.ShloMosaic.TcCoe Cert.KernelIdeal Cert.KernelIdeal.Gen Cert.Ffn
open Cert.ReferenceIdeal.Read (val_main_v26)

variable (A : In)

/-! ## The arrays, as the host's operations compose them -/

/-- The modulated rows, flattened. -/
def kh : FVec Ideal S4096x1024 .f32 :=
  shapeCast S4096x1024 (val_main_v26 (F := Ideal) A.x0 A.x1 A.x2 A.x3) Facts₀.shapeCasts_S2x2048x1024_S4096x1024
/-- The gate's projection. -/
def ka : FVec Ideal S4096x2816 .f32 :=
  Host.dotGeneral (F := Ideal) (φ₁ := .f32) (φ₂ := .f32) dot_S4096x1024_S1024x2816_S4096x2816_1_0_0_1_n_n none (kh A) A.x5
/-- The other projection. -/
def ku : FVec Ideal S4096x2816 .f32 :=
  Host.dotGeneral (F := Ideal) (φ₁ := .f32) (φ₂ := .f32) dot_S4096x1024_S1024x2816_S4096x2816_1_0_0_1_n_n none (kh A) A.x6
/-- The array of ones. -/
def kone : FVec Ideal S4096x2816 .f32 :=
  broadcastInDim S4096x2816 ![] Facts₀.bcast_S_S4096x2816 (constant (F := Ideal) S_ .f32 0x3F800000#32)
/-- The logistic function of the gate. -/
def ksg : FVec Ideal S4096x2816 .f32 := Host.divf kone (addf kone (Host.exp (Host.negf (ka A))))
def kq : FVec Ideal S4096x2816 .f32 := mulf (ka A) (ksg A)
def kp : FVec Ideal S4096x2816 .f32 := mulf (ku A) (mulf (ksg A) (addf kone (mulf (ka A) (subf kone (ksg A)))))
def kf : FVec Ideal S4096x1024 .f32 :=
  Host.dotGeneral (F := Ideal) (φ₁ := .f32) (φ₂ := .f32) dot_S4096x2816_S2816x1024_S4096x1024_1_0_0_1_n_n none (mulf (kq A) (ku A)) A.x7

/-- The array of gate derivatives, cut in chips. -/
def w4 : FVec Ideal S4x4096x704 .bf16 :=
  truncf .bf16 (transpose S4x4096x704 [1, 0, 2] (shapeCast S4096x4x704 (kp A) Facts₀.shapeCasts_S4096x2816_S4096x4x704)
    Facts₀.transposes_S4096x4x704_S4x4096x704_1_0_2) Facts₀.bitsLt_bf16_f32
/-- The array of gates, cut in chips. -/
def w5 : FVec Ideal S4x4096x704 .bf16 :=
  truncf .bf16 (transpose S4x4096x704 [1, 0, 2] (shapeCast S4096x4x704 (kq A) Facts₀.shapeCasts_S4096x2816_S4096x4x704)
    Facts₀.transposes_S4096x4x704_S4x4096x704_1_0_2) Facts₀.bitsLt_bf16_f32
/-- One up projection's weights, cut in chips. -/
def chips (w : FVec Ideal S1024x2816 .f32) : FVec Ideal S4x1x1024x704 .f32 :=
  broadcastInDim S4x1x1024x704 ![0, 2, 3] Facts₀.bcast_S4x1024x704_S4x1x1024x704_0_2_3
    (transpose S4x1024x704 [1, 0, 2] (shapeCast S1024x4x704 w Facts₀.shapeCasts_S1024x2816_S1024x4x704)
      Facts₀.transposes_S1024x4x704_S4x1024x704_1_0_2)
/-- Both up projections' weights, cut in chips. -/
def w6 : FVec Ideal S4x2x1024x704 .bf16 :=
  truncf .bf16 (concatenate S4x2x1024x704 1 [⟨S4x1x1024x704, chips A.x5⟩, ⟨S4x1x1024x704, chips A.x6⟩]
    Facts₀.concatenates_S4x1x1024x704_S4x1x1024x704_S4x2x1024x704_d1) Facts₀.bitsLt_bf16_f32

/-! ## … read at an index -/

theorem kh_at (t : Fin 4096) (d : Fin 1024) : kh A (ix2 t d) = ((A.tok t).h d : EReal) := by
  pointwise [kh]
  rw [Ref.v26]
  rfl

theorem ka_at (t : Fin 4096) (k : Fin 2816) : ka A (ix2 t k) = ((A.tok t).a k : EReal) := by
  pointwise [ka]
  unfold Row.a; rw [← sum_coe]
  exact Finset.sum_congr rfl fun d _ => by rw [kh_at]; exact (EReal.coe_mul _ _).symm

theorem ku_at (t : Fin 4096) (k : Fin 2816) : ku A (ix2 t k) = ((A.tok t).u k : EReal) := by
  pointwise [ku]
  unfold Row.u; rw [← sum_coe]
  exact Finset.sum_congr rfl fun d _ => by rw [kh_at]; exact (EReal.coe_mul _ _).symm

theorem kone_at (t : Fin 4096) (k : Fin 2816) : kone (ix2 t k) = ((1 : ℝ) : EReal) := by
  pointwise [kone]; rfl

theorem ksg_at (t : Fin 4096) (k : Fin 2816) : ksg A (ix2 t k) = ((A.tok t).sg k : EReal) := by
  pointwise [ksg]
  rw [ka_at, kone_at, ← EReal.coe_neg, Ideal.exp_coe, ← EReal.coe_add, div_real _ (Row.one_add_exp_ne _)]
  rfl

theorem kq_at (t : Fin 4096) (k : Fin 2816) : kq A (ix2 t k) = ((A.tok t).q k : EReal) := by
  pointwise [kq]
  rw [ka_at, ksg_at]; exact (EReal.coe_mul _ _).symm

theorem kp_at (t : Fin 4096) (k : Fin 2816) : kp A (ix2 t k) = ((A.tok t).p k : EReal) := by
  pointwise [kp]
  rw [ka_at, ksg_at, ku_at, kone_at, ← EReal.coe_sub, ← EReal.coe_mul, ← EReal.coe_add, ← EReal.coe_mul, ← EReal.coe_mul]
  rfl

theorem kf_at (t : Fin 4096) (d : Fin 1024) : kf A (ix2 t d) = ((A.tok t).f d : EReal) := by
  pointwise [kf]
  unfold Row.f; rw [← sum_coe]
  exact Finset.sum_congr rfl fun k _ => by rw [kq_at, ku_at, ← EReal.coe_mul]; exact (EReal.coe_mul _ _).symm

theorem w4_at (j : Fin 4) (t : Fin 4096) (k : Fin 704) : w4 A (ix3 j t k) = ((A.tok t).p (col j k) : EReal) := by
  pointwise [w4]
  exact kp_at A t (col j k)

theorem w5_at (j : Fin 4) (t : Fin 4096) (k : Fin 704) : w5 A (ix3 j t k) = ((A.tok t).q (col j k) : EReal) := by
  pointwise [w5]
  exact kq_at A t (col j k)

theorem chips_at (w : FVec Ideal S1024x2816 .f32) (j : Fin 4) (z : Fin 1) (d : Fin 1024) (k : Fin 704) :
    chips w (ix4 j z d k) = w (ix2 d (col j k)) := by
  pointwise [chips]; rfl

theorem w6_at_gate (j : Fin 4) (d : Fin 1024) (k : Fin 704) :
    w6 A (ix4 j (0 : Fin 2) d k) = (A.Wg d (col j k) : EReal) := by
  pointwise [w6]
  rw [chips_at]; rfl

theorem w6_at_up (j : Fin 4) (d : Fin 1024) (k : Fin 704) :
    w6 A (ix4 j (1 : Fin 2) d k) = (A.Wu d (col j k) : EReal) := by
  pointwise [w6]
  rw [chips_at]; rfl

end Cert.Ffn.Host
end
-- ==== Proof.Ffn.Entry.lean ====
/- What the call finds in its argument buffers, at real arguments: the arrays the host's operations leave there. -/
module

public import proofs.«01_k».proof.Proof.Ffn.Host
public import Idealize.ShloMosaic.Lib.Claim

@[expose] public section

set_option maxRecDepth 16384

noncomputable section

namespace Cert.Ffn.Host

open Idealize.ShloMosaic Idealize.ShloMosaic.TcCoe Cert.KernelIdeal Cert.KernelIdeal.Gen Cert.Ffn

/-- The arguments the kernel is launched on are the real arrays of `A`. -/
structure Args (m : (ℓ : Loc nD τ sig) → Buf (Elt Ideal) ℓ) (c : Dev nD) (A : In) : Prop where
  a0 : m (c, Proc.devRef .tc main_arg0) = A.x0
  a1 : m (c, Proc.devRef .tc main_arg1) = A.x1
  a2 : m (c, Proc.devRef .tc main_arg2) = A.x2
  a3 : m (c, Proc.devRef .tc main_arg3) = A.x3
  a4 : m (c, Proc.devRef .tc main_arg4) = A.x4
  a5 : m (c, Proc.devRef .tc main_arg5) = A.x5
  a6 : m (c, Proc.devRef .tc main_arg6) = A.x6
  a7 : m (c, Proc.devRef .tc main_arg7) = A.x7
  a8 : m (c, Proc.devRef .tc main_arg8) = A.x8

variable {m : (ℓ : Loc nD τ sig) → Buf (Elt Ideal) ℓ} {c : Dev nD} {A : In}

variable (A) in
/-- The cotangent, flattened. -/
def w0 : FVec Ideal S4096x1024 .f32 := shapeCast S4096x1024 (s := S2x2048x1024) A.x8 Facts₀.shapeCasts_S2x2048x1024_S4096x1024
variable (A) in
/-- The gate of the sublayer. -/
def w1 : FVec Ideal S2x1x1024 .f32 := broadcastInDim S2x1x1024 ![0, 2] Facts₀.bcast_S2x1024_S2x1x1024_0_2 (A.x4 : FVec Ideal S2x1024 .f32)
variable (A) in
/-- The branch's output. -/
def w2 : FVec Ideal S4096x1024 .bf16 := truncf .bf16 (kf A) Facts₀.bitsLt_bf16_f32
variable (A) in
/-- The down projection's weights, cut in chips. -/
def w3 : FVec Ideal S4x1x704x1024 .bf16 :=
  truncf (φ := .f32) .bf16 (shapeCast S4x1x704x1024 (s := S2816x1024) A.x7 Facts₀.shapeCasts_S2816x1024_S4x1x704x1024) Facts₀.bitsLt_bf16_f32
variable (A) in
/-- The input, flattened. -/
def w7 : FVec Ideal S4096x1024 .f32 := shapeCast S4096x1024 (s := S2x2048x1024) A.x0 Facts₀.shapeCasts_S2x2048x1024_S4096x1024
variable (A) in
/-- The norm's weights. -/
def w8 : FVec Ideal S1x1024 .f32 := broadcastInDim S1x1024 ![1] Facts₀.bcast_S1024_S1x1024_1 (A.x1 : FVec Ideal S1024 .f32)
variable (A) in
/-- The modulation's scales. -/
def w9 : FVec Ideal S2x1x1024 .f32 := broadcastInDim S2x1x1024 ![0, 2] Facts₀.bcast_S2x1024_S2x1x1024_0_2 (A.x3 : FVec Ideal S2x1024 .f32)

set_option maxHeartbeats 4000000

theorem v50 (H : Args m c A) : V m c main_v50 = w0 A := by
  show StableHlo.after hostOps0 (fun b => m (c, b)) (Proc.devRef .tc main_v50) = _
  after_reads_simp; rw [H.a8]; rfl
theorem v51 (H : Args m c A) : V m c main_v51 = w1 A := by
  show StableHlo.after hostOps0 (fun b => m (c, b)) (Proc.devRef .tc main_v51) = _
  after_reads_simp; rw [H.a4]; rfl
theorem v52 (H : Args m c A) : V m c main_v52 = w2 A := by
  show StableHlo.after hostOps0 (fun b => m (c, b)) (Proc.devRef .tc main_v52) = _
  after_reads_simp; simp only [H.a0, H.a1, H.a2, H.a3, H.a5, H.a6, H.a7]; rfl
theorem v49 (H : Args m c A) : V m c main_v49 = w3 A := by
  show StableHlo.after hostOps0 (fun b => m (c, b)) (Proc.devRef .tc main_v49) = _
  after_reads_simp; rw [H.a7]; rfl
theorem v55 (H : Args m c A) : V m c main_v55 = w4 A := by
  show StableHlo.after hostOps0 (fun b => m (c, b)) (Proc.devRef .tc main_v55) = _
  after_reads_simp; simp only [H.a0, H.a1, H.a2, H.a3, H.a5, H.a6, H.a7]; rfl
theorem v58 (H : Args m c A) : V m c main_v58 = w5 A := by
  show StableHlo.after hostOps0 (fun b => m (c, b)) (Proc.devRef .tc main_v58) = _
  after_reads_simp; simp only [H.a0, H.a1, H.a2, H.a3, H.a5, H.a6, H.a7]; rfl
theorem v47 (H : Args m c A) : V m c main_v47 = w6 A := by
  show StableHlo.after hostOps0 (fun b => m (c, b)) (Proc.devRef .tc main_v47) = _
  have e44 : StableHlo.upto hostOps0 (fun b => m (c, b)) 54 (Proc.devRef .tc main_v44) = chips A.x5 := by
    after_reads_simp; rw [H.a5]; rfl
  have e45 : StableHlo.upto hostOps0 (fun b => m (c, b)) 54 (Proc.devRef .tc main_v45) = chips A.x6 := by
    after_reads_simp; rw [H.a6]; rfl
  after_reads_simp; rw [e44, e45]; rfl
theorem v59 (H : Args m c A) : V m c main_v59 = w7 A := by
  show StableHlo.after hostOps0 (fun b => m (c, b)) (Proc.devRef .tc main_v59) = _
  after_reads_simp; rw [H.a0]; rfl
theorem v60 (H : Args m c A) : V m c main_v60 = w8 A := by
  show StableHlo.after hostOps0 (fun b => m (c, b)) (Proc.devRef .tc main_v60) = _
  after_reads_simp; rw [H.a1]; rfl
theorem v61 (H : Args m c A) : V m c main_v61 = w9 A := by
  show StableHlo.after hostOps0 (fun b => m (c, b)) (Proc.devRef .tc main_v61) = _
  after_reads_simp; rw [H.a3]; rfl

/-! ## … read at an index -/

theorem w0_at (t : Fin 4096) (d : Fin 1024) : w0 A (ix2 t d) = ((A.tok t).ct d : EReal) := by
  pointwise [w0]; rfl
theorem w1_at (b : Fin 2) (z : Fin 1) (d : Fin 1024) : w1 A (ix3 b z d) = (A.Gt b d : EReal) := by
  pointwise [w1]; rfl
theorem w2_at (t : Fin 4096) (d : Fin 1024) : w2 A (ix2 t d) = ((A.tok t).f d : EReal) := by
  pointwise [w2]; exact kf_at A t d
theorem w3_at (j : Fin 4) (z : Fin 1) (k : Fin 704) (d : Fin 1024) : w3 A (ix4 j z k d) = (A.Wd (col j k) d : EReal) := by
  pointwise [w3]; rfl
theorem w7_at (t : Fin 4096) (d : Fin 1024) : w7 A (ix2 t d) = ((A.tok t).x d : EReal) := by
  pointwise [w7]; rfl
theorem w8_at (z : Fin 1) (d : Fin 1024) : w8 A (ix2 z d) = (A.G d : EReal) := by
  pointwise [w8]; rfl
theorem w9_at (b : Fin 2) (z : Fin 1) (d : Fin 1024) : w9 A (ix3 b z d) = (A.Sc b d : EReal) := by
  pointwise [w9]; rfl

end Cert.Ffn.Host
end
-- ==== Proof.Ffn.Finite.lean ====
/- The precondition read: arguments whose magnitudes are below infinity are arrays of real numbers. -/
module

public import proofs.«01_k».proof.Defs
public import proofs.«01_k».proof.Proof.Ffn.Entry

@[expose] public section

set_option maxRecDepth 16384

noncomputable section

namespace Cert.Ffn

open Idealize.ShloMosaic

instance preFacts : Cert.Pre_finite.Facts where
  bcast_S_S2x2048x1024 := ⟨fun a => a.elim0, fun a => a.elim0⟩
  bcast_S_S1024 := ⟨fun a => a.elim0, fun a => a.elim0⟩
  bcast_S_S2x1024 := ⟨fun a => a.elim0, fun a => a.elim0⟩
  bcast_S_S1024x2816 := ⟨fun a => a.elim0, fun a => a.elim0⟩
  bcast_S_S2816x1024 := ⟨fun a => a.elim0, fun a => a.elim0⟩

/-- An extended real whose magnitude is below infinity is a real number. -/
theorem coe_of_abs_lt {x : EReal} (h : max x (-x) < ⊤) : ((x.toReal : ℝ) : EReal) = x := by
  refine EReal.coe_toReal (fun e => ?_) (fun e => ?_) <;> subst e <;> simp at h

/-- An array that passes the test of the precondition holds real numbers. -/
theorem real_of_test {s : Shape} (hb : Cert.Pre_finite.S_.BroadcastsInDim s (![] : Fin 0 → Fin s.rank)) (a : FVec Ideal s .f32)
    (h : cmpf .olt (Host.absf a) (broadcastInDim s ![] hb (constant Cert.Pre_finite.S_ .f32 0x7F800000#32)) = fun _ => 1#1) (i : s.Idx) :
    ((EReal.toReal (a i) : ℝ) : EReal) = a i := by
  refine coe_of_abs_lt ?_
  have htop : Ideal.ofBits .f32 0x7F800000#32 = ⊤ := by simp [Ideal.ofBits, Ideal.ieee]
  have h' : Ideal.cmp .olt (max (a i : EReal) (-(a i : EReal))) (Ideal.ofBits .f32 0x7F800000#32) = 1#1 := congrFun h i
  rw [htop] at h'
  unfold Ideal.cmp at h'
  by_contra hn
  simp [hn] at h'

open Cert.KernelIdeal in
/-- The real arguments the kernel's memory holds, on a device. -/
def inputs (m : (ℓ : Loc nD τ sig) → Buf (Elt Ideal) ℓ) (c : Dev nD) : In where
  X b s d := EReal.toReal ((m (c, Proc.devRef .tc main_arg0) : FVec Ideal S2x2048x1024 .f32) (ix3 b s d))
  G d := EReal.toReal ((m (c, Proc.devRef .tc main_arg1) : FVec Ideal S1024 .f32) (ix1 d))
  Sh b d := EReal.toReal ((m (c, Proc.devRef .tc main_arg2) : FVec Ideal S2x1024 .f32) (ix2 b d))
  Sc b d := EReal.toReal ((m (c, Proc.devRef .tc main_arg3) : FVec Ideal S2x1024 .f32) (ix2 b d))
  Gt b d := EReal.toReal ((m (c, Proc.devRef .tc main_arg4) : FVec Ideal S2x1024 .f32) (ix2 b d))
  Wg d f := EReal.toReal ((m (c, Proc.devRef .tc main_arg5) : FVec Ideal S1024x2816 .f32) (ix2 d f))
  Wu d f := EReal.toReal ((m (c, Proc.devRef .tc main_arg6) : FVec Ideal S1024x2816 .f32) (ix2 d f))
  Wd f d := EReal.toReal ((m (c, Proc.devRef .tc main_arg7) : FVec Ideal S2816x1024 .f32) (ix2 f d))
  Ct b s d := EReal.toReal ((m (c, Proc.devRef .tc main_arg8) : FVec Ideal S2x2048x1024 .f32) (ix3 b s d))

open Cert.KernelIdeal in
/-- Under the precondition the arguments are the real arrays `inputs`. -/
theorem args_of_finite {m : (ℓ : Loc nD τ sig) → Buf (Elt Ideal) ℓ} (h : Cert.Pre_KernelIdeal_finite m) (c : Dev nD) :
    Host.Args m c (inputs m c) := by
  obtain ⟨h0, h1, h2, h3, h4, h5, h6, h7, h8⟩ := h c
  constructor
  · exact funext fun i => ((real_of_test _ _ h0 i).symm.trans (congrArg _ (congrArg EReal.toReal (congrArg _ (eq_ix3 i)))))
  · exact funext fun i => ((real_of_test _ _ h1 i).symm.trans (congrArg _ (congrArg EReal.toReal (congrArg _ (eq_ix1 i)))))
  · exact funext fun i => ((real_of_test _ _ h2 i).symm.trans (congrArg _ (congrArg EReal.toReal (congrArg _ (eq_ix2 i)))))
  · exact funext fun i => ((real_of_test _ _ h3 i).symm.trans (congrArg _ (congrArg EReal.toReal (congrArg _ (eq_ix2 i)))))
  · exact funext fun i => ((real_of_test _ _ h4 i).symm.trans (congrArg _ (congrArg EReal.toReal (congrArg _ (eq_ix2 i)))))
  · exact funext fun i => ((real_of_test _ _ h5 i).symm.trans (congrArg _ (congrArg EReal.toReal (congrArg _ (eq_ix2 i)))))
  · exact funext fun i => ((real_of_test _ _ h6 i).symm.trans (congrArg _ (congrArg EReal.toReal (congrArg _ (eq_ix2 i)))))
  · exact funext fun i => ((real_of_test _ _ h7 i).symm.trans (congrArg _ (congrArg EReal.toReal (congrArg _ (eq_ix2 i)))))
  · exact funext fun i => ((real_of_test _ _ h8 i).symm.trans (congrArg _ (congrArg EReal.toReal (congrArg _ (eq_ix3 i)))))

end Cert.Ffn
-- ==== Proof.Ffn.Tile.lean ====
/- What one tile's body computes, at real arguments: every value it stores, read at a row and a column, is the row's own
   gradient (`Row`), or a sum of those over the tile's 256 rows.  Each lemma takes the blocks it reads at a row of the tile
   as hypotheses. -/
module

public import proofs.«01_k».proof.Proof.Gen.KernelIdeal.Skeleton
public import proofs.«01_k».proof.Proof.Ffn.Inputs
public import Idealize.ShloMosaic.Lib.Pointwise

@[expose] public section

set_option maxRecDepth 16384

noncomputable section

namespace Cert.Ffn

/-- One chip's part of the gradient at the modulated row. -/
def Row.part (R : Row) (j : Fin 4) (d : Fin 1024) : ℝ :=
  (∑ k, R.da (col j k) * R.wg d (col j k)) + ∑ k, R.du (col j k) * R.wu d (col j k)

/-- The four chips' parts make the whole. -/
theorem Row.dh_parts (R : Row) (d : Fin 1024) : R.part 0 d + R.part 1 d + R.part 2 d + R.part 3 d = R.dh d := by
  unfold dh part
  rw [sum_chips (fun k => R.da k * R.wg d k) col fun _ _ => rfl, sum_chips (fun k => R.du k * R.wu d k) col fun _ _ => rfl,
    Fin.sum_univ_four, Fin.sum_univ_four]
  ring

namespace Tile

open Idealize.ShloMosaic Cert.KernelIdeal Cert.KernelIdeal.Gen

/-- A sum of products of values that are real numbers. -/
theorem sum_mul {ι : Type*} [Fintype ι] {f g : ι → EReal} {a b : ι → ℝ} (hf : ∀ k, f k = (a k : EReal)) (hg : ∀ k, g k = (b k : EReal)) :
    (∑ k, f k * g k) = ((∑ k, a k * b k : ℝ) : EReal) := by
  rw [← sum_coe]; exact Finset.sum_congr rfl fun k _ => by rw [hf, hg, EReal.coe_mul]

/-- A sum of values that are real numbers. -/
theorem sum_one {ι : Type*} [Fintype ι] {f : ι → EReal} {a : ι → ℝ} (hf : ∀ k, f k = (a k : EReal)) :
    (∑ k, f k) = ((∑ k, a k : ℝ) : EReal) := by
  rw [← sum_coe]; exact Finset.sum_congr rfl fun k _ => hf k

/-- A tile's 256 rows. -/
abbrev Rows := Fin 256 → Row

variable {R : Rows}

theorem pay1_at {v0 : FVec Ideal S256x1024 .f32} (h0 : ∀ r d, v0 (ix2 r d) = ((R r).ct d : EReal)) (r d) :
    k0_pay1 (F := Ideal) v0 (ix2 r d) = ((R r).ct d : EReal) := by
  pointwise [k0_pay1]; exact h0 r d

theorem df_at {v0 : FVec Ideal S256x1024 .f32} {v2 : FVec Ideal S1x1x1024 .f32} (h0 : ∀ r d, v0 (ix2 r d) = ((R r).ct d : EReal))
    (h2 : ∀ r d, v2 (ix3 0 0 d) = ((R r).gt d : EReal)) (r d) :
    k0_pay2 (F := Ideal) v0 v2 (ix2 r d) = ((R r).df d : EReal) := by
  pointwise [k0_pay2, k0_pay1]
  rw [h0, h2 r, word_half, ← EReal.coe_mul, ← EReal.coe_mul]; rfl

theorem dgt_at {v0 : FVec Ideal S256x1024 .f32} {v10 : FVec Ideal S256x1024 .bf16} (h0 : ∀ r d, v0 (ix2 r d) = ((R r).ct d : EReal))
    (h10 : ∀ r d, v10 (ix2 r d) = ((R r).f d : EReal)) (z : Fin 1) (d) :
    k0_pay3 (F := Ideal) v0 v10 (ix2 z d) = ((1 / 2 * ∑ r, (R r).ct d * (R r).f d : ℝ) : EReal) := by
  pointwise [k0_pay3, k0_pay1]
  rw [sum_mul (fun r => h0 r d) (fun r => h10 r d), word_half, ← EReal.coe_mul]

/-! ## A chip's gradients -/

section Chips
variable {j : Fin 4} {v8 : FVec Ideal S256x1024 .bf16} {v34 : FVec Ideal S1x1x704x1024 .bf16}
  {v37 v42 : FVec Ideal S1x256x704 .bf16} {v53 v56 : FVec Ideal S1x1x1024x704 .bf16}

theorem ds_at (h8 : ∀ r d, v8 (ix2 r d) = ((R r).df d : EReal)) (h34 : ∀ r k d, v34 (ix4 0 0 k d) = ((R r).wd (col j k) d : EReal))
    (r k) : k0_pay6 (F := Ideal) v8 v34 (ix2 r k) = ((R r).ds (col j k) : EReal) := by
  pointwise [k0_pay6]
  exact sum_mul (h8 r) (h34 r k)

theorem da_at (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (r k) :
    k0_pay7 (F := Ideal) v8 v34 v37 (ix2 r k) = ((R r).da (col j k) : EReal) := by
  pointwise [k0_pay7]
  rw [ds_at h8 h34, h37]; exact (EReal.coe_mul _ _).symm

theorem du_at (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (r k) :
    k0_pay8 (F := Ideal) v8 v34 v42 (ix2 r k) = ((R r).du (col j k) : EReal) := by
  pointwise [k0_pay8]
  rw [ds_at h8 h34, h42]; exact (EReal.coe_mul _ _).symm

theorem da_block (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (z : Fin 1) (r k) :
    k0_pay9 (F := Ideal) v8 v34 v37 (ix3 z r k) = ((R r).da (col j k) : EReal) := by
  pointwise [k0_pay9]
  exact da_at h8 h34 h37 r k

theorem du_block (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (z : Fin 1) (r k) :
    k0_pay10 (F := Ideal) v8 v34 v42 (ix3 z r k) = ((R r).du (col j k) : EReal) := by
  pointwise [k0_pay10]
  exact du_at h8 h34 h42 r k

/-! The other three chips' stored pieces are the same terms. -/

theorem da_block1 (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (z : Fin 1) (r k) :
    k0_pay15 (F := Ideal) v8 v34 v37 (ix3 z r k) = ((R r).da (col j k) : EReal) := da_block h8 h34 h37 z r k
theorem du_block1 (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (z : Fin 1) (r k) :
    k0_pay16 (F := Ideal) v8 v34 v42 (ix3 z r k) = ((R r).du (col j k) : EReal) := du_block h8 h34 h42 z r k
theorem da_block2 (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (z : Fin 1) (r k) :
    k0_pay21 (F := Ideal) (k0_pay18 v8 v34) v37 (ix3 z r k) = ((R r).da (col j k) : EReal) := da_block h8 h34 h37 z r k
theorem du_block2 (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (z : Fin 1) (r k) :
    k0_pay22 (F := Ideal) (k0_pay18 v8 v34) v42 (ix3 z r k) = ((R r).du (col j k) : EReal) := du_block h8 h34 h42 z r k
theorem da_block3 (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (z : Fin 1) (r k) :
    k0_pay28 (F := Ideal) (k0_pay24 v8 v34) (k0_pay25 v37) (ix3 z r k) = ((R r).da (col j k) : EReal) := da_block h8 h34 h37 z r k
theorem du_block3 (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (z : Fin 1) (r k) :
    k0_pay29 (F := Ideal) (k0_pay24 v8 v34) v42 (ix3 z r k) = ((R r).du (col j k) : EReal) := du_block h8 h34 h42 z r k

theorem part_at (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (h42 : ∀ r k, v42 (ix3 0 r k) = ((R r).q (col j k) : EReal))
    (h53 : ∀ r d k, v53 (ix4 0 0 d k) = ((R r).wg d (col j k) : EReal)) (h56 : ∀ r d k, v56 (ix4 0 0 d k) = ((R r).wu d (col j k) : EReal))
    (r d) : k0_pay11 (F := Ideal) v8 v34 v37 v42 v53 v56 (ix2 r d) = ((R r).part j d : EReal) := by
  pointwise [k0_pay11]
  rw [sum_mul (da_at h8 h34 h37 r) (h53 r d), sum_mul (du_at h8 h34 h42 r) (h56 r d), ← EReal.coe_add]; rfl

end Chips

/-! ## All four chips -/

/-- What the four chips' blocks hold. -/
structure Chip (R : Rows) (j : Fin 4) (v34 : FVec Ideal S1x1x704x1024 .bf16) (v37 v42 : FVec Ideal S1x256x704 .bf16)
    (v53 v56 : FVec Ideal S1x1x1024x704 .bf16) : Prop where
  wd : ∀ r k d, v34 (ix4 0 0 k d) = ((R r).wd (col j k) d : EReal)
  p : ∀ r k, v37 (ix3 0 r k) = ((R r).p (col j k) : EReal)
  q : ∀ r k, v42 (ix3 0 r k) = ((R r).q (col j k) : EReal)
  wg : ∀ r d k, v53 (ix4 0 0 d k) = ((R r).wg d (col j k) : EReal)
  wu : ∀ r d k, v56 (ix4 0 0 d k) = ((R r).wu d (col j k) : EReal)

theorem dh_at {v8 : FVec Ideal S256x1024 .bf16} {a0 a1 a2 a3 : FVec Ideal S1x1x704x1024 .bf16} {p0 p1 p2 p3 q0 q1 q2 q3 : FVec Ideal S1x256x704 .bf16}
    {g0 g1 g2 g3 u0 u1 u2 u3 : FVec Ideal S1x1x1024x704 .bf16} (h8 : ∀ r d, v8 (ix2 r d) = ((R r).df d : EReal))
    (c0 : Chip R 0 a0 p0 q0 g0 u0) (c1 : Chip R 1 a1 p1 q1 g1 u1) (c2 : Chip R 2 a2 p2 q2 g2 u2) (c3 : Chip R 3 a3 p3 q3 g3 u3) (r d) :
    k0_pay30 (F := Ideal) (k0_pay23 (k0_pay17 v8 (k0_pay11 v8 a0 p0 q0 g0 u0) a1 p1 q1 g1 u1) (k0_pay18 v8 a2) p2 q2 g2 u2)
      (k0_pay24 v8 a3) (k0_pay25 p3) q3 g3 u3 (ix2 r d) = ((R r).dh d : EReal) := by
  have e : k0_pay30 (F := Ideal) (k0_pay23 (k0_pay17 v8 (k0_pay11 v8 a0 p0 q0 g0 u0) a1 p1 q1 g1 u1) (k0_pay18 v8 a2) p2 q2 g2 u2)
      (k0_pay24 v8 a3) (k0_pay25 p3) q3 g3 u3
      = addf (addf (addf (k0_pay11 v8 a0 p0 q0 g0 u0) (k0_pay11 v8 a1 p1 q1 g1 u1)) (k0_pay11 v8 a2 p2 q2 g2 u2)) (k0_pay11 v8 a3 p3 q3 g3 u3) := rfl
  rw [e, ← Row.dh_parts, EReal.coe_add, EReal.coe_add, EReal.coe_add, ← part_at h8 c0.wd c0.p c0.q c0.wg c0.wu r d,
    ← part_at h8 c1.wd c1.p c1.q c1.wg c1.wu r d, ← part_at h8 c2.wd c2.p c2.q c2.wg c2.wu r d, ← part_at h8 c3.wd c3.p c3.q c3.wg c3.wu r d]
  rfl

/-! ## Through the modulated norm -/

section Tail
variable {v1 v140 v141 v142 : FVec Ideal S256x1024 .f32} {v144 v146 : FVec Ideal S1x1024 .f32} {v149 : FVec Ideal S256x1 .f32}

theorem x_at (h141 : ∀ r d, v141 (ix2 r d) = ((R r).x d : EReal)) (r d) :
    k0_pay31 (F := Ideal) v141 (ix2 r d) = ((R r).x d : EReal) := by
  pointwise [k0_pay31]; exact h141 r d

theorem squares_at (h141 : ∀ r d, v141 (ix2 r d) = ((R r).x d : EReal)) (r z) :
    k0_pay34 (F := Ideal) v141 (ix2 r z) = ((∑ d, (R r).x d * (R r).x d : ℝ) : EReal) := by
  pointwise [k0_pay34, k0_pay31]
  exact sum_mul (h141 r) (h141 r)

theorem r_at (h149 : ∀ r, v149 (ix2 r 0) = ((∑ d, (R r).x d * (R r).x d : ℝ) : EReal)) (r) :
    k0_pay35 (F := Ideal) v149 (ix2 r 0) = ((R r).r : EReal) := by
  pointwise [k0_pay35]
  rw [h149, word_1024, div_real _ (by norm_num), word_eps, ← EReal.coe_add]
  exact rsqrt_real (R r).ms_pos

theorem n_at (h142 : ∀ r d, v142 (ix2 r d) = ((R r).x d : EReal)) (h149 : ∀ r, v149 (ix2 r 0) = ((∑ d, (R r).x d * (R r).x d : ℝ) : EReal))
    (r d) : k0_pay36 (F := Ideal) v142 v149 (ix2 r d) = ((R r).n d : EReal) := by
  pointwise [k0_pay36]
  rw [h142, r_at h149]; exact (EReal.coe_mul _ _).symm

theorem dsh_at (h140 : ∀ r d, v140 (ix2 r d) = ((R r).dh d : EReal)) (z : Fin 1) (d) :
    k0_pay37 (F := Ideal) v140 (ix2 z d) = ((∑ r, (R r).dh d : ℝ) : EReal) := by
  pointwise [k0_pay37]
  exact sum_one fun r => h140 r d

theorem dsc_at (h140 : ∀ r d, v140 (ix2 r d) = ((R r).dh d : EReal)) (h142 : ∀ r d, v142 (ix2 r d) = ((R r).x d : EReal))
    (h144 : ∀ r d, v144 (ix2 0 d) = ((R r).g d : EReal)) (h149 : ∀ r, v149 (ix2 r 0) = ((∑ d, (R r).x d * (R r).x d : ℝ) : EReal)) (z : Fin 1) (d) :
    k0_pay38 (F := Ideal) v140 v142 v144 v149 (ix2 z d) = ((∑ r, (R r).dh d * (R r).ng d : ℝ) : EReal) := by
  pointwise [k0_pay38]
  refine sum_mul (fun r => h140 r d) fun r => ?_
  rw [n_at h142 h149, h144 r]; exact (EReal.coe_mul _ _).symm

theorem dy_at (h140 : ∀ r d, v140 (ix2 r d) = ((R r).dh d : EReal)) (h146 : ∀ r d, v146 (ix2 0 d) = ((R r).sc d : EReal)) (r d) :
    k0_pay39 (F := Ideal) v140 v146 (ix2 r d) = ((R r).dy d : EReal) := by
  pointwise [k0_pay39]
  rw [h140, h146 r, show (1 : EReal) = ((1 : ℝ) : EReal) from rfl, ← EReal.coe_add, ← EReal.coe_mul]; rfl

theorem dg_at (h140 : ∀ r d, v140 (ix2 r d) = ((R r).dh d : EReal)) (h142 : ∀ r d, v142 (ix2 r d) = ((R r).x d : EReal))
    (h146 : ∀ r d, v146 (ix2 0 d) = ((R r).sc d : EReal)) (h149 : ∀ r, v149 (ix2 r 0) = ((∑ d, (R r).x d * (R r).x d : ℝ) : EReal)) (z : Fin 1) (d) :
    k0_pay40 (F := Ideal) v140 v142 v146 v149 (ix2 z d) = ((∑ r, (R r).dy d * (R r).n d : ℝ) : EReal) := by
  pointwise [k0_pay40]
  exact sum_mul (fun r => dy_at h140 h146 r d) (fun r => n_at h142 h149 r d)

theorem dx_at (h1 : ∀ r d, v1 (ix2 r d) = ((R r).ct d : EReal)) (h140 : ∀ r d, v140 (ix2 r d) = ((R r).dh d : EReal))
    (h142 : ∀ r d, v142 (ix2 r d) = ((R r).x d : EReal)) (h144 : ∀ r d, v144 (ix2 0 d) = ((R r).g d : EReal))
    (h146 : ∀ r d, v146 (ix2 0 d) = ((R r).sc d : EReal)) (h149 : ∀ r, v149 (ix2 r 0) = ((∑ d, (R r).x d * (R r).x d : ℝ) : EReal)) (r d) :
    k0_pay41 (F := Ideal) v1 v140 v142 v144 v146 v149 (ix2 r d) = ((R r).dx d : EReal) := by
  have hn := fun r => n_at h142 h149 r
  have hdn : ∀ d, k0_pay39 (F := Ideal) v140 v146 (ix2 r d) * v144 (ix2 0 d) = ((R r).dn d : EReal) := fun d => by
    rw [dy_at h140 h146, h144 r]; exact (EReal.coe_mul _ _).symm
  pointwise [k0_pay41]
  rw [sum_mul hdn (hn r), hdn, hn, h1, r_at h149, word_1024, div_real _ (by norm_num), ← EReal.coe_mul, ← EReal.coe_sub, ← EReal.coe_mul,
    ← EReal.coe_add]
  rfl

end Tail

/-! ## What is added at a tile to a sum over tokens -/

section Sums
variable {v160 : FVec Ideal S1x1024 .f32} {acc : FVec Ideal S1x1x1024 .f32} {acc1 : FVec Ideal S1x1024 .f32}

theorem pay4_eq (v0 v10) (i : S1x1x1024.Idx) : k0_pay4 (F := Ideal) v0 v10 i = k0_pay3 v0 v10 (ix2 0 (i 2)) := by
  idx_vars i; pointwise [k0_pay4]
theorem pay5_eq (v0 v10) (i : S1x1x1024.Idx) : k0_pay5 (F := Ideal) v0 v10 acc i = acc i + k0_pay3 v0 v10 (ix2 0 (i 2)) := by
  idx_vars i; obtain rfl : i0 = 0 := Subsingleton.elim _ _; obtain rfl : i1 = 0 := Subsingleton.elim _ _; pointwise [k0_pay5]
theorem pay42_eq (i : S1x1x1024.Idx) : k0_pay42 (F := Ideal) v160 i = v160 (ix2 0 (i 2)) := by
  idx_vars i; pointwise [k0_pay42]
theorem pay43_eq (i : S1x1x1024.Idx) : k0_pay43 (F := Ideal) v160 acc i = acc i + v160 (ix2 0 (i 2)) := by
  idx_vars i; obtain rfl : i0 = 0 := Subsingleton.elim _ _; obtain rfl : i1 = 0 := Subsingleton.elim _ _; pointwise [k0_pay43]
theorem pay44_eq (i : S1x1x1024.Idx) : k0_pay44 (F := Ideal) v160 i = v160 (ix2 0 (i 2)) := pay42_eq i
theorem pay45_eq (i : S1x1x1024.Idx) : k0_pay45 (F := Ideal) v160 acc i = acc i + v160 (ix2 0 (i 2)) := pay43_eq i
theorem pay46_eq (i : S1x1024.Idx) : k0_pay46 (F := Ideal) v160 acc1 i = acc1 i + v160 (ix2 0 (i 1)) := by
  idx_vars i; obtain rfl : i0 = 0 := Subsingleton.elim _ _; pointwise [k0_pay46]

end Sums

end Tile
end Cert.Ffn
end
-- ==== Proof.Ffn.Blocks.lean ====
/- The blocks the call reads at a grid point, each read at an index: tile `t` holds the 256 tokens from `256 t` on. -/
module

public import proofs.«01_k».proof.Proof.Ffn.Entry
public import proofs.«01_k».proof.Proof.Ffn.Tile
public import Idealize.ShloMosaic.Lib.Pipeline.ValueKit

@[expose] public section

set_option maxRecDepth 16384

noncomputable section

namespace Cert.Ffn.Host

open Idealize.ShloMosaic Idealize.ShloMosaic.TcCoe Cert.KernelIdeal Cert.KernelIdeal.Gen Cert.Ffn

variable {m : (ℓ : Loc nD τ sig) → Buf (Elt Ideal) ℓ} {c : Dev nD} {A : In}

/-- The windows' block indices at every point. -/
theorem idx : ∀ t : Fin cfg0.N, win0_0.index t = ![t.val, 0] ∧ win0_1.index t = ![t.val / 8, 0, 0] ∧ win0_2.index t = ![t.val, 0]
    ∧ win0_3.index t = ![0, 0, 0, 0] ∧ win0_4.index t = ![0, t.val, 0] ∧ win0_5.index t = ![0, t.val, 0] ∧ win0_6.index t = ![0, 0, 0, 0]
    ∧ win0_7.index t = ![t.val, 0] ∧ win0_8.index t = ![0, 0] ∧ win0_9.index t = ![t.val / 8, 0, 0] ∧ win0_10.index t = ![0, t.val, 0]
    ∧ win0_11.index t = ![0, t.val, 0] ∧ win0_12.index t = ![t.val, 0] ∧ win0_13.index t = ![t.val / 8, 0, 0] ∧ win0_14.index t = ![t.val, 0]
    ∧ win0_15.index t = ![t.val / 8, 0, 0] ∧ win0_16.index t = ![t.val / 8, 0, 0] ∧ win0_17.index t = ![0, 0] :=
  (by decide +kernel : ∀ t : Fin grid0.N, _)

theorem lt16 (t : Fin cfg0.N) : t.val < 16 := lt_of_lt_of_eq t.isLt N_0

/-- Token `r` of tile `t`. -/
def tokOf (t : Fin cfg0.N) (r : Fin 256) : Fin 4096 := ⟨t.val * 256 + r.val, by have := lt16 t; omega⟩

variable (A) in
/-- The rows of tile `t`. -/
def rows (t : Fin cfg0.N) : Tile.Rows := fun r => A.tok (tokOf t r)

theorem iblk0 (H : Args m c A) (t : Fin cfg0.N) (r : Fin 256) (d : Fin 1024) :
    (show FVec Ideal S256x1024 .f32 from iblk m c 0 t) (ix2 r d) = ((rows A t r).ct d : EReal) := by
  refine Eq.trans ?_ (w0_at (A := A) (tokOf t r) d)
  rw [← v50 H]
  unfold tokOf
  blk_ext [iblk, idx t]

theorem iblk1 (H : Args m c A) (t : Fin cfg0.N) (r : Fin 256) (d : Fin 1024) :
    (show FVec Ideal S1x1x1024 .f32 from iblk m c 1 t) (ix3 0 0 d) = ((rows A t r).gt d : EReal) := by
  have ht := lt16 t
  have hr : (tokOf t r).val / 2048 = t.val / 8 := by unfold tokOf; dsimp only; omega
  refine Eq.trans ?_ (w1_at (A := A) ⟨(tokOf t r).val / 2048, by omega⟩ 0 d)
  rw [← v51 H]
  blk_ext [iblk, idx t]

theorem iblk3 (H : Args m c A) (t : Fin cfg0.N) (j : Fin 4) (z : Fin 1) (k : Fin 704) (d : Fin 1024) :
    (show FVec Ideal S4x1x704x1024 .bf16 from iblk m c 3 t) (ix4 j z k d) = (A.Wd (col j k) d : EReal) := by
  refine Eq.trans ?_ (w3_at (A := A) j z k d)
  rw [← v49 H]
  blk_ext [iblk, idx t]

theorem iblk2 (H : Args m c A) (t : Fin cfg0.N) (r : Fin 256) (d : Fin 1024) :
    (show FVec Ideal S256x1024 .bf16 from iblk m c 2 t) (ix2 r d) = ((rows A t r).f d : EReal) := by
  refine Eq.trans ?_ (w2_at (A := A) (tokOf t r) d)
  rw [← v52 H]
  unfold tokOf
  blk_ext [iblk, idx t]

theorem iblk4 (H : Args m c A) (t : Fin cfg0.N) (j : Fin 4) (r : Fin 256) (k : Fin 704) :
    (show FVec Ideal S4x256x704 .bf16 from iblk m c 4 t) (ix3 j r k) = ((rows A t r).p (col j k) : EReal) := by
  refine Eq.trans ?_ (w4_at A j (tokOf t r) k)
  rw [← v55 H]
  unfold tokOf
  blk_ext [iblk, idx t]

theorem iblk5 (H : Args m c A) (t : Fin cfg0.N) (j : Fin 4) (r : Fin 256) (k : Fin 704) :
    (show FVec Ideal S4x256x704 .bf16 from iblk m c 5 t) (ix3 j r k) = ((rows A t r).q (col j k) : EReal) := by
  refine Eq.trans ?_ (w5_at A j (tokOf t r) k)
  rw [← v58 H]
  unfold tokOf
  blk_ext [iblk, idx t]

theorem iblk6_gate (H : Args m c A) (t : Fin cfg0.N) (j : Fin 4) (d : Fin 1024) (k : Fin 704) :
    (show FVec Ideal S4x2x1024x704 .bf16 from iblk m c 6 t) (ix4 j 0 d k) = (A.Wg d (col j k) : EReal) := by
  refine Eq.trans ?_ (w6_at_gate A j d k)
  rw [← v47 H]
  blk_ext [iblk, idx t]

theorem iblk6_up (H : Args m c A) (t : Fin cfg0.N) (j : Fin 4) (d : Fin 1024) (k : Fin 704) :
    (show FVec Ideal S4x2x1024x704 .bf16 from iblk m c 6 t) (ix4 j 1 d k) = (A.Wu d (col j k) : EReal) := by
  refine Eq.trans ?_ (w6_at_up A j d k)
  rw [← v47 H]
  blk_ext [iblk, idx t]

theorem iblk7 (H : Args m c A) (t : Fin cfg0.N) (r : Fin 256) (d : Fin 1024) :
    (show FVec Ideal S256x1024 .f32 from iblk m c 7 t) (ix2 r d) = ((rows A t r).x d : EReal) := by
  refine Eq.trans ?_ (w7_at (A := A) (tokOf t r) d)
  rw [← v59 H]
  unfold tokOf
  blk_ext [iblk, idx t]

theorem iblk8 (H : Args m c A) (t : Fin cfg0.N) (r : Fin 256) (d : Fin 1024) :
    (show FVec Ideal S1x1024 .f32 from iblk m c 8 t) (ix2 0 d) = ((rows A t r).g d : EReal) := by
  refine Eq.trans ?_ (w8_at (A := A) 0 d)
  rw [← v60 H]
  blk_ext [iblk, idx t]

theorem iblk9 (H : Args m c A) (t : Fin cfg0.N) (r : Fin 256) (d : Fin 1024) :
    (show FVec Ideal S1x1x1024 .f32 from iblk m c 9 t) (ix3 0 0 d) = ((rows A t r).sc d : EReal) := by
  have ht := lt16 t
  have hr : (tokOf t r).val / 2048 = t.val / 8 := by unfold tokOf; dsimp only; omega
  refine Eq.trans ?_ (w9_at (A := A) ⟨(tokOf t r).val / 2048, by omega⟩ 0 d)
  rw [← v61 H]
  blk_ext [iblk, idx t]

end Cert.Ffn.Host
end
-- ==== Proof.Ffn.Outs.lean ====
/- What the body leaves in each output's buffer at a grid point, at real arguments: the tile's rows of gradients, and — for
   the four results summed over tokens — what the point before left plus the tile's own sum. -/
module

public import proofs.«01_k».proof.Proof.Ffn.Blocks
public import proofs.«01_k».proof.Proof.Gen.KernelIdeal.Frame

@[expose] public section

set_option maxRecDepth 16384

noncomputable section

namespace Cert.Ffn.Host

open Idealize.ShloMosaic Idealize.ShloMosaic.TcCoe Cert.KernelIdeal Cert.KernelIdeal.Gen Cert.Ffn

variable {m : (ℓ : Loc nD τ sig) → Buf (Elt Ideal) ℓ} {c : Dev nD} {A : In}

/-! ## A chip's pieces of the blocks -/

theorem ld3 (X : Vec Ideal S4x1x704x1024 .bf16) (j : Fin 4) (h) (k : Fin 704) (d : Fin 1024) :
    (View.ld X (Rect.unit ![(j : ℕ), 0, 0, 0] ![1, 1, 704, 1024] h) : Vec Ideal S1x1x704x1024 .bf16) (ix4 0 0 k d) = X (ix4 j 0 k d) := by
  refine congrArg X (funext fun a => Fin.ext ?_)
  fin_cases a <;> simp [ix3, ix4]
theorem ld4 (X : Vec Ideal S4x256x704 .bf16) (j : Fin 4) (h) (r : Fin 256) (k : Fin 704) :
    (View.ld X (Rect.unit ![(j : ℕ), 0, 0] ![1, 256, 704] h) : Vec Ideal S1x256x704 .bf16) (ix3 0 r k) = X (ix3 j r k) := by
  refine congrArg X (funext fun a => Fin.ext ?_)
  fin_cases a <;> simp [ix3, ix4]
theorem ld6 (X : Vec Ideal S4x2x1024x704 .bf16) (j : Fin 4) (e : Fin 2) (h) (d : Fin 1024) (k : Fin 704) :
    (View.ld X (Rect.unit ![(j : ℕ), (e : ℕ), 0, 0] ![1, 1, 1024, 704] h) : Vec Ideal S1x1x1024x704 .bf16) (ix4 0 0 d k) = X (ix4 j e d k) := by
  refine congrArg X (funext fun a => Fin.ext ?_)
  fin_cases a <;> simp [ix3, ix4]

theorem wd_of (H : Args m c A) (t : Fin cfg0.N) (j : Fin 4) (h) (r : Fin 256) (k : Fin 704) (d : Fin 1024) :
    (View.ld (iblk m c 3 t : Vec Ideal S4x1x704x1024 .bf16) (Rect.unit ![(j : ℕ), 0, 0, 0] ![1, 1, 704, 1024] h) : Vec Ideal S1x1x704x1024 .bf16)
      (ix4 0 0 k d) = ((rows A t r).wd (col j k) d : EReal) := (ld3 _ j h k d).trans (iblk3 H t j 0 k d)
theorem p_of (H : Args m c A) (t : Fin cfg0.N) (j : Fin 4) (h) (r : Fin 256) (k : Fin 704) :
    (View.ld (iblk m c 4 t : Vec Ideal S4x256x704 .bf16) (Rect.unit ![(j : ℕ), 0, 0] ![1, 256, 704] h) : Vec Ideal S1x256x704 .bf16)
      (ix3 0 r k) = ((rows A t r).p (col j k) : EReal) := (ld4 _ j h r k).trans (iblk4 H t j r k)
theorem q_of (H : Args m c A) (t : Fin cfg0.N) (j : Fin 4) (h) (r : Fin 256) (k : Fin 704) :
    (View.ld (iblk m c 5 t : Vec Ideal S4x256x704 .bf16) (Rect.unit ![(j : ℕ), 0, 0] ![1, 256, 704] h) : Vec Ideal S1x256x704 .bf16)
      (ix3 0 r k) = ((rows A t r).q (col j k) : EReal) := (ld4 _ j h r k).trans (iblk5 H t j r k)

theorem chip_of (H : Args m c A) (t : Fin cfg0.N) (j : Fin 4) (h3 h4 h6 h6') : Tile.Chip (rows A t) j
    (View.ld (iblk m c 3 t : Vec Ideal S4x1x704x1024 .bf16) (Rect.unit ![(j : ℕ), 0, 0, 0] ![1, 1, 704, 1024] h3) : Vec Ideal S1x1x704x1024 .bf16)
    (View.ld (iblk m c 4 t : Vec Ideal S4x256x704 .bf16) (Rect.unit ![(j : ℕ), 0, 0] ![1, 256, 704] h4) : Vec Ideal S1x256x704 .bf16)
    (View.ld (iblk m c 5 t : Vec Ideal S4x256x704 .bf16) (Rect.unit ![(j : ℕ), 0, 0] ![1, 256, 704] h4) : Vec Ideal S1x256x704 .bf16)
    (View.ld (iblk m c 6 t : Vec Ideal S4x2x1024x704 .bf16) (Rect.unit ![(j : ℕ), 0, 0, 0] ![1, 1, 1024, 704] h6) : Vec Ideal S1x1x1024x704 .bf16)
    (View.ld (iblk m c 6 t : Vec Ideal S4x2x1024x704 .bf16) (Rect.unit ![(j : ℕ), 1, 0, 0] ![1, 1, 1024, 704] h6') : Vec Ideal S1x1x1024x704 .bf16) where
  wd := wd_of H t j h3
  p := p_of H t j h4
  q := q_of H t j h4
  wg r d k := (ld6 _ j 0 h6 d k).trans (iblk6_gate H t j d k)
  wu r d k := (ld6 _ j 1 h6' d k).trans (iblk6_up H t j d k)

/-! ## The rows -/

theorem df_of (H : Args m c A) (t : Fin cfg0.N) (r d) : k0_pay2 (F := Ideal) (iblk m c 0 t) (iblk m c 1 t) (ix2 r d) = ((rows A t r).df d : EReal) :=
  Tile.df_at (R := rows A t) (iblk0 H t) (iblk1 H t) r d

theorem g_of (H : Args m c A) (t : Fin cfg0.N) (r : Fin 256) (d : Fin 1024) :
    k0_pay32 (F := Ideal) (iblk m c 8 t) (ix2 0 d) = ((rows A t r).g d : EReal) := by
  refine Eq.trans ?_ (iblk8 H t r d); pointwise [k0_pay32]

theorem sc_of (H : Args m c A) (t : Fin cfg0.N) (r : Fin 256) (d : Fin 1024) :
    k0_pay33 (F := Ideal) (iblk m c 9 t) (ix2 0 d) = ((rows A t r).sc d : EReal) := by
  refine Eq.trans ?_ (iblk9 H t r d); pointwise [k0_pay33]

set_option maxHeartbeats 2000000 in
theorem out12 (H : Args m c A) (t : Fin cfg0.N) (r : Fin 256) (d : Fin 1024) :
    (outsAt0 m c t.val t.isLt).2.2.1 (ix2 r d) = ((rows A t r).df d : EReal) := by
  have hN := lt16 t
  by_cases hA : t.val % 16 = 0
  · rw [outsAt0_A m c t (by omega) (by omega) (by omega) (by omega) (by omega) (by omega) hA (by omega)]
    frame_out
    exact df_of H t r d
  · by_cases hC : t.val % 8 = 0
    · rw [outsAt0_C m c t hC (by omega) hC (by omega) hC (by omega) hA (by omega)]
      frame_out
      exact df_of H t r d
    · rw [outsAt0_B m c t hC hC hC hC hC hC hA (by omega)]
      frame_out
      exact df_of H t r d

theorem x_of (H : Args m c A) (t : Fin cfg0.N) (r : Fin 256) (d : Fin 1024) :
    k0_pay31 (F := Ideal) (iblk m c 7 t) (ix2 r d) = ((rows A t r).x d : EReal) := Tile.x_at (iblk7 H t) r d

theorem squares_of (H : Args m c A) (t : Fin cfg0.N) (r : Fin 256) :
    k0_pay34 (F := Ideal) (iblk m c 7 t) (ix2 r 0) = ((∑ d, (rows A t r).x d * (rows A t r).x d : ℝ) : EReal) :=
  Tile.squares_at (iblk7 H t) r 0

set_option maxHeartbeats 2000000 in
theorem out14 (H : Args m c A) (t : Fin cfg0.N) (r : Fin 256) (d : Fin 1024) :
    (outsAt0 m c t.val t.isLt).2.2.2.2.1 (ix2 r d) = ((rows A t r).dx d : EReal) := by
  have hN := lt16 t
  have fin := fun h3 h4 h6 h6' i3 i4 i6 i6' j3 j4 j6 j6' k3 k4 k6 k6' =>
    Tile.dx_at (R := rows A t) (Tile.pay1_at (iblk0 H t)) (Tile.dh_at (df_of H t) (chip_of H t 0 h3 h4 h6 h6') (chip_of H t 1 i3 i4 i6 i6')
      (chip_of H t 2 j3 j4 j6 j6') (chip_of H t 3 k3 k4 k6 k6')) (x_of H t) (g_of H t) (sc_of H t) (squares_of H t) r d
  by_cases hA : t.val % 16 = 0
  · rw [outsAt0_A m c t (by omega) (by omega) (by omega) (by omega) (by omega) (by omega) hA (by omega)]
    frame_out
    exact fin _ _ _ _ _ _ _ _ _ _ _ _ _ _ _ _
  · by_cases hC : t.val % 8 = 0
    · rw [outsAt0_C m c t hC (by omega) hC (by omega) hC (by omega) hA (by omega)]
      frame_out
      exact fin _ _ _ _ _ _ _ _ _ _ _ _ _ _ _ _
    · rw [outsAt0_B m c t hC hC hC hC hC hC hA (by omega)]
      frame_out
      exact fin _ _ _ _ _ _ _ _ _ _ _ _ _ _ _ _

/-- One chip's stored piece, read through the piece's own index. -/
theorem piece {G : Fin 256 → Fin 2816 → ℝ} (j : Fin 4) {n : ℕ} (hn : n = j.val) {j' : Fin 4} {r : Fin 256} {k : Fin 704} {x : S1x256x704.Idx}
    {P : FVec Ideal S1x256x704 .bf16} (hP : ∀ z r k, P (ix3 z r k) = (G r (col j k) : EReal)) (h0 : j'.val = n + (x 0).val) (h1 : r.val = (x 1).val)
    (h2 : k.val = (x 2).val) : P x = (G r (col j' k) : EReal) := by
  obtain rfl : j' = j := Fin.ext (by have : (x 0).val < 1 := (x 0).isLt; omega)
  obtain rfl : r = x 1 := Fin.ext h1
  obtain rfl : k = x 2 := Fin.ext h2
  exact (congrArg P (eq_ix3 x)).trans (hP _ _ _)

set_option maxHeartbeats 2000000 in
theorem out10 (H : Args m c A) (t : Fin cfg0.N) (j : Fin 4) (r : Fin 256) (k : Fin 704) :
    (outsAt0 m c t.val t.isLt).1 (ix3 j r k) = ((rows A t r).da (col j k) : EReal) := by
  have hN := lt16 t
  by_cases hA : t.val % 16 = 0
  · rw [outsAt0_A m c t (by omega) (by omega) (by omega) (by omega) (by omega) (by omega) hA (by omega)]
    frame_out
    canon_tiles x h
    · exact piece (G := fun r => (rows A t r).da) 3 rfl (Tile.da_block3 (df_of H t) (wd_of H t 3 _) (p_of H t 3 _)) h0 h1 h2
    · exact piece (G := fun r => (rows A t r).da) 2 rfl (Tile.da_block2 (df_of H t) (wd_of H t 2 _) (p_of H t 2 _)) h0 h1 h2
    · exact piece (G := fun r => (rows A t r).da) 1 rfl (Tile.da_block1 (df_of H t) (wd_of H t 1 _) (p_of H t 1 _)) h0 h1 h2
    · exact piece (G := fun r => (rows A t r).da) 0 rfl (Tile.da_block (df_of H t) (wd_of H t 0 _) (p_of H t 0 _)) (h0.trans (zero_add _).symm) h1 h2
  · by_cases hC : t.val % 8 = 0
    · rw [outsAt0_C m c t hC (by omega) hC (by omega) hC (by omega) hA (by omega)]
      frame_out
      canon_tiles x h
      · exact piece (G := fun r => (rows A t r).da) 3 rfl (Tile.da_block3 (df_of H t) (wd_of H t 3 _) (p_of H t 3 _)) h0 h1 h2
      · exact piece (G := fun r => (rows A t r).da) 2 rfl (Tile.da_block2 (df_of H t) (wd_of H t 2 _) (p_of H t 2 _)) h0 h1 h2
      · exact piece (G := fun r => (rows A t r).da) 1 rfl (Tile.da_block1 (df_of H t) (wd_of H t 1 _) (p_of H t 1 _)) h0 h1 h2
      · exact piece (G := fun r => (rows A t r).da) 0 rfl (Tile.da_block (df_of H t) (wd_of H t 0 _) (p_of H t 0 _)) (h0.trans (zero_add _).symm) h1 h2
    · rw [outsAt0_B m c t hC hC hC hC hC hC hA (by omega)]
      frame_out
      canon_tiles x h
      · exact piece (G := fun r => (rows A t r).da) 3 rfl (Tile.da_block3 (df_of H t) (wd_of H t 3 _) (p_of H t 3 _)) h0 h1 h2
      · exact piece (G := fun r => (rows A t r).da) 2 rfl (Tile.da_block2 (df_of H t) (wd_of H t 2 _) (p_of H t 2 _)) h0 h1 h2
      · exact piece (G := fun r => (rows A t r).da) 1 rfl (Tile.da_block1 (df_of H t) (wd_of H t 1 _) (p_of H t 1 _)) h0 h1 h2
      · exact piece (G := fun r => (rows A t r).da) 0 rfl (Tile.da_block (df_of H t) (wd_of H t 0 _) (p_of H t 0 _)) (h0.trans (zero_add _).symm) h1 h2

set_option maxHeartbeats 2000000 in
theorem out11 (H : Args m c A) (t : Fin cfg0.N) (j : Fin 4) (r : Fin 256) (k : Fin 704) :
    (outsAt0 m c t.val t.isLt).2.1 (ix3 j r k) = ((rows A t r).du (col j k) : EReal) := by
  have hN := lt16 t
  by_cases hA : t.val % 16 = 0
  · rw [outsAt0_A m c t (by omega) (by omega) (by omega) (by omega) (by omega) (by omega) hA (by omega)]
    frame_out
    canon_tiles x h
    · exact piece (G := fun r => (rows A t r).du) 3 rfl (Tile.du_block3 (df_of H t) (wd_of H t 3 _) (q_of H t 3 _)) h0 h1 h2
    · exact piece (G := fun r => (rows A t r).du) 2 rfl (Tile.du_block2 (df_of H t) (wd_of H t 2 _) (q_of H t 2 _)) h0 h1 h2
    · exact piece (G := fun r => (rows A t r).du) 1 rfl (Tile.du_block1 (df_of H t) (wd_of H t 1 _) (q_of H t 1 _)) h0 h1 h2
    · exact piece (G := fun r => (rows A t r).du) 0 rfl (Tile.du_block (df_of H t) (wd_of H t 0 _) (q_of H t 0 _)) (h0.trans (zero_add _).symm) h1 h2
  · by_cases hC : t.val % 8 = 0
    · rw [outsAt0_C m c t hC (by omega) hC (by omega) hC (by omega) hA (by omega)]
      frame_out
      canon_tiles x h
      · exact piece (G := fun r => (rows A t r).du) 3 rfl (Tile.du_block3 (df_of H t) (wd_of H t 3 _) (q_of H t 3 _)) h0 h1 h2
      · exact piece (G := fun r => (rows A t r).du) 2 rfl (Tile.du_block2 (df_of H t) (wd_of H t 2 _) (q_of H t 2 _)) h0 h1 h2
      · exact piece (G := fun r => (rows A t r).du) 1 rfl (Tile.du_block1 (df_of H t) (wd_of H t 1 _) (q_of H t 1 _)) h0 h1 h2
      · exact piece (G := fun r => (rows A t r).du) 0 rfl (Tile.du_block (df_of H t) (wd_of H t 0 _) (q_of H t 0 _)) (h0.trans (zero_add _).symm) h1 h2
    · rw [outsAt0_B m c t hC hC hC hC hC hC hA (by omega)]
      frame_out
      canon_tiles x h
      · exact piece (G := fun r => (rows A t r).du) 3 rfl (Tile.du_block3 (df_of H t) (wd_of H t 3 _) (q_of H t 3 _)) h0 h1 h2
      · exact piece (G := fun r => (rows A t r).du) 2 rfl (Tile.du_block2 (df_of H t) (wd_of H t 2 _) (q_of H t 2 _)) h0 h1 h2
      · exact piece (G := fun r => (rows A t r).du) 1 rfl (Tile.du_block1 (df_of H t) (wd_of H t 1 _) (q_of H t 1 _)) h0 h1 h2
      · exact piece (G := fun r => (rows A t r).du) 0 rfl (Tile.du_block (df_of H t) (wd_of H t 0 _) (q_of H t 0 _)) (h0.trans (zero_add _).symm) h1 h2

/-! ## The sums over tokens -/

/-- A tile's part of the sum. -/
def part13 (A : In) (t : Fin cfg0.N) (i : S1x1x1024.Idx) : EReal := ((1 / 2 * ∑ r, (rows A t r).ct (i 2) * (rows A t r).f (i 2) : ℝ) : EReal)

set_option maxHeartbeats 2000000 in
theorem out13_reset (H : Args m c A) (t : Fin cfg0.N) (hC : t.val % 8 = 0) (i : S1x1x1024.Idx) :
    (outsAt0 m c t.val t.isLt).2.2.2.1 i = 0 + part13 A t i := by
  have hN := lt16 t
  rw [zero_add]
  by_cases hA : t.val % 16 = 0
  · rw [outsAt0_A m c t (by omega) (by omega) (by omega) (by omega) (by omega) (by omega) hA (by omega)]
    frame_out
    exact (Tile.pay4_eq ..).trans (Tile.dgt_at (iblk0 H t) (iblk2 H t) 0 (i 2))
  · rw [outsAt0_C m c t hC (by omega) hC (by omega) hC (by omega) hA (by omega)]
    frame_out
    exact (Tile.pay4_eq ..).trans (Tile.dgt_at (iblk0 H t) (iblk2 H t) 0 (i 2))

set_option maxHeartbeats 2000000 in
theorem out13_step (H : Args m c A) (t : Fin cfg0.N) (hC : ¬t.val % 8 = 0) (i : S1x1x1024.Idx) :
    (outsAt0 m c t.val t.isLt).2.2.2.1 i
      = (outsAt0 m c (t.val - 1) (Nat.lt_of_le_of_lt (Nat.sub_le _ _) t.isLt)).2.2.2.1 i + part13 A t i := by
  have hN := lt16 t
  rw [outsAt0_B m c t hC hC hC hC hC hC (by omega) (by omega)]
  frame_out
  exact (Tile.pay5_eq ..).trans (congrArg _ (Tile.dgt_at (iblk0 H t) (iblk2 H t) 0 (i 2)))

/-- A tile's part of the sum. -/
def part15 (A : In) (t : Fin cfg0.N) (i : S1x1x1024.Idx) : EReal := ((∑ r, (rows A t r).dh (i 2) : ℝ) : EReal)

set_option maxHeartbeats 2000000 in
theorem out15_reset (H : Args m c A) (t : Fin cfg0.N) (hC : t.val % 8 = 0) (i : S1x1x1024.Idx) :
    (outsAt0 m c t.val t.isLt).2.2.2.2.2.1 i = 0 + part15 A t i := by
  have hN := lt16 t
  rw [zero_add]
  by_cases hA : t.val % 16 = 0
  · rw [outsAt0_A m c t (by omega) (by omega) (by omega) (by omega) (by omega) (by omega) hA (by omega)]
    frame_out
    exact (Tile.pay42_eq ..).trans (Tile.dsh_at (Tile.dh_at (df_of H t) (chip_of H t 0 _ _ _ _) (chip_of H t 1 _ _ _ _) (chip_of H t 2 _ _ _ _) (chip_of H t 3 _ _ _ _)) 0 (i 2))
  · rw [outsAt0_C m c t hC (by omega) hC (by omega) hC (by omega) hA (by omega)]
    frame_out
    exact (Tile.pay42_eq ..).trans (Tile.dsh_at (Tile.dh_at (df_of H t) (chip_of H t 0 _ _ _ _) (chip_of H t 1 _ _ _ _) (chip_of H t 2 _ _ _ _) (chip_of H t 3 _ _ _ _)) 0 (i 2))

set_option maxHeartbeats 2000000 in
theorem out15_step (H : Args m c A) (t : Fin cfg0.N) (hC : ¬t.val % 8 = 0) (i : S1x1x1024.Idx) :
    (outsAt0 m c t.val t.isLt).2.2.2.2.2.1 i
      = (outsAt0 m c (t.val - 1) (Nat.lt_of_le_of_lt (Nat.sub_le _ _) t.isLt)).2.2.2.2.2.1 i + part15 A t i := by
  have hN := lt16 t
  rw [outsAt0_B m c t hC hC hC hC hC hC (by omega) (by omega)]
  frame_out
  exact (Tile.pay43_eq ..).trans (congrArg _ (Tile.dsh_at (Tile.dh_at (df_of H t) (chip_of H t 0 _ _ _ _) (chip_of H t 1 _ _ _ _) (chip_of H t 2 _ _ _ _) (chip_of H t 3 _ _ _ _)) 0 (i 2)))

/-- A tile's part of the sum. -/
def part16 (A : In) (t : Fin cfg0.N) (i : S1x1x1024.Idx) : EReal := ((∑ r, (rows A t r).dh (i 2) * (rows A t r).ng (i 2) : ℝ) : EReal)

set_option maxHeartbeats 2000000 in
theorem out16_reset (H : Args m c A) (t : Fin cfg0.N) (hC : t.val % 8 = 0) (i : S1x1x1024.Idx) :
    (outsAt0 m c t.val t.isLt).2.2.2.2.2.2.1 i = 0 + part16 A t i := by
  have hN := lt16 t
  rw [zero_add]
  by_cases hA : t.val % 16 = 0
  · rw [outsAt0_A m c t (by omega) (by omega) (by omega) (by omega) (by omega) (by omega) hA (by omega)]
    frame_out
    exact (Tile.pay44_eq ..).trans (Tile.dsc_at (Tile.dh_at (df_of H t) (chip_of H t 0 _ _ _ _) (chip_of H t 1 _ _ _ _) (chip_of H t 2 _ _ _ _) (chip_of H t 3 _ _ _ _)) (x_of H t) (g_of H t) (squares_of H t) 0 (i 2))
  · rw [outsAt0_C m c t hC (by omega) hC (by omega) hC (by omega) hA (by omega)]
    frame_out
    exact (Tile.pay44_eq ..).trans (Tile.dsc_at (Tile.dh_at (df_of H t) (chip_of H t 0 _ _ _ _) (chip_of H t 1 _ _ _ _) (chip_of H t 2 _ _ _ _) (chip_of H t 3 _ _ _ _)) (x_of H t) (g_of H t) (squares_of H t) 0 (i 2))

set_option maxHeartbeats 2000000 in
theorem out16_step (H : Args m c A) (t : Fin cfg0.N) (hC : ¬t.val % 8 = 0) (i : S1x1x1024.Idx) :
    (outsAt0 m c t.val t.isLt).2.2.2.2.2.2.1 i
      = (outsAt0 m c (t.val - 1) (Nat.lt_of_le_of_lt (Nat.sub_le _ _) t.isLt)).2.2.2.2.2.2.1 i + part16 A t i := by
  have hN := lt16 t
  rw [outsAt0_B m c t hC hC hC hC hC hC (by omega) (by omega)]
  frame_out
  exact (Tile.pay45_eq ..).trans (congrArg _ (Tile.dsc_at (Tile.dh_at (df_of H t) (chip_of H t 0 _ _ _ _) (chip_of H t 1 _ _ _ _) (chip_of H t 2 _ _ _ _) (chip_of H t 3 _ _ _ _)) (x_of H t) (g_of H t) (squares_of H t) 0 (i 2)))

/-- A tile's part of the sum. -/
def part17 (A : In) (t : Fin cfg0.N) (i : S1x1024.Idx) : EReal := ((∑ r, (rows A t r).dy (i 1) * (rows A t r).n (i 1) : ℝ) : EReal)

set_option maxHeartbeats 2000000 in
theorem out17_reset (H : Args m c A) (t : Fin cfg0.N) (hA : t.val % 16 = 0) (i : S1x1024.Idx) :
    (outsAt0 m c t.val t.isLt).2.2.2.2.2.2.2 i = 0 + part17 A t i := by
  have hN := lt16 t
  rw [zero_add]
  rw [outsAt0_A m c t (by omega) (by omega) (by omega) (by omega) (by omega) (by omega) hA (by omega)]
  frame_out
  refine (congrArg _ (eq_ix2 i)).trans ?_
  exact Tile.dg_at (Tile.dh_at (df_of H t) (chip_of H t 0 _ _ _ _) (chip_of H t 1 _ _ _ _) (chip_of H t 2 _ _ _ _) (chip_of H t 3 _ _ _ _)) (x_of H t) (sc_of H t) (squares_of H t) (i 0) (i 1)

set_option maxHeartbeats 2000000 in
theorem out17_step (H : Args m c A) (t : Fin cfg0.N) (hA : ¬t.val % 16 = 0) (i : S1x1024.Idx) :
    (outsAt0 m c t.val t.isLt).2.2.2.2.2.2.2 i
      = (outsAt0 m c (t.val - 1) (Nat.lt_of_le_of_lt (Nat.sub_le _ _) t.isLt)).2.2.2.2.2.2.2 i + part17 A t i := by
  have hN := lt16 t
  by_cases hC : t.val % 8 = 0
  · rw [outsAt0_C m c t hC (by omega) hC (by omega) hC (by omega) hA (by omega)]
    frame_out
    exact (Tile.pay46_eq ..).trans (congrArg _ (Tile.dg_at (Tile.dh_at (df_of H t) (chip_of H t 0 _ _ _ _) (chip_of H t 1 _ _ _ _) (chip_of H t 2 _ _ _ _) (chip_of H t 3 _ _ _ _)) (x_of H t) (sc_of H t) (squares_of H t) 0 (i 1)))
  · rw [outsAt0_B m c t hC hC hC hC hC hC hA (by omega)]
    frame_out
    exact (Tile.pay46_eq ..).trans (congrArg _ (Tile.dg_at (Tile.dh_at (df_of H t) (chip_of H t 0 _ _ _ _) (chip_of H t 1 _ _ _ _) (chip_of H t 2 _ _ _ _) (chip_of H t 3 _ _ _ _)) (x_of H t) (sc_of H t) (squares_of H t) 0 (i 1)))

end Cert.Ffn.Host
end
-- ==== Proof.Ffn.Arrays.lean ====
/- What each result's array holds after the run, at real arguments: tiles laid side by side, and sums over all tokens. -/
module

public import proofs.«01_k».proof.Proof.Ffn.Outs

@[expose] public section

set_option maxRecDepth 16384

noncomputable section

namespace Cert.Ffn.Host

open Idealize.ShloMosaic Idealize.ShloMosaic.TcCoe Cert.KernelIdeal Cert.KernelIdeal.Gen Cert.Ffn
open Idealize.ShloMosaic.Pipeline (Dat)

variable {m : (ℓ : Loc nD τ sig) → Buf (Elt Ideal) ℓ} {c : Dev nD} {A : In}

/-! ## Rows and columns at equal numbers -/

theorem at3 {α : Type*} (f : Fin 4096 → Fin 4 → Fin 704 → α) {t t' : Fin 4096} {j j' : Fin 4} {k k' : Fin 704} (ht : t.val = t'.val)
    (hj : j.val = j'.val) (hk : k.val = k'.val) : f t j k = f t' j' k' := by
  rw [Fin.ext ht, Fin.ext hj, Fin.ext hk]

theorem at2 {α : Type*} (f : Fin 4096 → Fin 1024 → α) {t t' : Fin 4096} {d d' : Fin 1024} (ht : t.val = t'.val)
    (hd : d.val = d'.val) : f t d = f t' d' := by
  rw [Fin.ext ht, Fin.ext hd]

/-! ## The tiled results -/

set_option maxHeartbeats 1000000 in
theorem array10 (H : Args m c A) : (dats m 0 c).arrAt 10 (cfgs 0).N = (fun i => (((A.tok (i 1)).da (col (i 0) (i 2)) : ℝ) : EReal) : FVec Ideal S4x4096x704 .bf16) := by
  refine (dats m 0 c).arrAt_eq_of_covers 10 _ (by decide +kernel) fun t _ y => ?_
  blk_simp
  rw [after0_10]
  refine (congrArg _ (eq_ix3 y)).trans ((out10 H t (y 0) (y 1) (y 2)).trans ?_)
  refine congrArg _ (at3 (fun t j k => (A.tok t).da (col j k)) ?_ ?_ ?_) <;> (try unfold tokOf) <;> blk_simp [idx t] <;> (try omega)

set_option maxHeartbeats 1000000 in
theorem array11 (H : Args m c A) : (dats m 0 c).arrAt 11 (cfgs 0).N = (fun i => (((A.tok (i 1)).du (col (i 0) (i 2)) : ℝ) : EReal) : FVec Ideal S4x4096x704 .bf16) := by
  refine (dats m 0 c).arrAt_eq_of_covers 11 _ (by decide +kernel) fun t _ y => ?_
  blk_simp
  rw [after0_11]
  refine (congrArg _ (eq_ix3 y)).trans ((out11 H t (y 0) (y 1) (y 2)).trans ?_)
  refine congrArg _ (at3 (fun t j k => (A.tok t).du (col j k)) ?_ ?_ ?_) <;> (try unfold tokOf) <;> blk_simp [idx t] <;> (try omega)

set_option maxHeartbeats 1000000 in
theorem array12 (H : Args m c A) : (dats m 0 c).arrAt 12 (cfgs 0).N = (fun i => (((A.tok (i 0)).df (i 1) : ℝ) : EReal) : FVec Ideal S4096x1024 .bf16) := by
  refine (dats m 0 c).arrAt_eq_of_covers 12 _ (by decide +kernel) fun t _ y => ?_
  blk_simp
  rw [after0_12]
  refine (congrArg _ (eq_ix2 y)).trans ((out12 H t (y 0) (y 1)).trans ?_)
  refine congrArg _ (at2 (fun t d => (A.tok t).df d) ?_ ?_) <;> (try unfold tokOf) <;> blk_simp [idx t] <;> (try omega)

set_option maxHeartbeats 1000000 in
theorem array14 (H : Args m c A) : (dats m 0 c).arrAt 14 (cfgs 0).N = (fun i => (((A.tok (i 0)).dx (i 1) : ℝ) : EReal) : FVec Ideal S4096x1024 .f32) := by
  refine (dats m 0 c).arrAt_eq_of_covers 14 _ (by decide +kernel) fun t _ y => ?_
  blk_simp
  rw [after0_14]
  refine (congrArg _ (eq_ix2 y)).trans ((out14 H t (y 0) (y 1)).trans ?_)
  refine congrArg _ (at2 (fun t d => (A.tok t).dx d) ?_ ?_) <;> (try unfold tokOf) <;> blk_simp [idx t] <;> (try omega)

/-! ## The sums -/

theorem lt_N {n : ℕ} (h : n < 16) : n < cfg0.N := lt_of_lt_of_eq h N_0.symm

/-- Row `r` of the `s`-th tile of an example. -/
theorem rows_run (b : Fin 2) (n : Fin cfg0.N) (s : Fin 8) (hn : n.val = 8 * b.val + s.val) (r : Fin 256) :
    rows A n r = A.row b ⟨s.val * 256 + r.val, by omega⟩ := by
  unfold rows In.tok tokOf
  congr 1 <;> apply Fin.ext <;> dsimp only <;> omega

/-- The tiles of an example, summed: its tokens, summed. -/
theorem sum_run (b : Fin 2) (F : Row → ℝ) (n : Fin 8 → Fin cfg0.N) (hn : ∀ s, (n s).val = 8 * b.val + s.val) :
    (∑ s, ∑ r, F (rows A (n s) r)) = ∑ s, F (A.row b s) := by
  rw [Fin.sum_univ_tiles 8 256 rfl]
  exact Finset.sum_congr rfl fun s _ => Finset.sum_congr rfl fun r _ => by rw [rows_run b (n s) s (hn s)]

/-- All tiles, summed: all tokens, summed. -/
theorem sum_all (F : Row → ℝ) (n : Fin 16 → Fin cfg0.N) (hn : ∀ s, (n s).val = s.val) :
    (∑ s, ∑ r, F (rows A (n s) r)) = ∑ b, ∑ s, F (A.row b s) := by
  rw [Fin.sum_univ_tiles 2 8 rfl]
  exact Finset.sum_congr rfl fun b _ => sum_run b F (fun s => n ⟨b.val * 8 + s.val, by omega⟩) fun s => by rw [hn]; dsimp only; omega

set_option maxHeartbeats 1000000 in
theorem array13 (H : Args m c A) : (dats m 0 c).arrAt 13 (cfgs 0).N = (fun i => ((A.dgt (i 0) (i 2) : ℝ) : EReal) : FVec Ideal S2x1x1024 .f32) := by
  refine (dats m 0 c).arrAt_eq_of_covers 13 _ (by decide +kernel) fun t hf y => ?_
  blk_simp
  rw [after0_13, Pipeline.eq_sum_fin_of_reset_step_apply_of_flush (fun n h => (outsAt0 m c n h).2.2.2.1) 8 (fun _ => 0) (part13 A)
    (out13_reset H) (out13_step H) t ((flush0_13 t).mp hf) y, zero_add]
  have ht := lt16 t
  obtain ⟨b, hb⟩ : ∃ b : Fin 2, b.val = t.val / 8 := ⟨⟨t.val / 8, by omega⟩, rfl⟩
  have hy : (y 0).val < 1 := (y 0).isLt
  have e0 : ((win0_13.blk t).view.emb y 0 : Fin 2) = b := Fin.ext (by
    rw [hb]
    blk_simp [idx t])
  have e2 : ((win0_13.blk t).view.emb y 2 : Fin 1024) = y 2 := Fin.ext (by blk_simp [idx t] <;> (try omega))
  refine (sum_coe _ _).trans (congrArg _ ?_)
  refine Eq.trans ?_ (congrArg₂ A.dgt e0.symm e2.symm)
  unfold In.dgt
  refine Eq.trans (Finset.sum_congr rfl fun s _ => Finset.mul_sum _ _ _) ?_
  exact sum_run b (fun R => 1 / 2 * (R.ct (y 2) * R.f (y 2))) (fun s => ⟨8 * (t.val / 8) + s.val, lt_N (by omega)⟩) fun s => by dsimp only; rw [hb]

set_option maxHeartbeats 1000000 in
theorem array15 (H : Args m c A) : (dats m 0 c).arrAt 15 (cfgs 0).N = (fun i => ((A.dsh (i 0) (i 2) : ℝ) : EReal) : FVec Ideal S2x1x1024 .f32) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.1) 8 (fun _ => 0) (part15 A)
    (out15_reset H) (out15_step H) t ((flush0_15 t).mp hf) y, zero_add]
  have ht := lt16 t
  obtain ⟨b, hb⟩ : ∃ b : Fin 2, b.val = t.val / 8 := ⟨⟨t.val / 8, by omega⟩, rfl⟩
  have hy : (y 0).val < 1 := (y 0).isLt
  have e0 : ((win0_15.blk t).view.emb y 0 : Fin 2) = b := Fin.ext (by
    rw [hb]
    blk_simp [idx t])
  have e2 : ((win0_15.blk t).view.emb y 2 : Fin 1024) = y 2 := Fin.ext (by blk_simp [idx t] <;> (try omega))
  refine (sum_coe _ _).trans (congrArg _ ?_)
  refine Eq.trans ?_ (congrArg₂ A.dsh e0.symm e2.symm)
  unfold In.dsh
  exact sum_run b (fun R => R.dh (y 2)) (fun s => ⟨8 * (t.val / 8) + s.val, lt_N (by omega)⟩) fun s => by dsimp only; rw [hb]

set_option maxHeartbeats 1000000 in
theorem array16 (H : Args m c A) : (dats m 0 c).arrAt 16 (cfgs 0).N = (fun i => ((A.dsc (i 0) (i 2) : ℝ) : EReal) : FVec Ideal S2x1x1024 .f32) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.1) 8 (fun _ => 0) (part16 A)
    (out16_reset H) (out16_step H) t ((flush0_16 t).mp hf) y, zero_add]
  have ht := lt16 t
  obtain ⟨b, hb⟩ : ∃ b : Fin 2, b.val = t.val / 8 := ⟨⟨t.val / 8, by omega⟩, rfl⟩
  have hy : (y 0).val < 1 := (y 0).isLt
  have e0 : ((win0_16.blk t).view.emb y 0 : Fin 2) = b := Fin.ext (by
    rw [hb]
    blk_simp [idx t])
  have e2 : ((win0_16.blk t).view.emb y 2 : Fin 1024) = y 2 := Fin.ext (by blk_simp [idx t] <;> (try omega))
  refine (sum_coe _ _).trans (congrArg _ ?_)
  refine Eq.trans ?_ (congrArg₂ A.dsc e0.symm e2.symm)
  unfold In.dsc
  exact sum_run b (fun R => R.dh (y 2) * R.ng (y 2)) (fun s => ⟨8 * (t.val / 8) + s.val, lt_N (by omega)⟩) fun s => by dsimp only; rw [hb]

set_option maxHeartbeats 1000000 in
theorem array17 (H : Args m c A) : (dats m 0 c).arrAt 17 (cfgs 0).N = (fun i => ((A.dg (i 1) : ℝ) : EReal) : FVec Ideal S1x1024 .f32) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.2) 16 (fun _ => 0) (part17 A)
    (out17_reset H) (out17_step H) t ((flush0_17 t).mp hf) y, zero_add]
  have ht := lt16 t
  have e1 : ((win0_17.blk t).view.emb y 1 : Fin 1024) = y 1 := Fin.ext (by blk_simp [idx t] <;> (try omega))
  refine (sum_coe _ _).trans (congrArg _ ?_)
  refine Eq.trans ?_ (congrArg A.dg e1.symm)
  unfold In.dg
  exact sum_all (fun R => R.dy (y 1) * R.n (y 1)) (fun s => ⟨16 * (t.val / 16) + s.val, lt_N (by omega)⟩) fun s => by dsimp only; omega

end Cert.Ffn.Host
end
-- ==== Proof.Ffn.Claim.lean ====
/- The gradient kernel of the feed-forward half computes what the reference computes, over the reals, at finite arguments. -/
module

public import proofs.«01_k».proof.Defs
public import proofs.«01_k».proof.Proof.Ffn.Finite
public import proofs.«01_k».proof.Proof.Ffn.Arrays
public import proofs.«01_k».proof.Proof.Ffn.Reference
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Ffn

open Idealize.ShloMosaic Idealize.SL.Sem

/-- The results, as arrays of real numbers: one entry per result, at the real arguments `A`. -/
def res (A : In) : FVec Ideal Cert.KernelIdeal.S4x4096x704 .bf16 × FVec Ideal Cert.KernelIdeal.S4x4096x704 .bf16 ×
    FVec Ideal Cert.KernelIdeal.S4096x1024 .bf16 × FVec Ideal Cert.KernelIdeal.S2x1x1024 .f32 ×
    FVec Ideal Cert.KernelIdeal.S4096x1024 .f32 × FVec Ideal Cert.KernelIdeal.S2x1x1024 .f32 ×
    FVec Ideal Cert.KernelIdeal.S2x1x1024 .f32 × FVec Ideal Cert.KernelIdeal.S1x1024 .f32 :=
  (fun i => (((A.tok (i 1)).da (col (i 0) (i 2)) : ℝ) : EReal), fun i => (((A.tok (i 1)).du (col (i 0) (i 2)) : ℝ) : EReal),
    fun i => (((A.tok (i 0)).df (i 1) : ℝ) : EReal), fun i => ((A.dgt (i 0) (i 2) : ℝ) : EReal),
    fun i => (((A.tok (i 0)).dx (i 1) : ℝ) : EReal), fun i => ((A.dsh (i 0) (i 2) : ℝ) : EReal),
    fun i => ((A.dsc (i 0) (i 2) : ℝ) : EReal), fun i => ((A.dg (i 1) : ℝ) : EReal))

open Cert.ReferenceIdeal Cert.ReferenceIdeal.Gen Cert.ReferenceIdeal.Value Cert.ReferenceIdeal.Read in
/-- The reference, run at the real arguments `A`, ends with the results `res A`. -/
theorem reference_run (m : (ℓ : Loc nD τ sig) → Buf (Elt Ideal) ℓ) (ρ : Dev nD → PrngReg) (A : Dev nD → In)
    (h0 : ∀ c, m (c, Proc.devRef .tc main_arg0) = (A c).x0) (h1 : ∀ c, m (c, Proc.devRef .tc main_arg1) = (A c).x1)
    (h2 : ∀ c, m (c, Proc.devRef .tc main_arg2) = (A c).x2) (h3 : ∀ c, m (c, Proc.devRef .tc main_arg3) = (A c).x3)
    (h4 : ∀ c, m (c, Proc.devRef .tc main_arg4) = (A c).x4) (h5 : ∀ c, m (c, Proc.devRef .tc main_arg5) = (A c).x5)
    (h6 : ∀ c, m (c, Proc.devRef .tc main_arg6) = (A c).x6) (h7 : ∀ c, m (c, Proc.devRef .tc main_arg7) = (A c).x7)
    (h8 : ∀ c, m (c, Proc.devRef .tc main_arg8) = (A c).x8) :
    θ_run defs (onTc (τ := τ) (main (F := Ideal))) ⟨m, fun _ => 0, ρ⟩ fun r => ∀ c : Dev nD,
      r.2.mem ((c.tc : Thread nD τ).loc main_v121) = (res (A c)).1
      ∧ r.2.mem ((c.tc : Thread nD τ).loc main_v124) = (res (A c)).2.1
      ∧ r.2.mem ((c.tc : Thread nD τ).loc main_v126) = (res (A c)).2.2.1
      ∧ r.2.mem ((c.tc : Thread nD τ).loc main_v127) = (res (A c)).2.2.2.1
      ∧ r.2.mem ((c.tc : Thread nD τ).loc main_v128) = (res (A c)).2.2.2.2.1
      ∧ r.2.mem ((c.tc : Thread nD τ).loc main_v129) = (res (A c)).2.2.2.2.2.1
      ∧ r.2.mem ((c.tc : Thread nD τ).loc main_v130) = (res (A c)).2.2.2.2.2.2.1
      ∧ r.2.mem ((c.tc : Thread nD τ).loc main_v131) = (res (A c)).2.2.2.2.2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run m ρ)
  obtain ⟨e0, e1, e2, e3, e4, e5, e6, e7, e⟩ := h c
  replace e0 := e0.trans (val_main_v121_eq (StableHlo.launchContents m c))
  replace e1 := e1.trans (val_main_v124_eq (StableHlo.launchContents m c))
  replace e2 := e2.trans (val_main_v126_eq (StableHlo.launchContents m c))
  replace e3 := e3.trans (val_main_v127_eq (StableHlo.launchContents m c))
  replace e4 := e4.trans (val_main_v128_eq (StableHlo.launchContents m c))
  replace e5 := e5.trans (val_main_v129_eq (StableHlo.launchContents m c))
  replace e6 := e6.trans (val_main_v130_eq (StableHlo.launchContents m c))
  replace e7 := e7.trans (val_main_v131_eq (StableHlo.launchContents m c))
  simp only [StableHlo.launchContents_devRef, h0 c, h1 c, h2 c, h3 c, h4 c, h5 c, h6 c, h7 c, h8 c] at e0 e1 e2 e3 e4 e5 e6 e7
  exact ⟨e0.trans (funext fun i => Ref.v121 _ i), e1.trans (funext fun i => Ref.v124 _ i), e2.trans (funext fun i => Ref.v126 _ i),
    e3.trans (funext fun i => Ref.v127 _ i), e4.trans (funext fun i => Ref.v128 _ i), e5.trans (funext fun i => Ref.v129 _ i),
    e6.trans (funext fun i => Ref.v130 _ i), e7.trans (funext fun i => Ref.v131 _ i), e⟩

/-- Kernel and reference end with equal results. -/
theorem algebraic : Cert.algebraic_KernelIdeal_ReferenceIdeal_pre_finite := by
  intro m g m' g' hpre hagree
  have H := args_of_finite hpre
  refine ⟨fun c => (res (inputs m c)).1, fun c => (res (inputs m c)).2.1, fun c => (res (inputs m c)).2.2.1,
    fun c => (res (inputs m c)).2.2.2.1, fun c => (res (inputs m c)).2.2.2.2.1, fun c => (res (inputs m c)).2.2.2.2.2.1,
    fun c => (res (inputs m c)).2.2.2.2.2.2.1, fun c => (res (inputs m c)).2.2.2.2.2.2.2, ?_, ?_⟩
  · refine (θ_run _ _ _).mono (fun r h c => ?_) (Cert.KernelIdeal.Value.run_blocks (F := Ideal) m g)
    obtain ⟨e0, e1, e2, e3, e4, e5, e6, e7, e⟩ := h c
    exact ⟨e0.trans (Host.array10 (H c)), e1.trans (Host.array11 (H c)), e2.trans (Host.array12 (H c)), e3.trans (Host.array13 (H c)),
      e4.trans (Host.array14 (H c)), e5.trans (Host.array15 (H c)), e6.trans (Host.array16 (H c)), e7.trans (Host.array17 (H c)), e⟩
  · exact reference_run m' g' (fun c => inputs m c) (fun c => (hagree c).1.trans (H c).a0) (fun c => (hagree c).2.1.trans (H c).a1)
      (fun c => (hagree c).2.2.1.trans (H c).a2) (fun c => (hagree c).2.2.2.1.trans (H c).a3) (fun c => (hagree c).2.2.2.2.1.trans (H c).a4)
      (fun c => (hagree c).2.2.2.2.2.1.trans (H c).a5) (fun c => (hagree c).2.2.2.2.2.2.1.trans (H c).a6)
      (fun c => (hagree c).2.2.2.2.2.2.2.1.trans (H c).a7) (fun c => (hagree c).2.2.2.2.2.2.2.2.trans (H c).a8)

end Cert.Ffn
-- ==== Proof.FfnW.Sums.lean ====
/- The weight gradients of a feed-forward half as sums over tokens, and the reference's stages read as those sums. -/
module

public import proofs.«01_k».proof.Proof.Gen.Reference2Ideal.Read
public import Idealize.ShloMosaic.Lib.Pointwise

@[expose] public section

set_option maxRecDepth 16384

noncomputable section

namespace Cert.FfnW

open Idealize.ShloMosaic Cert.Reference2Ideal Cert.Reference2Ideal.Read

/-- Column `k` of chip `j`. -/
def col (j : Fin 4) (k : Fin 704) : Fin 2816 := ⟨j.val * 704 + k.val, by omega⟩

/-- Entry `d` of token `t` of the flattened batch. -/
def narrow (X : FVec Ideal S2x2048x1024 .f32) (t : Fin 4096) (d : Fin 1024) : EReal :=
  X (ix3 ⟨t.val / 2048, by omega⟩ ⟨t.val % 2048, by omega⟩ d)
/-- Entry `k` of token `t` of the flattened batch, of the inner width. -/
def wide (X : FVec Ideal S2x2048x2816 .f32) (t : Fin 4096) (k : Fin 2816) : EReal :=
  X (ix3 ⟨t.val / 2048, by omega⟩ ⟨t.val % 2048, by omega⟩ k)

/-- One token's part of a weight gradient. -/
def term (L : FVec Ideal S2x2048x2816 .f32) (R : FVec Ideal S2x2048x1024 .f32) (k : Fin 2816) (d : Fin 1024) (t : Fin 4096) : EReal :=
  wide L t k * narrow R t d

/-- A sum over tokens is a sum over examples and positions. -/
theorem sum_tokens (L : FVec Ideal S2x2048x2816 .f32) (R : FVec Ideal S2x2048x1024 .f32) (k : Fin 2816) (d : Fin 1024) :
    ∑ t, term L R k d t = ∑ b : Fin 2, ∑ s : Fin 2048, L (ix3 b s k) * R (ix3 b s d) := by
  rw [Fin.sum_univ_tiles 2 2048 rfl]
  refine Finset.sum_congr rfl fun b _ => Finset.sum_congr rfl fun s _ => ?_
  have eb : (⟨(b.val * 2048 + s.val) / 2048, by omega⟩ : Fin 2) = b := Fin.ext (by dsimp only; omega)
  have es : (⟨(b.val * 2048 + s.val) % 2048, by omega⟩ : Fin 2048) = s := Fin.ext (by dsimp only; omega)
  unfold term wide narrow
  simp only [eb, es]

variable (h df : FVec Ideal S2x2048x1024 .f32) (s da du : FVec Ideal S2x2048x2816 .f32)

theorem v7_at (k : Fin 2816) (d : Fin 1024) : val_main_v7 (F := Ideal) h du (ix2 k d) = ∑ t, term du h k d t := by
  rw [sum_tokens]
  pointwise [val_main_v7]

theorem v9_at (k : Fin 2816) (d : Fin 1024) : val_main_v9 (F := Ideal) h da (ix2 k d) = ∑ t, term da h k d t := by
  rw [sum_tokens]
  pointwise [val_main_v9]

theorem v5_at (k : Fin 2816) (d : Fin 1024) : val_main_v5 (F := Ideal) s df (ix2 d k) = ∑ t, term s df k d t := by
  rw [sum_tokens]
  pointwise [val_main_v5]
  exact Finset.sum_congr rfl fun b _ => Finset.sum_congr rfl fun r _ => mul_comm _ _

/-- The left factor of gradient `e`: gate, up, down. -/
def left (e : Fin 3) : FVec Ideal S2x2048x2816 .f32 := match e with | 0 => da | 1 => du | 2 => s
/-- The right factor of gradient `e`. -/
def right (e : Fin 3) : FVec Ideal S2x2048x1024 .f32 := match e with | 0 => h | 1 => h | 2 => df

/-- The three weight gradients, chip by chip. -/
def grads : FVec Ideal S4x3x704x1024 .f32 := fun i =>
  ∑ t, term (left s da du (i 1)) (right h df (i 1)) (col (i 0) (i 2)) (i 3) t

theorem v19_gate (j : Fin 4) (k : Fin 704) (d : Fin 1024) :
    val_main_v19 (F := Ideal) h s da du df (ix4 j (0 : Fin 3) k d) = ∑ t, term da h (col j k) d t := by
  rw [← v9_at]
  pointwise [val_main_v19, val_main_v16, val_main_v13, val_main_v11, val_main_v10]; rfl

theorem v19_up (j : Fin 4) (k : Fin 704) (d : Fin 1024) :
    val_main_v19 (F := Ideal) h s da du df (ix4 j (1 : Fin 3) k d) = ∑ t, term du h (col j k) d t := by
  rw [← v7_at]
  pointwise [val_main_v19, val_main_v17, val_main_v14, val_main_v12, val_main_v8]; rfl

theorem v19_down (j : Fin 4) (k : Fin 704) (d : Fin 1024) :
    val_main_v19 (F := Ideal) h s da du df (ix4 j (2 : Fin 3) k d) = ∑ t, term s df (col j k) d t := by
  rw [← v5_at]
  pointwise [val_main_v19, val_main_v18, val_main_v15, val_main_v6]; rfl

/-- The reference's result. -/
theorem v19 : val_main_v19 (F := Ideal) h s da du df = grads h df s da du := by
  funext i
  obtain ⟨j, e, k, d, rfl⟩ : ∃ (j : Fin 4) (e : Fin 3) (k : Fin 704) (d : Fin 1024), i = ix4 j e k d := ⟨i 0, i 1, i 2, i 3, eq_ix4 i⟩
  unfold grads
  match e with
  | 0 => exact v19_gate h df s da du j k d
  | 1 => exact v19_up h df s da du j k d
  | 2 => exact v19_down h df s da du j k d

end Cert.FfnW
-- ==== Proof.FfnW.Entry.lean ====
/- What the weight-gradient call finds in its argument buffers, and the blocks it reads at a grid point: tile `t % 4` of the tokens,
   the columns of chip `t / 4`. -/
module

public import proofs.«01_k».proof.Proof.FfnW.Sums
public import proofs.«01_k».proof.Proof.Gen.Kernel2Ideal.Frame.Runs
public import Idealize.ShloMosaic.Lib.StableHlo.RunRead
public import Idealize.ShloMosaic.Lib.Claim
public import Idealize.ShloMosaic.Lib.Pipeline.ValueKit

@[expose] public section

set_option maxRecDepth 16384

noncomputable section

namespace Cert.FfnW

open Idealize.ShloMosaic Idealize.ShloMosaic.TcCoe Cert.Kernel2Ideal Cert.Kernel2Ideal.Gen

variable (m : (ℓ : Loc nD τ sig) → Buf (Elt Ideal) ℓ) (c : Dev nD)

/-- Argument arrays, as launched. -/
abbrev a0 : FVec Ideal S2x2048x1024 .f32 := m (c, Proc.devRef .tc main_arg0)
abbrev a1 : FVec Ideal S2x2048x2816 .f32 := m (c, Proc.devRef .tc main_arg1)
abbrev a2 : FVec Ideal S2x2048x2816 .f32 := m (c, Proc.devRef .tc main_arg2)
abbrev a3 : FVec Ideal S2x2048x2816 .f32 := m (c, Proc.devRef .tc main_arg3)
abbrev a4 : FVec Ideal S2x2048x1024 .f32 := m (c, Proc.devRef .tc main_arg4)

/-- Rows laid flat. -/
def flat (X : FVec Ideal S2x2048x1024 .f32) : FVec Ideal S4096x1024 .bf16 :=
  truncf (φ := .f32) .bf16 (shapeCast S4096x1024 (s := S2x2048x1024) X Facts₀.shapeCasts_S2x2048x1024_S4096x1024) Facts₀.bitsLt_bf16_f32
/-- Rows of the inner width, cut in chips. -/
def cut (X : FVec Ideal S2x2048x2816 .f32) : FVec Ideal S4x4096x704 .bf16 :=
  truncf (φ := .f32) .bf16 (transpose S4x4096x704 [1, 0, 2] (shapeCast S4096x4x704 (s := S2x2048x2816) X Facts₀.shapeCasts_S2x2048x2816_S4096x4x704)
    Facts₀.transposes_S4096x4x704_S4x4096x704_1_0_2) Facts₀.bitsLt_bf16_f32

theorem flat_at (X : FVec Ideal S2x2048x1024 .f32) (t : Fin 4096) (d : Fin 1024) : flat X (ix2 t d) = narrow X t d := by
  pointwise [flat]; rfl
theorem cut_at (X : FVec Ideal S2x2048x2816 .f32) (j : Fin 4) (t : Fin 4096) (k : Fin 704) : cut X (ix3 j t k) = wide X t (col j k) := by
  pointwise [cut]
  unfold wide col
  refine congrArg X (funext fun a => Fin.ext ?_)
  fin_cases a <;> simp [ix3] <;> omega

theorem v1 : V m c main_v1 = flat (a0 m c) := by
  show StableHlo.after hostOps0 (fun b => m (c, b)) (Proc.devRef .tc main_v1) = _
  after_reads_simp; rfl
theorem v12 : V m c main_v12 = flat (a4 m c) := by
  show StableHlo.after hostOps0 (fun b => m (c, b)) (Proc.devRef .tc main_v12) = _
  after_reads_simp; rfl
theorem v4 : V m c main_v4 = cut (a2 m c) := by
  show StableHlo.after hostOps0 (fun b => m (c, b)) (Proc.devRef .tc main_v4) = _
  after_reads_simp; rfl
theorem v7 : V m c main_v7 = cut (a3 m c) := by
  show StableHlo.after hostOps0 (fun b => m (c, b)) (Proc.devRef .tc main_v7) = _
  after_reads_simp; rfl
theorem v10 : V m c main_v10 = cut (a1 m c) := by
  show StableHlo.after hostOps0 (fun b => m (c, b)) (Proc.devRef .tc main_v10) = _
  after_reads_simp; rfl

/-- The windows' block indices at every point. -/
theorem idx : ∀ t : Fin cfg0.N, win0_0.index t = ![t.val / 4, t.val % 4, 0] ∧ win0_1.index t = ![t.val % 4, 0]
    ∧ win0_2.index t = ![t.val / 4, t.val % 4, 0] ∧ win0_3.index t = ![t.val / 4, t.val % 4, 0] ∧ win0_4.index t = ![t.val % 4, 0]
    ∧ win0_5.index t = ![t.val / 4, 0, 0, 0] :=
  (by decide +kernel : ∀ t : Fin grid0.N, _)

theorem lt16 (t : Fin cfg0.N) : t.val < 16 := lt_of_lt_of_eq t.isLt N_0
theorem lt_N {n : ℕ} (h : n < 16) : n < cfg0.N := lt_of_lt_of_eq h N_0.symm

/-- Token `r` of the tile read at point `t`. -/
def tokOf (t : Fin cfg0.N) (r : Fin 1024) : Fin 4096 := ⟨t.val % 4 * 1024 + r.val, by omega⟩
/-- The chip of point `t`. -/
def chipOf (t : Fin cfg0.N) : Fin 4 := ⟨t.val / 4, by have := lt16 t; omega⟩

variable {m c}

theorem iblk0 (t : Fin cfg0.N) (r : Fin 1024) (k : Fin 704) :
    (show FVec Ideal S1x1024x704 .bf16 from iblk m c 0 t) (ix3 0 r k) = wide (a2 m c) (tokOf t r) (col (chipOf t) k) := by
  rw [← cut_at, ← v4]
  unfold tokOf chipOf
  blk_ext [iblk, idx t]
theorem iblk2 (t : Fin cfg0.N) (r : Fin 1024) (k : Fin 704) :
    (show FVec Ideal S1x1024x704 .bf16 from iblk m c 2 t) (ix3 0 r k) = wide (a3 m c) (tokOf t r) (col (chipOf t) k) := by
  rw [← cut_at, ← v7]
  unfold tokOf chipOf
  blk_ext [iblk, idx t]
theorem iblk3 (t : Fin cfg0.N) (r : Fin 1024) (k : Fin 704) :
    (show FVec Ideal S1x1024x704 .bf16 from iblk m c 3 t) (ix3 0 r k) = wide (a1 m c) (tokOf t r) (col (chipOf t) k) := by
  rw [← cut_at, ← v10]
  unfold tokOf chipOf
  blk_ext [iblk, idx t]
theorem iblk1 (t : Fin cfg0.N) (r d : Fin 1024) :
    (show FVec Ideal S1024x1024 .bf16 from iblk m c 1 t) (ix2 r d) = narrow (a0 m c) (tokOf t r) d := by
  rw [← flat_at, ← v1]
  unfold tokOf
  blk_ext [iblk, idx t]
theorem iblk4 (t : Fin cfg0.N) (r d : Fin 1024) :
    (show FVec Ideal S1024x1024 .bf16 from iblk m c 4 t) (ix2 r d) = narrow (a4 m c) (tokOf t r) d := by
  rw [← flat_at, ← v12]
  unfold tokOf
  blk_ext [iblk, idx t]

end Cert.FfnW
-- ==== Proof.FfnW.Outs.lean ====
/- What a grid point leaves in the output's buffer: the three products of its tile, added to what the point before left
   unless the tile is the chip's first. -/
module

public import proofs.«01_k».proof.Proof.FfnW.Entry
public import proofs.«01_k».proof.Proof.Gen.Kernel2Ideal.Frame

@[expose] public section

set_option maxRecDepth 16384

noncomputable section

namespace Cert.FfnW

open Idealize.ShloMosaic Idealize.ShloMosaic.TcCoe Cert.Kernel2Ideal Cert.Kernel2Ideal.Gen

variable {m : (ℓ : Loc nD τ sig) → Buf (Elt Ideal) ℓ} {c : Dev nD}

/-- The product of a tile's columns and rows. -/
theorem product_at (X : FVec Ideal S1x1024x704 .bf16) (Y : FVec Ideal S1024x1024 .bf16) (k : Fin 704) (d : Fin 1024) :
    k0_pay1 (F := Ideal) X Y (ix2 k d) = ∑ r, X (ix3 0 r k) * Y (ix2 r d) := by
  pointwise [k0_pay1]

variable (m c) in
/-- The tile's part of gradient `e` at an entry. -/
def part (t : Fin cfg0.N) (i : S1x3x704x1024.Idx) : EReal :=
  ∑ r, term (left (a1 m c) (a2 m c) (a3 m c) (i 1)) (right (a0 m c) (a4 m c) (i 1)) (col (chipOf t) (i 2)) (i 3) (tokOf t r)

theorem gate_at (t : Fin cfg0.N) (k : Fin 704) (d : Fin 1024) :
    k0_pay1 (F := Ideal) (iblk m c 0 t) (iblk m c 1 t) (ix2 k d) = part m c t (ix4 0 0 k d) :=
  (product_at _ _ k d).trans (Finset.sum_congr rfl fun r _ => congrArg₂ _ (iblk0 t r k) (iblk1 t r d))
theorem up_at (t : Fin cfg0.N) (k : Fin 704) (d : Fin 1024) :
    k0_pay2 (F := Ideal) (iblk m c 2 t) (iblk m c 1 t) (ix2 k d) = part m c t (ix4 0 1 k d) :=
  (product_at _ _ k d).trans (Finset.sum_congr rfl fun r _ => congrArg₂ _ (iblk2 t r k) (iblk1 t r d))
theorem down_at (t : Fin cfg0.N) (k : Fin 704) (d : Fin 1024) :
    k0_pay3 (F := Ideal) (iblk m c 3 t) (iblk m c 4 t) (ix2 k d) = part m c t (ix4 0 2 k d) :=
  (product_at _ _ k d).trans (Finset.sum_congr rfl fun r _ => congrArg₂ _ (iblk3 t r k) (iblk4 t r d))

/-- A stored piece, and a piece stored over what was there. -/
theorem pay4_at (X : FVec Ideal S1x1024x704 .bf16) (Y : FVec Ideal S1024x1024 .bf16) (x : S1x1x704x1024.Idx) :
    k0_pay4 (F := Ideal) X Y x = k0_pay1 (F := Ideal) X Y (ix2 (x 2) (x 3)) := by
  idx_vars x
  pointwise [k0_pay4]
theorem pay7_at (X : FVec Ideal S1x1024x704 .bf16) (Y : FVec Ideal S1024x1024 .bf16) (Z : FVec Ideal S1x1x704x1024 .f32) (x : S1x1x704x1024.Idx) :
    k0_pay7 (F := Ideal) X Y Z x = Z x + k0_pay1 (F := Ideal) X Y (ix2 (x 2) (x 3)) := by
  obtain ⟨z, z', k, d, rfl⟩ : ∃ (z z' : Fin 1) (k : Fin 704) (d : Fin 1024), x = ix4 z z' k d := ⟨x 0, x 1, x 2, x 3, eq_ix4 x⟩
  obtain rfl := Subsingleton.elim z 0
  obtain rfl := Subsingleton.elim z' 0
  pointwise [k0_pay7]

/-- The index of the output's buffer at which piece `e` holds its entry `x`. -/
theorem index_of {i : S1x3x704x1024.Idx} {x : S1x1x704x1024.Idx} {e : ℕ} (f : Fin 3) (hf : f.val = e) (h1 : (i 1).val = e + (x 1).val)
    (h2 : (i 2).val = (x 2).val) (h3 : (i 3).val = (x 3).val) : i = ix4 0 f (x 2) (x 3) := by
  have b0 : (i 0).val < 1 := (i 0).isLt
  have b1 : (x 1).val < 1 := (x 1).isLt
  refine (eq_ix4 i).trans ?_
  rw [show i 0 = (0 : Fin 1) from Fin.ext (by show (i 0).val = 0; omega), show i 1 = f from Fin.ext (by omega), show i 2 = x 2 from Fin.ext h2,
    show i 3 = x 3 from Fin.ext h3]
  rfl

/-- Piece `e` of the output's buffer. -/
theorem ld_at (Z : Vec Ideal S1x3x704x1024 .f32) {e : ℕ} (f : Fin 3) (hf : f.val = e) (hi) (x : S1x1x704x1024.Idx) :
    (View.ld Z (Rect.unit ![0, e, 0, 0] ![1, 1, 704, 1024] hi) : Vec Ideal S1x1x704x1024 .f32) x = Z (ix4 0 f (x 2) (x 3)) := by
  have b0 : (x 0).val < 1 := (x 0).isLt
  have b1 : (x 1).val < 1 := (x 1).isLt
  refine congrArg Z (funext fun a => Fin.ext ?_)
  fin_cases a <;> simp [ix4, hf] <;> omega

set_option maxHeartbeats 2000000 in
theorem out_reset (t : Fin cfg0.N) (h : t.val % 4 = 0) (i : S1x3x704x1024.Idx) :
    outsAt0 m c t.val t.isLt i = 0 + part m c t i := by
  rw [zero_add, outsAt0_A m c t h (by omega)]
  frame_out
  canon_tiles x h
  · rw [index_of 2 rfl h1 h2 h3]
    exact (pay4_at _ _ x).trans (down_at t (x 2) (x 3))
  · rw [index_of 1 rfl h1 h2 h3]
    exact (pay4_at _ _ x).trans (up_at t (x 2) (x 3))
  · rw [index_of 0 rfl (h1.trans (zero_add _).symm) h2 h3]
    exact (pay4_at _ _ x).trans (gate_at t (x 2) (x 3))

set_option maxHeartbeats 2000000 in
theorem out_step (t : Fin cfg0.N) (h : ¬t.val % 4 = 0) (i : S1x3x704x1024.Idx) :
    outsAt0 m c t.val t.isLt i = outsAt0 m c (t.val - 1) (Nat.lt_of_le_of_lt (Nat.sub_le _ _) t.isLt) i + part m c t i := by
  rw [outsAt0_B m c t h (by omega)]
  frame_out
  canon_tiles x h
  · rw [index_of 2 rfl h1 h2 h3]
    exact (pay7_at _ _ _ x).trans (congrArg₂ _ (ld_at _ 2 rfl _ x) (down_at t (x 2) (x 3)))
  · rw [index_of 1 rfl h1 h2 h3]
    exact (pay7_at _ _ _ x).trans (congrArg₂ _ (ld_at _ 1 rfl _ x) (up_at t (x 2) (x 3)))
  · rw [index_of 0 rfl (h1.trans (zero_add _).symm) h2 h3]
    exact (pay7_at _ _ _ x).trans (congrArg₂ _ (ld_at _ 0 rfl _ x) (gate_at t (x 2) (x 3)))

end Cert.FfnW
-- ==== Proof.FfnW.Claim.lean ====
/- The weight-gradient kernel of the feed-forward half computes what the reference computes, over the extended reals. -/
module

public import proofs.«01_k».proof.Defs
public import proofs.«01_k».proof.Proof.FfnW.Outs
public import proofs.«01_k».proof.Proof.Gen.Kernel2Ideal.Value
public import proofs.«01_k».proof.Proof.Gen.Reference2Ideal.Run

@[expose] public section

set_option maxRecDepth 16384

noncomputable section

namespace Cert.FfnW

open Idealize.ShloMosaic Idealize.ShloMosaic.TcCoe Idealize.SL.Sem

section
open Cert.Kernel2Ideal Cert.Kernel2Ideal.Gen

variable {m : (ℓ : Loc nD τ sig) → Buf (Elt Ideal) ℓ} {c : Dev nD}

/-- The four tiles, summed: all tokens, summed. -/
theorem sum_run (F : Fin 4096 → EReal) (n : Fin 4 → Fin cfg0.N) (hn : ∀ s, (n s).val % 4 = s.val) :
    (∑ s, ∑ r, F (tokOf (n s) r)) = ∑ t, F t := by
  rw [Fin.sum_univ_tiles 4 1024 rfl]
  refine Finset.sum_congr rfl fun s _ => Finset.sum_congr rfl fun r _ => congrArg F (Fin.ext ?_)
  unfold tokOf
  dsimp only
  rw [hn s]

set_option maxHeartbeats 1000000 in
/-- What the output's array holds after the run. -/
theorem array5 : (dats m 0 c).arrAt 5 (cfgs 0).N = grads (a0 m c) (a4 m c) (a1 m c) (a2 m c) (a3 m c) := by
  refine (dats m 0 c).arrAt_eq_of_covers 5 _ (by decide +kernel) fun t hf y => ?_
  blk_simp
  rw [after0_5, Pipeline.eq_sum_fin_of_reset_step_apply_of_flush (outsAt0 m c) 4 (fun _ => 0) (part m c)
    out_reset out_step t ((flush0_5 t).mp hf) y, zero_add]
  have ht := lt16 t
  have b0 : (y 0).val < 1 := (y 0).isLt
  have e0 : ((win0_5.blk t).view.emb y 0 : Fin 4) = chipOf t := Fin.ext (by unfold chipOf; blk_simp [idx t])
  have e1 : ((win0_5.blk t).view.emb y 1 : Fin 3) = y 1 := Fin.ext (by blk_simp [idx t] <;> (try omega))
  have e2 : ((win0_5.blk t).view.emb y 2 : Fin 704) = y 2 := Fin.ext (by blk_simp [idx t] <;> (try omega))
  have e3 : ((win0_5.blk t).view.emb y 3 : Fin 1024) = y 3 := Fin.ext (by blk_simp [idx t] <;> (try omega))
  unfold grads
  rw [e0, e1, e2, e3, ← sum_run _ (fun s => ⟨4 * (t.val / 4) + s.val, lt_N (by omega)⟩) (fun s => by dsimp only; omega)]
  have e : ∀ s : Fin 4, chipOf ⟨4 * (t.val / 4) + s.val, lt_N (by omega)⟩ = chipOf t := fun s => Fin.ext (by unfold chipOf; dsimp only; omega)
  have p : ∀ s : Fin 4, part m c ⟨4 * (t.val / 4) + s.val, lt_N (by omega)⟩ y = ∑ r, term (left (a1 m c) (a2 m c) (a3 m c) (y 1))
      (right (a0 m c) (a4 m c) (y 1)) (col (chipOf t) (y 2)) (y 3) (tokOf ⟨4 * (t.val / 4) + s.val, lt_N (by omega)⟩ r) := fun s => by
    rw [← e s]; rfl
  exact Finset.sum_congr (M := EReal) rfl fun s _ => p s

end

/-- Kernel and reference end with equal results. -/
theorem algebraic : Cert.algebraic_Kernel2Ideal_Reference2Ideal := by
  intro m g m' g' _ hagree
  refine ⟨fun c => grads (a0 m c) (a4 m c) (a1 m c) (a2 m c) (a3 m c), ?_, ?_⟩
  · refine (θ_run _ _ _).mono (fun r h c => ?_) (Cert.Kernel2Ideal.Value.run_blocks (F := Ideal) m g)
    exact ⟨(h c).1.trans array5, (h c).2⟩
  · refine (θ_run _ _ _).mono (fun r h c => ?_) (Cert.Reference2Ideal.Value.run (F := Ideal) m' g')
    obtain ⟨h0, h1, h2, h3, h4⟩ := hagree c
    obtain ⟨e0, e⟩ := h c
    refine ⟨?_, e⟩
    replace e0 := e0.trans (Cert.Reference2Ideal.Read.val_main_v19_eq ..)
    rw [v19] at e0
    refine e0.trans ?_
    rw [h0, h1, h2, h3, h4]

end Cert.FfnW
-- ==== Proof.FfnUp.Tile.lean ====
/- What one tile's body computes, at real arguments: every value it stores, read at a row and a column, is the row's own
   forward quantity (`Row`).  Each lemma takes the blocks it reads at a row of the tile as hypotheses. -/
module

public import proofs.«01_k».proof.Proof.Gen.Kernel3Ideal.Skeleton
public import proofs.«01_k».proof.Proof.Ffn.Tile

@[expose] public section

set_option maxRecDepth 16384

noncomputable section

namespace Cert.FfnUp.Tile

open Idealize.ShloMosaic Cert.Kernel3Ideal Cert.Kernel3Ideal.Gen Cert.Ffn
open Cert.Ffn.Tile (sum_mul)

/-- A tile's 512 rows. -/
abbrev Rows := Fin 512 → Row

variable {R : Rows}

/-- The modulated row. -/
theorem h_at {v0 : FVec Ideal S512x1024 .f32} {v12 : FVec Ideal S1x1024 .f32} {v16 v22 : FVec Ideal S1x1x1024 .f32}
    (h0 : ∀ r d, v0 (ix2 r d) = ((R r).x d : EReal)) (h12 : ∀ r d, v12 (ix2 0 d) = ((R r).g d : EReal))
    (h16 : ∀ r d, v16 (ix3 0 0 d) = ((R r).sc d : EReal)) (h22 : ∀ r d, v22 (ix3 0 0 d) = ((R r).sh d : EReal)) (r d) :
    k0_pay3 (F := Ideal) v0 v12 v16 v22 (ix2 r d) = ((R r).h d : EReal) := by
  have hr : Ideal.rsqrt (((∑ k, (R r).x k * (R r).x k) / 1024 + eps : ℝ) : EReal) = ((R r).r : EReal) := rsqrt_real (R r).ms_pos
  pointwise [k0_pay3]
  rw [sum_mul (h0 r) (h0 r), h0, h12 r, h16 r, h22 r, word_1024, div_real _ (by norm_num), word_eps, ← EReal.coe_add,
    hr, show (1 : EReal) = ((1 : ℝ) : EReal) from rfl]
  simp only [← EReal.coe_add, ← EReal.coe_mul]
  rfl

section Chips
variable {j : Fin 4} {v26 : FVec Ideal S512x1024 .bf16} {v56 v59 : FVec Ideal S1x1x1024x704 .bf16}

theorem a_at (h26 : ∀ r d, v26 (ix2 r d) = ((R r).h d : EReal)) (h56 : ∀ r d k, v56 (ix4 0 0 d k) = ((R r).wg d (col j k) : EReal)) (r k) :
    k0_pay12 (F := Ideal) v26 v56 (ix2 r k) = ((R r).a (col j k) : EReal) := by
  pointwise [k0_pay12]
  exact sum_mul (h26 r) fun d => h56 r d k

theorem u_at (h26 : ∀ r d, v26 (ix2 r d) = ((R r).h d : EReal)) (h59 : ∀ r d k, v59 (ix4 0 0 d k) = ((R r).wu d (col j k) : EReal)) (r k) :
    k0_pay13 (F := Ideal) v26 v59 (ix2 r k) = ((R r).u (col j k) : EReal) := by
  pointwise [k0_pay13]
  exact sum_mul (h26 r) fun d => h59 r d k

theorem sg_at (h26 : ∀ r d, v26 (ix2 r d) = ((R r).h d : EReal)) (h56 : ∀ r d k, v56 (ix4 0 0 d k) = ((R r).wg d (col j k) : EReal)) (r k) :
    k0_pay14 (F := Ideal) v26 v56 (ix2 r k) = ((R r).sg (col j k) : EReal) := by
  pointwise [k0_pay14]
  rw [a_at h26 h56]
  unfold Ideal.logistic
  rw [← EReal.coe_neg, Ideal.exp_coe, show (1 : EReal) = ((1 : ℝ) : EReal) from rfl, ← EReal.coe_add, div_real _ (Row.one_add_exp_ne _)]
  rfl

theorem q_at (h26 : ∀ r d, v26 (ix2 r d) = ((R r).h d : EReal)) (h56 : ∀ r d k, v56 (ix4 0 0 d k) = ((R r).wg d (col j k) : EReal)) (r k) :
    k0_pay15 (F := Ideal) v26 v56 (ix2 r k) = ((R r).q (col j k) : EReal) := by
  pointwise [k0_pay15]
  rw [a_at h26 h56, sg_at h26 h56]; exact (EReal.coe_mul _ _).symm

/-! ## A chip's stored pieces -/

theorem p_block1 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay17 (F := Ideal) (k0_pay13 v26 v59) (k0_pay14 v26 v56) (k0_pay16 v26 v56) (ix3 z r k) = ((R r).p (col j k) : EReal) := by
  pointwise [k0_pay17, k0_pay16]
  rw [a_at h26 h56, u_at h26 h59, sg_at h26 h56, show (1 : EReal) = ((1 : ℝ) : EReal) from rfl]
  simp only [← EReal.coe_sub, ← EReal.coe_add, ← EReal.coe_mul]
  rfl

theorem q_block1 (h26 : ∀ r d, v26 (ix2 r d) = ((R r).h d : EReal)) (h56 : ∀ r d k, v56 (ix4 0 0 d k) = ((R r).wg d (col j k) : EReal))
    (z : Fin 1) (r k) : k0_pay18 (F := Ideal) (k0_pay15 v26 v56) (ix3 z r k) = ((R r).q (col j k) : EReal) := by
  pointwise [k0_pay18]
  exact q_at h26 h56 r k

theorem s_block1 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay19 (F := Ideal) (k0_pay13 v26 v59) (k0_pay15 v26 v56) (ix3 z r k) = ((R r).s (col j k) : EReal) := by
  pointwise [k0_pay19]
  rw [q_at h26 h56, u_at h26 h59]; exact (EReal.coe_mul _ _).symm

/-! The other three chips' stored pieces are the same terms. -/

theorem p_block2 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay25 (F := Ideal) (k0_pay24 v26 v56 v59) (ix3 z r k) = ((R r).p (col j k) : EReal) := p_block1 h26 h56 h59 z r k
theorem q_block2 (h26 : ∀ r d, v26 (ix2 r d) = ((R r).h d : EReal)) (h56 : ∀ r d k, v56 (ix4 0 0 d k) = ((R r).wg d (col j k) : EReal))
    (z : Fin 1) (r k) : k0_pay26 (F := Ideal) (k0_pay23 v26 v56) (ix3 z r k) = ((R r).q (col j k) : EReal) := q_block1 h26 h56 z r k
theorem s_block2 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay27 (F := Ideal) (k0_pay21 v26 v59) (k0_pay23 v26 v56) (ix3 z r k) = ((R r).s (col j k) : EReal) := s_block1 h26 h56 h59 z r k
theorem p_block3 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay32 (F := Ideal) v26 v56 v59 (ix3 z r k) = ((R r).p (col j k) : EReal) := p_block1 h26 h56 h59 z r k
theorem q_block3 (h26 : ∀ r d, v26 (ix2 r d) = ((R r).h d : EReal)) (h56 : ∀ r d k, v56 (ix4 0 0 d k) = ((R r).wg d (col j k) : EReal))
    (z : Fin 1) (r k) : k0_pay1 (F := Ideal) (k0_pay33 v26 v56) (ix3 z r k) = ((R r).q (col j k) : EReal) := q_block1 h26 h56 z r k
theorem s_block3 (h26 : ∀ r d, v26 (ix2 r d) = ((R r).h d : EReal)) (h56 : ∀ r d k, v56 (ix4 0 0 d k) = ((R r).wg d (col j k) : EReal))
    (h59 : ∀ r d k, v59 (ix4 0 0 d k) = ((R r).wu d (col j k) : EReal)) (z : Fin 1) (r k) :
    k0_pay2 (F := Ideal) (k0_pay29 v26 v59) (k0_pay31 v26 v56) (ix3 z r k) = ((R r).s (col j k) : EReal) := s_block1 h26 h56 h59 z r k

end Chips

section First
variable {j : Fin 4} {v0 : FVec Ideal S512x1024 .f32} {v12 : FVec Ideal S1x1024 .f32} {v16 v22 : FVec Ideal S1x1x1024 .f32}
  {v28 v31 : FVec Ideal S1x1x1024x704 .bf16}

theorem p_block0 (h26 : ∀ r d, k0_pay3 (F := Ideal) v0 v12 v16 v22 (ix2 r d) = ((R r).h d : EReal))
    (h28 : ∀ r d k, v28 (ix4 0 0 d k) = ((R r).wg d (col j k) : EReal)) (h31 : ∀ r d k, v31 (ix4 0 0 d k) = ((R r).wu d (col j k) : EReal))
    (z : Fin 1) (r k) :
    k0_pay9 (F := Ideal) (k0_pay3 v0 v12 v16 v22) (k0_pay4 v0 v12 v16 v22 v28) (k0_pay5 v31) (ix3 z r k) = ((R r).p (col j k) : EReal) :=
  p_block1 h26 h28 h31 z r k
theorem q_block0 (h26 : ∀ r d, k0_pay3 (F := Ideal) v0 v12 v16 v22 (ix2 r d) = ((R r).h d : EReal))
    (h28 : ∀ r d k, v28 (ix4 0 0 d k) = ((R r).wg d (col j k) : EReal)) (z : Fin 1) (r k) :
    k0_pay10 (F := Ideal) (k0_pay4 v0 v12 v16 v22 v28) (ix3 z r k) = ((R r).q (col j k) : EReal) :=
  q_block1 h26 h28 z r k
theorem s_block0 (h26 : ∀ r d, k0_pay3 (F := Ideal) v0 v12 v16 v22 (ix2 r d) = ((R r).h d : EReal))
    (h28 : ∀ r d k, v28 (ix4 0 0 d k) = ((R r).wg d (col j k) : EReal)) (h31 : ∀ r d k, v31 (ix4 0 0 d k) = ((R r).wu d (col j k) : EReal))
    (z : Fin 1) (r k) :
    k0_pay11 (F := Ideal) (k0_pay3 v0 v12 v16 v22) (k0_pay4 v0 v12 v16 v22 v28) (k0_pay5 v31) (ix3 z r k) = ((R r).s (col j k) : EReal) :=
  s_block1 h26 h28 h31 z r k

end First

end Cert.FfnUp.Tile
end
-- ==== Proof.FfnUp.Entry.lean ====
/- What the call finds in its argument buffers, at real arguments, and the blocks it reads at a grid point: tile `t` holds
   the 512 tokens from `512 t` on. -/
module

public import proofs.«01_k».proof.Proof.Gen.Kernel3Ideal.Frame
public import proofs.«01_k».proof.Proof.Ffn.Entry
public import Idealize.ShloMosaic.Lib.Pipeline.ValueKit
public import proofs.«01_k».proof.Proof.FfnUp.Tile

@[expose] public section

set_option maxRecDepth 16384

noncomputable section

namespace Cert.FfnUp

open Idealize.ShloMosaic Idealize.ShloMosaic.TcCoe Cert.Kernel3Ideal Cert.Kernel3Ideal.Gen Cert.Ffn

/-- The arguments the kernel is launched on are the real arrays of `A`. -/
structure Args (m : (ℓ : Loc nD τ sig) → Buf (Elt Ideal) ℓ) (c : Dev nD) (A : In) : Prop where
  a0 : m (c, Proc.devRef .tc main_arg0) = A.x0
  a1 : m (c, Proc.devRef .tc main_arg1) = A.x1
  a2 : m (c, Proc.devRef .tc main_arg2) = A.x2
  a3 : m (c, Proc.devRef .tc main_arg3) = A.x3
  a4 : m (c, Proc.devRef .tc main_arg4) = A.x5
  a5 : m (c, Proc.devRef .tc main_arg5) = A.x6

variable {m : (ℓ : Loc nD τ sig) → Buf (Elt Ideal) ℓ} {c : Dev nD} {A : In}

variable (A) in
/-- The modulation's shifts. -/
def wsh : FVec Ideal S2x1x1024 .f32 := broadcastInDim S2x1x1024 ![0, 2] Facts₀.bcast_S2x1024_S2x1x1024_0_2 (A.x2 : FVec Ideal S2x1024 .f32)

theorem wsh_at (b : Fin 2) (z : Fin 1) (d : Fin 1024) : wsh A (ix3 b z d) = (A.Sh b d : EReal) := by
  pointwise [wsh]; rfl

set_option maxHeartbeats 4000000

theorem v8 (H : Args m c A) : V m c main_v8 = Ffn.Host.w7 A := by
  show StableHlo.after hostOps0 (fun b => m (c, b)) (Proc.devRef .tc main_v8) = _
  after_reads_simp; rw [H.a0]; rfl
theorem v9 (H : Args m c A) : V m c main_v9 = Ffn.Host.w8 A := by
  show StableHlo.after hostOps0 (fun b => m (c, b)) (Proc.devRef .tc main_v9) = _
  after_reads_simp; rw [H.a1]; rfl
theorem v10 (H : Args m c A) : V m c main_v10 = Ffn.Host.w9 A := by
  show StableHlo.after hostOps0 (fun b => m (c, b)) (Proc.devRef .tc main_v10) = _
  after_reads_simp; rw [H.a3]; rfl
theorem v11 (H : Args m c A) : V m c main_v11 = wsh A := by
  show StableHlo.after hostOps0 (fun b => m (c, b)) (Proc.devRef .tc main_v11) = _
  after_reads_simp; rw [H.a2]; rfl
theorem v7 (H : Args m c A) : V m c main_v7 = Ffn.Host.w6 A := by
  show StableHlo.after hostOps0 (fun b => m (c, b)) (Proc.devRef .tc main_v7) = _
  have e4 : StableHlo.upto hostOps0 (fun b => m (c, b)) 6 (Proc.devRef .tc main_v4) = Ffn.Host.chips A.x5 := by
    after_reads_simp; rw [H.a4]; rfl
  have e5 : StableHlo.upto hostOps0 (fun b => m (c, b)) 6 (Proc.devRef .tc main_v5) = Ffn.Host.chips A.x6 := by
    after_reads_simp; rw [H.a5]; rfl
  after_reads_simp; rw [e4, e5]; rfl

/-! ## The blocks -/

/-- The windows' block indices at every point. -/
theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![0, 0, 0, 0] ∧ win0_5.index t = ![t.val, 0] ∧ win0_6.index t = ![0, t.val, 0]
    ∧ win0_7.index t = ![0, t.val, 0] ∧ win0_8.index t = ![0, t.val, 0] :=
  (by decide +kernel : ∀ t : Fin grid0.N, _)

theorem lt8 (t : Fin cfg0.N) : t.val < 8 := lt_of_lt_of_eq t.isLt N_0

/-- Token `r` of tile `t`. -/
def tokOf (t : Fin cfg0.N) (r : Fin 512) : Fin 4096 := ⟨t.val * 512 + r.val, by have := lt8 t; omega⟩

variable (A) in
/-- The rows of tile `t`. -/
def rows (t : Fin cfg0.N) : Tile.Rows := fun r => A.tok (tokOf t r)

theorem iblk0 (H : Args m c A) (t : Fin cfg0.N) (r : Fin 512) (d : Fin 1024) :
    (show FVec Ideal S512x1024 .f32 from iblk m c 0 t) (ix2 r d) = ((rows A t r).x d : EReal) := by
  refine Eq.trans ?_ (Ffn.Host.w7_at (A := A) (tokOf t r) d)
  rw [← v8 H]
  unfold tokOf
  blk_ext [iblk, idx t]

theorem iblk1 (H : Args m c A) (t : Fin cfg0.N) (r : Fin 512) (d : Fin 1024) :
    (show FVec Ideal S1x1024 .f32 from iblk m c 1 t) (ix2 0 d) = ((rows A t r).g d : EReal) := by
  refine Eq.trans ?_ (Ffn.Host.w8_at (A := A) 0 d)
  rw [← v9 H]
  blk_ext [iblk, idx t]

theorem ex_of (t : Fin cfg0.N) (r : Fin 512) : (tokOf t r).val / 2048 = t.val / 4 := by
  have ht := lt8 t; unfold tokOf; dsimp only; omega

theorem iblk2 (H : Args m c A) (t : Fin cfg0.N) (r : Fin 512) (d : Fin 1024) :
    (show FVec Ideal S1x1x1024 .f32 from iblk m c 2 t) (ix3 0 0 d) = ((rows A t r).sc d : EReal) := by
  have ht := lt8 t
  have hr := ex_of t r
  refine Eq.trans ?_ (Ffn.Host.w9_at (A := A) ⟨(tokOf t r).val / 2048, by omega⟩ 0 d)
  rw [← v10 H]
  blk_ext [iblk, idx t]

theorem iblk3 (H : Args m c A) (t : Fin cfg0.N) (r : Fin 512) (d : Fin 1024) :
    (show FVec Ideal S1x1x1024 .f32 from iblk m c 3 t) (ix3 0 0 d) = ((rows A t r).sh d : EReal) := by
  have ht := lt8 t
  have hr := ex_of t r
  refine Eq.trans ?_ (wsh_at (A := A) ⟨(tokOf t r).val / 2048, by omega⟩ 0 d)
  rw [← v11 H]
  blk_ext [iblk, idx t]

theorem iblk4_gate (H : Args m c A) (t : Fin cfg0.N) (j : Fin 4) (d : Fin 1024) (k : Fin 704) :
    (show FVec Ideal S4x2x1024x704 .bf16 from iblk m c 4 t) (ix4 j 0 d k) = (A.Wg d (col j k) : EReal) := by
  refine Eq.trans ?_ (Ffn.Host.w6_at_gate A j d k)
  rw [← v7 H]
  blk_ext [iblk, idx t]

theorem iblk4_up (H : Args m c A) (t : Fin cfg0.N) (j : Fin 4) (d : Fin 1024) (k : Fin 704) :
    (show FVec Ideal S4x2x1024x704 .bf16 from iblk m c 4 t) (ix4 j 1 d k) = (A.Wu d (col j k) : EReal) := by
  refine Eq.trans ?_ (Ffn.Host.w6_at_up A j d k)
  rw [← v7 H]
  blk_ext [iblk, idx t]

end Cert.FfnUp
end
-- ==== Proof.FfnUp.Arrays.lean ====
/- What the body leaves in each output's buffer at a grid point, and what each result's array holds after the run, at real
   arguments: the tile's rows of forward quantities, and the tiles laid side by side. -/
module

public import proofs.«01_k».proof.Proof.FfnUp.Entry
public import proofs.«01_k».proof.Proof.Ffn.Arrays

@[expose] public section

set_option maxRecDepth 16384

noncomputable section

namespace Cert.FfnUp

open Idealize.ShloMosaic Idealize.ShloMosaic.TcCoe Cert.Kernel3Ideal Cert.Kernel3Ideal.Gen Cert.Ffn
open Idealize.ShloMosaic.Pipeline (Dat)
open Cert.Ffn.Host (ld6 at2 at3)

variable {m : (ℓ : Loc nD τ sig) → Buf (Elt Ideal) ℓ} {c : Dev nD} {A : In}

/-- The modulated rows, of the blocks as the body loads them. -/
theorem h_ld {R : Tile.Rows} {X : Vec Ideal S512x1024 .f32} {G : Vec Ideal S1x1024 .f32} {P Q : Vec Ideal S1x1x1024 .f32}
    (h0 : ∀ r d, X (ix2 r d) = ((R r).x d : EReal)) (h1 : ∀ (r : Fin 512) d, G (ix2 0 d) = ((R r).g d : EReal))
    (h2 : ∀ (r : Fin 512) d, P (ix3 0 0 d) = ((R r).sc d : EReal)) (h3 : ∀ (r : Fin 512) d, Q (ix3 0 0 d) = ((R r).sh d : EReal)) (r d) :
    k0_pay3 (F := Ideal) (View.ld X r0_0) (View.ld G r0_1) (View.ld P r0_2) (View.ld Q r0_2) (ix2 r d) = ((R r).h d : EReal) := by
  simp (disch := decide) only [r0_0, r0_1, r0_2, View.ld_unit_lit']
  exact Tile.h_at h0 h1 h2 h3 r d

theorem wg_of (H : Args m c A) (t : Fin cfg0.N) (j : Fin 4) (h) (r : Fin 512) (d : Fin 1024) (k : Fin 704) :
    (View.ld (iblk m c 4 t : Vec Ideal S4x2x1024x704 .bf16) (Rect.unit ![(j : ℕ), 0, 0, 0] ![1, 1, 1024, 704] h) : Vec Ideal S1x1x1024x704 .bf16)
      (ix4 0 0 d k) = ((rows A t r).wg d (col j k) : EReal) := (ld6 _ j 0 h d k).trans (iblk4_gate H t j d k)
theorem wu_of (H : Args m c A) (t : Fin cfg0.N) (j : Fin 4) (h) (r : Fin 512) (d : Fin 1024) (k : Fin 704) :
    (View.ld (iblk m c 4 t : Vec Ideal S4x2x1024x704 .bf16) (Rect.unit ![(j : ℕ), 1, 0, 0] ![1, 1, 1024, 704] h) : Vec Ideal S1x1x1024x704 .bf16)
      (ix4 0 0 d k) = ((rows A t r).wu d (col j k) : EReal) := (ld6 _ j 1 h d k).trans (iblk4_up H t j d k)

/-- One chip's stored piece, read through the piece's own index. -/
theorem piece {G : Fin 512 → Fin 2816 → ℝ} (j : Fin 4) {n : ℕ} (hn : n = j.val) {j' : Fin 4} {r : Fin 512} {k : Fin 704} {x : S1x512x704.Idx}
    {P : FVec Ideal S1x512x704 .bf16} (hP : ∀ z r k, P (ix3 z r k) = (G r (col j k) : EReal)) (h0 : j'.val = n + (x 0).val) (h1 : r.val = (x 1).val)
    (h2 : k.val = (x 2).val) : P x = (G r (col j' k) : EReal) := by
  obtain rfl : j' = j := Fin.ext (by have : (x 0).val < 1 := (x 0).isLt; omega)
  obtain rfl : r = x 1 := Fin.ext h1
  obtain rfl : k = x 2 := Fin.ext h2
  exact (congrArg P (eq_ix3 x)).trans (hP _ _ _)

/-! ## The body's outputs -/

set_option maxHeartbeats 2000000

theorem out5 (H : Args m c A) (t : Fin cfg0.N) (r : Fin 512) (d : Fin 1024) :
    (out0_5 (iblk m c 0 t) (iblk m c 1 t) (iblk m c 2 t) (iblk m c 3 t) (iblk m c 4 t) : FVec Ideal S512x1024 .bf16) (ix2 r d)
      = ((rows A t r).h d : EReal) := by
  unfold_out out0_5
  simp (disch := decide) only [show r0_0 = Rect.unit (s := S512x1024) ![0, 0] S512x1024.size inb_S512x1024_S512x1024_0_0 from rfl, View.canon_cons_unit_lit']
  exact h_ld (R := rows A t) (iblk0 H t) (iblk1 H t) (iblk2 H t) (iblk3 H t) r d

theorem out6 (H : Args m c A) (t : Fin cfg0.N) (j : Fin 4) (r : Fin 512) (k : Fin 704) :
    (out0_6 (iblk m c 0 t) (iblk m c 1 t) (iblk m c 2 t) (iblk m c 3 t) (iblk m c 4 t) : FVec Ideal S4x512x704 .bf16) (ix3 j r k)
      = ((rows A t r).p (col j k) : EReal) := by
  unfold_out out0_6
  canon_tiles x h
  · exact piece (G := fun r => (rows A t r).p) 3 rfl (Tile.p_block3 (h_ld (iblk0 H t) (iblk1 H t) (iblk2 H t) (iblk3 H t)) (wg_of H t 3 _) (wu_of H t 3 _)) h0 h1 h2
  · exact piece (G := fun r => (rows A t r).p) 2 rfl (Tile.p_block2 (h_ld (iblk0 H t) (iblk1 H t) (iblk2 H t) (iblk3 H t)) (wg_of H t 2 _) (wu_of H t 2 _)) h0 h1 h2
  · exact piece (G := fun r => (rows A t r).p) 1 rfl (Tile.p_block1 (h_ld (iblk0 H t) (iblk1 H t) (iblk2 H t) (iblk3 H t)) (wg_of H t 1 _) (wu_of H t 1 _)) h0 h1 h2
  · exact piece (G := fun r => (rows A t r).p) 0 rfl (Tile.p_block0 (h_ld (iblk0 H t) (iblk1 H t) (iblk2 H t) (iblk3 H t)) (wg_of H t 0 _) (wu_of H t 0 _)) (h0.trans (zero_add _).symm) h1 h2

theorem out7 (H : Args m c A) (t : Fin cfg0.N) (j : Fin 4) (r : Fin 512) (k : Fin 704) :
    (out0_7 (iblk m c 0 t) (iblk m c 1 t) (iblk m c 2 t) (iblk m c 3 t) (iblk m c 4 t) : FVec Ideal S4x512x704 .bf16) (ix3 j r k)
      = ((rows A t r).q (col j k) : EReal) := by
  unfold_out out0_7
  canon_tiles x h
  · exact piece (G := fun r => (rows A t r).q) 3 rfl (Tile.q_block3 (h_ld (iblk0 H t) (iblk1 H t) (iblk2 H t) (iblk3 H t)) (wg_of H t 3 _)) h0 h1 h2
  · exact piece (G := fun r => (rows A t r).q) 2 rfl (Tile.q_block2 (h_ld (iblk0 H t) (iblk1 H t) (iblk2 H t) (iblk3 H t)) (wg_of H t 2 _)) h0 h1 h2
  · exact piece (G := fun r => (rows A t r).q) 1 rfl (Tile.q_block1 (h_ld (iblk0 H t) (iblk1 H t) (iblk2 H t) (iblk3 H t)) (wg_of H t 1 _)) h0 h1 h2
  · exact piece (G := fun r => (rows A t r).q) 0 rfl (Tile.q_block0 (h_ld (iblk0 H t) (iblk1 H t) (iblk2 H t) (iblk3 H t)) (wg_of H t 0 _)) (h0.trans (zero_add _).symm) h1 h2

theorem out8 (H : Args m c A) (t : Fin cfg0.N) (j : Fin 4) (r : Fin 512) (k : Fin 704) :
    (out0_8 (iblk m c 0 t) (iblk m c 1 t) (iblk m c 2 t) (iblk m c 3 t) (iblk m c 4 t) : FVec Ideal S4x512x704 .bf16) (ix3 j r k)
      = ((rows A t r).s (col j k) : EReal) := by
  unfold_out out0_8
  canon_tiles x h
  · exact piece (G := fun r => (rows A t r).s) 3 rfl (Tile.s_block3 (h_ld (iblk0 H t) (iblk1 H t) (iblk2 H t) (iblk3 H t)) (wg_of H t 3 _) (wu_of H t 3 _)) h0 h1 h2
  · exact piece (G := fun r => (rows A t r).s) 2 rfl (Tile.s_block2 (h_ld (iblk0 H t) (iblk1 H t) (iblk2 H t) (iblk3 H t)) (wg_of H t 2 _) (wu_of H t 2 _)) h0 h1 h2
  · exact piece (G := fun r => (rows A t r).s) 1 rfl (Tile.s_block1 (h_ld (iblk0 H t) (iblk1 H t) (iblk2 H t) (iblk3 H t)) (wg_of H t 1 _) (wu_of H t 1 _)) h0 h1 h2
  · exact piece (G := fun r => (rows A t r).s) 0 rfl (Tile.s_block0 (h_ld (iblk0 H t) (iblk1 H t) (iblk2 H t) (iblk3 H t)) (wg_of H t 0 _) (wu_of H t 0 _)) (h0.trans (zero_add _).symm) h1 h2

/-! ## The results' arrays -/

theorem array5 (H : Args m c A) : (dats m 0 c).arrAt 5 (cfgs 0).N = (fun i => (((A.tok (i 0)).h (i 1) : ℝ) : EReal) : FVec Ideal S4096x1024 .bf16) := by
  refine (dats m 0 c).arrAt_eq_of_covers 5 _ (by decide +kernel) fun t _ y => ?_
  blk_simp
  rw [after0_5]
  refine (congrArg _ (eq_ix2 y)).trans ((out5 H t (y 0) (y 1)).trans ?_)
  refine congrArg _ (at2 (fun t d => (A.tok t).h d) ?_ ?_) <;> (try unfold tokOf) <;> blk_simp [idx t] <;> (try omega)

theorem array6 (H : Args m c A) : (dats m 0 c).arrAt 6 (cfgs 0).N = (fun i => (((A.tok (i 1)).p (col (i 0) (i 2)) : ℝ) : EReal) : FVec Ideal S4x4096x704 .bf16) := by
  refine (dats m 0 c).arrAt_eq_of_covers 6 _ (by decide +kernel) fun t _ y => ?_
  blk_simp
  rw [after0_6]
  refine (congrArg _ (eq_ix3 y)).trans ((out6 H t (y 0) (y 1) (y 2)).trans ?_)
  refine congrArg _ (at3 (fun t j k => (A.tok t).p (col j k)) ?_ ?_ ?_) <;> (try unfold tokOf) <;> blk_simp [idx t] <;> (try omega)

theorem array7 (H : Args m c A) : (dats m 0 c).arrAt 7 (cfgs 0).N = (fun i => (((A.tok (i 1)).q (col (i 0) (i 2)) : ℝ) : EReal) : FVec Ideal S4x4096x704 .bf16) := by
  refine (dats m 0 c).arrAt_eq_of_covers 7 _ (by decide +kernel) fun t _ y => ?_
  blk_simp
  rw [after0_7]
  refine (congrArg _ (eq_ix3 y)).trans ((out7 H t (y 0) (y 1) (y 2)).trans ?_)
  refine congrArg _ (at3 (fun t j k => (A.tok t).q (col j k)) ?_ ?_ ?_) <;> (try unfold tokOf) <;> blk_simp [idx t] <;> (try omega)

theorem array8 (H : Args m c A) : (dats m 0 c).arrAt 8 (cfgs 0).N = (fun i => (((A.tok (i 1)).s (col (i 0) (i 2)) : ℝ) : EReal) : FVec Ideal S4x4096x704 .bf16) := by
  refine (dats m 0 c).arrAt_eq_of_covers 8 _ (by decide +kernel) fun t _ y => ?_
  blk_simp
  rw [after0_8]
  refine (congrArg _ (eq_ix3 y)).trans ((out8 H t (y 0) (y 1) (y 2)).trans ?_)
  refine congrArg _ (at3 (fun t j k => (A.tok t).s (col j k)) ?_ ?_ ?_) <;> (try unfold tokOf) <;> blk_simp [idx t] <;> (try omega)

end Cert.FfnUp
end
-- ==== Proof.FfnUp.Reference.lean ====
/- The reference's arrays at real arguments: each is the row quantity it names. -/
module

public import proofs.«01_k».proof.Proof.Gen.Reference3Ideal.Read
public import proofs.«01_k».proof.Proof.Ffn.Reference

@[expose] public section

noncomputable section

namespace Cert.FfnUp.Ref

open Idealize.ShloMosaic Cert.Reference3Ideal Cert.Reference3Ideal.Read Cert.Ffn

variable (A : In)

/-! ## The forward row, as the other reference computes it -/

theorem v20 (i : S2x2048x1024.Idx) :
    val_main_v20 (F := Ideal) A.x0 A.x1 A.x2 A.x3 i = ((A.row (i 0) (i 1)).h (i 2) : EReal) := Ffn.Ref.v26 A i
theorem v21 (i : S2x2048x2816.Idx) :
    val_main_v21 (F := Ideal) A.x0 A.x1 A.x2 A.x3 A.x5 i = ((A.row (i 0) (i 1)).a (i 2) : EReal) := Ffn.Ref.v27 A i
theorem v22 (i : S2x2048x2816.Idx) :
    val_main_v22 (F := Ideal) A.x0 A.x1 A.x2 A.x3 A.x6 i = ((A.row (i 0) (i 1)).u (i 2) : EReal) := Ffn.Ref.v29 A i
theorem v23_2 (i : S2x2048x2816.Idx) :
    val_main_v23_2 (F := Ideal) A.x0 A.x1 A.x2 A.x3 A.x5 i = ((A.row (i 0) (i 1)).sg (i 2) : EReal) := Ffn.Ref.v28_2 A i
theorem v23_0 (i : S2x2048x2816.Idx) :
    val_main_v23_0 (F := Ideal) A.x0 A.x1 A.x2 A.x3 A.x5 i = ((A.row (i 0) (i 1)).q (i 2) : EReal) := Ffn.Ref.v28_0 A i
theorem v23_1 (i : S2x2048x2816.Idx) :
    val_main_v23_1 (F := Ideal) A.x0 A.x1 A.x2 A.x3 A.x5 i
      = (((A.row (i 0) (i 1)).sg (i 2) * (1 - (A.row (i 0) (i 1)).sg (i 2)) : ℝ) : EReal) := Ffn.Ref.v28_1 A i

theorem v24 (i : S2x2048x2816.Idx) :
    val_main_v24 (F := Ideal) A.x0 A.x1 A.x2 A.x3 A.x5 A.x6 i = ((A.row (i 0) (i 1)).s (i 2) : EReal) := by
  rw [val_main_v24_apply, v23_0, v22]; exact (EReal.coe_mul _ _).symm

/-! ## The derivatives of the gated product -/

theorem v25 (i : S2x2048x2816.Idx) : val_main_v25 (F := Ideal) i = ((1 : ℝ) : EReal) := by
  rw [val_main_v25_apply, val_main_cst_3_apply, Ideal.ofBits_def, word_one]

theorem v26 (i : S2x2048x2816.Idx) :
    val_main_v26 (F := Ideal) A.x0 A.x1 A.x2 A.x3 A.x5 i = ((A.row (i 0) (i 1)).q (i 2) : EReal) := by
  rw [val_main_v26_apply, v23_0, v25, Ideal.mulf_def, ← EReal.coe_mul, mul_one]

theorem v28 (i : S2x2048x2816.Idx) :
    val_main_v28 (F := Ideal) A.x0 A.x1 A.x2 A.x3 A.x5 A.x6 i = ((A.row (i 0) (i 1)).p (i 2) : EReal) := by
  rw [val_main_v28_apply, val_main_call1_v1_apply, val_main_call1_v2_apply, val_main_call1_v0_apply, val_main_v27_apply,
    v25, v22, v23_2, v21, v23_1]
  simp only [Ideal.mulf_def, Ideal.addf_def, ← EReal.coe_mul, ← EReal.coe_add]
  refine congrArg _ ?_
  unfold Row.p; ring

/-! ## The four results -/

theorem v39 (i : S4096x1024.Idx) :
    val_main_v39 (F := Ideal) A.x0 A.x1 A.x2 A.x3 i = ((A.tok (i 0)).h (i 1) : EReal) := by
  rw [val_main_v39_apply, val_main_v38_apply, show idx_main_v38 i = Cert.ReferenceIdeal.Read.idx_main_v128 i from rfl, Ffn.Ref.ix_flat, v20]; rfl

theorem v31 (i : S4x4096x704.Idx) :
    val_main_v31 (F := Ideal) A.x0 A.x1 A.x2 A.x3 A.x5 A.x6 i = ((A.tok (i 1)).p (col (i 0) (i 2)) : EReal) := by
  rw [val_main_v31_apply, val_main_v30_apply, val_main_v29_apply, show idx_main_v29 = Cert.ReferenceIdeal.Read.idx_main_v119 from rfl,
    Ffn.Ref.ix_chips, v28]; rfl

theorem v34 (i : S4x4096x704.Idx) :
    val_main_v34 (F := Ideal) A.x0 A.x1 A.x2 A.x3 A.x5 i = ((A.tok (i 1)).q (col (i 0) (i 2)) : EReal) := by
  rw [val_main_v34_apply, val_main_v33_apply, val_main_v32_apply, show idx_main_v32 = Cert.ReferenceIdeal.Read.idx_main_v119 from rfl,
    Ffn.Ref.ix_chips, v26]; rfl

theorem v37 (i : S4x4096x704.Idx) :
    val_main_v37 (F := Ideal) A.x0 A.x1 A.x2 A.x3 A.x5 A.x6 i = ((A.tok (i 1)).s (col (i 0) (i 2)) : EReal) := by
  rw [val_main_v37_apply, val_main_v36_apply, val_main_v35_apply, show idx_main_v35 = Cert.ReferenceIdeal.Read.idx_main_v119 from rfl,
    Ffn.Ref.ix_chips, v24]; rfl

end Cert.FfnUp.Ref

end
-- ==== Proof.FfnUp.Claim.lean ====
/- The forward kernel of the feed-forward half computes what the reference computes, over the reals, at finite arguments. -/
module

public import proofs.«01_k».proof.Defs
public import proofs.«01_k».proof.Proof.Ffn.Finite
public import proofs.«01_k».proof.Proof.FfnUp.Arrays
public import proofs.«01_k».proof.Proof.FfnUp.Reference
public import proofs.«01_k».proof.Proof.Gen.Kernel3Ideal.Value
public import proofs.«01_k».proof.Proof.Gen.Reference3Ideal.Run

@[expose] public section

set_option maxRecDepth 16384

noncomputable section

namespace Cert.FfnUp

open Idealize.ShloMosaic Idealize.SL.Sem Cert.Ffn

instance preFacts : Cert.Pre_finite3.Facts where
  bcast_S_S2x2048x1024 := ⟨fun a => a.elim0, fun a => a.elim0⟩
  bcast_S_S1024 := ⟨fun a => a.elim0, fun a => a.elim0⟩
  bcast_S_S2x1024 := ⟨fun a => a.elim0, fun a => a.elim0⟩
  bcast_S_S1024x2816 := ⟨fun a => a.elim0, fun a => a.elim0⟩

open Cert.Kernel3Ideal in
/-- The real arguments the kernel's memory holds, on a device; the arrays this call does not take are zero. -/
def inputs (m : (ℓ : Loc nD τ sig) → Buf (Elt Ideal) ℓ) (c : Dev nD) : In where
  X b s d := EReal.toReal ((m (c, Proc.devRef .tc main_arg0) : FVec Ideal S2x2048x1024 .f32) (ix3 b s d))
  G d := EReal.toReal ((m (c, Proc.devRef .tc main_arg1) : FVec Ideal S1024 .f32) (ix1 d))
  Sh b d := EReal.toReal ((m (c, Proc.devRef .tc main_arg2) : FVec Ideal S2x1024 .f32) (ix2 b d))
  Sc b d := EReal.toReal ((m (c, Proc.devRef .tc main_arg3) : FVec Ideal S2x1024 .f32) (ix2 b d))
  Gt _ _ := 0
  Wg d f := EReal.toReal ((m (c, Proc.devRef .tc main_arg4) : FVec Ideal S1024x2816 .f32) (ix2 d f))
  Wu d f := EReal.toReal ((m (c, Proc.devRef .tc main_arg5) : FVec Ideal S1024x2816 .f32) (ix2 d f))
  Wd _ _ := 0
  Ct _ _ _ := 0

open Cert.Kernel3Ideal in
/-- Under the precondition the arguments are the real arrays `inputs`. -/
theorem args_of_finite {m : (ℓ : Loc nD τ sig) → Buf (Elt Ideal) ℓ} (h : Cert.Pre_Kernel3Ideal_finite3 m) (c : Dev nD) :
    Args m c (inputs m c) := by
  obtain ⟨h0, h1, h2, h3, h4, h5⟩ := h c
  constructor
  · exact funext fun i => ((real_of_test _ _ h0 i).symm.trans (congrArg _ (congrArg EReal.toReal (congrArg _ (eq_ix3 i)))))
  · exact funext fun i => ((real_of_test _ _ h1 i).symm.trans (congrArg _ (congrArg EReal.toReal (congrArg _ (eq_ix1 i)))))
  · exact funext fun i => ((real_of_test _ _ h2 i).symm.trans (congrArg _ (congrArg EReal.toReal (congrArg _ (eq_ix2 i)))))
  · exact funext fun i => ((real_of_test _ _ h3 i).symm.trans (congrArg _ (congrArg EReal.toReal (congrArg _ (eq_ix2 i)))))
  · exact funext fun i => ((real_of_test _ _ h4 i).symm.trans (congrArg _ (congrArg EReal.toReal (congrArg _ (eq_ix2 i)))))
  · exact funext fun i => ((real_of_test _ _ h5 i).symm.trans (congrArg _ (congrArg EReal.toReal (congrArg _ (eq_ix2 i)))))

/-- The results, as arrays of real numbers: the modulated rows, the derivative of the gated product by the gate
    pre-activation and by the up projection, and the gated product, at the real arguments `A`. -/
def res (A : In) : FVec Ideal Cert.Kernel3Ideal.S4096x1024 .bf16 × FVec Ideal Cert.Kernel3Ideal.S4x4096x704 .bf16 ×
    FVec Ideal Cert.Kernel3Ideal.S4x4096x704 .bf16 × FVec Ideal Cert.Kernel3Ideal.S4x4096x704 .bf16 :=
  (fun i => (((A.tok (i 0)).h (i 1) : ℝ) : EReal), fun i => (((A.tok (i 1)).p (col (i 0) (i 2)) : ℝ) : EReal),
    fun i => (((A.tok (i 1)).q (col (i 0) (i 2)) : ℝ) : EReal), fun i => (((A.tok (i 1)).s (col (i 0) (i 2)) : ℝ) : EReal))

open Cert.Reference3Ideal Cert.Reference3Ideal.Gen Cert.Reference3Ideal.Value Cert.Reference3Ideal.Read in
/-- The reference, run at the real arguments `A`, ends with the results `res A`. -/
theorem reference_run (m : (ℓ : Loc nD τ sig) → Buf (Elt Ideal) ℓ) (ρ : Dev nD → PrngReg) (A : Dev nD → In)
    (h0 : ∀ c, m (c, Proc.devRef .tc main_arg0) = (A c).x0) (h1 : ∀ c, m (c, Proc.devRef .tc main_arg1) = (A c).x1)
    (h2 : ∀ c, m (c, Proc.devRef .tc main_arg2) = (A c).x2) (h3 : ∀ c, m (c, Proc.devRef .tc main_arg3) = (A c).x3)
    (h4 : ∀ c, m (c, Proc.devRef .tc main_arg4) = (A c).x5) (h5 : ∀ c, m (c, Proc.devRef .tc main_arg5) = (A c).x6) :
    θ_run defs (onTc (τ := τ) (main (F := Ideal))) ⟨m, fun _ => 0, ρ⟩ fun r => ∀ c : Dev nD,
      r.2.mem ((c.tc : Thread nD τ).loc main_v39) = (res (A c)).1
      ∧ r.2.mem ((c.tc : Thread nD τ).loc main_v31) = (res (A c)).2.1
      ∧ r.2.mem ((c.tc : Thread nD τ).loc main_v34) = (res (A c)).2.2.1
      ∧ r.2.mem ((c.tc : Thread nD τ).loc main_v37) = (res (A c)).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨e0, e1, e2, e3, e⟩ := h c
  replace e0 := e0.trans (val_main_v39_eq _ _ _ _)
  replace e1 := e1.trans (val_main_v31_eq m c)
  replace e2 := e2.trans (val_main_v34_eq _ _ _ _ _)
  replace e3 := e3.trans (val_main_v37_eq m c)
  simp only [h0 c, h1 c, h2 c, h3 c, h4 c, h5 c] at e0 e1 e2 e3
  exact ⟨e0.trans (funext fun i => Ref.v39 _ i), e1.trans (funext fun i => Ref.v31 _ i), e2.trans (funext fun i => Ref.v34 _ i),
    e3.trans (funext fun i => Ref.v37 _ i), e⟩

/-- Kernel and reference end with equal results. -/
theorem algebraic : Cert.algebraic_Kernel3Ideal_Reference3Ideal_pre_finite3 := by
  intro m g m' g' hpre hagree
  have H := args_of_finite hpre
  refine ⟨fun c => (res (inputs m c)).1, fun c => (res (inputs m c)).2.1, fun c => (res (inputs m c)).2.2.1,
    fun c => (res (inputs m c)).2.2.2, ?_, ?_⟩
  · refine (θ_run _ _ _).mono (fun r h c => ?_) (Cert.Kernel3Ideal.Value.run_blocks (F := Ideal) m g)
    obtain ⟨e0, e1, e2, e3, e⟩ := h c
    exact ⟨e0.trans (array5 (H c)), e1.trans (array6 (H c)), e2.trans (array7 (H c)), e3.trans (array8 (H c)), e⟩
  · exact reference_run m' g' (fun c => inputs m c) (fun c => (hagree c).1.trans (H c).a0) (fun c => (hagree c).2.1.trans (H c).a1)
      (fun c => (hagree c).2.2.1.trans (H c).a2) (fun c => (hagree c).2.2.2.1.trans (H c).a3) (fun c => (hagree c).2.2.2.2.1.trans (H c).a4)
      (fun c => (hagree c).2.2.2.2.2.trans (H c).a5)

end Cert.FfnUp
-- ==== Proof.FfnDs.Outs.lean ====
/- What the body leaves in each output's buffer at a grid point, at real arguments: the tile's rows of gradients, and what
   the point before left of the gate's gradient plus the tile's own sum.  Tile `t` holds the 512 tokens from `512 t` on. -/
module

public import proofs.«01_k».proof.Proof.Ffn.Outs
public import proofs.«01_k».proof.Proof.Gen.Kernel4Ideal.Frame
public import Idealize.ShloMosaic.Lib.Pipeline.ValueKit

@[expose] public section

set_option maxRecDepth 16384

noncomputable section

namespace Cert.FfnDs

open Idealize.ShloMosaic Idealize.ShloMosaic.TcCoe Cert.Kernel4Ideal Cert.Kernel4Ideal.Gen
open Cert.Ffn (In Row col sum_coe word_half)
open Cert.Ffn.Tile (sum_mul)

/-! ## The tile's values -/

/-- A tile's 512 rows. -/
abbrev Rows := Fin 512 → Row

section Tile
variable {R : Rows} {j : Fin 4} {v0 : FVec Ideal S512x1024 .f32} {v2 : FVec Ideal S1x1x1024 .f32} {v10 : FVec Ideal S512x1024 .bf16}
  {v8 : FVec Ideal S512x1024 .bf16} {v34 : FVec Ideal S1x1x704x1024 .bf16} {v37 v42 : FVec Ideal S1x512x704 .bf16}

theorem df_at (h0 : ∀ r d, v0 (ix2 r d) = ((R r).ct d : EReal)) (h2 : ∀ r d, v2 (ix3 0 0 d) = ((R r).gt d : EReal)) (r d) :
    k0_pay5 (F := Ideal) v0 v2 (ix2 r d) = ((R r).df d : EReal) := by
  pointwise [k0_pay5, k0_pay4]
  rw [h0, h2 r, word_half, ← EReal.coe_mul, ← EReal.coe_mul]; rfl

theorem dgt_at (h0 : ∀ r d, v0 (ix2 r d) = ((R r).ct d : EReal)) (h10 : ∀ r d, v10 (ix2 r d) = ((R r).f d : EReal)) (z : Fin 1) (d) :
    k0_pay6 (F := Ideal) v0 v10 (ix2 z d) = ((1 / 2 * ∑ r, (R r).ct d * (R r).f d : ℝ) : EReal) := by
  pointwise [k0_pay6, k0_pay4]
  rw [sum_mul (fun r => h0 r d) (fun r => h10 r d), word_half, ← EReal.coe_mul]

theorem pay7_eq (v0 v10) (i : S1x1x1024.Idx) : k0_pay7 (F := Ideal) v0 v10 i = k0_pay6 v0 v10 (ix2 0 (i 2)) := by
  idx_vars i; pointwise [k0_pay7]
theorem pay8_eq (v0 v10 acc) (i : S1x1x1024.Idx) : k0_pay8 (F := Ideal) v0 v10 acc i = acc i + k0_pay6 v0 v10 (ix2 0 (i 2)) := by
  idx_vars i; obtain rfl : i0 = 0 := Subsingleton.elim _ _; obtain rfl : i1 = 0 := Subsingleton.elim _ _
  pointwise [k0_pay8]

theorem ds_at (h8 : ∀ r d, v8 (ix2 r d) = ((R r).df d : EReal)) (h34 : ∀ r k d, v34 (ix4 0 0 k d) = ((R r).wd (col j k) d : EReal))
    (r k) : k0_pay9 (F := Ideal) v8 v34 (ix2 r k) = ((R r).ds (col j k) : EReal) := by
  pointwise [k0_pay9]
  exact sum_mul (h8 r) (h34 r k)

theorem da_block (h8 : ∀ r d, v8 (ix2 r d) = ((R r).df d : EReal)) (h34 : ∀ r k d, v34 (ix4 0 0 k d) = ((R r).wd (col j k) d : EReal))
    (h37 : ∀ r k, v37 (ix3 0 r k) = ((R r).p (col j k) : EReal)) (z : Fin 1) (r k) :
    k0_pay10 (F := Ideal) v8 v34 v37 (ix3 z r k) = ((R r).da (col j k) : EReal) := by
  pointwise [k0_pay10]
  rw [ds_at h8 h34, h37]; exact (EReal.coe_mul _ _).symm

theorem du_block (h8 : ∀ r d, v8 (ix2 r d) = ((R r).df d : EReal)) (h34 : ∀ r k d, v34 (ix4 0 0 k d) = ((R r).wd (col j k) d : EReal))
    (h42 : ∀ r k, v42 (ix3 0 r k) = ((R r).q (col j k) : EReal)) (z : Fin 1) (r k) :
    k0_pay11 (F := Ideal) v8 v34 v42 (ix3 z r k) = ((R r).du (col j k) : EReal) := by
  pointwise [k0_pay11]
  rw [ds_at h8 h34, h42]; exact (EReal.coe_mul _ _).symm

end Tile

/-! ## The arguments and their blocks -/

/-- The arguments the kernel is launched on are the real arrays of `A`. -/
structure Args (m : (ℓ : Loc nD τ sig) → Buf (Elt Ideal) ℓ) (c : Dev nD) (A : In) : Prop where
  a0 : m (c, Proc.devRef .tc main_arg0) = A.x0
  a1 : m (c, Proc.devRef .tc main_arg1) = A.x1
  a2 : m (c, Proc.devRef .tc main_arg2) = A.x2
  a3 : m (c, Proc.devRef .tc main_arg3) = A.x3
  a4 : m (c, Proc.devRef .tc main_arg4) = A.x4
  a5 : m (c, Proc.devRef .tc main_arg5) = A.x5
  a6 : m (c, Proc.devRef .tc main_arg6) = A.x6
  a7 : m (c, Proc.devRef .tc main_arg7) = A.x7
  a8 : m (c, Proc.devRef .tc main_arg8) = A.x8

variable {m : (ℓ : Loc nD τ sig) → Buf (Elt Ideal) ℓ} {c : Dev nD} {A : In}

set_option maxHeartbeats 4000000

theorem v42 (H : Args m c A) : V m c main_v42 = Ffn.Host.w0 A := by
  show StableHlo.after hostOps0 (fun b => m (c, b)) (Proc.devRef .tc main_v42) = _
  after_reads_simp; rw [H.a8]; rfl
theorem v43 (H : Args m c A) : V m c main_v43 = Ffn.Host.w1 A := by
  show StableHlo.after hostOps0 (fun b => m (c, b)) (Proc.devRef .tc main_v43) = _
  after_reads_simp; rw [H.a4]; rfl
theorem v44 (H : Args m c A) : V m c main_v44 = Ffn.Host.w2 A := by
  show StableHlo.after hostOps0 (fun b => m (c, b)) (Proc.devRef .tc main_v44) = _
  after_reads_simp; simp only [H.a0, H.a1, H.a2, H.a3, H.a5, H.a6, H.a7]; rfl
theorem v41 (H : Args m c A) : V m c main_v41 = Ffn.Host.w3 A := by
  show StableHlo.after hostOps0 (fun b => m (c, b)) (Proc.devRef .tc main_v41) = _
  after_reads_simp; rw [H.a7]; rfl
theorem v47 (H : Args m c A) : V m c main_v47 = Ffn.Host.w4 A := by
  show StableHlo.after hostOps0 (fun b => m (c, b)) (Proc.devRef .tc main_v47) = _
  after_reads_simp; simp only [H.a0, H.a1, H.a2, H.a3, H.a5, H.a6, H.a7]; rfl
theorem v50 (H : Args m c A) : V m c main_v50 = Ffn.Host.w5 A := by
  show StableHlo.after hostOps0 (fun b => m (c, b)) (Proc.devRef .tc main_v50) = _
  after_reads_simp; simp only [H.a0, H.a1, H.a2, H.a3, H.a5, H.a6, H.a7]; rfl

/-- The windows' block indices at every point. -/
theorem idx : ∀ t : Fin cfg0.N, win0_0.index t = ![t.val, 0] ∧ win0_1.index t = ![t.val / 4, 0, 0] ∧ win0_2.index t = ![t.val, 0]
    ∧ win0_3.index t = ![0, 0, 0, 0] ∧ win0_4.index t = ![0, t.val, 0] ∧ win0_5.index t = ![0, t.val, 0] ∧ win0_6.index t = ![0, t.val, 0]
    ∧ win0_7.index t = ![0, t.val, 0] ∧ win0_8.index t = ![t.val, 0] ∧ win0_9.index t = ![t.val / 4, 0, 0] :=
  (by decide +kernel : ∀ t : Fin grid0.N, _)

theorem lt8 (t : Fin cfg0.N) : t.val < 8 := lt_of_lt_of_eq t.isLt N_0

/-- Token `r` of tile `t`. -/
def tokOf (t : Fin cfg0.N) (r : Fin 512) : Fin 4096 := ⟨t.val * 512 + r.val, by have := lt8 t; omega⟩

variable (A) in
/-- The rows of tile `t`. -/
def rows (t : Fin cfg0.N) : Rows := fun r => A.tok (tokOf t r)

theorem iblk0 (H : Args m c A) (t : Fin cfg0.N) (r : Fin 512) (d : Fin 1024) :
    (show FVec Ideal S512x1024 .f32 from iblk m c 0 t) (ix2 r d) = ((rows A t r).ct d : EReal) := by
  refine Eq.trans ?_ (Ffn.Host.w0_at (A := A) (tokOf t r) d)
  rw [← v42 H]
  unfold tokOf
  blk_ext [iblk, idx t]

theorem iblk1 (H : Args m c A) (t : Fin cfg0.N) (r : Fin 512) (d : Fin 1024) :
    (show FVec Ideal S1x1x1024 .f32 from iblk m c 1 t) (ix3 0 0 d) = ((rows A t r).gt d : EReal) := by
  have ht := lt8 t
  have hr : (tokOf t r).val / 2048 = t.val / 4 := by unfold tokOf; dsimp only; omega
  refine Eq.trans ?_ (Ffn.Host.w1_at (A := A) ⟨(tokOf t r).val / 2048, by omega⟩ 0 d)
  rw [← v43 H]
  blk_ext [iblk, idx t]

theorem iblk2 (H : Args m c A) (t : Fin cfg0.N) (r : Fin 512) (d : Fin 1024) :
    (show FVec Ideal S512x1024 .bf16 from iblk m c 2 t) (ix2 r d) = ((rows A t r).f d : EReal) := by
  refine Eq.trans ?_ (Ffn.Host.w2_at (A := A) (tokOf t r) d)
  rw [← v44 H]
  unfold tokOf
  blk_ext [iblk, idx t]

theorem iblk3 (H : Args m c A) (t : Fin cfg0.N) (j : Fin 4) (z : Fin 1) (k : Fin 704) (d : Fin 1024) :
    (show FVec Ideal S4x1x704x1024 .bf16 from iblk m c 3 t) (ix4 j z k d) = (A.Wd (col j k) d : EReal) := by
  refine Eq.trans ?_ (Ffn.Host.w3_at (A := A) j z k d)
  rw [← v41 H]
  blk_ext [iblk, idx t]

theorem iblk4 (H : Args m c A) (t : Fin cfg0.N) (j : Fin 4) (r : Fin 512) (k : Fin 704) :
    (show FVec Ideal S4x512x704 .bf16 from iblk m c 4 t) (ix3 j r k) = ((rows A t r).p (col j k) : EReal) := by
  refine Eq.trans ?_ (Ffn.Host.w4_at A j (tokOf t r) k)
  rw [← v47 H]
  unfold tokOf
  blk_ext [iblk, idx t]

theorem iblk5 (H : Args m c A) (t : Fin cfg0.N) (j : Fin 4) (r : Fin 512) (k : Fin 704) :
    (show FVec Ideal S4x512x704 .bf16 from iblk m c 5 t) (ix3 j r k) = ((rows A t r).q (col j k) : EReal) := by
  refine Eq.trans ?_ (Ffn.Host.w5_at A j (tokOf t r) k)
  rw [← v50 H]
  unfold tokOf
  blk_ext [iblk, idx t]

/-! ## A chip's pieces of the blocks -/

theorem ld4 (X : Vec Ideal S4x512x704 .bf16) (j : Fin 4) (h) (r : Fin 512) (k : Fin 704) :
    (View.ld X (Rect.unit ![(j : ℕ), 0, 0] ![1, 512, 704] h) : Vec Ideal S1x512x704 .bf16) (ix3 0 r k) = X (ix3 j r k) := by
  refine congrArg X (funext fun a => Fin.ext ?_)
  fin_cases a <;> simp [ix3, ix4]

theorem wd_of (H : Args m c A) (t : Fin cfg0.N) (j : Fin 4) (h) (r : Fin 512) (k : Fin 704) (d : Fin 1024) :
    (View.ld (iblk m c 3 t : Vec Ideal S4x1x704x1024 .bf16) (Rect.unit ![(j : ℕ), 0, 0, 0] ![1, 1, 704, 1024] h) : Vec Ideal S1x1x704x1024 .bf16)
      (ix4 0 0 k d) = ((rows A t r).wd (col j k) d : EReal) := (Ffn.Host.ld3 _ j h k d).trans (iblk3 H t j 0 k d)
theorem p_of (H : Args m c A) (t : Fin cfg0.N) (j : Fin 4) (h) (r : Fin 512) (k : Fin 704) :
    (View.ld (iblk m c 4 t : Vec Ideal S4x512x704 .bf16) (Rect.unit ![(j : ℕ), 0, 0] ![1, 512, 704] h) : Vec Ideal S1x512x704 .bf16)
      (ix3 0 r k) = ((rows A t r).p (col j k) : EReal) := (ld4 _ j h r k).trans (iblk4 H t j r k)
theorem q_of (H : Args m c A) (t : Fin cfg0.N) (j : Fin 4) (h) (r : Fin 512) (k : Fin 704) :
    (View.ld (iblk m c 5 t : Vec Ideal S4x512x704 .bf16) (Rect.unit ![(j : ℕ), 0, 0] ![1, 512, 704] h) : Vec Ideal S1x512x704 .bf16)
      (ix3 0 r k) = ((rows A t r).q (col j k) : EReal) := (ld4 _ j h r k).trans (iblk5 H t j r k)

theorem df_of (H : Args m c A) (t : Fin cfg0.N) (r d) : k0_pay5 (F := Ideal) (iblk m c 0 t) (iblk m c 1 t) (ix2 r d) = ((rows A t r).df d : EReal) :=
  df_at (R := rows A t) (iblk0 H t) (iblk1 H t) r d

/-- One chip's stored piece, read through the piece's own index. -/
theorem piece {G : Fin 512 → Fin 2816 → ℝ} (j : Fin 4) {n : ℕ} (hn : n = j.val) {j' : Fin 4} {r : Fin 512} {k : Fin 704} {x : S1x512x704.Idx}
    {P : FVec Ideal S1x512x704 .bf16} (hP : ∀ z r k, P (ix3 z r k) = (G r (col j k) : EReal)) (h0 : j'.val = n + (x 0).val) (h1 : r.val = (x 1).val)
    (h2 : k.val = (x 2).val) : P x = (G r (col j' k) : EReal) := by
  obtain rfl : j' = j := Fin.ext (by have : (x 0).val < 1 := (x 0).isLt; omega)
  obtain rfl : r = x 1 := Fin.ext h1
  obtain rfl : k = x 2 := Fin.ext h2
  exact (congrArg P (eq_ix3 x)).trans (hP _ _ _)

/-! ## The outputs at a point -/

theorem out8 (H : Args m c A) (t : Fin cfg0.N) (r : Fin 512) (d : Fin 1024) :
    (outsAt0 m c t.val t.isLt).2.2.1 (ix2 r d) = ((rows A t r).df d : EReal) := by
  by_cases hA : t.val % 4 = 0
  · rw [outsAt0_A m c t hA (not_not.mpr hA)]
    frame_out
    exact df_of H t r d
  · rw [outsAt0_B m c t hA hA]
    frame_out
    exact df_of H t r d

theorem out6 (H : Args m c A) (t : Fin cfg0.N) (j : Fin 4) (r : Fin 512) (k : Fin 704) :
    (outsAt0 m c t.val t.isLt).1 (ix3 j r k) = ((rows A t r).da (col j k) : EReal) := by
  by_cases hA : t.val % 4 = 0
  · rw [outsAt0_A m c t hA (not_not.mpr hA)]
    frame_out
    canon_tiles x h
    · exact piece (G := fun r => (rows A t r).da) 3 rfl (da_block (df_of H t) (wd_of H t 3 _) (p_of H t 3 _)) h0 h1 h2
    · exact piece (G := fun r => (rows A t r).da) 2 rfl (da_block (df_of H t) (wd_of H t 2 _) (p_of H t 2 _)) h0 h1 h2
    · exact piece (G := fun r => (rows A t r).da) 1 rfl (da_block (df_of H t) (wd_of H t 1 _) (p_of H t 1 _)) h0 h1 h2
    · exact piece (G := fun r => (rows A t r).da) 0 rfl (da_block (df_of H t) (wd_of H t 0 _) (p_of H t 0 _)) (h0.trans (zero_add _).symm) h1 h2
  · rw [outsAt0_B m c t hA hA]
    frame_out
    canon_tiles x h
    · exact piece (G := fun r => (rows A t r).da) 3 rfl (da_block (df_of H t) (wd_of H t 3 _) (p_of H t 3 _)) h0 h1 h2
    · exact piece (G := fun r => (rows A t r).da) 2 rfl (da_block (df_of H t) (wd_of H t 2 _) (p_of H t 2 _)) h0 h1 h2
    · exact piece (G := fun r => (rows A t r).da) 1 rfl (da_block (df_of H t) (wd_of H t 1 _) (p_of H t 1 _)) h0 h1 h2
    · exact piece (G := fun r => (rows A t r).da) 0 rfl (da_block (df_of H t) (wd_of H t 0 _) (p_of H t 0 _)) (h0.trans (zero_add _).symm) h1 h2

theorem out7 (H : Args m c A) (t : Fin cfg0.N) (j : Fin 4) (r : Fin 512) (k : Fin 704) :
    (outsAt0 m c t.val t.isLt).2.1 (ix3 j r k) = ((rows A t r).du (col j k) : EReal) := by
  by_cases hA : t.val % 4 = 0
  · rw [outsAt0_A m c t hA (not_not.mpr hA)]
    frame_out
    canon_tiles x h
    · exact piece (G := fun r => (rows A t r).du) 3 rfl (du_block (df_of H t) (wd_of H t 3 _) (q_of H t 3 _)) h0 h1 h2
    · exact piece (G := fun r => (rows A t r).du) 2 rfl (du_block (df_of H t) (wd_of H t 2 _) (q_of H t 2 _)) h0 h1 h2
    · exact piece (G := fun r => (rows A t r).du) 1 rfl (du_block (df_of H t) (wd_of H t 1 _) (q_of H t 1 _)) h0 h1 h2
    · exact piece (G := fun r => (rows A t r).du) 0 rfl (du_block (df_of H t) (wd_of H t 0 _) (q_of H t 0 _)) (h0.trans (zero_add _).symm) h1 h2
  · rw [outsAt0_B m c t hA hA]
    frame_out
    canon_tiles x h
    · exact piece (G := fun r => (rows A t r).du) 3 rfl (du_block (df_of H t) (wd_of H t 3 _) (q_of H t 3 _)) h0 h1 h2
    · exact piece (G := fun r => (rows A t r).du) 2 rfl (du_block (df_of H t) (wd_of H t 2 _) (q_of H t 2 _)) h0 h1 h2
    · exact piece (G := fun r => (rows A t r).du) 1 rfl (du_block (df_of H t) (wd_of H t 1 _) (q_of H t 1 _)) h0 h1 h2
    · exact piece (G := fun r => (rows A t r).du) 0 rfl (du_block (df_of H t) (wd_of H t 0 _) (q_of H t 0 _)) (h0.trans (zero_add _).symm) h1 h2

/-- A tile's part of the gate's gradient. -/
def part9 (A : In) (t : Fin cfg0.N) (i : S1x1x1024.Idx) : EReal := ((1 / 2 * ∑ r, (rows A t r).ct (i 2) * (rows A t r).f (i 2) : ℝ) : EReal)

theorem out9_reset (H : Args m c A) (t : Fin cfg0.N) (hA : t.val % 4 = 0) (i : S1x1x1024.Idx) :
    (outsAt0 m c t.val t.isLt).2.2.2 i = 0 + part9 A t i := by
  rw [zero_add, outsAt0_A m c t hA (not_not.mpr hA)]
  frame_out
  exact (pay7_eq ..).trans (dgt_at (iblk0 H t) (iblk2 H t) 0 (i 2))

theorem out9_step (H : Args m c A) (t : Fin cfg0.N) (hA : ¬t.val % 4 = 0) (i : S1x1x1024.Idx) :
    (outsAt0 m c t.val t.isLt).2.2.2 i
      = (outsAt0 m c (t.val - 1) (Nat.lt_of_le_of_lt (Nat.sub_le _ _) t.isLt)).2.2.2 i + part9 A t i := by
  rw [outsAt0_B m c t hA hA]
  frame_out
  refine (pay8_eq ..).trans (congrArg _ (dgt_at (iblk0 H t) (iblk2 H t) 0 (i 2)))

end Cert.FfnDs
end
-- ==== Proof.FfnDs.Reference.lean ====
/- The reference's arrays at real arguments: each is the row quantity it names. -/
module

public import proofs.«01_k».proof.Proof.Gen.Reference4Ideal.Read
public import proofs.«01_k».proof.Proof.Ffn.Reference

@[expose] public section

set_option maxRecDepth 16384

noncomputable section

namespace Cert.FfnDs.Ref

open Idealize.ShloMosaic Cert.Reference4Ideal Cert.Reference4Ideal.Read Cert.Ffn

variable (A : In)

theorem v78 (i : S4x4096x704.Idx) :
    val_main_v78 (F := Ideal) A.x0 A.x1 A.x2 A.x3 A.x4 A.x5 A.x6 A.x7 A.x8 i = ((A.tok (i 1)).da (col (i 0) (i 2)) : EReal) :=
  Ffn.Ref.v121 A i

theorem v81 (i : S4x4096x704.Idx) :
    val_main_v81 (F := Ideal) A.x0 A.x1 A.x2 A.x3 A.x4 A.x5 A.x7 A.x8 i = ((A.tok (i 1)).du (col (i 0) (i 2)) : EReal) :=
  Ffn.Ref.v124 A i

theorem v83 (i : S4096x1024.Idx) :
    val_main_v83 (F := Ideal) A.x4 A.x8 i = ((A.tok (i 0)).df (i 1) : EReal) := Ffn.Ref.v126 A i

theorem v28 (i : S2x2048x1024.Idx) :
    val_main_v28 (F := Ideal) A.x0 A.x1 A.x2 A.x3 A.x5 A.x6 A.x7 i = ((A.row (i 0) (i 1)).f (i 2) : EReal) := Ffn.Ref.v31 A i

/-- Half the branch's output against the cotangent, summed over an example's tokens. -/
theorem v37 (i : S2x1024.Idx) :
    val_main_v37 (F := Ideal) A.x0 A.x1 A.x2 A.x3 A.x5 A.x6 A.x7 A.x8 i = (A.dgt (i 0) (i 1) : EReal) := by
  rw [val_main_v37_apply, val_main_cst_6_apply, Fin.sum_univ_one, val_main_v36_apply, val_main_v35_apply,
    val_main_cst_5_apply, val_main_v34_apply, show idx_main_v34 = Cert.ReferenceIdeal.Read.idx_main_v40 from rfl, Ffn.Ref.ix_ex,
    val_main_v33_apply, val_main_cst_4_apply, Ideal.ofBits_def, Ideal.ofBits_def,
    Ideal.ofBits_zero_f32, zero_add, zero_add, word_half]
  have e : (∑ k : Fin 2048, val_main_v32 (F := Ideal) A.x0 A.x1 A.x2 A.x3 A.x5 A.x6 A.x7 A.x8
        (idx_main_v33 (ValueIdx.ix2 (n0 := 2) (n1 := 1024) (idx_main_v37 i 0 0) (idx_main_v37 i 0 2)) k))
      = ((∑ s, A.Ct (i 0) s (i 1) * (A.row (i 0) s).f (i 1) : ℝ) : EReal) := by
    rw [← sum_coe]
    exact Finset.sum_congr rfl fun k _ => by rw [val_main_v32_apply, v28]; exact (EReal.coe_mul _ _).symm
  rw [e, Ideal.mulf_def, ← EReal.coe_mul, Finset.mul_sum]; rfl

theorem v84 (i : S2x1x1024.Idx) :
    val_main_v84 (F := Ideal) A.x0 A.x1 A.x2 A.x3 A.x5 A.x6 A.x7 A.x8 i = (A.dgt (i 0) (i 2) : EReal) := by
  rw [val_main_v84_apply, v37]; rfl

end Cert.FfnDs.Ref
end
-- ==== Proof.FfnDs.Claim.lean ====
/- The kernel of the feed-forward half's first gradients computes what the reference computes, over the reals, at finite
   arguments. -/
module

public import proofs.«01_k».proof.Defs
public import proofs.«01_k».proof.Proof.Ffn.Finite
public import proofs.«01_k».proof.Proof.Ffn.Arrays
public import proofs.«01_k».proof.Proof.FfnDs.Outs
public import proofs.«01_k».proof.Proof.FfnDs.Reference
public import proofs.«01_k».proof.Proof.Gen.Kernel4Ideal.Value
public import proofs.«01_k».proof.Proof.Gen.Reference4Ideal.Run

@[expose] public section

set_option maxRecDepth 16384

noncomputable section

namespace Cert.FfnDs

open Idealize.ShloMosaic Idealize.SL.Sem
open Cert.Ffn (In Row col sum_coe real_of_test)

/-! ## The arrays the call leaves -/

section Arrays

open Cert.Kernel4Ideal Cert.Kernel4Ideal.Gen
open Cert.Ffn.Host (at3 at2)
open Idealize.ShloMosaic.Pipeline (Dat)

variable {m : (ℓ : Loc nD τ sig) → Buf (Elt Ideal) ℓ} {c : Dev nD} {A : In}

set_option maxHeartbeats 1000000

theorem array6 (H : Args m c A) : (dats m 0 c).arrAt 6 (cfgs 0).N = (fun i => (((A.tok (i 1)).da (col (i 0) (i 2)) : ℝ) : EReal) : FVec Ideal S4x4096x704 .bf16) := by
  refine (dats m 0 c).arrAt_eq_of_covers 6 _ (by decide +kernel) fun t _ y => ?_
  blk_simp
  rw [after0_6]
  refine (congrArg _ (eq_ix3 y)).trans ((out6 H t (y 0) (y 1) (y 2)).trans ?_)
  refine congrArg _ (at3 (fun t j k => (A.tok t).da (col j k)) ?_ ?_ ?_) <;> (try unfold tokOf) <;> blk_simp [idx t] <;> (try omega)

theorem array7 (H : Args m c A) : (dats m 0 c).arrAt 7 (cfgs 0).N = (fun i => (((A.tok (i 1)).du (col (i 0) (i 2)) : ℝ) : EReal) : FVec Ideal S4x4096x704 .bf16) := by
  refine (dats m 0 c).arrAt_eq_of_covers 7 _ (by decide +kernel) fun t _ y => ?_
  blk_simp
  rw [after0_7]
  refine (congrArg _ (eq_ix3 y)).trans ((out7 H t (y 0) (y 1) (y 2)).trans ?_)
  refine congrArg _ (at3 (fun t j k => (A.tok t).du (col j k)) ?_ ?_ ?_) <;> (try unfold tokOf) <;> blk_simp [idx t] <;> (try omega)

theorem array8 (H : Args m c A) : (dats m 0 c).arrAt 8 (cfgs 0).N = (fun i => (((A.tok (i 0)).df (i 1) : ℝ) : EReal) : FVec Ideal S4096x1024 .bf16) := by
  refine (dats m 0 c).arrAt_eq_of_covers 8 _ (by decide +kernel) fun t _ y => ?_
  blk_simp
  rw [after0_8]
  refine (congrArg _ (eq_ix2 y)).trans ((out8 H t (y 0) (y 1)).trans ?_)
  refine congrArg _ (at2 (fun t d => (A.tok t).df d) ?_ ?_) <;> (try unfold tokOf) <;> blk_simp [idx t] <;> (try omega)

theorem lt_N {n : ℕ} (h : n < 8) : n < cfg0.N := lt_of_lt_of_eq h N_0.symm

/-- Row `r` of the `s`-th tile of an example. -/
theorem rows_run (b : Fin 2) (n : Fin cfg0.N) (s : Fin 4) (hn : n.val = 4 * b.val + s.val) (r : Fin 512) :
    rows A n r = A.row b ⟨s.val * 512 + r.val, by omega⟩ := by
  unfold rows In.tok tokOf
  congr 1 <;> apply Fin.ext <;> dsimp only <;> omega

/-- The tiles of an example, summed: its tokens, summed. -/
theorem sum_run (b : Fin 2) (F : Row → ℝ) (n : Fin 4 → Fin cfg0.N) (hn : ∀ s, (n s).val = 4 * b.val + s.val) :
    (∑ s, ∑ r, F (rows A (n s) r)) = ∑ s, F (A.row b s) := by
  rw [Fin.sum_univ_tiles 4 512 rfl]
  exact Finset.sum_congr rfl fun s _ => Finset.sum_congr rfl fun r _ => by rw [rows_run b (n s) s (hn s)]

theorem array9 (H : Args m c A) : (dats m 0 c).arrAt 9 (cfgs 0).N = (fun i => ((A.dgt (i 0) (i 2) : ℝ) : EReal) : FVec Ideal S2x1x1024 .f32) := by
  refine (dats m 0 c).arrAt_eq_of_covers 9 _ (by decide +kernel) fun t hf y => ?_
  blk_simp
  rw [after0_9, Pipeline.eq_sum_fin_of_reset_step_apply_of_flush (fun n h => (outsAt0 m c n h).2.2.2) 4 (fun _ => 0) (part9 A)
    (out9_reset H) (out9_step H) t ((flush0_9 t).mp hf) y, zero_add]
  have ht := lt8 t
  obtain ⟨b, hb⟩ : ∃ b : Fin 2, b.val = t.val / 4 := ⟨⟨t.val / 4, by omega⟩, rfl⟩
  have hy : (y 0).val < 1 := (y 0).isLt
  have e0 : ((win0_9.blk t).view.emb y 0 : Fin 2) = b := Fin.ext (by
    rw [hb]
    blk_simp [idx t])
  have e2 : ((win0_9.blk t).view.emb y 2 : Fin 1024) = y 2 := Fin.ext (by blk_simp [idx t] <;> (try omega))
  refine (sum_coe _ _).trans (congrArg _ ?_)
  refine Eq.trans ?_ (congrArg₂ A.dgt e0.symm e2.symm)
  unfold In.dgt
  refine Eq.trans (Finset.sum_congr rfl fun s _ => Finset.mul_sum _ _ _) ?_
  exact sum_run b (fun R => 1 / 2 * (R.ct (y 2) * R.f (y 2))) (fun s => ⟨4 * (t.val / 4) + s.val, lt_N (by omega)⟩) fun s => by dsimp only; rw [hb]

end Arrays

/-! ## The claim -/

open Cert.Kernel4Ideal in
/-- The real arguments the kernel's memory holds, on a device. -/
def inputs (m : (ℓ : Loc nD τ sig) → Buf (Elt Ideal) ℓ) (c : Dev nD) : In where
  X b s d := EReal.toReal ((m (c, Proc.devRef .tc main_arg0) : FVec Ideal S2x2048x1024 .f32) (ix3 b s d))
  G d := EReal.toReal ((m (c, Proc.devRef .tc main_arg1) : FVec Ideal S1024 .f32) (ix1 d))
  Sh b d := EReal.toReal ((m (c, Proc.devRef .tc main_arg2) : FVec Ideal S2x1024 .f32) (ix2 b d))
  Sc b d := EReal.toReal ((m (c, Proc.devRef .tc main_arg3) : FVec Ideal S2x1024 .f32) (ix2 b d))
  Gt b d := EReal.toReal ((m (c, Proc.devRef .tc main_arg4) : FVec Ideal S2x1024 .f32) (ix2 b d))
  Wg d f := EReal.toReal ((m (c, Proc.devRef .tc main_arg5) : FVec Ideal S1024x2816 .f32) (ix2 d f))
  Wu d f := EReal.toReal ((m (c, Proc.devRef .tc main_arg6) : FVec Ideal S1024x2816 .f32) (ix2 d f))
  Wd f d := EReal.toReal ((m (c, Proc.devRef .tc main_arg7) : FVec Ideal S2816x1024 .f32) (ix2 f d))
  Ct b s d := EReal.toReal ((m (c, Proc.devRef .tc main_arg8) : FVec Ideal S2x2048x1024 .f32) (ix3 b s d))

open Cert.Kernel4Ideal in
/-- Under the precondition the arguments are the real arrays `inputs`. -/
theorem args_of_finite {m : (ℓ : Loc nD τ sig) → Buf (Elt Ideal) ℓ} (h : Cert.Pre_Kernel4Ideal_finite m) (c : Dev nD) :
    Args m c (inputs m c) := by
  obtain ⟨h0, h1, h2, h3, h4, h5, h6, h7, h8⟩ := h c
  constructor
  · exact funext fun i => ((real_of_test _ _ h0 i).symm.trans (congrArg _ (congrArg EReal.toReal (congrArg _ (eq_ix3 i)))))
  · exact funext fun i => ((real_of_test _ _ h1 i).symm.trans (congrArg _ (congrArg EReal.toReal (congrArg _ (eq_ix1 i)))))
  · exact funext fun i => ((real_of_test _ _ h2 i).symm.trans (congrArg _ (congrArg EReal.toReal (congrArg _ (eq_ix2 i)))))
  · exact funext fun i => ((real_of_test _ _ h3 i).symm.trans (congrArg _ (congrArg EReal.toReal (congrArg _ (eq_ix2 i)))))
  · exact funext fun i => ((real_of_test _ _ h4 i).symm.trans (congrArg _ (congrArg EReal.toReal (congrArg _ (eq_ix2 i)))))
  · exact funext fun i => ((real_of_test _ _ h5 i).symm.trans (congrArg _ (congrArg EReal.toReal (congrArg _ (eq_ix2 i)))))
  · exact funext fun i => ((real_of_test _ _ h6 i).symm.trans (congrArg _ (congrArg EReal.toReal (congrArg _ (eq_ix2 i)))))
  · exact funext fun i => ((real_of_test _ _ h7 i).symm.trans (congrArg _ (congrArg EReal.toReal (congrArg _ (eq_ix2 i)))))
  · exact funext fun i => ((real_of_test _ _ h8 i).symm.trans (congrArg _ (congrArg EReal.toReal (congrArg _ (eq_ix3 i)))))

/-- The results, as arrays of real numbers: the gradients by the gate pre-activation and by the up projection, the
    branch's cotangent, and the gate's gradient, at the real arguments `A`. -/
def res (A : In) : FVec Ideal Cert.Kernel4Ideal.S4x4096x704 .bf16 × FVec Ideal Cert.Kernel4Ideal.S4x4096x704 .bf16 ×
    FVec Ideal Cert.Kernel4Ideal.S4096x1024 .bf16 × FVec Ideal Cert.Kernel4Ideal.S2x1x1024 .f32 :=
  (fun i => (((A.tok (i 1)).da (col (i 0) (i 2)) : ℝ) : EReal), fun i => (((A.tok (i 1)).du (col (i 0) (i 2)) : ℝ) : EReal),
    fun i => (((A.tok (i 0)).df (i 1) : ℝ) : EReal), fun i => ((A.dgt (i 0) (i 2) : ℝ) : EReal))

open Cert.Reference4Ideal Cert.Reference4Ideal.Gen Cert.Reference4Ideal.Value Cert.Reference4Ideal.Read in
/-- The reference, run at the real arguments `A`, ends with the results `res A`. -/
theorem reference_run (m : (ℓ : Loc nD τ sig) → Buf (Elt Ideal) ℓ) (ρ : Dev nD → PrngReg) (A : Dev nD → In)
    (h0 : ∀ c, m (c, Proc.devRef .tc main_arg0) = (A c).x0) (h1 : ∀ c, m (c, Proc.devRef .tc main_arg1) = (A c).x1)
    (h2 : ∀ c, m (c, Proc.devRef .tc main_arg2) = (A c).x2) (h3 : ∀ c, m (c, Proc.devRef .tc main_arg3) = (A c).x3)
    (h4 : ∀ c, m (c, Proc.devRef .tc main_arg4) = (A c).x4) (h5 : ∀ c, m (c, Proc.devRef .tc main_arg5) = (A c).x5)
    (h6 : ∀ c, m (c, Proc.devRef .tc main_arg6) = (A c).x6) (h7 : ∀ c, m (c, Proc.devRef .tc main_arg7) = (A c).x7)
    (h8 : ∀ c, m (c, Proc.devRef .tc main_arg8) = (A c).x8) :
    θ_run defs (onTc (τ := τ) (main (F := Ideal))) ⟨m, fun _ => 0, ρ⟩ fun r => ∀ c : Dev nD,
      r.2.mem ((c.tc : Thread nD τ).loc main_v78) = (res (A c)).1
      ∧ r.2.mem ((c.tc : Thread nD τ).loc main_v81) = (res (A c)).2.1
      ∧ r.2.mem ((c.tc : Thread nD τ).loc main_v83) = (res (A c)).2.2.1
      ∧ r.2.mem ((c.tc : Thread nD τ).loc main_v84) = (res (A c)).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run m ρ)
  obtain ⟨e0, e1, e2, e3, e⟩ := h c
  replace e0 := e0.trans (val_main_v78_eq m c)
  replace e1 := e1.trans (val_main_v81_eq ..)
  replace e2 := e2.trans (val_main_v83_eq ..)
  replace e3 := e3.trans (val_main_v84_eq m c)
  simp only [h0 c, h1 c, h2 c, h3 c, h4 c, h5 c, h6 c, h7 c, h8 c] at e0 e1 e2 e3
  exact ⟨e0.trans (funext fun i => Ref.v78 _ i), e1.trans (funext fun i => Ref.v81 _ i), e2.trans (funext fun i => Ref.v83 _ i),
    e3.trans (funext fun i => Ref.v84 _ i), e⟩

/-- Kernel and reference end with equal results. -/
theorem algebraic : Cert.algebraic_Kernel4Ideal_Reference4Ideal_pre_finite := by
  intro m g m' g' hpre hagree
  have H := args_of_finite hpre
  refine ⟨fun c => (res (inputs m c)).1, fun c => (res (inputs m c)).2.1, fun c => (res (inputs m c)).2.2.1,
    fun c => (res (inputs m c)).2.2.2, ?_, ?_⟩
  · refine (θ_run _ _ _).mono (fun r h c => ?_) (Cert.Kernel4Ideal.Value.run_blocks (F := Ideal) m g)
    obtain ⟨e0, e1, e2, e3, e⟩ := h c
    exact ⟨e0.trans (array6 (H c)), e1.trans (array7 (H c)), e2.trans (array8 (H c)), e3.trans (array9 (H c)), e⟩
  · exact reference_run m' g' (fun c => inputs m c) (fun c => (hagree c).1.trans (H c).a0) (fun c => (hagree c).2.1.trans (H c).a1)
      (fun c => (hagree c).2.2.1.trans (H c).a2) (fun c => (hagree c).2.2.2.1.trans (H c).a3) (fun c => (hagree c).2.2.2.2.1.trans (H c).a4)
      (fun c => (hagree c).2.2.2.2.2.1.trans (H c).a5) (fun c => (hagree c).2.2.2.2.2.2.1.trans (H c).a6)
      (fun c => (hagree c).2.2.2.2.2.2.2.1.trans (H c).a7) (fun c => (hagree c).2.2.2.2.2.2.2.2.trans (H c).a8)

end Cert.FfnDs
-- ==== Proof.Tail.Row.lean ====
/- The gradients of a modulated, normalised row, over the extended reals: from the gradient `dh` at `h = n · g · (1 + sc) + sh`,
   where `n` is the row over its root mean square, to the gradients at the row, the shift, the scale and the gain. -/
module

public import proofs.«01_k».proof.Proof.Ffn.Inputs

@[expose] public section

noncomputable section

namespace Cert.Tail

open Idealize.ShloMosaic Cert.ReferenceIdeal
open Cert.Ffn (eps eps_pos sum_coe div_real rsqrt_real)

/-! ## Extended reals -/

/-- A nonnegative real factor moves into a sum. -/
theorem sum_mul_real {ι : Type*} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

theorem square_nonneg (x : EReal) : 0 ≤ x * x := by
  induction x with
  | bot => simp
  | top => simp
  | coe x => rw [← EReal.coe_mul]; exact EReal.coe_nonneg.mpr (mul_self_nonneg x)

/-- The squares of a row sum to infinity unless the row is real. -/
theorem real_or_top {n : ℕ} (x : Fin n → EReal) : (∃ f : Fin n → ℝ, ∀ d, x d = (f d : EReal)) ∨ (∑ d, x d * x d) = ⊤ := by
  by_cases h : ∀ d, x d ≠ ⊤ ∧ x d ≠ ⊥
  · exact .inl ⟨fun d => (x d).toReal, fun d => (EReal.coe_toReal (h d).1 (h d).2).symm⟩
  · simp only [not_forall] at h
    obtain ⟨d, hd⟩ := h
    refine .inr (top_le_iff.mp (le_trans (le_of_eq ?_) (Finset.single_le_sum (f := fun d => x d * x d) (fun e _ => square_nonneg (x e)) (Finset.mem_univ d))))
    by_cases ht : x d = ⊤
    · rw [ht]; simp
    · have hb : x d = ⊥ := by by_contra hb; exact hd ⟨ht, hb⟩
      rw [hb]; simp

theorem double (y : EReal) : y + y = ((2 : ℝ) : EReal) * y := by
  have h := EReal.right_distrib_of_nonneg (a := 1) (b := 1) (c := y) zero_le_one zero_le_one
  rw [one_mul] at h
  rw [← h, ← EReal.coe_one, ← EReal.coe_add]
  norm_num

/-! ## The row -/

/-- What one token's gradients read: the row, the gain, the scale, the cotangent the residual carries past the norm, and the
    gradient at the modulated row. -/
structure Row where
  x : Fin 1024 → EReal
  g : Fin 1024 → EReal
  sc : Fin 1024 → EReal
  ct : Fin 1024 → EReal
  dh : Fin 1024 → EReal

namespace Row

variable (R : Row)

/-- The mean of the squared features, plus the norm's small constant. -/
def ms : EReal := Ideal.div (∑ d, R.x d * R.x d) ((1024 : ℝ) : EReal) + (eps : EReal)
/-- The reciprocal root mean square. -/
def r : EReal := Ideal.rsqrt R.ms
/-- The derivative of the reciprocal root. -/
def root : EReal := ((-(1 / 2) : ℝ) : EReal) * Ideal.div R.r R.ms
/-- The normalised features. -/
def n (d : Fin 1024) : EReal := R.x d * R.r
/-- … with the gain. -/
def ng (d : Fin 1024) : EReal := R.n d * R.g d
/-- The gradient at the normalised row with its gain. -/
def dy (d : Fin 1024) : EReal := R.dh d * (1 + R.sc d)
/-- The gradient at the normalised row. -/
def dn (d : Fin 1024) : EReal := R.dy d * R.g d
/-- The gradient at the row itself, the residual's part included. -/
def dx (d : Fin 1024) : EReal := R.ct d + R.r * (R.dn d - R.n d * Ideal.div (∑ e, R.dn e * R.n e) ((1024 : ℝ) : EReal))
/-- The part of the row's gradient that passes through the mean of the squares. -/
def through : EReal := Ideal.div ((∑ e, R.x e * R.dn e) * R.root) ((1024 : ℝ) : EReal)

/-- The row's gradient as the chain rule spells it: through the product with the reciprocal root, and twice through the
    square under the root. -/
theorem dx_chain (d : Fin 1024) : R.ct d + R.dn d * R.r + R.x d * R.through + R.through * R.x d = R.dx d := by
  have h1024 : (1024 : ℝ) ≠ 0 := by norm_num
  obtain ⟨f, hf⟩ | ht := real_or_top R.x
  · obtain ⟨S, hS⟩ : ∃ S, S = ∑ e, R.x e * R.dn e := ⟨_, rfl⟩
    have hs : (∑ d, R.x d * R.x d) = ((∑ d, f d * f d : ℝ) : EReal) := by
      rw [← sum_coe]; exact Finset.sum_congr rfl fun d _ => by rw [hf, EReal.coe_mul]
    obtain ⟨v, hv, hms⟩ : ∃ v : ℝ, 0 < v ∧ R.ms = (v : EReal) :=
      ⟨(∑ d, f d * f d) / 1024 + eps,
        add_pos_of_nonneg_of_pos (div_nonneg (Finset.sum_nonneg fun d _ => mul_self_nonneg (f d)) (by norm_num)) eps_pos, by
        unfold ms; rw [hs, div_real _ h1024, ← EReal.coe_add]⟩
    obtain ⟨u, hu⟩ : ∃ u : ℝ, u = (Real.sqrt v)⁻¹ := ⟨_, rfl⟩
    have hr : R.r = (u : EReal) := by unfold r; rw [hms, rsqrt_real hv, hu]
    have hu0 : 0 ≤ u := by rw [hu]; exact inv_nonneg.mpr (Real.sqrt_nonneg v)
    have huv : u / v = u * (u * u) := by
      have h2 : u * u = v⁻¹ := by rw [hu, ← mul_inv, Real.mul_self_sqrt hv.le]
      rw [h2, div_eq_mul_inv]
    have hroot : R.root = ((-(1 / 2) * (u * (u * u)) : ℝ) : EReal) := by
      unfold root; rw [hr, hms, div_real _ hv.ne', huv, ← EReal.coe_mul]
    have hn : (∑ e, R.dn e * R.n e) = S * (u : EReal) := by
      rw [hS, sum_mul_real _ _ hu0]
      exact Finset.sum_congr rfl fun e _ => by unfold n; rw [hr, mul_left_comm, mul_assoc]
    have ht : R.through = S * ((-(1 / 2) * (u * (u * u)) * (1 / 1024) : ℝ) : EReal) := by
      unfold through; rw [← hS, hroot, Ideal.div_coe h1024, mul_assoc, ← EReal.coe_mul]
    unfold dx
    rw [hn, Ideal.div_coe h1024, hr, EReal.mul_sub_of_nonneg_of_ne_top (EReal.coe_nonneg.mpr hu0) (EReal.coe_ne_top u), sub_eq_add_neg, ← add_assoc, add_assoc,
      mul_comm R.through, double, mul_comm (R.dn d)]
    refine congrArg _ ?_
    unfold n
    rw [ht, hr, hf d]
    have e1 : ((2 : ℝ) : EReal) * ((f d : EReal) * (S * ((-(1 / 2) * (u * (u * u)) * (1 / 1024) : ℝ) : EReal)))
        = S * ((2 * f d * (-(1 / 2) * (u * (u * u)) * (1 / 1024)) : ℝ) : EReal) := by
      rw [EReal.coe_mul (2 * f d), EReal.coe_mul 2]; ac_rfl
    have e2 : (u : EReal) * ((f d : EReal) * (u : EReal) * (S * (u : EReal) * ((1 / 1024 : ℝ) : EReal)))
        = S * ((u * f d * u * u * (1 / 1024) : ℝ) : EReal) := by
      rw [EReal.coe_mul (u * f d * u * u), EReal.coe_mul (u * f d * u), EReal.coe_mul (u * f d), EReal.coe_mul u]; ac_rfl
    rw [e1, e2, ← mul_neg, ← EReal.coe_neg]
    congr 2
    ring
  · have hms : R.ms = ⊤ := by
      unfold ms
      rw [ht, Ideal.div_coe h1024, EReal.top_mul_coe_of_pos (by norm_num), EReal.top_add_coe]
    have hr : R.r = 0 := by unfold r; rw [hms, Ideal.rsqrt_top]
    have hroot : R.root = 0 := by unfold root; rw [hr, hms]; simp [Ideal.div]
    have h0 : R.through = 0 := by unfold through; rw [hroot, mul_zero, Ideal.div_coe h1024, zero_mul]
    unfold dx
    rw [h0, hr, mul_zero, mul_zero, zero_mul, zero_mul, add_zero, add_zero, add_zero]

end Row

/-- The arrays, and the gradient at the modulated rows. -/
structure In where
  x : FVec Ideal S2x2048x1024 .f32
  g : FVec Ideal S1024 .f32
  sc : FVec Ideal S2x1024 .f32
  ct : FVec Ideal S2x2048x1024 .f32
  dh : Fin 2 → Fin 2048 → Fin 1024 → EReal

namespace In

variable (A : In)

/-- Token `s` of example `b`. -/
def row (b : Fin 2) (s : Fin 2048) : Row where
  x d := A.x (ValueIdx.ix3 b s d)
  g d := A.g (ValueIdx.ix1 d)
  sc d := A.sc (ValueIdx.ix2 b d)
  ct d := A.ct (ValueIdx.ix3 b s d)
  dh := A.dh b s

/-- Token `t` of the flattened batch. -/
def tok (t : Fin 4096) : Row := A.row ⟨t.val / 2048, by omega⟩ ⟨t.val % 2048, by omega⟩

/-- The gradient of the shift of example `b`. -/
def dsh (b : Fin 2) (d : Fin 1024) : EReal := ∑ s, (A.row b s).dh d
/-- The gradient of the scale of example `b`. -/
def dsc (b : Fin 2) (d : Fin 1024) : EReal := ∑ s, (A.row b s).dh d * (A.row b s).ng d
/-- The gradient of the norm's gain. -/
def dg (d : Fin 1024) : EReal := ∑ b, ∑ s, (A.row b s).dy d * (A.row b s).n d

end In

end Cert.Tail

end
-- ==== Proof.Tail.Tile.lean ====
/- What one tile of 512 rows computes from the gradient at its modulated rows: every value the body stores, read at a row and
   a column, is the row's own gradient (`Tail.Row`), or a sum of those over the tile.  Each lemma takes the blocks it reads as
   hypotheses. -/
module

public import proofs.«01_k».proof.Proof.Gen.Kernel5Ideal.Skeleton
public import proofs.«01_k».proof.Proof.Ffn.Outs
public import proofs.«01_k».proof.Proof.Tail.Row
public import Idealize.ShloMosaic.Lib.Pointwise

@[expose] public section

set_option maxRecDepth 16384

noncomputable section

namespace Cert.Tail.Tile

open Idealize.ShloMosaic Idealize.ShloMosaic.TcCoe Cert.Kernel5Ideal Cert.Kernel5Ideal.Gen
open Cert.Ffn (word_1024 word_eps)

/-- A tile's 512 rows. -/
abbrev Rows := Fin 512 → Row

variable {R : Rows} {v46 v47 v48 v53 : FVec Ideal S512x1024 .f32} {v50 : FVec Ideal S1x1024 .f32} {v51 : FVec Ideal S1x1x1024 .f32}

/-- What the arrays one tile reads hold. -/
structure Reads (R : Rows) (v46 v48 v53 : FVec Ideal S512x1024 .f32) (v50 : FVec Ideal S1x1024 .f32) (v51 : FVec Ideal S1x1x1024 .f32) : Prop where
  dh : ∀ r d, v46 (ix2 r d) = (R r).dh d
  x : ∀ r d, v48 (ix2 r d) = (R r).x d
  ct : ∀ r d, v53 (ix2 r d) = (R r).ct d
  g : ∀ r d, v50 (ix2 0 d) = (R r).g d
  sc : ∀ r d, v51 (ix3 0 0 d) = (R r).sc d

theorem same_x (v47 : FVec Ideal S512x1024 .f32) (r d) : k0_pay4 (F := Ideal) v47 (ix2 r d) = v47 (ix2 r d) := by pointwise [k0_pay4]
theorem same_g (v49 : FVec Ideal S1x1024 .f32) (r d) : k0_pay5 (F := Ideal) v49 (ix2 r d) = v49 (ix2 r d) := by pointwise [k0_pay5]

variable (h : Reads R v46 v48 v53 v50 v51)
include h

theorem r_at (r) : k0_pay6 (F := Ideal) v48 (ix2 r 0) = (R r).r := by
  have e : (∑ d, v48 (ix2 r d) * v48 (ix2 r d) : EReal) = ∑ d, (R r).x d * (R r).x d :=
    Finset.sum_congr (M := EReal) rfl fun d _ => congrArg₂ (· * ·) (h.x r d) (h.x r d)
  pointwise [k0_pay6]
  rw [e, word_1024, word_eps]
  rfl

theorem n_at (r d) : k0_pay7 (F := Ideal) v48 (ix2 r d) = (R r).n d := by
  pointwise [k0_pay7]
  rw [h.x, r_at h]; rfl

theorem dsh_at (z : Fin 1) (d) : k0_pay8 (F := Ideal) v46 (ix2 z d) = ∑ r, (R r).dh d := by
  pointwise [k0_pay8]
  exact Finset.sum_congr (M := EReal) rfl fun r _ => h.dh r d

theorem dsc_at (z : Fin 1) (d) : k0_pay9 (F := Ideal) v46 v48 v50 (ix2 z d) = ∑ r, (R r).dh d * (R r).ng d := by
  pointwise [k0_pay9]
  exact Finset.sum_congr (M := EReal) rfl fun r _ => by rw [h.dh, n_at h, h.g r]; rfl

theorem dy_at (r d) : k0_pay10 (F := Ideal) v46 v51 (ix2 r d) = (R r).dy d := by
  pointwise [k0_pay10]
  rw [h.dh, h.sc r]; rfl

theorem dg_at (z : Fin 1) (d) : k0_pay11 (F := Ideal) v46 v48 v51 (ix2 z d) = ∑ r, (R r).dy d * (R r).n d := by
  pointwise [k0_pay11]
  exact Finset.sum_congr (M := EReal) rfl fun r _ => by rw [dy_at h, n_at h]

theorem dx_at (r d) : k0_pay12 (F := Ideal) v46 v48 v50 v51 v53 (ix2 r d) = (R r).dx d := by
  have hdn : ∀ d, k0_pay10 (F := Ideal) v46 v51 (ix2 r d) * v50 (ix2 0 d) = (R r).dn d := fun d => by
    rw [dy_at h, h.g r]; rfl
  have e : (∑ d, k0_pay10 (F := Ideal) v46 v51 (ix2 r d) * v50 (ix2 0 d) * k0_pay7 (F := Ideal) v48 (ix2 r d) : EReal) = ∑ d, (R r).dn d * (R r).n d :=
    Finset.sum_congr (M := EReal) rfl fun d _ => congrArg₂ (· * ·) (hdn d) (n_at h r d)
  pointwise [k0_pay12]
  rw [e, hdn, n_at h, h.ct, r_at h, word_1024]
  rfl

omit h

/-! ## What is added at a tile to a sum over tokens -/

theorem pay13_eq (v68) (i : S1x1x1024.Idx) : k0_pay13 (F := Ideal) v68 i = v68 (ix2 0 (i 2)) := by
  idx_vars i; pointwise [k0_pay13]
theorem pay14_eq (v68 acc) (i : S1x1x1024.Idx) : k0_pay14 (F := Ideal) v68 acc i = acc i + v68 (ix2 0 (i 2)) := by
  idx_vars i; obtain rfl : i0 = 0 := Subsingleton.elim _ _; obtain rfl : i1 = 0 := Subsingleton.elim _ _
  pointwise [k0_pay14]
theorem pay15_eq (v71) (i : S1x1x1024.Idx) : k0_pay15 (F := Ideal) v71 i = v71 (ix2 0 (i 2)) := by
  idx_vars i; pointwise [k0_pay15]
theorem pay16_eq (v71 acc) (i : S1x1x1024.Idx) : k0_pay16 (F := Ideal) v71 acc i = acc i + v71 (ix2 0 (i 2)) := by
  idx_vars i; obtain rfl : i0 = 0 := Subsingleton.elim _ _; obtain rfl : i1 = 0 := Subsingleton.elim _ _
  pointwise [k0_pay16]
theorem pay1_eq (v78 acc) (i : S1x1024.Idx) : k0_pay1 (F := Ideal) v78 acc i = acc i + v78 (ix2 0 (i 1)) := by
  idx_vars i; obtain rfl : i0 = 0 := Subsingleton.elim _ _
  pointwise [k0_pay1]

end Cert.Tail.Tile
end
-- ==== Proof.Tail.Flat.lean ====
/- The rows, the gain and the scales as the gradient kernels' host code lays them out, and a sum over a tile's rows, summed over
   tiles, as a sum over tokens.  Tile `n` holds the 512 tokens from `512 n` on, and four tiles make an example. -/
module

public import proofs.«01_k».proof.Proof.Gen.Kernel5Ideal.Skeleton
public import proofs.«01_k».proof.Proof.Tail.Row
public import Idealize.ShloMosaic.Lib.Pointwise

@[expose] public section

set_option maxRecDepth 16384

noncomputable section

namespace Cert.Tail

open Idealize.ShloMosaic Idealize.ShloMosaic.TcCoe Cert.Kernel5Ideal Cert.Kernel5Ideal.Gen

/-! ## The host's layouts -/

/-- Rows of all tokens, laid flat. -/
def flat (x : FVec Ideal S2x2048x1024 .f32) : FVec Ideal S4096x1024 .f32 :=
  shapeCast S4096x1024 (s := S2x2048x1024) x Facts₀.shapeCasts_S2x2048x1024_S4096x1024
/-- The gain, as one row. -/
def gain (g : FVec Ideal S1024 .f32) : FVec Ideal S1x1024 .f32 := broadcastInDim S1x1024 ![1] Facts₀.bcast_S1024_S1x1024_1 g
/-- The scales, one row for each example. -/
def scales (sc : FVec Ideal S2x1024 .f32) : FVec Ideal S2x1x1024 .f32 := broadcastInDim S2x1x1024 ![0, 2] Facts₀.bcast_S2x1024_S2x1x1024_0_2 sc

theorem flat_at (x : FVec Ideal S2x2048x1024 .f32) (t : Fin 4096) (d : Fin 1024) :
    flat x (ix2 t d) = x (ix3 ⟨t.val / 2048, by omega⟩ ⟨t.val % 2048, by omega⟩ d) := by
  pointwise [flat]
theorem gain_at (g : FVec Ideal S1024 .f32) (z : Fin 1) (d : Fin 1024) : gain g (ix2 z d) = g (ix1 d) := by
  pointwise [gain]
theorem scales_at (sc : FVec Ideal S2x1024 .f32) (b : Fin 2) (z : Fin 1) (d : Fin 1024) : scales sc (ix3 b z d) = sc (ix2 b d) := by
  pointwise [scales]

/-! ## Tiles -/

/-- Token `r` of tile `n`. -/
def tokOf (n : ℕ) (h : n < 8) (r : Fin 512) : Fin 4096 := ⟨n * 512 + r.val, by omega⟩

variable (A : In)

/-- The rows of tile `n`. -/
def rows (n : ℕ) (h : n < 8) (r : Fin 512) : Row := A.tok (tokOf n h r)

/-- Row `r` of the `s`-th tile of an example. -/
theorem rows_run (b : Fin 2) (n : ℕ) (h : n < 8) (s : Fin 4) (hn : n = 4 * b.val + s.val) (r : Fin 512) :
    rows A n h r = A.row b ⟨s.val * 512 + r.val, by omega⟩ := by
  unfold rows In.tok tokOf
  congr 1 <;> apply Fin.ext <;> dsimp only <;> omega

/-- The tiles of an example, summed: its tokens, summed. -/
theorem sum_run (b : Fin 2) (F : Row → EReal) (n : Fin 4 → ℕ) (h : ∀ s, n s < 8) (hn : ∀ s, n s = 4 * b.val + s.val) :
    (∑ s, ∑ r, F (rows A (n s) (h s) r)) = ∑ s, F (A.row b s) := by
  rw [Fin.sum_univ_tiles 4 512 rfl]
  exact Finset.sum_congr rfl fun s _ => Finset.sum_congr rfl fun r _ => by rw [rows_run A b (n s) (h s) s (hn s)]

/-- All the tiles, summed: all the tokens, summed. -/
theorem sum_all (F : Row → EReal) (n : Fin 8 → ℕ) (h : ∀ s, n s < 8) (hn : ∀ s, n s = s.val) :
    (∑ s, ∑ r, F (rows A (n s) (h s) r)) = ∑ b, ∑ s, F (A.row b s) := by
  rw [Fin.sum_univ_tiles 2 4 rfl]
  exact Finset.sum_congr rfl fun b _ => sum_run A b F (fun s => n ⟨b.val * 4 + s.val, by omega⟩) (fun _ => h _) fun s => by rw [hn]; dsimp only; omega

end Cert.Tail
end
-- ==== Proof.Tail.Reference.lean ====
/- The reference's way from the gradient at the modulated rows to the gradients at the rows, the shift, the scale and the
   gain, as a composition of array operations over any array `dh`, and what those arrays hold. -/
module

public import proofs.«01_k».proof.Proof.Gen.Reference5Ideal.Read
public import proofs.«01_k».proof.Proof.Ffn.Reference
public import proofs.«01_k».proof.Proof.Tail.Row
public import Idealize.ShloMosaic.Lib.Pointwise

@[expose] public section

set_option maxRecDepth 16384

noncomputable section

namespace Cert.Tail

open Idealize.ShloMosaic Idealize.ShloMosaic.TcCoe Cert.Reference5Ideal Cert.Reference5Ideal.Gen Cert.Reference5Ideal.Read
open Cert.Ffn (word_1024 word_eps word_neg_half)
open Cert.Ffn.Ref (hostReduceAdd_two)

/-! ## The arrays, as the reference's operations compose them -/

section Defs
variable (x ct dh : FVec Ideal S2x2048x1024 .f32) (g : FVec Ideal S1024 .f32) (sc : FVec Ideal S2x1024 .f32)

/-- One number an example and a feature, summed over the example's tokens. -/
def perExample (y : FVec Ideal S2x2048x1024 .f32) : FVec Ideal S2x1x1024 .f32 :=
  broadcastInDim S2x1x1024 ![0, 2] bcast_S2x1024_S2x1x1024_0_2
    (Host.reduceAdd (shapeCast S2x1x1024 (Host.reduceAdd y (constant S_ .f32 0x00000000#32) reducesTo_S2x2048x1024_S2x1024_d1 h_S_)
      shapeCasts_S2x1024_S2x1x1024) (constant S_ .f32 0x00000000#32) reducesTo_S2x1x1024_S2x1024_d1 h_S_)
/-- The gradient at the normalised row with its gain. -/
def ady : FVec Ideal S2x2048x1024 .f32 := mulf dh (val_main_v35 (F := Ideal) sc)
/-- The gradient at the normalised row. -/
def adn : FVec Ideal S2x2048x1024 .f32 := mulf (ady dh sc) (val_main_v41 (F := Ideal) g)
/-- The gain's gradient. -/
def adg : FVec Ideal S1x1024 .f32 :=
  broadcastInDim S1x1024 ![1] bcast_S1024_S1x1024_1
    (Host.reduceAdd (shapeCast S1x1x1024 (Host.reduceAdd (mulf (val_main_v12 (F := Ideal) x) (ady dh sc)) (constant S_ .f32 0x00000000#32)
      reducesTo_S2x2048x1024_S1024_d0_1 h_S_) shapeCasts_S1024_S1x1x1024) (constant S_ .f32 0x00000000#32) reducesTo_S1x1x1024_S1024_d0_1 h_S_)
/-- The part of the row's gradient that passes through the mean of the squares. -/
def aroot : FVec Ideal S2x2048x1024 .f32 :=
  broadcastInDim S2x2048x1024 ![0, 1] bcast_S2x2048_S2x2048x1024_0_1
    (Host.reduceAdd (Host.divf (mulf (shapeCast S2x2048x1 (Host.reduceAdd (mulf x (adn dh g sc)) (constant S_ .f32 0x00000000#32)
      reducesTo_S2x2048x1024_S2x2048_d2 h_S_) shapeCasts_S2x2048_S2x2048x1) (val_main_v10 (F := Ideal) x)) (val_main_v51 (F := Ideal)))
      (constant S_ .f32 0x00000000#32) reducesTo_S2x2048x1_S2x2048_d2 h_S_)
/-- The row's gradient. -/
def adx : FVec Ideal S4096x1024 .f32 :=
  shapeCast S4096x1024 (addf (addf (addf ct (mulf (adn dh g sc) (val_main_v47 (F := Ideal) x))) (mulf x (aroot x dh g sc))) (mulf (aroot x dh g sc) x))
    shapeCasts_S2x2048x1024_S4096x1024

end Defs

/-! ## What they hold -/

theorem perExample_at (y : FVec Ideal S2x2048x1024 .f32) (b : Fin 2) (z : Fin 1) (d : Fin 1024) : perExample y (ix3 b z d) = ∑ s, y (ix3 b s d) := by
  pointwise [perExample]
  simp only [Fin.sum_univ_one]

variable (A : In) {dh : FVec Ideal S2x2048x1024 .f32}

theorem ms_at (b : Fin 2) (s : Fin 2048) (z : Fin 1) : val_main_v6 (F := Ideal) A.x (ix3 b s z) = (A.row b s).ms := by
  pointwise [val_main_v6, val_main_v5, val_main_v4, val_main_v3, val_main_v2, val_main_v1, val_main_v0, val_main_cst, val_main_cst_0, val_main_cst_1]
  rw [word_1024, word_eps]
  rfl

theorem r_at (b : Fin 2) (s : Fin 2048) (z : Fin 1) : val_main_v7 (F := Ideal) A.x (ix3 b s z) = (A.row b s).r :=
  congrArg Ideal.rsqrt (ms_at A b s z)

theorem r_row_at (b : Fin 2) (s : Fin 2048) (d : Fin 1024) : val_main_v47 (F := Ideal) A.x (ix3 b s d) = (A.row b s).r := by
  pointwise [val_main_v47]
  exact r_at A b s _

theorem root_at (b : Fin 2) (s : Fin 2048) (z : Fin 1) : val_main_v10 (F := Ideal) A.x (ix3 b s z) = (A.row b s).root := by
  pointwise [val_main_v10, val_main_v9, val_main_v8, val_main_cst_2]
  rw [word_neg_half, r_at, ms_at]
  rfl

theorem n_at (b : Fin 2) (s : Fin 2048) (d : Fin 1024) : val_main_v12 (F := Ideal) A.x (ix3 b s d) = (A.row b s).n d := by
  pointwise [val_main_v12, val_main_v11]
  exact congrArg _ (r_at A b s _)

theorem ng_at (b : Fin 2) (s : Fin 2048) (d : Fin 1024) : val_main_v15 (F := Ideal) A.x A.g (ix3 b s d) = (A.row b s).ng d := by
  pointwise [val_main_v15, val_main_v14, val_main_v13]
  rw [n_at]
  rfl

theorem one_sc_at (b : Fin 2) (s : Fin 2048) (d : Fin 1024) : val_main_v35 (F := Ideal) A.sc (ix3 b s d) = 1 + (A.row b s).sc d := by
  pointwise [val_main_v35, val_main_v18, val_main_v17, val_main_v16, val_main_cst_3]
  rfl

section Through
variable (hd : ∀ b s d, dh (ix3 b s d) = (A.row b s).dh d)
include hd

theorem dy_at (b : Fin 2) (s : Fin 2048) (d : Fin 1024) : ady dh A.sc (ix3 b s d) = (A.row b s).dy d := by
  pointwise [ady]
  rw [hd, one_sc_at]; rfl

theorem dn_at (b : Fin 2) (s : Fin 2048) (d : Fin 1024) : adn dh A.g A.sc (ix3 b s d) = (A.row b s).dn d := by
  pointwise [adn, val_main_v41, val_main_v13]
  rw [dy_at A hd]; rfl

theorem dsh_at (b : Fin 2) (z : Fin 1) (d : Fin 1024) : perExample dh (ix3 b z d) = A.dsh b d :=
  (perExample_at dh b z d).trans (Finset.sum_congr (M := EReal) rfl fun s _ => hd b s d)

theorem dsc_at (b : Fin 2) (z : Fin 1) (d : Fin 1024) : perExample (mulf (val_main_v15 (F := Ideal) A.x A.g) dh) (ix3 b z d) = A.dsc b d :=
  (perExample_at _ b z d).trans (Finset.sum_congr (M := EReal) rfl fun s _ => by
    show _ * _ = _
    rw [hd, ng_at, mul_comm])

theorem dg_at (z : Fin 1) (d : Fin 1024) : adg A.x dh A.sc (ix2 z d) = A.dg d := by
  pointwise [adg]
  simp only [Host.reduceAdd, Ideal.hostReduceAdd_def]
  rw [hostReduceAdd_two _ (fun _ => rfl)]
  rw [Fin.sum_univ_one, Fin.sum_univ_one, zero_add]
  have e : ∀ w : FVec Ideal S1024 .f32, shapeCast S1x1x1024 w shapeCasts_S1024_S1x1x1024 (ix3 0 0 d) = w (ix1 d) := fun w => by pointwise []
  refine (e _).trans ?_
  rw [hostReduceAdd_two _ (fun _ => rfl)]
  rw [show (constant S_ .f32 0x00000000#32 : FVec Ideal S_ .f32) (Shape.Idx.first h_S_) = 0 from Ideal.ofBits_zero_f32, zero_add]
  unfold In.dg
  refine Finset.sum_congr rfl fun b _ => Finset.sum_congr rfl fun s _ => ?_
  show _ * _ = _
  refine (congrArg₂ (· * ·) (n_at A b s d) (dy_at A hd b s d)).trans ?_
  rw [mul_comm]

theorem aroot_at (b : Fin 2) (s : Fin 2048) (d : Fin 1024) : aroot A.x dh A.g A.sc (ix3 b s d) = (A.row b s).through := by
  pointwise [aroot]
  simp only [Fin.sum_univ_one]
  have e : (∑ e : Fin 1024, A.x (ix3 b s e) * adn dh A.g A.sc (ix3 b s e) : EReal) = ∑ e, (A.row b s).x e * (A.row b s).dn e :=
    Finset.sum_congr (M := EReal) rfl fun e _ => by rw [dn_at A hd]; rfl
  refine (congrArg (fun z : EReal => Ideal.div (z * _) _) e).trans ?_
  rw [root_at, val_main_v51_apply, val_main_cst_11_apply, Ideal.ofBits_def, word_1024]
  rfl

theorem dx_at (t : Fin 4096) (d : Fin 1024) : adx A.x A.ct dh A.g A.sc (ix2 t d) = (A.tok t).dx d := by
  pointwise [adx]
  rw [dn_at A hd, aroot_at A hd, r_row_at]
  exact (A.tok t).dx_chain d

end Through

end Cert.Tail
end
-- ==== Proof.FfnDh.Reference.lean ====
/- The gradient at the modulated rows of the feed-forward half, and the arrays the reference computes from it. -/
module

public import proofs.«01_k».proof.Proof.Tail.Reference
public import Idealize.ShloMosaic.Lib.Pointwise

@[expose] public section

set_option maxRecDepth 16384

noncomputable section

namespace Cert.FfnDh

open Idealize.ShloMosaic Idealize.ShloMosaic.TcCoe Cert.Reference5Ideal Cert.Reference5Ideal.Gen Cert.Reference5Ideal.Read

variable (x : FVec Ideal S2x2048x1024 .f32) (g : FVec Ideal S1024 .f32) (sc : FVec Ideal S2x1024 .f32) (wg wu : FVec Ideal S1024x2816 .f32)
  (da du : FVec Ideal S2x2048x2816 .f32) (ct : FVec Ideal S2x2048x1024 .f32)

/-- The gradient at the modulated row of token `s` of example `b`, through both up projections. -/
def grad (b : Fin 2) (s : Fin 2048) (d : Fin 1024) : EReal := (∑ k, da (ix3 b s k) * wg (ix2 d k)) + ∑ k, du (ix3 b s k) * wu (ix2 d k)

/-- What the gradients from the modulated rows on read. -/
def tail : Tail.In := ⟨x, g, sc, ct, grad wg wu da du⟩

theorem grad_at (b : Fin 2) (s : Fin 2048) (d : Fin 1024) :
    val_main_v28 (F := Ideal) wg wu da du (ix3 b s d) = ((tail x g sc wg wu da du ct).row b s).dh d := by
  pointwise [val_main_v28, val_main_v26, val_main_v27]
  exact add_comm _ _

theorem v59 (i : S4096x1024.Idx) : val_main_v59 (F := Ideal) x g sc wg wu da du ct i = ((tail x g sc wg wu da du ct).tok (i 0)).dx (i 1) := by
  idx_vars i
  exact Tail.dx_at (tail x g sc wg wu da du ct) (grad_at x g sc wg wu da du ct) i0 i1

theorem v60 (i : S2x1x1024.Idx) : val_main_v60 (F := Ideal) wg wu da du i = (tail x g sc wg wu da du ct).dsh (i 0) (i 2) := by
  idx_vars i
  exact Tail.dsh_at (tail x g sc wg wu da du ct) (grad_at x g sc wg wu da du ct) i0 i1 i2

theorem v61 (i : S2x1x1024.Idx) : val_main_v61 (F := Ideal) x g wg wu da du i = (tail x g sc wg wu da du ct).dsc (i 0) (i 2) := by
  idx_vars i
  exact Tail.dsc_at (tail x g sc wg wu da du ct) (grad_at x g sc wg wu da du ct) i0 i1 i2

theorem v62 (i : S1x1024.Idx) : val_main_v62 (F := Ideal) x sc wg wu da du i = (tail x g sc wg wu da du ct).dg (i 1) := by
  idx_vars i
  exact Tail.dg_at (tail x g sc wg wu da du ct) (grad_at x g sc wg wu da du ct) i0 i1

end Cert.FfnDh
end
-- ==== Proof.FfnDh.Outs.lean ====
/- What the body leaves in each output's buffer at a grid point: the tile's rows of the residual's gradient,
   and what the point before left of the sums over tokens plus the tile's own sums.  Tile `t` holds the 512 tokens from
   `512 t` on. -/
module

public import proofs.«01_k».proof.Proof.Tail.Tile
public import proofs.«01_k».proof.Proof.Tail.Flat
public import proofs.«01_k».proof.Proof.FfnDh.Reference
public import proofs.«01_k».proof.Proof.Gen.Kernel5Ideal.Frame
public import Idealize.ShloMosaic.Lib.Pipeline.ValueKit

@[expose] public section

set_option maxRecDepth 16384

noncomputable section

namespace Cert.FfnDh

open Idealize.ShloMosaic Idealize.ShloMosaic.TcCoe Cert.Kernel5Ideal Cert.Kernel5Ideal.Gen
open Cert.Ffn (col)
open Cert.Tail (tokOf rows flat flat_at gain gain_at scales scales_at)
open Cert.Tail.Tile (Rows Reads)

/-! ## The gradient at a tile's modulated rows -/

/-- What one chip's blocks hold: its columns of the two gradients `α` and `β` at the tile's rows, and of the weights `ω`, `υ`. -/
structure Chip (α β : Fin 512 → Fin 2816 → EReal) (ω υ : FVec Ideal S1024x2816 .f32) (j : Fin 4) (a : FVec Ideal S1x512x704 .bf16)
    (g : FVec Ideal S1x1x1024x704 .bf16) (b : FVec Ideal S1x512x704 .bf16) (u : FVec Ideal S1x1x1024x704 .bf16) : Prop where
  a : ∀ r k, a (ix3 0 r k) = α r (col j k)
  g : ∀ d k, g (ix4 0 0 d k) = ω (ix2 d (col j k))
  b : ∀ r k, b (ix3 0 r k) = β r (col j k)
  u : ∀ d k, u (ix4 0 0 d k) = υ (ix2 d (col j k))

/-- One chip's product, of the blocks it reads. -/
theorem prod {f g f' g' : Fin 704 → EReal} (hf : ∀ k, f k = f' k) (hg : ∀ k, g k = g' k) : (∑ k, f k * g k) = ∑ k, f' k * g' k :=
  Finset.sum_congr rfl fun k _ => congrArg₂ (· * ·) (hf k) (hg k)

theorem add2 {a b a' b' : EReal} (ha : a = a') (hb : b = b') : a + b = a' + b' := congrArg₂ (· + ·) ha hb

/-- Eight terms, every second one moved behind. -/
theorem pairs (a b c d e f g h : EReal) : a + b + c + d + e + f + g + h = a + c + e + g + (b + d + f + h) := by ac_rfl

theorem dh_tile {α β : Fin 512 → Fin 2816 → EReal} {ω υ : FVec Ideal S1024x2816 .f32} {a0 b0 a1 b1 a2 b2 a3 b3 : FVec Ideal S1x512x704 .bf16}
    {g0 u0 g1 u1 g2 u2 g3 u3 : FVec Ideal S1x1x1024x704 .bf16} (c0 : Chip α β ω υ 0 a0 g0 b0 u0) (c1 : Chip α β ω υ 1 a1 g1 b1 u1)
    (c2 : Chip α β ω υ 2 a2 g2 b2 u2) (c3 : Chip α β ω υ 3 a3 g3 b3 u3) (r : Fin 512) (d : Fin 1024) :
    k0_pay3 (F := Ideal) (k0_pay2 a0 g0 b0 u0 a1 g1 b1 u1) a2 g2 b2 u2 a3 g3 b3 u3 (ix2 r d)
      = (∑ k, α r k * ω (ix2 d k)) + ∑ k, β r k * υ (ix2 d k) := by
  pointwise [k0_pay3, k0_pay2]
  rw [Fin.sum_univ_tiles 4 704 rfl (fun k => α r k * ω (ix2 d k)), Fin.sum_univ_tiles 4 704 rfl (fun k => β r k * υ (ix2 d k)), Fin.sum_univ_four,
    Fin.sum_univ_four]
  exact (add2 (add2 (add2 (add2 (add2 (add2 (add2 (prod (c0.a r) (c0.g d)) (prod (c0.b r) (c0.u d))) (prod (c1.a r) (c1.g d))) (prod (c1.b r) (c1.u d))) (prod (c2.a r) (c2.g d))) (prod (c2.b r) (c2.u d))) (prod (c3.a r) (c3.g d))) (prod (c3.b r) (c3.u d))).trans (pairs ..)

/-! ## The arguments and their blocks -/

variable (m : (ℓ : Loc nD τ sig) → Buf (Elt Ideal) ℓ) (c : Dev nD)

/-- Argument arrays, as launched. -/
abbrev a0 : FVec Ideal S2x2048x1024 .f32 := m (c, Proc.devRef .tc main_arg0)
abbrev a1 : FVec Ideal S1024 .f32 := m (c, Proc.devRef .tc main_arg1)
abbrev a3 : FVec Ideal S2x1024 .f32 := m (c, Proc.devRef .tc main_arg3)
abbrev a4 : FVec Ideal S1024x2816 .f32 := m (c, Proc.devRef .tc main_arg4)
abbrev a5 : FVec Ideal S1024x2816 .f32 := m (c, Proc.devRef .tc main_arg5)
abbrev a6 : FVec Ideal S2x2048x2816 .f32 := m (c, Proc.devRef .tc main_arg6)
abbrev a7 : FVec Ideal S2x2048x2816 .f32 := m (c, Proc.devRef .tc main_arg7)
abbrev a8 : FVec Ideal S2x2048x1024 .f32 := m (c, Proc.devRef .tc main_arg8)

/-- The gradients' arguments, as launched. -/
def inp : Tail.In := tail (a0 m c) (a1 m c) (a3 m c) (a4 m c) (a5 m c) (a6 m c) (a7 m c) (a8 m c)

variable {m c}

set_option maxHeartbeats 4000000

/-- A gradient by a projection, cut in chips. -/
def cuts (w : FVec Ideal S2x2048x2816 .f32) : FVec Ideal S4x4096x704 .bf16 :=
  truncf .bf16 (transpose S4x4096x704 [1, 0, 2] (shapeCast S4096x4x704 w Facts₀.shapeCasts_S2x2048x2816_S4096x4x704)
    Facts₀.transposes_S4096x4x704_S4x4096x704_1_0_2) Facts₀.bitsLt_bf16_f32
/-- Both up projections' weights, cut in chips. -/
def both (wg wu : FVec Ideal S1024x2816 .f32) : FVec Ideal S4x2x1024x704 .bf16 :=
  truncf .bf16 (concatenate S4x2x1024x704 1 [⟨S4x1x1024x704, Ffn.Host.chips wg⟩, ⟨S4x1x1024x704, Ffn.Host.chips wu⟩]
    Facts₀.concatenates_S4x1x1024x704_S4x1x1024x704_S4x2x1024x704_d1) Facts₀.bitsLt_bf16_f32

theorem cuts_at (w : FVec Ideal S2x2048x2816 .f32) (j : Fin 4) (t : Fin 4096) (k : Fin 704) :
    cuts w (ix3 j t k) = w (ix3 ⟨t.val / 2048, by omega⟩ ⟨t.val % 2048, by omega⟩ (col j k)) := by
  pointwise [cuts]
  rfl
theorem both_gate (wg wu : FVec Ideal S1024x2816 .f32) (j : Fin 4) (d : Fin 1024) (k : Fin 704) :
    both wg wu (ix4 j (0 : Fin 2) d k) = wg (ix2 d (col j k)) := by
  pointwise [both]
  exact Ffn.Host.chips_at wg j 0 d k
theorem both_up (wg wu : FVec Ideal S1024x2816 .f32) (j : Fin 4) (d : Fin 1024) (k : Fin 704) :
    both wg wu (ix4 j (1 : Fin 2) d k) = wu (ix2 d (col j k)) := by
  pointwise [both]
  exact Ffn.Host.chips_at wu j 0 d k

theorem v10 : V m c main_v10 = cuts (a6 m c) := by
  show StableHlo.after hostOps0 (fun b => m (c, b)) (Proc.devRef .tc main_v10) = _
  after_reads_simp; rfl
theorem v13 : V m c main_v13 = cuts (a7 m c) := by
  show StableHlo.after hostOps0 (fun b => m (c, b)) (Proc.devRef .tc main_v13) = _
  after_reads_simp; rfl
theorem v7 : V m c main_v7 = both (a4 m c) (a5 m c) := by
  show StableHlo.after hostOps0 (fun b => m (c, b)) (Proc.devRef .tc main_v7) = _
  have e4 : StableHlo.upto hostOps0 (fun b => m (c, b)) 6 (Proc.devRef .tc main_v4) = Ffn.Host.chips (a4 m c) := by
    after_reads_simp; rfl
  have e5 : StableHlo.upto hostOps0 (fun b => m (c, b)) 6 (Proc.devRef .tc main_v5) = Ffn.Host.chips (a5 m c) := by
    after_reads_simp; rfl
  after_reads_simp; rw [e4, e5]; rfl
theorem v14 : V m c main_v14 = flat (a0 m c) := by
  show StableHlo.after hostOps0 (fun b => m (c, b)) (Proc.devRef .tc main_v14) = _
  after_reads_simp; rfl
theorem v15 : V m c main_v15 = gain (a1 m c) := by
  show StableHlo.after hostOps0 (fun b => m (c, b)) (Proc.devRef .tc main_v15) = _
  after_reads_simp; rfl
theorem v16 : V m c main_v16 = scales (a3 m c) := by
  show StableHlo.after hostOps0 (fun b => m (c, b)) (Proc.devRef .tc main_v16) = _
  after_reads_simp; rfl
theorem v17 : V m c main_v17 = flat (a8 m c) := by
  show StableHlo.after hostOps0 (fun b => m (c, b)) (Proc.devRef .tc main_v17) = _
  after_reads_simp; rfl

/-- The windows' block indices at every point. -/
theorem idx : ∀ t : Fin cfg0.N, win0_0.index t = ![0, t.val, 0] ∧ win0_1.index t = ![0, t.val, 0] ∧ win0_2.index t = ![0, 0, 0, 0]
    ∧ win0_3.index t = ![t.val, 0] ∧ win0_4.index t = ![0, 0] ∧ win0_5.index t = ![t.val / 4, 0, 0] ∧ win0_6.index t = ![t.val, 0]
    ∧ win0_7.index t = ![t.val, 0] ∧ win0_8.index t = ![t.val / 4, 0, 0] ∧ win0_9.index t = ![t.val / 4, 0, 0] ∧ win0_10.index t = ![0, 0] :=
  (by decide +kernel : ∀ t : Fin grid0.N, _)

theorem lt8 (t : Fin cfg0.N) : t.val < 8 := lt_of_lt_of_eq t.isLt N_0

variable (m c) in
/-- The rows of tile `t`. -/
abbrev trows (t : Fin cfg0.N) : Rows := rows (inp m c) t.val (lt8 t)
/-- An array's rows of tile `t`. -/
def cutRows (D : FVec Ideal S2x2048x2816 .f32) (t : Fin cfg0.N) : Fin 512 → Fin 2816 → EReal :=
  fun r k => D (ix3 ⟨(tokOf t.val (lt8 t) r).val / 2048, by omega⟩ ⟨(tokOf t.val (lt8 t) r).val % 2048, by omega⟩ k)

theorem iblk0 (t : Fin cfg0.N) (j : Fin 4) (r : Fin 512) (k : Fin 704) :
    (show FVec Ideal S4x512x704 .bf16 from iblk m c 0 t) (ix3 j r k) = cutRows (a6 m c) t r (col j k) := by
  refine Eq.trans ?_ (cuts_at (a6 m c) j (tokOf t.val (lt8 t) r) k)
  rw [← v10]
  unfold tokOf
  blk_ext [iblk, idx t]

theorem iblk1 (t : Fin cfg0.N) (j : Fin 4) (r : Fin 512) (k : Fin 704) :
    (show FVec Ideal S4x512x704 .bf16 from iblk m c 1 t) (ix3 j r k) = cutRows (a7 m c) t r (col j k) := by
  refine Eq.trans ?_ (cuts_at (a7 m c) j (tokOf t.val (lt8 t) r) k)
  rw [← v13]
  unfold tokOf
  blk_ext [iblk, idx t]

theorem iblk2_gate (t : Fin cfg0.N) (j : Fin 4) (d : Fin 1024) (k : Fin 704) :
    (show FVec Ideal S4x2x1024x704 .bf16 from iblk m c 2 t) (ix4 j 0 d k) = a4 m c (ix2 d (col j k)) := by
  refine Eq.trans ?_ (both_gate (a4 m c) (a5 m c) j d k)
  rw [← v7]
  blk_ext [iblk, idx t]

theorem iblk2_up (t : Fin cfg0.N) (j : Fin 4) (d : Fin 1024) (k : Fin 704) :
    (show FVec Ideal S4x2x1024x704 .bf16 from iblk m c 2 t) (ix4 j 1 d k) = a5 m c (ix2 d (col j k)) := by
  refine Eq.trans ?_ (both_up (a4 m c) (a5 m c) j d k)
  rw [← v7]
  blk_ext [iblk, idx t]

theorem iblk3 (t : Fin cfg0.N) (r : Fin 512) (d : Fin 1024) :
    (show FVec Ideal S512x1024 .f32 from iblk m c 3 t) (ix2 r d) = (trows m c t r).x d := by
  refine Eq.trans ?_ (flat_at (a0 m c) (tokOf t.val (lt8 t) r) d)
  rw [← v14]
  unfold tokOf
  blk_ext [iblk, idx t]

theorem iblk4 (t : Fin cfg0.N) (r : Fin 512) (d : Fin 1024) :
    (show FVec Ideal S1x1024 .f32 from iblk m c 4 t) (ix2 0 d) = (trows m c t r).g d := by
  refine Eq.trans ?_ (gain_at (a1 m c) 0 d)
  rw [← v15]
  blk_ext [iblk, idx t]

theorem iblk5 (t : Fin cfg0.N) (r : Fin 512) (d : Fin 1024) :
    (show FVec Ideal S1x1x1024 .f32 from iblk m c 5 t) (ix3 0 0 d) = (trows m c t r).sc d := by
  have ht := lt8 t
  have hr : (tokOf t.val (lt8 t) r).val / 2048 = t.val / 4 := by unfold tokOf; dsimp only; omega
  refine Eq.trans ?_ (scales_at (a3 m c) ⟨(tokOf t.val (lt8 t) r).val / 2048, by omega⟩ 0 d)
  rw [← v16]
  blk_ext [iblk, idx t]

theorem iblk6 (t : Fin cfg0.N) (r : Fin 512) (d : Fin 1024) :
    (show FVec Ideal S512x1024 .f32 from iblk m c 6 t) (ix2 r d) = (trows m c t r).ct d := by
  refine Eq.trans ?_ (flat_at (a8 m c) (tokOf t.val (lt8 t) r) d)
  rw [← v17]
  unfold tokOf
  blk_ext [iblk, idx t]

/-! ## A chip's pieces of the blocks -/

theorem ld4 (X : Vec Ideal S4x512x704 .bf16) (j : Fin 4) (h) (r : Fin 512) (k : Fin 704) :
    (View.ld X (Rect.unit ![(j : ℕ), 0, 0] ![1, 512, 704] h) : Vec Ideal S1x512x704 .bf16) (ix3 0 r k) = X (ix3 j r k) := by
  refine congrArg X (funext fun a => Fin.ext ?_)
  fin_cases a <;> simp [ix3, ix4]

theorem chip_of (t : Fin cfg0.N) (j : Fin 4) (f g f' u) :
    Chip (cutRows (a6 m c) t) (cutRows (a7 m c) t) (a4 m c) (a5 m c) j
      (View.ld (iblk m c 0 t : Vec Ideal S4x512x704 .bf16) (Rect.unit ![(j : ℕ), 0, 0] ![1, 512, 704] f))
      (View.ld (iblk m c 2 t : Vec Ideal S4x2x1024x704 .bf16) (Rect.unit ![(j : ℕ), 0, 0, 0] ![1, 1, 1024, 704] g))
      (View.ld (iblk m c 1 t : Vec Ideal S4x512x704 .bf16) (Rect.unit ![(j : ℕ), 0, 0] ![1, 512, 704] f'))
      (View.ld (iblk m c 2 t : Vec Ideal S4x2x1024x704 .bf16) (Rect.unit ![(j : ℕ), 1, 0, 0] ![1, 1, 1024, 704] u)) where
  a r k := (ld4 _ j f r k).trans (iblk0 t j r k)
  g d k := (Ffn.Host.ld6 _ j 0 g d k).trans (iblk2_gate t j d k)
  b r k := (ld4 _ j f' r k).trans (iblk1 t j r k)
  u d k := (Ffn.Host.ld6 _ j 1 u d k).trans (iblk2_up t j d k)

/-- What the arrays hold that a point computes from. -/
theorem reads (t : Fin cfg0.N) {a0 b0 a1 b1 a2 b2 a3 b3 : FVec Ideal S1x512x704 .bf16}
    {g0 u0 g1 u1 g2 u2 g3 u3 : FVec Ideal S1x1x1024x704 .bf16} (c0 : Chip (cutRows (a6 m c) t) (cutRows (a7 m c) t) (a4 m c) (a5 m c) 0 a0 g0 b0 u0)
    (c1 : Chip (cutRows (a6 m c) t) (cutRows (a7 m c) t) (a4 m c) (a5 m c) 1 a1 g1 b1 u1) (c2 : Chip (cutRows (a6 m c) t) (cutRows (a7 m c) t) (a4 m c) (a5 m c) 2 a2 g2 b2 u2)
    (c3 : Chip (cutRows (a6 m c) t) (cutRows (a7 m c) t) (a4 m c) (a5 m c) 3 a3 g3 b3 u3) :
    Reads (trows m c t) (k0_pay3 (k0_pay2 a0 g0 b0 u0 a1 g1 b1 u1) a2 g2 b2 u2 a3 g3 b3 u3) (k0_pay4 (iblk m c 3 t)) (iblk m c 6 t)
      (k0_pay5 (iblk m c 4 t)) (iblk m c 5 t) where
  dh r d := (dh_tile c0 c1 c2 c3 r d).trans rfl
  x r d := (Tail.Tile.same_x _ r d).trans (iblk3 t r d)
  ct := iblk6 t
  g r d := (Tail.Tile.same_g _ 0 d).trans (iblk4 t r d)
  sc := iblk5 t

/-! ## The outputs at a point -/

theorem out7 (t : Fin cfg0.N) (r : Fin 512) (d : Fin 1024) :
    (outsAt0 m c t.val t.isLt).1 (ix2 r d) = (trows m c t r).dx d := by
  have ht := lt8 t
  by_cases hA : t.val % 4 = 0
  · by_cases hZ : t.val % 8 = 0
    · rw [outsAt0_A m c t hA (not_not.mpr hA) hA (not_not.mpr hA) hZ (by omega)]
      frame_out
      exact Tail.Tile.dx_at (reads t (chip_of t 0 _ _ _ _) (chip_of t 1 _ _ _ _) (chip_of t 2 _ _ _ _) (chip_of t 3 _ _ _ _)) r d
    · rw [outsAt0_C m c t hA (not_not.mpr hA) hA (not_not.mpr hA) hZ (by omega)]
      frame_out
      exact Tail.Tile.dx_at (reads t (chip_of t 0 _ _ _ _) (chip_of t 1 _ _ _ _) (chip_of t 2 _ _ _ _) (chip_of t 3 _ _ _ _)) r d
  · rw [outsAt0_B m c t hA hA hA hA (by omega) (by omega)]
    frame_out
    exact Tail.Tile.dx_at (reads t (chip_of t 0 _ _ _ _) (chip_of t 1 _ _ _ _) (chip_of t 2 _ _ _ _) (chip_of t 3 _ _ _ _)) r d

variable (m c) in
/-- A tile's part of the shift's gradient. -/
def part8 (t : Fin cfg0.N) (i : S1x1x1024.Idx) : EReal := ∑ r, (trows m c t r).dh (i 2)
variable (m c) in
/-- A tile's part of the scale's gradient. -/
def part9 (t : Fin cfg0.N) (i : S1x1x1024.Idx) : EReal := ∑ r, (trows m c t r).dh (i 2) * (trows m c t r).ng (i 2)
variable (m c) in
/-- A tile's part of the gain's gradient. -/
def part10 (t : Fin cfg0.N) (i : S1x1024.Idx) : EReal := ∑ r, (trows m c t r).dy (i 1) * (trows m c t r).n (i 1)

theorem out8_reset (t : Fin cfg0.N) (hA : t.val % 4 = 0) (i : S1x1x1024.Idx) :
    (outsAt0 m c t.val t.isLt).2.1 i = 0 + part8 m c t i := by
  have ht := lt8 t
  rw [zero_add]
  by_cases hZ : t.val % 8 = 0
  · rw [outsAt0_A m c t hA (not_not.mpr hA) hA (not_not.mpr hA) hZ (by omega)]
    frame_out
    exact (Tail.Tile.pay13_eq ..).trans (Tail.Tile.dsh_at (reads t (chip_of t 0 _ _ _ _) (chip_of t 1 _ _ _ _) (chip_of t 2 _ _ _ _) (chip_of t 3 _ _ _ _)) 0 (i 2))
  · rw [outsAt0_C m c t hA (not_not.mpr hA) hA (not_not.mpr hA) hZ (by omega)]
    frame_out
    exact (Tail.Tile.pay13_eq ..).trans (Tail.Tile.dsh_at (reads t (chip_of t 0 _ _ _ _) (chip_of t 1 _ _ _ _) (chip_of t 2 _ _ _ _) (chip_of t 3 _ _ _ _)) 0 (i 2))

theorem out8_step (t : Fin cfg0.N) (hA : ¬t.val % 4 = 0) (i : S1x1x1024.Idx) :
    (outsAt0 m c t.val t.isLt).2.1 i = (outsAt0 m c (t.val - 1) (Nat.lt_of_le_of_lt (Nat.sub_le _ _) t.isLt)).2.1 i + part8 m c t i := by
  rw [outsAt0_B m c t hA hA hA hA (by omega) (by omega)]
  frame_out
  exact (Tail.Tile.pay14_eq ..).trans (congrArg _ (Tail.Tile.dsh_at (reads t (chip_of t 0 _ _ _ _) (chip_of t 1 _ _ _ _) (chip_of t 2 _ _ _ _) (chip_of t 3 _ _ _ _)) 0 (i 2)))

theorem out9_reset (t : Fin cfg0.N) (hA : t.val % 4 = 0) (i : S1x1x1024.Idx) :
    (outsAt0 m c t.val t.isLt).2.2.1 i = 0 + part9 m c t i := by
  have ht := lt8 t
  rw [zero_add]
  by_cases hZ : t.val % 8 = 0
  · rw [outsAt0_A m c t hA (not_not.mpr hA) hA (not_not.mpr hA) hZ (by omega)]
    frame_out
    exact (Tail.Tile.pay15_eq ..).trans (Tail.Tile.dsc_at (reads t (chip_of t 0 _ _ _ _) (chip_of t 1 _ _ _ _) (chip_of t 2 _ _ _ _) (chip_of t 3 _ _ _ _)) 0 (i 2))
  · rw [outsAt0_C m c t hA (not_not.mpr hA) hA (not_not.mpr hA) hZ (by omega)]
    frame_out
    exact (Tail.Tile.pay15_eq ..).trans (Tail.Tile.dsc_at (reads t (chip_of t 0 _ _ _ _) (chip_of t 1 _ _ _ _) (chip_of t 2 _ _ _ _) (chip_of t 3 _ _ _ _)) 0 (i 2))

theorem out9_step (t : Fin cfg0.N) (hA : ¬t.val % 4 = 0) (i : S1x1x1024.Idx) :
    (outsAt0 m c t.val t.isLt).2.2.1 i = (outsAt0 m c (t.val - 1) (Nat.lt_of_le_of_lt (Nat.sub_le _ _) t.isLt)).2.2.1 i + part9 m c t i := by
  rw [outsAt0_B m c t hA hA hA hA (by omega) (by omega)]
  frame_out
  exact (Tail.Tile.pay16_eq ..).trans (congrArg _ (Tail.Tile.dsc_at (reads t (chip_of t 0 _ _ _ _) (chip_of t 1 _ _ _ _) (chip_of t 2 _ _ _ _) (chip_of t 3 _ _ _ _)) 0 (i 2)))

theorem out10_reset (t : Fin cfg0.N) (hZ : t.val % 8 = 0) (i : S1x1024.Idx) :
    (outsAt0 m c t.val t.isLt).2.2.2 i = 0 + part10 m c t i := by
  have ht := lt8 t
  have hA : t.val % 4 = 0 := by omega
  rw [zero_add, outsAt0_A m c t hA (not_not.mpr hA) hA (not_not.mpr hA) hZ (by omega)]
  frame_out
  idx_vars i
  exact Tail.Tile.dg_at (reads t (chip_of t 0 _ _ _ _) (chip_of t 1 _ _ _ _) (chip_of t 2 _ _ _ _) (chip_of t 3 _ _ _ _)) i0 i1

theorem out10_step (t : Fin cfg0.N) (hZ : ¬t.val % 8 = 0) (i : S1x1024.Idx) :
    (outsAt0 m c t.val t.isLt).2.2.2 i = (outsAt0 m c (t.val - 1) (Nat.lt_of_le_of_lt (Nat.sub_le _ _) t.isLt)).2.2.2 i + part10 m c t i := by
  by_cases hA : t.val % 4 = 0
  · rw [outsAt0_C m c t hA (not_not.mpr hA) hA (not_not.mpr hA) hZ (by omega)]
    frame_out
    exact (Tail.Tile.pay1_eq ..).trans (congrArg _ (Tail.Tile.dg_at (reads t (chip_of t 0 _ _ _ _) (chip_of t 1 _ _ _ _) (chip_of t 2 _ _ _ _) (chip_of t 3 _ _ _ _)) 0 (i 1)))
  · rw [outsAt0_B m c t hA hA hA hA hZ (by omega)]
    frame_out
    exact (Tail.Tile.pay1_eq ..).trans (congrArg _ (Tail.Tile.dg_at (reads t (chip_of t 0 _ _ _ _) (chip_of t 1 _ _ _ _) (chip_of t 2 _ _ _ _) (chip_of t 3 _ _ _ _)) 0 (i 1)))

end Cert.FfnDh
end
-- ==== Proof.FfnDh.Claim.lean ====
/- The kernel of the feed-forward half's second backward call computes what the reference computes, over the extended
   reals. -/
module

public import proofs.«01_k».proof.Defs
public import proofs.«01_k».proof.Proof.Ffn.Arrays
public import proofs.«01_k».proof.Proof.FfnDh.Outs
public import proofs.«01_k».proof.Proof.Gen.Kernel5Ideal.Value
public import proofs.«01_k».proof.Proof.Gen.Reference5Ideal.Run

@[expose] public section

set_option maxRecDepth 16384

noncomputable section

namespace Cert.FfnDh

open Idealize.ShloMosaic Idealize.SL.Sem
open Cert.Tail (tokOf rows sum_run sum_all)

/-! ## The arrays the call leaves -/

section Arrays

open Cert.Kernel5Ideal Cert.Kernel5Ideal.Gen
open Cert.Ffn.Host (at2)
open Idealize.ShloMosaic.Pipeline (Dat)

variable {m : (ℓ : Loc nD τ sig) → Buf (Elt Ideal) ℓ} {c : Dev nD}

set_option maxHeartbeats 1000000

theorem array7 : (dats m 0 c).arrAt 7 (cfgs 0).N = (fun i => ((inp m c).tok (i 0)).dx (i 1) : FVec Ideal S4096x1024 .f32) := by
  refine (dats m 0 c).arrAt_eq_of_covers 7 _ (by decide +kernel) fun t _ y => ?_
  blk_simp
  rw [after0_7]
  refine (congrArg _ (eq_ix2 y)).trans ((out7 t (y 0) (y 1)).trans ?_)
  show ((inp m c).tok (tokOf t.val (lt8 t) (y 0))).dx (y 1) = ((inp m c).tok ((win0_7.blk t).view.emb y 0)).dx ((win0_7.blk t).view.emb y 1)
  generalize inp m c = A
  refine at2 (fun t d => (A.tok t).dx d) ?_ ?_ <;> (try unfold tokOf) <;> blk_simp [idx t] <;> (try omega)

theorem array8 : (dats m 0 c).arrAt 8 (cfgs 0).N = (fun i => (inp m c).dsh (i 0) (i 2) : FVec Ideal S2x1x1024 .f32) := by
  refine (dats m 0 c).arrAt_eq_of_covers 8 _ (by decide +kernel) fun t hf y => ?_
  blk_simp
  rw [after0_8, Pipeline.eq_sum_fin_of_reset_step_apply_of_flush (fun n h => (outsAt0 m c n h).2.1) 4 (fun _ => 0) (part8 m c)
    out8_reset out8_step t ((flush0_8 t).mp hf) y, zero_add]
  have ht := lt8 t
  obtain ⟨b, hb⟩ : ∃ b : Fin 2, b.val = t.val / 4 := ⟨⟨t.val / 4, by omega⟩, rfl⟩
  have hy : (y 0).val < 1 := (y 0).isLt
  have e0 : ((win0_8.blk t).view.emb y 0 : Fin 2) = b := Fin.ext (by
    rw [hb]
    blk_simp [idx t])
  have e2 : ((win0_8.blk t).view.emb y 2 : Fin 1024) = y 2 := Fin.ext (by blk_simp [idx t] <;> (try omega))
  refine Eq.trans ?_ (congrArg₂ (inp m c).dsh e0.symm e2.symm)
  exact sum_run (inp m c) b (fun R => R.dh (y 2)) (fun s => 4 * (t.val / 4) + s.val) (fun s => by omega) fun s => by dsimp only; rw [hb]

theorem array9 : (dats m 0 c).arrAt 9 (cfgs 0).N = (fun i => (inp m c).dsc (i 0) (i 2) : FVec Ideal S2x1x1024 .f32) := by
  refine (dats m 0 c).arrAt_eq_of_covers 9 _ (by decide +kernel) fun t hf y => ?_
  blk_simp
  rw [after0_9, Pipeline.eq_sum_fin_of_reset_step_apply_of_flush (fun n h => (outsAt0 m c n h).2.2.1) 4 (fun _ => 0) (part9 m c)
    out9_reset out9_step t ((flush0_9 t).mp hf) y, zero_add]
  have ht := lt8 t
  obtain ⟨b, hb⟩ : ∃ b : Fin 2, b.val = t.val / 4 := ⟨⟨t.val / 4, by omega⟩, rfl⟩
  have hy : (y 0).val < 1 := (y 0).isLt
  have e0 : ((win0_9.blk t).view.emb y 0 : Fin 2) = b := Fin.ext (by
    rw [hb]
    blk_simp [idx t])
  have e2 : ((win0_9.blk t).view.emb y 2 : Fin 1024) = y 2 := Fin.ext (by blk_simp [idx t] <;> (try omega))
  refine Eq.trans ?_ (congrArg₂ (inp m c).dsc e0.symm e2.symm)
  exact sum_run (inp m c) b (fun R => R.dh (y 2) * R.ng (y 2)) (fun s => 4 * (t.val / 4) + s.val) (fun s => by omega) fun s => by dsimp only; rw [hb]

theorem array10 : (dats m 0 c).arrAt 10 (cfgs 0).N = (fun i => (inp m c).dg (i 1) : FVec Ideal S1x1024 .f32) := by
  refine (dats m 0 c).arrAt_eq_of_covers 10 _ (by decide +kernel) fun t hf y => ?_
  blk_simp
  rw [after0_10, Pipeline.eq_sum_fin_of_reset_step_apply_of_flush (fun n h => (outsAt0 m c n h).2.2.2) 8 (fun _ => 0) (part10 m c)
    out10_reset out10_step t ((flush0_10 t).mp hf) y, zero_add]
  have ht := lt8 t
  have e1 : ((win0_10.blk t).view.emb y 1 : Fin 1024) = y 1 := Fin.ext (by blk_simp [idx t] <;> (try omega))
  refine Eq.trans ?_ (congrArg (inp m c).dg e1.symm)
  exact sum_all (inp m c) (fun R => R.dy (y 1) * R.n (y 1)) (fun s => 8 * (t.val / 8) + s.val) (fun s => by omega) fun s => by dsimp only; omega

end Arrays

/-! ## The claim -/

open Cert.Kernel5Ideal in
/-- The results: the rows' gradient, and the shift's, the scale's and the gain's. -/
def res (A : Tail.In) : FVec Ideal S4096x1024 .f32 × FVec Ideal S2x1x1024 .f32 × FVec Ideal S2x1x1024 .f32 × FVec Ideal S1x1024 .f32 :=
  (fun i => (A.tok (i 0)).dx (i 1), fun i => A.dsh (i 0) (i 2), fun i => A.dsc (i 0) (i 2), fun i => A.dg (i 1))

open Cert.Reference5Ideal Cert.Reference5Ideal.Gen Cert.Reference5Ideal.Value Cert.Reference5Ideal.Read in
/-- The reference, run at the same arguments, ends with the results `res`. -/
theorem reference_run (m : (ℓ : Loc nD τ sig) → Buf (Elt Ideal) ℓ) (ρ : Dev nD → PrngReg) (x : Dev nD → FVec Ideal S2x2048x1024 .f32)
    (g : Dev nD → FVec Ideal S1024 .f32) (sc : Dev nD → FVec Ideal S2x1024 .f32) (wg wu : Dev nD → FVec Ideal S1024x2816 .f32)
    (da du : Dev nD → FVec Ideal S2x2048x2816 .f32) (ct : Dev nD → FVec Ideal S2x2048x1024 .f32)
    (h0 : ∀ c, m (c, Proc.devRef .tc main_arg0) = x c) (h1 : ∀ c, m (c, Proc.devRef .tc main_arg1) = g c)
    (h3 : ∀ c, m (c, Proc.devRef .tc main_arg3) = sc c) (h4 : ∀ c, m (c, Proc.devRef .tc main_arg4) = wg c)
    (h5 : ∀ c, m (c, Proc.devRef .tc main_arg5) = wu c) (h6 : ∀ c, m (c, Proc.devRef .tc main_arg6) = da c)
    (h7 : ∀ c, m (c, Proc.devRef .tc main_arg7) = du c) (h8 : ∀ c, m (c, Proc.devRef .tc main_arg8) = ct c) :
    θ_run defs (onTc (τ := τ) (main (F := Ideal))) ⟨m, fun _ => 0, ρ⟩ fun r => ∀ c : Dev nD,
      r.2.mem ((c.tc : Thread nD τ).loc main_v59) = (res (tail (x c) (g c) (sc c) (wg c) (wu c) (da c) (du c) (ct c))).1
      ∧ r.2.mem ((c.tc : Thread nD τ).loc main_v60) = (res (tail (x c) (g c) (sc c) (wg c) (wu c) (da c) (du c) (ct c))).2.1
      ∧ r.2.mem ((c.tc : Thread nD τ).loc main_v61) = (res (tail (x c) (g c) (sc c) (wg c) (wu c) (da c) (du c) (ct c))).2.2.1
      ∧ r.2.mem ((c.tc : Thread nD τ).loc main_v62) = (res (tail (x c) (g c) (sc c) (wg c) (wu c) (da c) (du c) (ct c))).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run m ρ)
  obtain ⟨e0, e1, e2, e3, e⟩ := h c
  replace e0 := e0.trans (val_main_v59_eq m c)
  replace e1 := e1.trans (val_main_v60_eq ..)
  replace e2 := e2.trans (val_main_v61_eq ..)
  replace e3 := e3.trans (val_main_v62_eq ..)
  simp only [h0 c, h1 c, h3 c, h4 c, h5 c, h6 c, h7 c, h8 c] at e0 e1 e2 e3
  exact ⟨e0.trans (funext fun i => v59 ..), e1.trans (funext fun i => v60 ..), e2.trans (funext fun i => v61 ..),
    e3.trans (funext fun i => v62 ..), e⟩

/-- Kernel and reference end with equal results. -/
theorem algebraic : Cert.algebraic_Kernel5Ideal_Reference5Ideal := by
  intro m g m' g' _ hagree
  refine ⟨fun c => (res (inp m c)).1, fun c => (res (inp m c)).2.1, fun c => (res (inp m c)).2.2.1, fun c => (res (inp m c)).2.2.2, ?_, ?_⟩
  · refine (θ_run _ _ _).mono (fun r h c => ?_) (Cert.Kernel5Ideal.Value.run_blocks (F := Ideal) m g)
    obtain ⟨e0, e1, e2, e3, e⟩ := h c
    exact ⟨e0.trans array7, e1.trans array8, e2.trans array9, e3.trans array10, e⟩
  · exact reference_run m' g' (a0 m) (a1 m) (a3 m) (a4 m) (a5 m) (a6 m) (a7 m) (a8 m) (fun c => (hagree c).1) (fun c => (hagree c).2.1)
      (fun c => (hagree c).2.2.2.1) (fun c => (hagree c).2.2.2.2.1) (fun c => (hagree c).2.2.2.2.2.1) (fun c => (hagree c).2.2.2.2.2.2.1)
      (fun c => (hagree c).2.2.2.2.2.2.2.1) (fun c => (hagree c).2.2.2.2.2.2.2.2)

end Cert.FfnDh
-- ==== Proof.FfnWd.Claim.lean ====
/- The weight-gradient kernel of the feed-forward half, called for the down projection alone, computes what the reference
   computes, over the extended reals. -/
module

public import proofs.«01_k».proof.Defs
public import proofs.«01_k».proof.Proof.FfnW.Outs
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.FfnWd

open Idealize.ShloMosaic Idealize.ShloMosaic.TcCoe Idealize.SL.Sem
open Cert.FfnW (col term narrow wide flat cut sum_tokens)

/-- The down projection's gradient, chip by chip. -/
def grad (s : FVec Ideal Cert.Kernel6Ideal.S2x2048x2816 .f32) (df : FVec Ideal Cert.Kernel6Ideal.S2x2048x1024 .f32) :
    FVec Ideal Cert.Kernel6Ideal.S4x1x704x1024 .f32 := fun i => ∑ t, term s df (col (i 0) (i 2)) (i 3) t

section Reference
open Cert.Reference6Ideal Cert.Reference6Ideal.Read

theorem v4 (s : FVec Ideal S2x2048x2816 .f32) (df : FVec Ideal S2x2048x1024 .f32) : val_main_v4 (F := Ideal) s df = grad s df := by
  funext i
  obtain ⟨j, e, k, d, rfl⟩ : ∃ (j : Fin 4) (e : Fin 1) (k : Fin 704) (d : Fin 1024), i = ix4 j e k d := ⟨i 0, i 1, i 2, i 3, eq_ix4 i⟩
  obtain rfl := Subsingleton.elim e 0
  refine Eq.trans ?_ (Cert.FfnW.v5_at df s (col j k) d)
  show val_main_v4 (F := Ideal) s df (ix4 j 0 k d) = val_main_v2 (F := Ideal) s df (ix2 d (col j k))
  pointwise [val_main_v4, val_main_v3]; rfl

end Reference

section Kernel
open Cert.Kernel6Ideal Cert.Kernel6Ideal.Gen

variable (m : (ℓ : Loc nD τ sig) → Buf (Elt Ideal) ℓ) (c : Dev nD)

/-- The two arguments read, as launched. -/
abbrev a1 : FVec Ideal S2x2048x2816 .f32 := m (c, Proc.devRef .tc main_arg1)
abbrev a4 : FVec Ideal S2x2048x1024 .f32 := m (c, Proc.devRef .tc main_arg4)

theorem v10 : V m c main_v10 = cut (a1 m c) := by
  show StableHlo.after hostOps0 (fun b => m (c, b)) (Proc.devRef .tc main_v10) = _
  after_reads_simp; rfl
theorem v12 : V m c main_v12 = flat (a4 m c) := by
  show StableHlo.after hostOps0 (fun b => m (c, b)) (Proc.devRef .tc main_v12) = _
  after_reads_simp; rfl

/-- The windows' block indices at every point. -/
theorem idx : ∀ t : Fin cfg0.N, win0_0.index t = ![t.val / 4, t.val % 4, 0] ∧ win0_1.index t = ![t.val % 4, 0]
    ∧ win0_2.index t = ![t.val / 4, 0, 0, 0] :=
  (by decide +kernel : ∀ t : Fin grid0.N, _)

theorem lt16 (t : Fin cfg0.N) : t.val < 16 := lt_of_lt_of_eq t.isLt N_0
theorem lt_N {n : ℕ} (h : n < 16) : n < cfg0.N := lt_of_lt_of_eq h N_0.symm

/-- Token `r` of the tile read at point `t`. -/
def tokOf (t : Fin cfg0.N) (r : Fin 1024) : Fin 4096 := ⟨t.val % 4 * 1024 + r.val, by omega⟩
/-- The chip of point `t`. -/
def chipOf (t : Fin cfg0.N) : Fin 4 := ⟨t.val / 4, by have := lt16 t; omega⟩

variable {m c}

theorem iblk0 (t : Fin cfg0.N) (r : Fin 1024) (k : Fin 704) :
    (show FVec Ideal S1x1024x704 .bf16 from iblk m c 0 t) (ix3 0 r k) = wide (a1 m c) (tokOf t r) (col (chipOf t) k) := by
  rw [← Cert.FfnW.cut_at, ← v10]
  unfold tokOf chipOf
  blk_ext [iblk, idx t]
theorem iblk1 (t : Fin cfg0.N) (r d : Fin 1024) :
    (show FVec Ideal S1024x1024 .bf16 from iblk m c 1 t) (ix2 r d) = narrow (a4 m c) (tokOf t r) d := by
  rw [← Cert.FfnW.flat_at, ← v12]
  unfold tokOf
  blk_ext [iblk, idx t]

variable (m c) in
/-- The tile's part of the gradient at an entry. -/
def part (t : Fin cfg0.N) (i : S1x1x704x1024.Idx) : EReal := ∑ r, term (a1 m c) (a4 m c) (col (chipOf t) (i 2)) (i 3) (tokOf t r)

theorem down_at (t : Fin cfg0.N) (i : S1x1x704x1024.Idx) :
    k0_pay1 (F := Ideal) (iblk m c 0 t) (iblk m c 1 t) (ix2 (i 2) (i 3)) = part m c t i :=
  (Cert.FfnW.product_at _ _ (i 2) (i 3)).trans (Finset.sum_congr rfl fun r _ => congrArg₂ _ (iblk0 t r (i 2)) (iblk1 t r (i 3)))

set_option maxHeartbeats 2000000 in
theorem out_reset (t : Fin cfg0.N) (h : t.val % 4 = 0) (i : S1x1x704x1024.Idx) : outsAt0 m c t.val t.isLt i = 0 + part m c t i := by
  rw [zero_add, outsAt0_A m c t h (by omega)]
  frame_out
  exact (Cert.FfnW.pay4_at _ _ i).trans (down_at t i)

set_option maxHeartbeats 2000000 in
theorem out_step (t : Fin cfg0.N) (h : ¬t.val % 4 = 0) (i : S1x1x704x1024.Idx) :
    outsAt0 m c t.val t.isLt i = outsAt0 m c (t.val - 1) (Nat.lt_of_le_of_lt (Nat.sub_le _ _) t.isLt) i + part m c t i := by
  rw [outsAt0_B m c t h (by omega)]
  frame_out
  exact (Cert.FfnW.pay7_at _ _ _ i).trans (congrArg₂ _ rfl (down_at t i))

/-- The four tiles, summed: all tokens, summed. -/
theorem sum_run (F : Fin 4096 → EReal) (n : Fin 4 → Fin cfg0.N) (hn : ∀ s, (n s).val % 4 = s.val) :
    (∑ s, ∑ r, F (tokOf (n s) r)) = ∑ t, F t := by
  rw [Fin.sum_univ_tiles 4 1024 rfl]
  refine Finset.sum_congr rfl fun s _ => Finset.sum_congr rfl fun r _ => congrArg F (Fin.ext ?_)
  unfold tokOf
  dsimp only
  rw [hn s]

set_option maxHeartbeats 1000000 in
/-- What the output's array holds after the run. -/
theorem array2 : (dats m 0 c).arrAt 2 (cfgs 0).N = grad (a1 m c) (a4 m c) := by
  refine (dats m 0 c).arrAt_eq_of_covers 2 _ (by decide +kernel) fun t hf y => ?_
  blk_simp
  rw [after0_2, Pipeline.eq_sum_fin_of_reset_step_apply_of_flush (outsAt0 m c) 4 (fun _ => 0) (part m c)
    out_reset out_step t ((flush0_2 t).mp hf) y, zero_add]
  have ht := lt16 t
  have b0 : (y 0).val < 1 := (y 0).isLt
  have e0 : ((win0_2.blk t).view.emb y 0 : Fin 4) = chipOf t := Fin.ext (by unfold chipOf; blk_simp [idx t])
  have e2 : ((win0_2.blk t).view.emb y 2 : Fin 704) = y 2 := Fin.ext (by blk_simp [idx t] <;> (try omega))
  have e3 : ((win0_2.blk t).view.emb y 3 : Fin 1024) = y 3 := Fin.ext (by blk_simp [idx t] <;> (try omega))
  unfold grad
  rw [e0, e2, e3, ← sum_run _ (fun s => ⟨4 * (t.val / 4) + s.val, lt_N (by omega)⟩) (fun s => by dsimp only; omega)]
  have e : ∀ s : Fin 4, chipOf ⟨4 * (t.val / 4) + s.val, lt_N (by omega)⟩ = chipOf t := fun s => Fin.ext (by unfold chipOf; dsimp only; omega)
  have p : ∀ s : Fin 4, part m c ⟨4 * (t.val / 4) + s.val, lt_N (by omega)⟩ y = ∑ r, term (a1 m c) (a4 m c)
      (col (chipOf t) (y 2)) (y 3) (tokOf ⟨4 * (t.val / 4) + s.val, lt_N (by omega)⟩ r) := fun s => by
    rw [← e s]; rfl
  exact Finset.sum_congr (M := EReal) rfl fun s _ => p s

end Kernel

/-- Kernel and reference end with equal results. -/
theorem algebraic : Cert.algebraic_Kernel6Ideal_Reference6Ideal := by
  intro m g m' g' _ hagree
  refine ⟨fun c => grad (a1 m c) (a4 m c), ?_, ?_⟩
  · refine (θ_run _ _ _).mono (fun r h c => ?_) (Cert.Kernel6Ideal.Value.run_blocks (F := Ideal) m g)
    exact ⟨(h c).1.trans array2, (h c).2⟩
  · refine (θ_run _ _ _).mono (fun r h c => ?_) (Cert.Reference6Ideal.Value.run (F := Ideal) m' g')
    obtain ⟨h0, h1, h2, h3, h4⟩ := hagree c
    obtain ⟨e0, e⟩ := h c
    refine ⟨?_, e⟩
    replace e0 := e0.trans (Cert.Reference6Ideal.Read.val_main_v4_eq ..)
    rw [v4] at e0
    refine e0.trans ?_
    rw [h1, h4]

end Cert.FfnWd
-- ==== Proof.FfnWu.Claim.lean ====
/- The weight-gradient kernel of the feed-forward half, called for the gate and up projections alone, computes what the
   reference computes, over the extended reals. -/
module

public import proofs.«01_k».proof.Defs
public import proofs.«01_k».proof.Proof.FfnW.Outs
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.FfnWu

open Idealize.ShloMosaic Idealize.ShloMosaic.TcCoe Idealize.SL.Sem
open Cert.FfnW (col term narrow wide flat cut sum_tokens)

/-- The left factor of gradient `e`: gate, up. -/
def left (da du : FVec Ideal Cert.Kernel7Ideal.S2x2048x2816 .f32) (e : Fin 2) : FVec Ideal Cert.Kernel7Ideal.S2x2048x2816 .f32 :=
  match e with | 0 => da | 1 => du

/-- The two projections' gradients, chip by chip. -/
def grads (h : FVec Ideal Cert.Kernel7Ideal.S2x2048x1024 .f32) (da du : FVec Ideal Cert.Kernel7Ideal.S2x2048x2816 .f32) :
    FVec Ideal Cert.Kernel7Ideal.S4x2x704x1024 .f32 := fun i => ∑ t, term (left da du (i 1)) h (col (i 0) (i 2)) (i 3) t

section Reference
open Cert.Reference7Ideal Cert.Reference7Ideal.Read

variable (h : FVec Ideal S2x2048x1024 .f32) (da du : FVec Ideal S2x2048x2816 .f32)

theorem v5_at (k : Fin 2816) (d : Fin 1024) : val_main_v5 (F := Ideal) h da (ix2 k d) = ∑ t, term da h k d t := Cert.FfnW.v9_at h da k d
theorem v3_at (k : Fin 2816) (d : Fin 1024) : val_main_v3 (F := Ideal) h du (ix2 k d) = ∑ t, term du h k d t := Cert.FfnW.v7_at h du k d

theorem v13_gate (j : Fin 4) (k : Fin 704) (d : Fin 1024) :
    val_main_v13 (F := Ideal) h da du (ix4 j (0 : Fin 2) k d) = ∑ t, term da h (col j k) d t := by
  rw [← v5_at]
  pointwise [val_main_v13, val_main_v11, val_main_v9, val_main_v7, val_main_v6]; rfl

theorem v13_up (j : Fin 4) (k : Fin 704) (d : Fin 1024) :
    val_main_v13 (F := Ideal) h da du (ix4 j (1 : Fin 2) k d) = ∑ t, term du h (col j k) d t := by
  rw [← v3_at]
  pointwise [val_main_v13, val_main_v12, val_main_v10, val_main_v8, val_main_v4]; rfl

theorem v13 : val_main_v13 (F := Ideal) h da du = grads h da du := by
  funext i
  obtain ⟨j, e, k, d, rfl⟩ : ∃ (j : Fin 4) (e : Fin 2) (k : Fin 704) (d : Fin 1024), i = ix4 j e k d := ⟨i 0, i 1, i 2, i 3, eq_ix4 i⟩
  unfold grads
  match e with
  | 0 => exact v13_gate h da du j k d
  | 1 => exact v13_up h da du j k d

end Reference

section Kernel
open Cert.Kernel7Ideal Cert.Kernel7Ideal.Gen

variable (m : (ℓ : Loc nD τ sig) → Buf (Elt Ideal) ℓ) (c : Dev nD)

/-- The three arguments read, as launched. -/
abbrev a0 : FVec Ideal S2x2048x1024 .f32 := m (c, Proc.devRef .tc main_arg0)
abbrev a2 : FVec Ideal S2x2048x2816 .f32 := m (c, Proc.devRef .tc main_arg2)
abbrev a3 : FVec Ideal S2x2048x2816 .f32 := m (c, Proc.devRef .tc main_arg3)

theorem v1 : V m c main_v1 = flat (a0 m c) := by
  show StableHlo.after hostOps0 (fun b => m (c, b)) (Proc.devRef .tc main_v1) = _
  after_reads_simp; rfl
theorem v4 : V m c main_v4 = cut (a2 m c) := by
  show StableHlo.after hostOps0 (fun b => m (c, b)) (Proc.devRef .tc main_v4) = _
  after_reads_simp; rfl
theorem v7 : V m c main_v7 = cut (a3 m c) := by
  show StableHlo.after hostOps0 (fun b => m (c, b)) (Proc.devRef .tc main_v7) = _
  after_reads_simp; rfl

/-- The windows' block indices at every point. -/
theorem idx : ∀ t : Fin cfg0.N, win0_0.index t = ![t.val / 4, t.val % 4, 0] ∧ win0_1.index t = ![t.val % 4, 0]
    ∧ win0_2.index t = ![t.val / 4, t.val % 4, 0] ∧ win0_3.index t = ![t.val / 4, 0, 0, 0] :=
  (by decide +kernel : ∀ t : Fin grid0.N, _)

theorem lt16 (t : Fin cfg0.N) : t.val < 16 := lt_of_lt_of_eq t.isLt N_0
theorem lt_N {n : ℕ} (h : n < 16) : n < cfg0.N := lt_of_lt_of_eq h N_0.symm

/-- Token `r` of the tile read at point `t`. -/
def tokOf (t : Fin cfg0.N) (r : Fin 1024) : Fin 4096 := ⟨t.val % 4 * 1024 + r.val, by omega⟩
/-- The chip of point `t`. -/
def chipOf (t : Fin cfg0.N) : Fin 4 := ⟨t.val / 4, by have := lt16 t; omega⟩

variable {m c}

theorem iblk0 (t : Fin cfg0.N) (r : Fin 1024) (k : Fin 704) :
    (show FVec Ideal S1x1024x704 .bf16 from iblk m c 0 t) (ix3 0 r k) = wide (a2 m c) (tokOf t r) (col (chipOf t) k) := by
  rw [← Cert.FfnW.cut_at, ← v4]
  unfold tokOf chipOf
  blk_ext [iblk, idx t]
theorem iblk2 (t : Fin cfg0.N) (r : Fin 1024) (k : Fin 704) :
    (show FVec Ideal S1x1024x704 .bf16 from iblk m c 2 t) (ix3 0 r k) = wide (a3 m c) (tokOf t r) (col (chipOf t) k) := by
  rw [← Cert.FfnW.cut_at, ← v7]
  unfold tokOf chipOf
  blk_ext [iblk, idx t]
theorem iblk1 (t : Fin cfg0.N) (r d : Fin 1024) :
    (show FVec Ideal S1024x1024 .bf16 from iblk m c 1 t) (ix2 r d) = narrow (a0 m c) (tokOf t r) d := by
  rw [← Cert.FfnW.flat_at, ← v1]
  unfold tokOf
  blk_ext [iblk, idx t]

variable (m c) in
/-- The tile's part of gradient `e` at an entry. -/
def part (t : Fin cfg0.N) (i : S1x2x704x1024.Idx) : EReal :=
  ∑ r, term (left (a2 m c) (a3 m c) (i 1)) (a0 m c) (col (chipOf t) (i 2)) (i 3) (tokOf t r)

theorem gate_at (t : Fin cfg0.N) (k : Fin 704) (d : Fin 1024) :
    k0_pay1 (F := Ideal) (iblk m c 0 t) (iblk m c 1 t) (ix2 k d) = part m c t (ix4 0 0 k d) :=
  (Cert.FfnW.product_at _ _ k d).trans (Finset.sum_congr rfl fun r _ => congrArg₂ _ (iblk0 t r k) (iblk1 t r d))
theorem up_at (t : Fin cfg0.N) (k : Fin 704) (d : Fin 1024) :
    k0_pay2 (F := Ideal) (iblk m c 2 t) (iblk m c 1 t) (ix2 k d) = part m c t (ix4 0 1 k d) :=
  (Cert.FfnW.product_at _ _ k d).trans (Finset.sum_congr rfl fun r _ => congrArg₂ _ (iblk2 t r k) (iblk1 t r d))

/-- The index of the output's buffer at which piece `e` holds its entry `x`. -/
theorem index_of {i : S1x2x704x1024.Idx} {x : S1x1x704x1024.Idx} {e : ℕ} (f : Fin 2) (hf : f.val = e) (h1 : (i 1).val = e + (x 1).val)
    (h2 : (i 2).val = (x 2).val) (h3 : (i 3).val = (x 3).val) : i = ix4 0 f (x 2) (x 3) := by
  have b0 : (i 0).val < 1 := (i 0).isLt
  have b1 : (x 1).val < 1 := (x 1).isLt
  refine (eq_ix4 i).trans ?_
  rw [show i 0 = (0 : Fin 1) from Fin.ext (by show (i 0).val = 0; omega), show i 1 = f from Fin.ext (by omega), show i 2 = x 2 from Fin.ext h2,
    show i 3 = x 3 from Fin.ext h3]
  rfl

/-- Piece `e` of the output's buffer. -/
theorem ld_at (Z : Vec Ideal S1x2x704x1024 .f32) {e : ℕ} (f : Fin 2) (hf : f.val = e) (hi) (x : S1x1x704x1024.Idx) :
    (View.ld Z (Rect.unit ![0, e, 0, 0] ![1, 1, 704, 1024] hi) : Vec Ideal S1x1x704x1024 .f32) x = Z (ix4 0 f (x 2) (x 3)) := by
  have b0 : (x 0).val < 1 := (x 0).isLt
  have b1 : (x 1).val < 1 := (x 1).isLt
  refine congrArg Z (funext fun a => Fin.ext ?_)
  fin_cases a <;> simp [ix4, hf] <;> omega

set_option maxHeartbeats 2000000 in
theorem out_reset (t : Fin cfg0.N) (h : t.val % 4 = 0) (i : S1x2x704x1024.Idx) : outsAt0 m c t.val t.isLt i = 0 + part m c t i := by
  rw [zero_add, outsAt0_A m c t h (by omega)]
  frame_out
  canon_tiles x h
  · rw [index_of 1 rfl h1 h2 h3]
    exact (Cert.FfnW.pay4_at _ _ x).trans (up_at t (x 2) (x 3))
  · rw [index_of 0 rfl (h1.trans (zero_add _).symm) h2 h3]
    exact (Cert.FfnW.pay4_at _ _ x).trans (gate_at t (x 2) (x 3))

set_option maxHeartbeats 2000000 in
theorem out_step (t : Fin cfg0.N) (h : ¬t.val % 4 = 0) (i : S1x2x704x1024.Idx) :
    outsAt0 m c t.val t.isLt i = outsAt0 m c (t.val - 1) (Nat.lt_of_le_of_lt (Nat.sub_le _ _) t.isLt) i + part m c t i := by
  rw [outsAt0_B m c t h (by omega)]
  frame_out
  canon_tiles x h
  · rw [index_of 1 rfl h1 h2 h3]
    exact (Cert.FfnW.pay7_at _ _ _ x).trans (congrArg₂ _ (ld_at _ 1 rfl _ x) (up_at t (x 2) (x 3)))
  · rw [index_of 0 rfl (h1.trans (zero_add _).symm) h2 h3]
    exact (Cert.FfnW.pay7_at _ _ _ x).trans (congrArg₂ _ (ld_at _ 0 rfl _ x) (gate_at t (x 2) (x 3)))

/-- The four tiles, summed: all tokens, summed. -/
theorem sum_run (F : Fin 4096 → EReal) (n : Fin 4 → Fin cfg0.N) (hn : ∀ s, (n s).val % 4 = s.val) :
    (∑ s, ∑ r, F (tokOf (n s) r)) = ∑ t, F t := by
  rw [Fin.sum_univ_tiles 4 1024 rfl]
  refine Finset.sum_congr rfl fun s _ => Finset.sum_congr rfl fun r _ => congrArg F (Fin.ext ?_)
  unfold tokOf
  dsimp only
  rw [hn s]

set_option maxHeartbeats 1000000 in
/-- What the output's array holds after the run. -/
theorem array3 : (dats m 0 c).arrAt 3 (cfgs 0).N = grads (a0 m c) (a2 m c) (a3 m c) := by
  refine (dats m 0 c).arrAt_eq_of_covers 3 _ (by decide +kernel) fun t hf y => ?_
  blk_simp
  rw [after0_3, Pipeline.eq_sum_fin_of_reset_step_apply_of_flush (outsAt0 m c) 4 (fun _ => 0) (part m c)
    out_reset out_step t ((flush0_3 t).mp hf) y, zero_add]
  have ht := lt16 t
  have b0 : (y 0).val < 1 := (y 0).isLt
  have e0 : ((win0_3.blk t).view.emb y 0 : Fin 4) = chipOf t := Fin.ext (by unfold chipOf; blk_simp [idx t])
  have e1 : ((win0_3.blk t).view.emb y 1 : Fin 2) = y 1 := Fin.ext (by blk_simp [idx t] <;> (try omega))
  have e2 : ((win0_3.blk t).view.emb y 2 : Fin 704) = y 2 := Fin.ext (by blk_simp [idx t] <;> (try omega))
  have e3 : ((win0_3.blk t).view.emb y 3 : Fin 1024) = y 3 := Fin.ext (by blk_simp [idx t] <;> (try omega))
  unfold grads
  rw [e0, e1, e2, e3, ← sum_run _ (fun s => ⟨4 * (t.val / 4) + s.val, lt_N (by omega)⟩) (fun s => by dsimp only; omega)]
  have e : ∀ s : Fin 4, chipOf ⟨4 * (t.val / 4) + s.val, lt_N (by omega)⟩ = chipOf t := fun s => Fin.ext (by unfold chipOf; dsimp only; omega)
  have p : ∀ s : Fin 4, part m c ⟨4 * (t.val / 4) + s.val, lt_N (by omega)⟩ y = ∑ r, term (left (a2 m c) (a3 m c) (y 1)) (a0 m c)
      (col (chipOf t) (y 2)) (y 3) (tokOf ⟨4 * (t.val / 4) + s.val, lt_N (by omega)⟩ r) := fun s => by
    rw [← e s]; rfl
  exact Finset.sum_congr (M := EReal) rfl fun s _ => p s

end Kernel

/-- Kernel and reference end with equal results. -/
theorem algebraic : Cert.algebraic_Kernel7Ideal_Reference7Ideal := by
  intro m g m' g' _ hagree
  refine ⟨fun c => grads (a0 m c) (a2 m c) (a3 m c), ?_, ?_⟩
  · refine (θ_run _ _ _).mono (fun r h c => ?_) (Cert.Kernel7Ideal.Value.run_blocks (F := Ideal) m g)
    exact ⟨(h c).1.trans array3, (h c).2⟩
  · refine (θ_run _ _ _).mono (fun r h c => ?_) (Cert.Reference7Ideal.Value.run (F := Ideal) m' g')
    obtain ⟨h0, h1, h2, h3, h4⟩ := hagree c
    obtain ⟨e0, e⟩ := h c
    refine ⟨?_, e⟩
    replace e0 := e0.trans (Cert.Reference7Ideal.Read.val_main_v13_eq ..)
    rw [v13] at e0
    refine e0.trans ?_
    rw [h0, h2, h3]

end Cert.FfnWu
-- ==== Proof.FfnDown.Claim.lean ====
/- The down-projection kernel of the feed-forward half computes what the reference computes, over the extended reals: the
   product with the down projection, chip by chip, and the gated residual. -/
module

public import proofs.«01_k».proof.Defs
public import proofs.«01_k».proof.Proof.FfnW.Entry
public import proofs.«01_k».proof.Proof.Ffn.Arrays
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.FfnDown

open Idealize.ShloMosaic Idealize.ShloMosaic.TcCoe Idealize.SL.Sem
open Cert.FfnW (col narrow wide cut)
open Cert.Ffn.Host (ld3 at2)

/-! ## The two results, at a token -/

/-- The product with the down projection. -/
def down (s : FVec Ideal Cert.Kernel8Ideal.S2x2048x2816 .f32) (w : FVec Ideal Cert.Kernel8Ideal.S2816x1024 .f32) (t : Fin 4096) (d : Fin 1024) : EReal :=
  ∑ k, wide s t k * w (ix2 k d)

/-- The gated residual. -/
def resid (s : FVec Ideal Cert.Kernel8Ideal.S2x2048x2816 .f32) (w : FVec Ideal Cert.Kernel8Ideal.S2816x1024 .f32)
    (x : FVec Ideal Cert.Kernel8Ideal.S2x2048x1024 .f32) (gt : FVec Ideal Cert.Kernel8Ideal.S2x1024 .f32) (t : Fin 4096) (d : Fin 1024) : EReal :=
  narrow x t d + Ideal.ofBits .f32 0x3F000000#32 * gt (ix2 ⟨t.val / 2048, by omega⟩ d) * down s w t d

section Reference
open Cert.Reference8Ideal Cert.Reference8Ideal.Read

variable (s : FVec Ideal S2x2048x2816 .f32) (w : FVec Ideal S2816x1024 .f32) (x : FVec Ideal S2x2048x1024 .f32) (gt : FVec Ideal S2x1024 .f32)

theorem v2_at (t : Fin 4096) (d : Fin 1024) : val_main_v2 (F := Ideal) s w (ix2 t d) = down s w t d := by
  pointwise [val_main_v2, val_main_v1, val_main_v0]; rfl

theorem v9_at (t : Fin 4096) (d : Fin 1024) : val_main_v9 (F := Ideal) s w x gt (ix2 t d) = resid s w x gt t d := by
  pointwise [val_main_v9, val_main_v8, val_main_v7, val_main_v6, val_main_v5, val_main_v4, val_main_v3, val_main_cst, val_main_v0]; rfl

end Reference

section Kernel
open Cert.Kernel8Ideal Cert.Kernel8Ideal.Gen

variable (m : (ℓ : Loc nD τ sig) → Buf (Elt Ideal) ℓ) (c : Dev nD)

/-- Argument arrays, as launched. -/
abbrev a0 : FVec Ideal S2x2048x2816 .f32 := m (c, Proc.devRef .tc main_arg0)
abbrev a1 : FVec Ideal S2816x1024 .f32 := m (c, Proc.devRef .tc main_arg1)
abbrev a2 : FVec Ideal S2x2048x1024 .f32 := m (c, Proc.devRef .tc main_arg2)
abbrev a3 : FVec Ideal S2x1024 .f32 := m (c, Proc.devRef .tc main_arg3)

/-- The down projection, cut in chips. -/
def chips (w : FVec Ideal S2816x1024 .f32) : FVec Ideal S4x1x704x1024 .bf16 :=
  truncf (φ := .f32) .bf16 (shapeCast S4x1x704x1024 (s := S2816x1024) w Facts₀.shapeCasts_S2816x1024_S4x1x704x1024) Facts₀.bitsLt_bf16_f32
/-- The residual stream's rows, laid flat. -/
def rows (x : FVec Ideal S2x2048x1024 .f32) : FVec Ideal S4096x1024 .f32 :=
  shapeCast S4096x1024 (s := S2x2048x1024) x Facts₀.shapeCasts_S2x2048x1024_S4096x1024
/-- The gates, one row for each example. -/
def gates (gt : FVec Ideal S2x1024 .f32) : FVec Ideal S2x1x1024 .f32 := broadcastInDim S2x1x1024 ![0, 2] Facts₀.bcast_S2x1024_S2x1x1024_0_2 gt

theorem chips_at (w : FVec Ideal S2816x1024 .f32) (j : Fin 4) (k : Fin 704) (d : Fin 1024) : chips w (ix4 j 0 k d) = w (ix2 (col j k) d) := by
  pointwise [chips]; rfl
theorem rows_at (x : FVec Ideal S2x2048x1024 .f32) (t : Fin 4096) (d : Fin 1024) : rows x (ix2 t d) = narrow x t d := by
  pointwise [rows]; rfl
theorem gates_at (gt : FVec Ideal S2x1024 .f32) (b : Fin 2) (d : Fin 1024) : gates gt (ix3 b 0 d) = gt (ix2 b d) := by
  pointwise [gates]

theorem v2 : V m c main_v2 = cut (a0 m c) := by
  show StableHlo.after hostOps0 (fun b => m (c, b)) (Proc.devRef .tc main_v2) = _
  after_reads_simp; rfl
theorem v4 : V m c main_v4 = chips (a1 m c) := by
  show StableHlo.after hostOps0 (fun b => m (c, b)) (Proc.devRef .tc main_v4) = _
  after_reads_simp; rfl
theorem v5 : V m c main_v5 = rows (a2 m c) := by
  show StableHlo.after hostOps0 (fun b => m (c, b)) (Proc.devRef .tc main_v5) = _
  after_reads_simp; rfl
theorem v6 : V m c main_v6 = gates (a3 m c) := by
  show StableHlo.after hostOps0 (fun b => m (c, b)) (Proc.devRef .tc main_v6) = _
  after_reads_simp; rfl

/-- The windows' block indices at every point. -/
theorem idx : ∀ t : Fin cfg0.N, win0_0.index t = ![0, t.val, 0] ∧ win0_1.index t = ![0, 0, 0, 0] ∧ win0_2.index t = ![t.val, 0]
    ∧ win0_3.index t = ![t.val / 4, 0, 0] ∧ win0_4.index t = ![t.val, 0] ∧ win0_5.index t = ![t.val, 0] :=
  (by decide +kernel : ∀ t : Fin grid0.N, _)

theorem lt8 (t : Fin cfg0.N) : t.val < 8 := lt_of_lt_of_eq t.isLt N_0

/-- Token `r` of the tile read at point `t`. -/
def tokOf (t : Fin cfg0.N) (r : Fin 512) : Fin 4096 := ⟨t.val * 512 + r.val, by have := lt8 t; omega⟩

variable {m c}

theorem iblk0 (t : Fin cfg0.N) (j : Fin 4) (r : Fin 512) (k : Fin 704) :
    (show FVec Ideal S4x512x704 .bf16 from iblk m c 0 t) (ix3 j r k) = wide (a0 m c) (tokOf t r) (col j k) := by
  rw [← Cert.FfnW.cut_at, ← v2]
  unfold tokOf
  blk_ext [iblk, idx t]
theorem iblk1 (t : Fin cfg0.N) (j : Fin 4) (k : Fin 704) (d : Fin 1024) :
    (show FVec Ideal S4x1x704x1024 .bf16 from iblk m c 1 t) (ix4 j 0 k d) = a1 m c (ix2 (col j k) d) := by
  rw [← chips_at (a1 m c), ← v4]
  blk_ext [iblk, idx t]
theorem iblk2 (t : Fin cfg0.N) (r : Fin 512) (d : Fin 1024) :
    (show FVec Ideal S512x1024 .f32 from iblk m c 2 t) (ix2 r d) = narrow (a2 m c) (tokOf t r) d := by
  rw [← rows_at, ← v5]
  unfold tokOf
  blk_ext [iblk, idx t]
theorem iblk3 (t : Fin cfg0.N) (r : Fin 512) (d : Fin 1024) :
    (show FVec Ideal S1x1x1024 .f32 from iblk m c 3 t) (ix3 0 0 d) = a3 m c (ix2 ⟨(tokOf t r).val / 2048, by omega⟩ d) := by
  have ht := lt8 t
  have hr : (tokOf t r).val / 2048 = t.val / 4 := by unfold tokOf; dsimp only; omega
  rw [← gates_at (a3 m c), ← v6]
  blk_ext [iblk, idx t]

/-! ## A tile's body -/

theorem pay2_at (v0 v5 v11 v17 : FVec Ideal S1x512x704 .bf16) (v2 v7 v13 v19 : FVec Ideal S1x1x704x1024 .bf16) (r : Fin 512) (d : Fin 1024) :
    k0_pay2 (F := Ideal) v0 v2 v5 v7 v11 v13 v17 v19 (ix2 r d) = ∑ k, v0 (ix3 0 r k) * v2 (ix4 0 0 k d) + ∑ k, v5 (ix3 0 r k) * v7 (ix4 0 0 k d)
      + ∑ k, v11 (ix3 0 r k) * v13 (ix4 0 0 k d) + ∑ k, v17 (ix3 0 r k) * v19 (ix4 0 0 k d) := by
  pointwise [k0_pay2]

theorem pay1_at (f x : FVec Ideal S512x1024 .f32) (g : FVec Ideal S1x1x1024 .f32) (r : Fin 512) (d : Fin 1024) :
    k0_pay1 (F := Ideal) f x g (ix2 r d) = x (ix2 r d) + Ideal.ofBits .f32 0x3F000000#32 * g (ix3 0 0 d) * f (ix2 r d) := by
  pointwise [k0_pay1]

/-- Chip `j`'s columns of a tile. -/
theorem ld_cols (X : Vec Ideal S4x512x704 .bf16) (j : Fin 4) (h) (r : Fin 512) (k : Fin 704) :
    (View.ld X (Rect.unit ![(j : ℕ), 0, 0] ![1, 512, 704] h) : Vec Ideal S1x512x704 .bf16) (ix3 0 r k) = X (ix3 j r k) := by
  refine congrArg X (funext fun a => Fin.ext ?_)
  fin_cases a <;> simp [ix3, ix4]

/-- The product of a tile's columns and the down projection, of the blocks as the body loads them. -/
theorem tile_at (X : Vec Ideal S4x512x704 .bf16) (W : Vec Ideal S4x1x704x1024 .bf16) (r : Fin 512) (d : Fin 1024) :
    k0_pay2 (F := Ideal) (View.ld X r0_0) (View.ld W r0_1) (View.ld X r0_2) (View.ld W r0_3) (View.ld X r0_4) (View.ld W r0_5) (View.ld X r0_6)
      (View.ld W r0_7) (ix2 r d) = ∑ j : Fin 4, ∑ k, X (ix3 j r k) * W (ix4 j 0 k d) := by
  rw [Fin.sum_univ_four]
  have e : ∀ (j : Fin 4) (h h'), ∑ k, (View.ld X (Rect.unit ![(j : ℕ), 0, 0] ![1, 512, 704] h) : Vec Ideal S1x512x704 .bf16) (ix3 0 r k)
      * (View.ld W (Rect.unit ![(j : ℕ), 0, 0, 0] ![1, 1, 704, 1024] h') : Vec Ideal S1x1x704x1024 .bf16) (ix4 0 0 k d)
      = ∑ k, X (ix3 j r k) * W (ix4 j 0 k d) := fun j h h' => Finset.sum_congr (M := EReal) rfl fun k _ => congrArg₂ _ (ld_cols X j h r k) (ld3 W j h' k d)
  exact (pay2_at _ _ _ _ _ _ _ _ r d).trans
    (congrArg₂ _ (congrArg₂ _ (congrArg₂ _ (e 0 _ _) (e 1 _ _)) (e 2 _ _)) (e 3 _ _))

theorem down_of (t : Fin cfg0.N) (r : Fin 512) (d : Fin 1024) :
    (∑ j : Fin 4, ∑ k, (show FVec Ideal S4x512x704 .bf16 from iblk m c 0 t) (ix3 j r k) * (show FVec Ideal S4x1x704x1024 .bf16 from iblk m c 1 t) (ix4 j 0 k d))
      = down (a0 m c) (a1 m c) (tokOf t r) d := by
  unfold down
  rw [Fin.sum_univ_tiles 4 704 rfl]
  exact Finset.sum_congr (M := EReal) rfl fun j _ => Finset.sum_congr (M := EReal) rfl fun k _ => congrArg₂ _ (iblk0 t j r k) (iblk1 t j k d)

theorem out4 (t : Fin cfg0.N) (r : Fin 512) (d : Fin 1024) :
    (out0_4 (iblk m c 0 t) (iblk m c 1 t) (iblk m c 2 t) (iblk m c 3 t) : FVec Ideal S512x1024 .bf16) (ix2 r d)
      = down (a0 m c) (a1 m c) (tokOf t r) d := by
  unfold out0_4
  simp (disch := decide) only [show r0_8 = Rect.unit (s := S512x1024) ![0, 0] S512x1024.size inb_S512x1024_S512x1024_0_0 from rfl, View.canon_cons_unit_lit']
  exact (tile_at _ _ r d).trans (down_of t r d)

theorem out5 (t : Fin cfg0.N) (r : Fin 512) (d : Fin 1024) :
    (out0_5 (iblk m c 0 t) (iblk m c 1 t) (iblk m c 2 t) (iblk m c 3 t) : FVec Ideal S512x1024 .f32) (ix2 r d)
      = resid (a0 m c) (a1 m c) (a2 m c) (a3 m c) (tokOf t r) d := by
  unfold out0_5
  simp (disch := decide) only [show r0_8 = Rect.unit (s := S512x1024) ![0, 0] S512x1024.size inb_S512x1024_S512x1024_0_0 from rfl,
    show r0_9 = Rect.unit (s := S1x1x1024) ![0, 0, 0] S1x1x1024.size inb_S1x1x1024_S1x1x1024_0_0_0 from rfl, View.canon_cons_unit_lit', View.ld_unit_lit']
  exact (pay1_at _ _ _ r d).trans (congrArg₂ _ (iblk2 t r d) (congrArg₂ _ (congrArg _ (iblk3 t r d)) ((tile_at _ _ r d).trans (down_of t r d))))

/-! ## The results' arrays -/

/-- The results, as arrays. -/
def res (m : (ℓ : Loc nD τ sig) → Buf (Elt Ideal) ℓ) (c : Dev nD) : FVec Ideal S4096x1024 .bf16 × FVec Ideal S4096x1024 .f32 :=
  (fun i => down (a0 m c) (a1 m c) (i 0) (i 1), fun i => resid (a0 m c) (a1 m c) (a2 m c) (a3 m c) (i 0) (i 1))

set_option maxHeartbeats 1000000

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 t (y 0) (y 1)).trans ?_)
  refine at2 (down (a0 m c) (a1 m c)) ?_ ?_ <;> (try unfold tokOf) <;> blk_simp [idx t] <;> (try omega)

theorem array5 : (dats m 0 c).arrAt 5 (cfgs 0).N = (res m c).2 := by
  refine (dats m 0 c).arrAt_eq_of_covers 5 _ (by decide +kernel) fun t _ y => ?_
  blk_simp
  rw [after0_5]
  refine (congrArg _ (eq_ix2 y)).trans ((out5 t (y 0) (y 1)).trans ?_)
  refine at2 (resid (a0 m c) (a1 m c) (a2 m c) (a3 m c)) ?_ ?_ <;> (try unfold tokOf) <;> blk_simp [idx t] <;> (try omega)

end Kernel

/-- Kernel and reference end with equal results. -/
theorem algebraic : Cert.algebraic_Kernel8Ideal_Reference8Ideal := by
  intro m g m' g' _ hagree
  refine ⟨fun c => (res m c).1, fun c => (res m c).2, ?_, ?_⟩
  · refine (θ_run _ _ _).mono (fun r h c => ?_) (Cert.Kernel8Ideal.Value.run_blocks (F := Ideal) m g)
    obtain ⟨e0, e1, e⟩ := h c
    exact ⟨e0.trans array4, e1.trans array5, e⟩
  · refine (θ_run _ _ _).mono (fun r h c => ?_) (Cert.Reference8Ideal.Value.run (F := Ideal) m' g')
    obtain ⟨h0, h1, h2, h3⟩ := hagree c
    obtain ⟨e0, e1, e⟩ := h c
    replace e0 := e0.trans (Cert.Reference8Ideal.Read.val_main_v2_eq ..)
    replace e1 := e1.trans (Cert.Reference8Ideal.Read.val_main_v9_eq ..)
    rw [h0, h1] at e0
    rw [h0, h1, h2, h3] at e1
    exact ⟨e0.trans (funext fun i => (congrArg _ (eq_ix2 i)).trans (v2_at _ _ (i 0) (i 1))),
      e1.trans (funext fun i => (congrArg _ (eq_ix2 i)).trans (v9_at _ _ _ _ (i 0) (i 1))), e⟩

end Cert.FfnDown
-- ==== Proof.DwIn.Claim.lean ====
/- The kernel of the mixer's input projection's gradient computes what the reference computes, over the extended reals: for every
   chip's columns the sum over tokens of the input's row times the cotangent's columns. -/
module

public import proofs.«01_k».proof.Defs
public import proofs.«01_k».proof.Proof.FfnW.Outs
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.DwIn

open Idealize.ShloMosaic Idealize.ShloMosaic.TcCoe Idealize.SL.Sem
open Cert.FfnW (narrow flat)

/-- Entry `k` of token `t` of the flattened batch, of all heads' columns. -/
def heads (X : FVec Ideal Cert.Kernel9Ideal.S2x2048x3072 .f32) (t : Fin 4096) (k : Fin 3072) : EReal :=
  X (ix3 ⟨t.val / 2048, by omega⟩ ⟨t.val % 2048, by omega⟩ k)

/-- Column `k` of chip `j`. -/
def col (j : Fin 4) (k : Fin 768) : Fin 3072 := ⟨j.val * 768 + k.val, by omega⟩

/-- One token's part of the gradient. -/
def term (h : FVec Ideal Cert.Kernel9Ideal.S2x2048x1024 .f32) (q : FVec Ideal Cert.Kernel9Ideal.S2x2048x3072 .f32) (d : Fin 1024) (k : Fin 3072)
    (t : Fin 4096) : EReal := narrow h t d * heads q t k

/-- The gradient, chip by chip. -/
def grad (h : FVec Ideal Cert.Kernel9Ideal.S2x2048x1024 .f32) (q : FVec Ideal Cert.Kernel9Ideal.S2x2048x3072 .f32) :
    FVec Ideal Cert.Kernel9Ideal.S4x1x1024x768 .f32 := fun i => ∑ t, term h q (i 2) (col (i 0) (i 3)) t

section Reference
open Cert.Reference9Ideal Cert.Reference9Ideal.Read

variable (h : FVec Ideal S2x2048x1024 .f32) (q : FVec Ideal S2x2048x3072 .f32)

theorem v2_at (k : Fin 3072) (d : Fin 1024) : val_main_v2 (F := Ideal) h q (ix2 k d) = ∑ t, term h q d k t := by
  rw [Fin.sum_univ_tiles 2 2048 rfl]
  pointwise [val_main_v2]
  refine Finset.sum_congr rfl fun b _ => Finset.sum_congr rfl fun s _ => ?_
  have eb : (⟨(b.val * 2048 + s.val) / 2048, by omega⟩ : Fin 2) = b := Fin.ext (by dsimp only; omega)
  have es : (⟨(b.val * 2048 + s.val) % 2048, by omega⟩ : Fin 2048) = s := Fin.ext (by dsimp only; omega)
  unfold term heads narrow
  simp only [eb, es]
  exact mul_comm _ _

theorem v6 : val_main_v6 (F := Ideal) h q = grad h q := by
  funext i
  obtain ⟨j, e, d, k, rfl⟩ : ∃ (j : Fin 4) (e : Fin 1) (d : Fin 1024) (k : Fin 768), i = ix4 j e d k := ⟨i 0, i 1, i 2, i 3, eq_ix4 i⟩
  obtain rfl := Subsingleton.elim e 0
  refine Eq.trans ?_ (v2_at h q (col j k) d)
  pointwise [val_main_v6, val_main_v5, val_main_v4, val_main_v3]; rfl

end Reference

section Kernel
open Cert.Kernel9Ideal Cert.Kernel9Ideal.Gen

variable (m : (ℓ : Loc nD τ sig) → Buf (Elt Ideal) ℓ) (c : Dev nD)

/-- The two arguments, as launched. -/
abbrev a0 : FVec Ideal S2x2048x1024 .f32 := m (c, Proc.devRef .tc main_arg0)
abbrev a1 : FVec Ideal S2x2048x3072 .f32 := m (c, Proc.devRef .tc main_arg1)

/-- The cotangent's columns, cut into six groups of heads. -/
def groups (X : FVec Ideal S2x2048x3072 .f32) : FVec Ideal S6x4096x512 .bf16 :=
  truncf (φ := .f32) .bf16 (transpose S6x4096x512 [1, 0, 2] (shapeCast S4096x6x512 (s := S2x2048x3072) X Facts₀.shapeCasts_S2x2048x3072_S4096x6x512)
    Facts₀.transposes_S4096x6x512_S6x4096x512_1_0_2) Facts₀.bitsLt_bf16_f32

theorem groups_at (X : FVec Ideal S2x2048x3072 .f32) (g : Fin 6) (t : Fin 4096) (k : Fin 512) :
    groups X (ix3 g t k) = heads X t ⟨g.val * 512 + k.val, by omega⟩ := by
  pointwise [groups]; rfl

theorem v2 : V m c main_v2 = groups (a1 m c) := by
  show StableHlo.after hostOps0 (fun b => m (c, b)) (Proc.devRef .tc main_v2) = _
  after_reads_simp; rfl
theorem v4 : V m c main_v4 = flat (a0 m c) := by
  show StableHlo.after hostOps0 (fun b => m (c, b)) (Proc.devRef .tc main_v4) = _
  after_reads_simp; rfl

/-- The windows' block indices at every point. -/
theorem idx : ∀ t : Fin cfg0.N, win0_0.index t = ![t.val, 0] ∧ win0_1.index t = ![0, t.val, 0] ∧ win0_2.index t = ![0, 0, 0, 0] :=
  (by decide +kernel : ∀ t : Fin grid0.N, _)

theorem lt4 (t : Fin cfg0.N) : t.val < 4 := lt_of_lt_of_eq t.isLt N_0
theorem lt_N {n : ℕ} (h : n < 4) : n < cfg0.N := lt_of_lt_of_eq h N_0.symm

/-- Token `r` of the tile read at point `t`. -/
def tokOf (t : Fin cfg0.N) (r : Fin 1024) : Fin 4096 := ⟨t.val * 1024 + r.val, by have := lt4 t; omega⟩

variable {m c}

theorem iblk0 (t : Fin cfg0.N) (r d : Fin 1024) :
    (show FVec Ideal S1024x1024 .bf16 from iblk m c 0 t) (ix2 r d) = narrow (a0 m c) (tokOf t r) d := by
  rw [← Cert.FfnW.flat_at, ← v4]
  unfold tokOf
  blk_ext [iblk, idx t]
theorem iblk1 (t : Fin cfg0.N) (g : Fin 6) (r : Fin 1024) (k : Fin 512) :
    (show FVec Ideal S6x1024x512 .bf16 from iblk m c 1 t) (ix3 g r k) = heads (a1 m c) (tokOf t r) ⟨g.val * 512 + k.val, by omega⟩ := by
  rw [← groups_at, ← v2]
  unfold tokOf
  blk_ext [iblk, idx t]

variable (m c) in
/-- The tile's part of the gradient at an entry. -/
def part (t : Fin cfg0.N) (i : S4x1x1024x768.Idx) : EReal := ∑ r, term (a0 m c) (a1 m c) (i 2) (col (i 0) (i 3)) (tokOf t r)

/-! ## A chip's product

A chip's columns are one whole group and half of the next, or half of a group and the next one whole. -/

/-- Columns `o` on of group `g`, of a block. -/
theorem ld_cols {n : ℕ} (Z : Vec Ideal S6x1024x512 .bf16) (g : Fin 6) {g' o : ℕ} (hg : g.val = g') (ho : o + n ≤ 512) (h) (r : Fin 1024) (k : Fin n) :
    (View.ld Z (Rect.unit ![g', 0, o] ![1, 1024, n] h) : Vec Ideal ⟨3, ![1, 1024, n]⟩ .bf16) (ix3 0 r k) = Z (ix3 g r ⟨o + k.val, by omega⟩) := by
  refine congrArg Z (funext fun a => Fin.ext ?_)
  fin_cases a <;> simp [ix3, hg]

theorem pay8_at (X : FVec Ideal S1024x1024 .bf16) (A : FVec Ideal S1x1024x512 .bf16) (B : FVec Ideal S1x1024x256 .bf16) (d : Fin 1024) (k : Fin 768)
    (f : Fin 1024 → EReal) (hA : ∀ (r : Fin 1024) (h : k.val < 512), A (ix3 0 r ⟨k.val, h⟩) = f r)
    (hB : ∀ (r : Fin 1024) (h : ¬k.val < 512), B (ix3 0 r ⟨k.val - 512, by omega⟩) = f r) :
    k0_pay8 (F := Ideal) X A B (ix2 d k) = ∑ r, X (ix2 r d) * f r := by
  by_cases hk : k.val < 512
  · pointwise [k0_pay8, k0_pay7]
    simp only [hk, hA, dite_true, if_true]
  · pointwise [k0_pay8, k0_pay7]
    exact Finset.sum_congr rfl fun r _ => congrArg₂ _ rfl ((dif_neg hk).trans (hB r hk))

theorem pay11_at (X : FVec Ideal S1024x1024 .bf16) (A : FVec Ideal S1x1024x256 .bf16) (B : FVec Ideal S1x1024x512 .bf16) (d : Fin 1024) (k : Fin 768)
    (f : Fin 1024 → EReal) (hA : ∀ (r : Fin 1024) (h : k.val < 256), A (ix3 0 r ⟨k.val, h⟩) = f r)
    (hB : ∀ (r : Fin 1024) (h : ¬k.val < 256), B (ix3 0 r ⟨k.val - 256, by omega⟩) = f r) :
    k0_pay11 (F := Ideal) X A B (ix2 d k) = ∑ r, X (ix2 r d) * f r := by
  by_cases hk : k.val < 256
  · pointwise [k0_pay11, k0_pay7]
    simp only [hk, hA, dite_true, if_true]
  · pointwise [k0_pay11, k0_pay7]
    exact Finset.sum_congr rfl fun r _ => congrArg₂ _ rfl ((dif_neg hk).trans (hB r hk))

/-- A chip whose columns begin with group `g`. -/
theorem whole_first (t : Fin cfg0.N) (j : Fin 4) (g g' : Fin 6) {n n' : ℕ} (hn : g.val = n) (hn' : g'.val = n') (hj : j.val * 768 = g.val * 512)
    (hg : g'.val = g.val + 1) (h h') (d : Fin 1024) (k : Fin 768) :
    k0_pay8 (F := Ideal) (iblk m c 0 t) (View.ld (iblk m c 1 t) (Rect.unit ![n, 0, 0] ![1, 1024, 512] h))
      (View.ld (iblk m c 1 t) (Rect.unit ![n', 0, 0] ![1, 1024, 256] h')) (ix2 d k) = part m c t (ix4 j 0 d k) := by
  refine (pay8_at _ _ _ d k (fun r => heads (a1 m c) (tokOf t r) (col j k)) (fun r hk => ?_) (fun r hk => ?_)).trans
    (Finset.sum_congr rfl fun r _ => congrArg₂ _ (iblk0 t r d) rfl)
  · refine (ld_cols _ g hn (by omega) h r ⟨k.val, hk⟩).trans ((iblk1 t g r _).trans (congrArg _ (Fin.ext ?_)))
    unfold col
    dsimp only
    omega
  · refine (ld_cols _ g' hn' (by omega) h' r ⟨k.val - 512, by omega⟩).trans ((iblk1 t g' r _).trans (congrArg _ (Fin.ext ?_)))
    unfold col
    dsimp only
    omega

/-- A chip whose columns begin with the second half of group `g`. -/
theorem half_first (t : Fin cfg0.N) (j : Fin 4) (g g' : Fin 6) {n n' : ℕ} (hn : g.val = n) (hn' : g'.val = n') (hj : j.val * 768 = g.val * 512 + 256)
    (hg : g'.val = g.val + 1) (h h') (d : Fin 1024) (k : Fin 768) :
    k0_pay11 (F := Ideal) (iblk m c 0 t) (View.ld (iblk m c 1 t) (Rect.unit ![n, 0, 256] ![1, 1024, 256] h))
      (View.ld (iblk m c 1 t) (Rect.unit ![n', 0, 0] ![1, 1024, 512] h')) (ix2 d k) = part m c t (ix4 j 0 d k) := by
  refine (pay11_at _ _ _ d k (fun r => heads (a1 m c) (tokOf t r) (col j k)) (fun r hk => ?_) (fun r hk => ?_)).trans
    (Finset.sum_congr rfl fun r _ => congrArg₂ _ (iblk0 t r d) rfl)
  · refine (ld_cols _ g hn (by omega) h r ⟨k.val, hk⟩).trans ((iblk1 t g r _).trans (congrArg _ (Fin.ext ?_)))
    unfold col
    dsimp only
    omega
  · refine (ld_cols _ g' hn' (by omega) h' r ⟨k.val - 256, by omega⟩).trans ((iblk1 t g' r _).trans (congrArg _ (Fin.ext ?_)))
    unfold col
    dsimp only
    omega

/-! ## What a point leaves in the output's buffer -/

/-- A stored piece, and a piece stored over what was there. -/
theorem pay9_at (X : FVec Ideal S1024x1024 .bf16) (A : FVec Ideal S1x1024x512 .bf16) (B : FVec Ideal S1x1024x256 .bf16) (x : S1x1x1024x768.Idx) :
    k0_pay9 (F := Ideal) X A B x = k0_pay8 (F := Ideal) X A B (ix2 (x 2) (x 3)) := by
  idx_vars x
  pointwise [k0_pay9]
theorem pay12_at (X : FVec Ideal S1024x1024 .bf16) (A : FVec Ideal S1x1024x256 .bf16) (B : FVec Ideal S1x1024x512 .bf16) (x : S1x1x1024x768.Idx) :
    k0_pay12 (F := Ideal) X A B x = k0_pay11 (F := Ideal) X A B (ix2 (x 2) (x 3)) := by
  idx_vars x
  pointwise [k0_pay12]
theorem pay10_at (X : FVec Ideal S1024x1024 .bf16) (A : FVec Ideal S1x1024x512 .bf16) (B : FVec Ideal S1x1024x256 .bf16) (Z : FVec Ideal S1x1x1024x768 .f32)
    (x : S1x1x1024x768.Idx) : k0_pay10 (F := Ideal) X A B Z x = Z x + k0_pay8 (F := Ideal) X A B (ix2 (x 2) (x 3)) := by
  obtain ⟨z, z', d, k, rfl⟩ : ∃ (z z' : Fin 1) (d : Fin 1024) (k : Fin 768), x = ix4 z z' d k := ⟨x 0, x 1, x 2, x 3, eq_ix4 x⟩
  obtain rfl := Subsingleton.elim z 0
  obtain rfl := Subsingleton.elim z' 0
  pointwise [k0_pay10]
theorem pay13_at (X : FVec Ideal S1024x1024 .bf16) (A : FVec Ideal S1x1024x256 .bf16) (B : FVec Ideal S1x1024x512 .bf16) (Z : FVec Ideal S1x1x1024x768 .f32)
    (x : S1x1x1024x768.Idx) : k0_pay13 (F := Ideal) X A B Z x = Z x + k0_pay11 (F := Ideal) X A B (ix2 (x 2) (x 3)) := by
  obtain ⟨z, z', d, k, rfl⟩ : ∃ (z z' : Fin 1) (d : Fin 1024) (k : Fin 768), x = ix4 z z' d k := ⟨x 0, x 1, x 2, x 3, eq_ix4 x⟩
  obtain rfl := Subsingleton.elim z 0
  obtain rfl := Subsingleton.elim z' 0
  pointwise [k0_pay13]

/-- The index of the output's buffer at which chip `j`'s piece holds its entry `x`. -/
theorem index_of {i : S4x1x1024x768.Idx} {x : S1x1x1024x768.Idx} {e : ℕ} (j : Fin 4) (hj : j.val = e) (h0 : (i 0).val = e + (x 0).val)
    (h2 : (i 2).val = (x 2).val) (h3 : (i 3).val = (x 3).val) : i = ix4 j 0 (x 2) (x 3) := by
  have b0 : (x 0).val < 1 := (x 0).isLt
  have b1 : (i 1).val < 1 := (i 1).isLt
  refine (eq_ix4 i).trans ?_
  rw [show i 0 = j from Fin.ext (by omega), show i 1 = (0 : Fin 1) from Fin.ext (by show (i 1).val = 0; omega), show i 2 = x 2 from Fin.ext h2,
    show i 3 = x 3 from Fin.ext h3]
  rfl

/-- Chip `j`'s piece of the output's buffer. -/
theorem ld_at (Z : Vec Ideal S4x1x1024x768 .f32) {e : ℕ} (j : Fin 4) (hj : j.val = e) (hi) (x : S1x1x1024x768.Idx) :
    (View.ld Z (Rect.unit ![e, 0, 0, 0] ![1, 1, 1024, 768] hi) : Vec Ideal S1x1x1024x768 .f32) x = Z (ix4 j 0 (x 2) (x 3)) := by
  have b0 : (x 0).val < 1 := (x 0).isLt
  have b1 : (x 1).val < 1 := (x 1).isLt
  refine congrArg Z (funext fun a => Fin.ext ?_)
  fin_cases a <;> simp [ix4, hj] <;> omega

set_option maxHeartbeats 2000000 in
theorem out_reset (t : Fin cfg0.N) (h : t.val % 4 = 0) (i : S4x1x1024x768.Idx) : outsAt0 m c t.val t.isLt i = 0 + part m c t i := by
  have ht := lt4 t
  rw [zero_add, outsAt0_A m c t h (by omega) h (by omega) h (by omega) h (by omega)]
  frame_out
  canon_tiles x h
  · rw [index_of 3 rfl h0 h2 h3]
    exact (pay12_at _ _ _ x).trans (half_first t 3 4 5 rfl rfl rfl rfl _ _ (x 2) (x 3))
  · rw [index_of 2 rfl h0 h2 h3]
    exact (pay9_at _ _ _ x).trans (whole_first t 2 3 4 rfl rfl rfl rfl _ _ (x 2) (x 3))
  · rw [index_of 1 rfl h0 h2 h3]
    exact (pay12_at _ _ _ x).trans (half_first t 1 1 2 rfl rfl rfl rfl _ _ (x 2) (x 3))
  · rw [index_of 0 rfl (h0.trans (zero_add _).symm) h2 h3]
    exact (pay9_at _ _ _ x).trans (whole_first t 0 0 1 rfl rfl rfl rfl _ _ (x 2) (x 3))

set_option maxHeartbeats 2000000 in
theorem out_step (t : Fin cfg0.N) (h : ¬t.val % 4 = 0) (i : S4x1x1024x768.Idx) :
    outsAt0 m c t.val t.isLt i = outsAt0 m c (t.val - 1) (Nat.lt_of_le_of_lt (Nat.sub_le _ _) t.isLt) i + part m c t i := by
  rw [outsAt0_B m c t h (by omega) h (by omega) h (by omega) h (by omega)]
  frame_out
  canon_tiles x h
  · rw [index_of 3 rfl h0 h2 h3]
    exact (pay13_at _ _ _ _ x).trans (congrArg₂ _ (ld_at _ 3 rfl _ x) (half_first t 3 4 5 rfl rfl rfl rfl _ _ (x 2) (x 3)))
  · rw [index_of 2 rfl h0 h2 h3]
    exact (pay10_at _ _ _ _ x).trans (congrArg₂ _ (ld_at _ 2 rfl _ x) (whole_first t 2 3 4 rfl rfl rfl rfl _ _ (x 2) (x 3)))
  · rw [index_of 1 rfl h0 h2 h3]
    exact (pay13_at _ _ _ _ x).trans (congrArg₂ _ (ld_at _ 1 rfl _ x) (half_first t 1 1 2 rfl rfl rfl rfl _ _ (x 2) (x 3)))
  · rw [index_of 0 rfl (h0.trans (zero_add _).symm) h2 h3]
    exact (pay10_at _ _ _ _ x).trans (congrArg₂ _ (ld_at _ 0 rfl _ x) (whole_first t 0 0 1 rfl rfl rfl rfl _ _ (x 2) (x 3)))

/-- The four tiles, summed: all tokens, summed. -/
theorem sum_run (F : Fin 4096 → EReal) (n : Fin 4 → Fin cfg0.N) (hn : ∀ s, (n s).val = s.val) :
    (∑ s, ∑ r, F (tokOf (n s) r)) = ∑ t, F t := by
  rw [Fin.sum_univ_tiles 4 1024 rfl]
  refine Finset.sum_congr rfl fun s _ => Finset.sum_congr rfl fun r _ => congrArg F (Fin.ext ?_)
  unfold tokOf
  dsimp only
  rw [hn s]

set_option maxHeartbeats 1000000 in
/-- What the output's array holds after the run. -/
theorem array2 : (dats m 0 c).arrAt 2 (cfgs 0).N = grad (a0 m c) (a1 m c) := by
  refine (dats m 0 c).arrAt_eq_of_covers 2 _ (by decide +kernel) fun t hf y => ?_
  blk_simp
  rw [after0_2, Pipeline.eq_sum_fin_of_reset_step_apply_of_flush (outsAt0 m c) 4 (fun _ => 0) (part m c)
    out_reset out_step t ((flush0_2 t).mp hf) y, zero_add]
  have ht := lt4 t
  have e0 : ((win0_2.blk t).view.emb y 0 : Fin 4) = y 0 := Fin.ext (by blk_simp [idx t] <;> (try omega))
  have e2 : ((win0_2.blk t).view.emb y 2 : Fin 1024) = y 2 := Fin.ext (by blk_simp [idx t] <;> (try omega))
  have e3 : ((win0_2.blk t).view.emb y 3 : Fin 768) = y 3 := Fin.ext (by blk_simp [idx t] <;> (try omega))
  unfold grad
  rw [e0, e2, e3, ← sum_run _ (fun s => ⟨4 * (t.val / 4) + s.val, lt_N (by omega)⟩) (fun s => by dsimp only; omega)]
  exact Finset.sum_congr (M := EReal) rfl fun s _ => rfl

end Kernel

/-- Kernel and reference end with equal results. -/
theorem algebraic : Cert.algebraic_Kernel9Ideal_Reference9Ideal := by
  intro m g m' g' _ hagree
  refine ⟨fun c => grad (a0 m c) (a1 m c), ?_, ?_⟩
  · refine (θ_run _ _ _).mono (fun r h c => ?_) (Cert.Kernel9Ideal.Value.run_blocks (F := Ideal) m g)
    exact ⟨(h c).1.trans array2, (h c).2⟩
  · refine (θ_run _ _ _).mono (fun r h c => ?_) (Cert.Reference9Ideal.Value.run (F := Ideal) m' g')
    obtain ⟨h0, h1⟩ := hagree c
    obtain ⟨e0, e⟩ := h c
    refine ⟨?_, e⟩
    replace e0 := e0.trans (Cert.Reference9Ideal.Read.val_main_v6_eq ..)
    rw [v6] at e0
    refine e0.trans ?_
    rw [h0, h1]

end Cert.DwIn
-- ==== Proof.MixOut.Claim.lean ====
/- The mixer's output-projection kernel computes what the reference computes, over the extended reals: the product of the two
   groups of heads, side by side, with the output projection, and the gated residual. -/
module

public import proofs.«01_k».proof.Defs
public import proofs.«01_k».proof.Proof.FfnDown.Claim
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.MixOut

open Idealize.ShloMosaic Idealize.ShloMosaic.TcCoe Idealize.SL.Sem
open Cert.FfnW (narrow)
open Cert.FfnDown (rows rows_at gates gates_at)
open Cert.Ffn.Host (at2)

/-! ## The two results, at a token -/

/-- Entry `k` of token `t` of the flattened batch, of one group of heads. -/
def head (X : FVec Ideal Cert.Kernel10Ideal.S2x2048x512 .f32) (t : Fin 4096) (k : Fin 512) : EReal :=
  X (ix3 ⟨t.val / 2048, by omega⟩ ⟨t.val % 2048, by omega⟩ k)

/-- The product of both groups with the output projection. -/
def mixed (p q : FVec Ideal Cert.Kernel10Ideal.S2x2048x512 .f32) (w : FVec Ideal Cert.Kernel10Ideal.S1024x1024 .f32) (t : Fin 4096) (d : Fin 1024) : EReal :=
  ∑ k : Fin 512, head p t k * w (ix2 ⟨k.val, by omega⟩ d) + ∑ k : Fin 512, head q t k * w (ix2 ⟨512 + k.val, by omega⟩ d)

/-- The gated residual. -/
def resid (p q : FVec Ideal Cert.Kernel10Ideal.S2x2048x512 .f32) (w : FVec Ideal Cert.Kernel10Ideal.S1024x1024 .f32)
    (x : FVec Ideal Cert.Kernel10Ideal.S2x2048x1024 .f32) (gt : FVec Ideal Cert.Kernel10Ideal.S2x1024 .f32) (t : Fin 4096) (d : Fin 1024) : EReal :=
  narrow x t d + gt (ix2 ⟨t.val / 2048, by omega⟩ d) * mixed p q w t d

section Reference
open Cert.Reference10Ideal Cert.Reference10Ideal.Read

variable (p q : FVec Ideal S2x2048x512 .f32) (w : FVec Ideal S1024x1024 .f32) (x : FVec Ideal S2x2048x1024 .f32) (gt : FVec Ideal S2x1024 .f32)

theorem v3_at (t : Fin 4096) (d : Fin 1024) : val_main_v3 (F := Ideal) p q w (ix2 t d) = mixed p q w t d := by
  unfold mixed head
  pointwise [val_main_v3, val_main_v2, val_main_v1, val_main_v0]

theorem v8_at (t : Fin 4096) (d : Fin 1024) : val_main_v8 (F := Ideal) p q w x gt (ix2 t d) = resid p q w x gt t d := by
  unfold resid mixed head
  pointwise [val_main_v8, val_main_v7, val_main_v6, val_main_v5, val_main_v4, val_main_v1, val_main_v0]; rfl

end Reference

section Kernel
open Cert.Kernel10Ideal Cert.Kernel10Ideal.Gen

variable (m : (ℓ : Loc nD τ sig) → Buf (Elt Ideal) ℓ) (c : Dev nD)

/-- Argument arrays, as launched. -/
abbrev a0 : FVec Ideal S2x2048x512 .f32 := m (c, Proc.devRef .tc main_arg0)
abbrev a1 : FVec Ideal S2x2048x512 .f32 := m (c, Proc.devRef .tc main_arg1)
abbrev a2 : FVec Ideal S1024x1024 .f32 := m (c, Proc.devRef .tc main_arg2)
abbrev a3 : FVec Ideal S2x2048x1024 .f32 := m (c, Proc.devRef .tc main_arg3)
abbrev a4 : FVec Ideal S2x1024 .f32 := m (c, Proc.devRef .tc main_arg4)

/-- One group's rows, laid flat. -/
def half (p : FVec Ideal S2x2048x512 .f32) : FVec Ideal S4096x512 .bf16 :=
  truncf (φ := .f32) .bf16 (shapeCast S4096x512 (s := S2x2048x512) p Facts₀.shapeCasts_S2x2048x512_S4096x512) Facts₀.bitsLt_bf16_f32

theorem half_at (p : FVec Ideal S2x2048x512 .f32) (t : Fin 4096) (k : Fin 512) : half p (ix2 t k) = head p t k := by
  pointwise [half]; rfl

theorem v1 : V m c main_v1 = half (a0 m c) := by
  show StableHlo.after hostOps0 (fun b => m (c, b)) (Proc.devRef .tc main_v1) = _
  after_reads_simp; rfl
theorem v3 : V m c main_v3 = half (a1 m c) := by
  show StableHlo.after hostOps0 (fun b => m (c, b)) (Proc.devRef .tc main_v3) = _
  after_reads_simp; rfl
theorem v4 : V m c main_v4 = truncf (φ := .f32) .bf16 (a2 m c) Facts₀.bitsLt_bf16_f32 := by
  show StableHlo.after hostOps0 (fun b => m (c, b)) (Proc.devRef .tc main_v4) = _
  after_reads_simp
theorem v5 : V m c main_v5 = rows (a3 m c) := by
  show StableHlo.after hostOps0 (fun b => m (c, b)) (Proc.devRef .tc main_v5) = _
  after_reads_simp; rfl
theorem v6 : V m c main_v6 = gates (a4 m c) := by
  show StableHlo.after hostOps0 (fun b => m (c, b)) (Proc.devRef .tc main_v6) = _
  after_reads_simp; rfl

/-- The windows' block indices at every point. -/
theorem idx : ∀ t : Fin cfg0.N, win0_0.index t = ![t.val, 0] ∧ win0_1.index t = ![t.val, 0] ∧ win0_2.index t = ![0, 0] ∧ win0_3.index t = ![t.val, 0]
    ∧ win0_4.index t = ![t.val / 4, 0, 0] ∧ win0_5.index t = ![t.val, 0] ∧ win0_6.index t = ![t.val, 0] :=
  (by decide +kernel : ∀ t : Fin grid0.N, _)

theorem lt8 (t : Fin cfg0.N) : t.val < 8 := lt_of_lt_of_eq t.isLt N_0

/-- Token `r` of the tile read at point `t`. -/
def tokOf (t : Fin cfg0.N) (r : Fin 512) : Fin 4096 := ⟨t.val * 512 + r.val, by have := lt8 t; omega⟩

variable {m c}

theorem iblk0 (t : Fin cfg0.N) (r : Fin 512) (k : Fin 512) :
    (show FVec Ideal S512x512 .bf16 from iblk m c 0 t) (ix2 r k) = head (a0 m c) (tokOf t r) k := by
  rw [← half_at, ← v1]
  unfold tokOf
  blk_ext [iblk, idx t]
theorem iblk1 (t : Fin cfg0.N) (r : Fin 512) (k : Fin 512) :
    (show FVec Ideal S512x512 .bf16 from iblk m c 1 t) (ix2 r k) = head (a1 m c) (tokOf t r) k := by
  rw [← half_at, ← v3]
  unfold tokOf
  blk_ext [iblk, idx t]
theorem iblk2 (t : Fin cfg0.N) (k d : Fin 1024) : (show FVec Ideal S1024x1024 .bf16 from iblk m c 2 t) (ix2 k d) = a2 m c (ix2 k d) := by
  refine Eq.trans ?_ (show (truncf (φ := .f32) .bf16 (a2 m c) Facts₀.bitsLt_bf16_f32 : FVec Ideal S1024x1024 .bf16) (ix2 k d) = a2 m c (ix2 k d) from rfl)
  rw [← v4]
  blk_ext [iblk, idx t]
theorem iblk3 (t : Fin cfg0.N) (r : Fin 512) (d : Fin 1024) :
    (show FVec Ideal S512x1024 .f32 from iblk m c 3 t) (ix2 r d) = narrow (a3 m c) (tokOf t r) d := by
  rw [← rows_at, ← v5]
  unfold tokOf
  blk_ext [iblk, idx t]
theorem iblk4 (t : Fin cfg0.N) (r : Fin 512) (d : Fin 1024) :
    (show FVec Ideal S1x1x1024 .f32 from iblk m c 4 t) (ix3 0 0 d) = a4 m c (ix2 ⟨(tokOf t r).val / 2048, by omega⟩ d) := by
  have ht := lt8 t
  have hr : (tokOf t r).val / 2048 = t.val / 4 := by unfold tokOf; dsimp only; omega
  rw [← gates_at (a4 m c), ← v6]
  blk_ext [iblk, idx t]

/-! ## A tile's body -/

theorem pay1_at (v0 v5 : FVec Ideal S512x512 .bf16) (v2 v7 : FVec Ideal S512x1024 .bf16) (r : Fin 512) (d : Fin 1024) :
    k0_pay1 (F := Ideal) v0 v2 v5 v7 (ix2 r d) = ∑ k, v0 (ix2 r k) * v2 (ix2 k d) + ∑ k, v5 (ix2 r k) * v7 (ix2 k d) := by
  pointwise [k0_pay1]

theorem pay3_at (v0 v5 : FVec Ideal S512x512 .bf16) (v2 v7 : FVec Ideal S512x1024 .bf16) (x : FVec Ideal S512x1024 .f32) (g : FVec Ideal S1x1x1024 .f32)
    (r : Fin 512) (d : Fin 1024) :
    k0_pay3 (F := Ideal) v0 v2 v5 v7 x g (ix2 r d) = x (ix2 r d) + g (ix3 0 0 d) * k0_pay1 (F := Ideal) v0 v2 v5 v7 (ix2 r d) := by
  pointwise [k0_pay3]

/-- The projection's rows from `o` on. -/
theorem ld_rows (W : Vec Ideal S1024x1024 .bf16) (o : ℕ) (ho : o ≤ 512) (h) (k : Fin 512) (d : Fin 1024) :
    (View.ld W (Rect.unit ![o, 0] ![512, 1024] h) : Vec Ideal S512x1024 .bf16) (ix2 k d) = W (ix2 ⟨o + k.val, by omega⟩ d) := by
  refine congrArg W (funext fun a => Fin.ext ?_)
  fin_cases a <;> simp [ix2]

/-- The product a tile computes, of the blocks as the body loads them. -/
theorem mixed_of (t : Fin cfg0.N) (r : Fin 512) (d : Fin 1024) :
    k0_pay1 (F := Ideal) (iblk m c 0 t) (View.ld (iblk m c 2 t) r0_1) (iblk m c 1 t) (View.ld (iblk m c 2 t) r0_2) (ix2 r d)
      = mixed (a0 m c) (a1 m c) (a2 m c) (tokOf t r) d := by
  refine (pay1_at _ _ _ _ r d).trans (congrArg₂ _ ?_ ?_)
  · refine Finset.sum_congr (M := EReal) rfl fun k _ => congrArg₂ _ (iblk0 t r k) ?_
    refine (ld_rows _ 0 (by omega) _ k d).trans ((iblk2 t _ d).trans ?_)
    exact congrArg (fun z => a2 m c (ix2 z d)) (Fin.ext (zero_add _))
  · exact Finset.sum_congr (M := EReal) rfl fun k _ => congrArg₂ _ (iblk1 t r k) ((ld_rows _ 512 (by omega) _ k d).trans (iblk2 t _ d))

theorem out5 (t : Fin cfg0.N) (r : Fin 512) (d : Fin 1024) :
    (out0_5 (iblk m c 0 t) (iblk m c 1 t) (iblk m c 2 t) (iblk m c 3 t) (iblk m c 4 t) : FVec Ideal S512x1024 .bf16) (ix2 r d)
      = mixed (a0 m c) (a1 m c) (a2 m c) (tokOf t r) d := by
  unfold out0_5
  simp (disch := decide) only [show r0_3 = Rect.unit (s := S512x1024) ![0, 0] S512x1024.size inb_S512x1024_S512x1024_0_0 from rfl,
    show r0_0 = Rect.unit (s := S512x512) ![0, 0] S512x512.size inb_S512x512_S512x512_0_0 from rfl, View.canon_cons_unit_lit', View.ld_unit_lit']
  exact mixed_of t r d

theorem out6 (t : Fin cfg0.N) (r : Fin 512) (d : Fin 1024) :
    (out0_6 (iblk m c 0 t) (iblk m c 1 t) (iblk m c 2 t) (iblk m c 3 t) (iblk m c 4 t) : FVec Ideal S512x1024 .f32) (ix2 r d)
      = resid (a0 m c) (a1 m c) (a2 m c) (a3 m c) (a4 m c) (tokOf t r) d := by
  unfold out0_6
  simp (disch := decide) only [show r0_3 = Rect.unit (s := S512x1024) ![0, 0] S512x1024.size inb_S512x1024_S512x1024_0_0 from rfl,
    show r0_0 = Rect.unit (s := S512x512) ![0, 0] S512x512.size inb_S512x512_S512x512_0_0 from rfl,
    show r0_4 = Rect.unit (s := S1x1x1024) ![0, 0, 0] S1x1x1024.size inb_S1x1x1024_S1x1x1024_0_0_0 from rfl, View.canon_cons_unit_lit', View.ld_unit_lit']
  exact (pay3_at _ _ _ _ _ _ r d).trans (congrArg₂ _ (iblk3 t r d) (congrArg₂ _ (iblk4 t r d) (mixed_of t r d)))

/-! ## The results' arrays -/

/-- The results, as arrays. -/
def res (m : (ℓ : Loc nD τ sig) → Buf (Elt Ideal) ℓ) (c : Dev nD) : FVec Ideal S4096x1024 .bf16 × FVec Ideal S4096x1024 .f32 :=
  (fun i => mixed (a0 m c) (a1 m c) (a2 m c) (i 0) (i 1), fun i => resid (a0 m c) (a1 m c) (a2 m c) (a3 m c) (a4 m c) (i 0) (i 1))

set_option maxHeartbeats 1000000

theorem array5 : (dats m 0 c).arrAt 5 (cfgs 0).N = (res m c).1 := by
  refine (dats m 0 c).arrAt_eq_of_covers 5 _ (by decide +kernel) fun t _ y => ?_
  blk_simp
  rw [after0_5]
  refine (congrArg _ (eq_ix2 y)).trans ((out5 t (y 0) (y 1)).trans ?_)
  refine at2 (mixed (a0 m c) (a1 m c) (a2 m c)) ?_ ?_ <;> (try unfold tokOf) <;> blk_simp [idx t] <;> (try omega)

theorem array6 : (dats m 0 c).arrAt 6 (cfgs 0).N = (res m c).2 := by
  refine (dats m 0 c).arrAt_eq_of_covers 6 _ (by decide +kernel) fun t _ y => ?_
  blk_simp
  rw [after0_6]
  refine (congrArg _ (eq_ix2 y)).trans ((out6 t (y 0) (y 1)).trans ?_)
  refine at2 (resid (a0 m c) (a1 m c) (a2 m c) (a3 m c) (a4 m c)) ?_ ?_ <;> (try unfold tokOf) <;> blk_simp [idx t] <;> (try omega)

end Kernel

/-- Kernel and reference end with equal results. -/
theorem algebraic : Cert.algebraic_Kernel10Ideal_Reference10Ideal := by
  intro m g m' g' _ hagree
  refine ⟨fun c => (res m c).1, fun c => (res m c).2, ?_, ?_⟩
  · refine (θ_run _ _ _).mono (fun r h c => ?_) (Cert.Kernel10Ideal.Value.run_blocks (F := Ideal) m g)
    obtain ⟨e0, e1, e⟩ := h c
    exact ⟨e0.trans array5, e1.trans array6, e⟩
  · refine (θ_run _ _ _).mono (fun r h c => ?_) (Cert.Reference10Ideal.Value.run (F := Ideal) m' g')
    obtain ⟨h0, h1, h2, h3, h4⟩ := hagree c
    obtain ⟨e0, e1, e⟩ := h c
    replace e0 := e0.trans (Cert.Reference10Ideal.Read.val_main_v3_eq ..)
    replace e1 := e1.trans (Cert.Reference10Ideal.Read.val_main_v8_eq ..)
    rw [h0, h1, h2] at e0
    rw [h0, h1, h2, h3, h4] at e1
    exact ⟨e0.trans (funext fun i => (congrArg _ (eq_ix2 i)).trans (v3_at _ _ _ (i 0) (i 1))),
      e1.trans (funext fun i => (congrArg _ (eq_ix2 i)).trans (v8_at _ _ _ _ _ (i 0) (i 1))), e⟩

end Cert.MixOut
-- ==== Proof.MixDh.Reference.lean ====
/- The gradient at the mixer's modulated rows, and the arrays the reference computes from it. -/
module

public import proofs.«01_k».proof.Proof.Tail.Reference
public import proofs.«01_k».proof.Proof.DwIn.Claim
public import proofs.«01_k».proof.Proof.Gen.Reference11Ideal.Read
public import Idealize.ShloMosaic.Lib.Pointwise

@[expose] public section

set_option maxRecDepth 16384

noncomputable section

namespace Cert.MixDh

open Idealize.ShloMosaic Idealize.ShloMosaic.TcCoe Cert.Reference11Ideal Cert.Reference11Ideal.Gen Cert.Reference11Ideal.Read

variable (x : FVec Ideal S2x2048x1024 .f32) (g : FVec Ideal S1024 .f32) (sc : FVec Ideal S2x1024 .f32) (w : FVec Ideal S1024x3072 .f32)
  (q : FVec Ideal S2x2048x3072 .f32) (ct : FVec Ideal S2x2048x1024 .f32)

/-- The gradient at the modulated row of token `s` of example `b`, through the mixer's input projection. -/
def grad (b : Fin 2) (s : Fin 2048) (d : Fin 1024) : EReal := ∑ k, q (ix3 b s k) * w (ix2 d k)

/-- What the gradients from the modulated rows on read. -/
def tail : Tail.In := ⟨x, g, sc, ct, grad w q⟩

theorem grad_at (b : Fin 2) (s : Fin 2048) (d : Fin 1024) :
    val_main_v25 (F := Ideal) w q (ix3 b s d) = ((tail x g sc w q ct).row b s).dh d := by
  pointwise [val_main_v25]
  rfl

theorem v56 (i : S4096x1024.Idx) : val_main_v56 (F := Ideal) x g sc w q ct i = ((tail x g sc w q ct).tok (i 0)).dx (i 1) := by
  idx_vars i
  exact Tail.dx_at (tail x g sc w q ct) (grad_at x g sc w q ct) i0 i1

theorem v57 (i : S2x1x1024.Idx) : val_main_v57 (F := Ideal) w q i = (tail x g sc w q ct).dsh (i 0) (i 2) := by
  idx_vars i
  exact Tail.dsh_at (tail x g sc w q ct) (grad_at x g sc w q ct) i0 i1 i2

theorem v58 (i : S2x1x1024.Idx) : val_main_v58 (F := Ideal) x g w q i = (tail x g sc w q ct).dsc (i 0) (i 2) := by
  idx_vars i
  exact Tail.dsc_at (tail x g sc w q ct) (grad_at x g sc w q ct) i0 i1 i2

theorem v59 (i : S1x1024.Idx) : val_main_v59 (F := Ideal) x sc w q i = (tail x g sc w q ct).dg (i 1) := by
  idx_vars i
  exact Tail.dg_at (tail x g sc w q ct) (grad_at x g sc w q ct) i0 i1

end Cert.MixDh
end
-- ==== Proof.MixDh.Outs.lean ====
/- What the body leaves in each output's buffer at a grid point: the tile's rows of the residual's gradient,
   and what the point before left of the sums over tokens plus the tile's own sums.  Tile `t` holds the 512 tokens from
   `512 t` on. -/
module

public import proofs.«01_k».proof.Proof.Tail.Tile
public import proofs.«01_k».proof.Proof.Tail.Flat
public import proofs.«01_k».proof.Proof.MixDh.Reference
public import proofs.«01_k».proof.Proof.Gen.Kernel11Ideal.Frame
public import Idealize.ShloMosaic.Lib.Pipeline.ValueKit

@[expose] public section

set_option maxRecDepth 16384

noncomputable section

namespace Cert.MixDh

open Idealize.ShloMosaic Idealize.ShloMosaic.TcCoe Cert.Kernel11Ideal Cert.Kernel11Ideal.Gen
open Cert.DwIn (col heads groups groups_at)
open Cert.Tail (tokOf rows flat flat_at gain gain_at scales scales_at)
open Cert.Tail.Tile (Rows Reads)

/-! ## The gradient at a tile's modulated rows

A chip's columns are one whole group of heads and half of the next, or half of a group and the next one whole. -/

/-- What the two pieces, `n` and `n'` columns wide, hold of a chip's columns `f`. -/
structure Pieces {n n' : ℕ} (e : n + n' = 768) (f : Fin 512 → Fin 768 → EReal) (A : FVec Ideal ⟨3, ![1, 512, n]⟩ .bf16)
    (B : FVec Ideal ⟨3, ![1, 512, n']⟩ .bf16) : Prop where
  a : ∀ (r : Fin 512) (k : Fin n), A (ix3 0 r k) = f r ⟨k.val, by omega⟩
  b : ∀ (r : Fin 512) (k : Fin n'), B (ix3 0 r k) = f r ⟨n + k.val, by omega⟩

/-- A product over columns, of the two pieces' products. -/
theorem prod {N n n' : ℕ} (e : n + n' = N) (F : Fin N → EReal) {a : Fin n → EReal} {b : Fin n' → EReal} (ha : ∀ k, a k = F ⟨k.val, by omega⟩)
    (hb : ∀ k, b k = F ⟨n + k.val, by omega⟩) : (∑ k, a k) + ∑ k, b k = ∑ k, F k := by
  subst e
  rw [funext ha, funext hb]
  exact (Fin.sum_univ_add F).symm

theorem add2 {a b a' b' : EReal} (ha : a = a') (hb : b = b') : a + b = a' + b' := congrArg₂ (· + ·) ha hb

theorem dh_tile {f : Fin 512 → Fin 3072 → EReal} {ω : FVec Ideal S1024x3072 .f32} {A0 A2 : FVec Ideal S1x512x512 .bf16} {B0 B2 : FVec Ideal S1x512x256 .bf16}
    {A1 A3 : FVec Ideal S1x512x256 .bf16} {B1 B3 : FVec Ideal S1x512x512 .bf16} {w0 w1 w2 w3 : FVec Ideal S1x1x1024x768 .bf16}
    (c0 : Pieces (n := 512) (n' := 256) rfl (fun r k => f r (col 0 k)) A0 B0) (c1 : Pieces (n := 256) (n' := 512) rfl (fun r k => f r (col 1 k)) A1 B1)
    (c2 : Pieces (n := 512) (n' := 256) rfl (fun r k => f r (col 2 k)) A2 B2) (c3 : Pieces (n := 256) (n' := 512) rfl (fun r k => f r (col 3 k)) A3 B3)
    (h0 : ∀ d k, w0 (ix4 0 0 d k) = ω (ix2 d (col 0 k))) (h1 : ∀ d k, w1 (ix4 0 0 d k) = ω (ix2 d (col 1 k)))
    (h2 : ∀ d k, w2 (ix4 0 0 d k) = ω (ix2 d (col 2 k))) (h3 : ∀ d k, w3 (ix4 0 0 d k) = ω (ix2 d (col 3 k))) (r : Fin 512) (d : Fin 1024) :
    k0_pay5 (F := Ideal) (k0_pay4 A0 B0 w0 A1 B1 w1 A2 B2 w2) A3 B3 w3 (ix2 r d) = ∑ k, f r k * ω (ix2 d k) := by
  pointwise [k0_pay5, k0_pay4]
  rw [Fin.sum_univ_tiles 4 768 rfl (fun k => f r k * ω (ix2 d k)), Fin.sum_univ_four]
  have one : ∀ (j : Fin 4) {n n' : ℕ} (e : n + n' = 768) {A : FVec Ideal ⟨3, ![1, 512, n]⟩ .bf16} {B : FVec Ideal ⟨3, ![1, 512, n']⟩ .bf16}
      {v : FVec Ideal S1x1x1024x768 .bf16}, Pieces e (fun r k => f r (col j k)) A B → (∀ d k, v (ix4 0 0 d k) = ω (ix2 d (col j k))) →
      (∑ k, A (ix3 0 r k) * v (ix4 0 0 d ⟨k.val, by omega⟩) : EReal) + (∑ k, B (ix3 0 r k) * v (ix4 0 0 d ⟨n + k.val, by omega⟩) : EReal)
        = ∑ k, f r (col j k) * ω (ix2 d (col j k)) := fun j _ _ e _ _ _ c h =>
    prod e (fun k => f r (col j k) * ω (ix2 d (col j k))) (fun k => congrArg₂ (· * ·) (c.a r k) (h d _)) (fun k => congrArg₂ (· * ·) (c.b r k) (h d _))
  exact add2 (add2 (add2 (one 0 rfl c0 h0) (one 1 rfl c1 h1)) (one 2 rfl c2 h2)) (one 3 rfl c3 h3)

/-! ## The body's values from that gradient on are the ones of the feed-forward half's call -/

section Same
variable (dh x ct : FVec Ideal S512x1024 .f32) (g : FVec Ideal S1x1024 .f32) (sc : FVec Ideal S1x1x1024 .f32)

theorem dx_eq : k0_pay16 (F := Ideal) dh (k0_pay7 g) (k0_pay8 sc) (k0_pay9 ct) (k0_pay10 x) (k0_pay11 x) (Scalar.ofBits .f32 0x3F800000#32)
    = Kernel5Ideal.Gen.k0_pay12 dh (Kernel5Ideal.Gen.k0_pay4 x) (Kernel5Ideal.Gen.k0_pay5 g) sc ct := rfl
theorem dg_eq : k0_pay15 (F := Ideal) dh (k0_pay8 sc) (k0_pay11 x) (Scalar.ofBits .f32 0x3F800000#32)
    = Kernel5Ideal.Gen.k0_pay11 dh (Kernel5Ideal.Gen.k0_pay4 x) sc := rfl

end Same

/-! ## The arguments and their blocks -/

variable (m : (ℓ : Loc nD τ sig) → Buf (Elt Ideal) ℓ) (c : Dev nD)

/-- Argument arrays, as launched. -/
abbrev a0 : FVec Ideal S2x2048x1024 .f32 := m (c, Proc.devRef .tc main_arg0)
abbrev a1 : FVec Ideal S1024 .f32 := m (c, Proc.devRef .tc main_arg1)
abbrev a3 : FVec Ideal S2x1024 .f32 := m (c, Proc.devRef .tc main_arg3)
abbrev a4 : FVec Ideal S1024x3072 .f32 := m (c, Proc.devRef .tc main_arg4)
abbrev a5 : FVec Ideal S2x2048x3072 .f32 := m (c, Proc.devRef .tc main_arg5)
abbrev a6 : FVec Ideal S2x2048x1024 .f32 := m (c, Proc.devRef .tc main_arg6)

/-- The gradients' arguments, as launched. -/
def inp : Tail.In := tail (a0 m c) (a1 m c) (a3 m c) (a4 m c) (a5 m c) (a6 m c)

variable {m c}

set_option maxHeartbeats 4000000

/-- The mixer's input projection, cut in chips. -/
def chips (w : FVec Ideal S1024x3072 .f32) : FVec Ideal S4x1x1024x768 .bf16 :=
  truncf .bf16 (broadcastInDim S4x1x1024x768 ![0, 2, 3] Facts₀.bcast_S4x1024x768_S4x1x1024x768_0_2_3
    (transpose S4x1024x768 [1, 0, 2] (shapeCast S1024x4x768 w Facts₀.shapeCasts_S1024x3072_S1024x4x768)
      Facts₀.transposes_S1024x4x768_S4x1024x768_1_0_2)) Facts₀.bitsLt_bf16_f32

theorem chips_at (w : FVec Ideal S1024x3072 .f32) (j : Fin 4) (d : Fin 1024) (k : Fin 768) : chips w (ix4 j 0 d k) = w (ix2 d (col j k)) := by
  pointwise [chips]
  rfl

theorem v2 : V m c main_v2 = groups (a5 m c) := by
  show StableHlo.after hostOps0 (fun b => m (c, b)) (Proc.devRef .tc main_v2) = _
  after_reads_simp; rfl
theorem v6 : V m c main_v6 = chips (a4 m c) := by
  show StableHlo.after hostOps0 (fun b => m (c, b)) (Proc.devRef .tc main_v6) = _
  after_reads_simp; rfl
theorem v7 : V m c main_v7 = flat (a0 m c) := by
  show StableHlo.after hostOps0 (fun b => m (c, b)) (Proc.devRef .tc main_v7) = _
  after_reads_simp; rfl
theorem v8 : V m c main_v8 = gain (a1 m c) := by
  show StableHlo.after hostOps0 (fun b => m (c, b)) (Proc.devRef .tc main_v8) = _
  after_reads_simp; rfl
theorem v9 : V m c main_v9 = scales (a3 m c) := by
  show StableHlo.after hostOps0 (fun b => m (c, b)) (Proc.devRef .tc main_v9) = _
  after_reads_simp; rfl
theorem v10 : V m c main_v10 = flat (a6 m c) := by
  show StableHlo.after hostOps0 (fun b => m (c, b)) (Proc.devRef .tc main_v10) = _
  after_reads_simp; rfl

/-- The windows' block indices at every point. -/
theorem idx : ∀ t : Fin cfg0.N, win0_0.index t = ![0, t.val, 0] ∧ win0_1.index t = ![0, 0, 0, 0] ∧ win0_2.index t = ![t.val, 0]
    ∧ win0_3.index t = ![0, 0] ∧ win0_4.index t = ![t.val / 4, 0, 0] ∧ win0_5.index t = ![t.val, 0]
    ∧ win0_6.index t = ![t.val, 0] ∧ win0_7.index t = ![t.val / 4, 0, 0] ∧ win0_8.index t = ![t.val / 4, 0, 0] ∧ win0_9.index t = ![0, 0] :=
  (by decide +kernel : ∀ t : Fin grid0.N, _)

theorem lt8 (t : Fin cfg0.N) : t.val < 8 := lt_of_lt_of_eq t.isLt N_0

variable (m c) in
/-- The rows of tile `t`. -/
abbrev trows (t : Fin cfg0.N) : Rows := rows (inp m c) t.val (lt8 t)
variable (m c) in
/-- The cotangent's rows of tile `t`. -/
def cutRows (t : Fin cfg0.N) : Fin 512 → Fin 3072 → EReal := fun r k => heads (a5 m c) (tokOf t.val (lt8 t) r) k

theorem iblk0 (t : Fin cfg0.N) (g : Fin 6) (r k : Fin 512) :
    (show FVec Ideal S6x512x512 .bf16 from iblk m c 0 t) (ix3 g r k) = cutRows m c t r ⟨g.val * 512 + k.val, by omega⟩ := by
  refine Eq.trans ?_ (groups_at (a5 m c) g (tokOf t.val (lt8 t) r) k)
  rw [← v2]
  unfold tokOf
  blk_ext [iblk, idx t]

theorem iblk1 (t : Fin cfg0.N) (j : Fin 4) (d : Fin 1024) (k : Fin 768) :
    (show FVec Ideal S4x1x1024x768 .bf16 from iblk m c 1 t) (ix4 j 0 d k) = a4 m c (ix2 d (col j k)) := by
  refine Eq.trans ?_ (chips_at (a4 m c) j d k)
  rw [← v6]
  blk_ext [iblk, idx t]

theorem iblk2 (t : Fin cfg0.N) (r : Fin 512) (d : Fin 1024) :
    (show FVec Ideal S512x1024 .f32 from iblk m c 2 t) (ix2 r d) = (trows m c t r).x d := by
  refine Eq.trans ?_ (flat_at (a0 m c) (tokOf t.val (lt8 t) r) d)
  rw [← v7]
  unfold tokOf
  blk_ext [iblk, idx t]

theorem iblk3 (t : Fin cfg0.N) (r : Fin 512) (d : Fin 1024) :
    (show FVec Ideal S1x1024 .f32 from iblk m c 3 t) (ix2 0 d) = (trows m c t r).g d := by
  refine Eq.trans ?_ (gain_at (a1 m c) 0 d)
  rw [← v8]
  blk_ext [iblk, idx t]

theorem iblk4 (t : Fin cfg0.N) (r : Fin 512) (d : Fin 1024) :
    (show FVec Ideal S1x1x1024 .f32 from iblk m c 4 t) (ix3 0 0 d) = (trows m c t r).sc d := by
  have ht := lt8 t
  have hr : (tokOf t.val (lt8 t) r).val / 2048 = t.val / 4 := by unfold tokOf; dsimp only; omega
  refine Eq.trans ?_ (scales_at (a3 m c) ⟨(tokOf t.val (lt8 t) r).val / 2048, by omega⟩ 0 d)
  rw [← v9]
  blk_ext [iblk, idx t]

theorem iblk5 (t : Fin cfg0.N) (r : Fin 512) (d : Fin 1024) :
    (show FVec Ideal S512x1024 .f32 from iblk m c 5 t) (ix2 r d) = (trows m c t r).ct d := by
  refine Eq.trans ?_ (flat_at (a6 m c) (tokOf t.val (lt8 t) r) d)
  rw [← v10]
  unfold tokOf
  blk_ext [iblk, idx t]

/-! ## A chip's pieces of the blocks -/

/-- Columns `o` on of group `g`, of a block. -/
theorem ld_cols {n : ℕ} (Z : Vec Ideal S6x512x512 .bf16) (g : Fin 6) {g' o : ℕ} (hg : g.val = g') (ho : o + n ≤ 512) (h) (r : Fin 512) (k : Fin n) :
    (View.ld Z (Rect.unit ![g', 0, o] ![1, 512, n] h) : Vec Ideal ⟨3, ![1, 512, n]⟩ .bf16) (ix3 0 r k) = Z (ix3 g r ⟨o + k.val, by omega⟩) := by
  refine congrArg Z (funext fun a => Fin.ext ?_)
  fin_cases a <;> simp [ix3, hg]

theorem ld_chip (Z : Vec Ideal S4x1x1024x768 .bf16) (j : Fin 4) (h) (d : Fin 1024) (k : Fin 768) :
    (View.ld Z (Rect.unit ![(j : ℕ), 0, 0, 0] ![1, 1, 1024, 768] h) : Vec Ideal S1x1x1024x768 .bf16) (ix4 0 0 d k) = Z (ix4 j 0 d k) := by
  refine congrArg Z (funext fun a => Fin.ext ?_)
  fin_cases a <;> simp [ix4]

/-- A chip's two pieces: columns `o` on of group `g`, and the next group's first. -/
theorem pieces {n n' : ℕ} (e : n + n' = 768) (t : Fin cfg0.N) (j : Fin 4) (g g' : Fin 6) {p p' o : ℕ} (hp : g.val = p) (hp' : g'.val = p')
    (hj : j.val * 768 = g.val * 512 + o) (ho : o + n = 512) (hn' : n' ≤ 512) (hg : g'.val = g.val + 1) (h h') :
    Pieces e (fun r k => cutRows m c t r (col j k)) (View.ld (iblk m c 0 t : Vec Ideal S6x512x512 .bf16) (Rect.unit ![p, 0, o] ![1, 512, n] h))
      (View.ld (iblk m c 0 t : Vec Ideal S6x512x512 .bf16) (Rect.unit ![p', 0, 0] ![1, 512, n'] h')) where
  a r k := (ld_cols _ g hp ho.le h r k).trans ((iblk0 t g r _).trans (congrArg (cutRows m c t r) (Fin.ext (by unfold col; dsimp only; omega))))
  b r k := (ld_cols (o := 0) _ g' hp' (by omega) h' r k).trans ((iblk0 t g' r _).trans (congrArg (cutRows m c t r) (Fin.ext (by unfold col; dsimp only; omega))))

theorem chip (t : Fin cfg0.N) (j : Fin 4) (h) (d : Fin 1024) (k : Fin 768) :
    (View.ld (iblk m c 1 t : Vec Ideal S4x1x1024x768 .bf16) (Rect.unit ![(j : ℕ), 0, 0, 0] ![1, 1, 1024, 768] h)) (ix4 0 0 d k) = a4 m c (ix2 d (col j k)) :=
  (ld_chip _ j h d k).trans (iblk1 t j d k)

/-- The gradient at the modulated rows of tile `t`, of the blocks as the body loads them. -/
def dhAt (t : Fin cfg0.N) : FVec Ideal S512x1024 .f32 :=
  k0_pay5
    (k0_pay4 (View.ld (iblk m c 0 t) (Rect.unit ![0, 0, 0] ![1, 512, 512] inb_S6x512x512_S1x512x512_0_0_0))
      (View.ld (iblk m c 0 t) (Rect.unit ![1, 0, 0] ![1, 512, 256] inb_S6x512x512_S1x512x256_1_0_0))
      (View.ld (iblk m c 1 t) (Rect.unit ![0, 0, 0, 0] ![1, 1, 1024, 768] inb_S4x1x1024x768_S1x1x1024x768_0_0_0_0))
      (View.ld (iblk m c 0 t) (Rect.unit ![1, 0, 256] ![1, 512, 256] inb_S6x512x512_S1x512x256_1_0_256))
      (View.ld (iblk m c 0 t) (Rect.unit ![2, 0, 0] ![1, 512, 512] inb_S6x512x512_S1x512x512_2_0_0))
      (View.ld (iblk m c 1 t) (Rect.unit ![1, 0, 0, 0] ![1, 1, 1024, 768] inb_S4x1x1024x768_S1x1x1024x768_1_0_0_0))
      (View.ld (iblk m c 0 t) (Rect.unit ![3, 0, 0] ![1, 512, 512] inb_S6x512x512_S1x512x512_3_0_0))
      (View.ld (iblk m c 0 t) (Rect.unit ![4, 0, 0] ![1, 512, 256] inb_S6x512x512_S1x512x256_4_0_0))
      (View.ld (iblk m c 1 t) (Rect.unit ![2, 0, 0, 0] ![1, 1, 1024, 768] inb_S4x1x1024x768_S1x1x1024x768_2_0_0_0)))
    (View.ld (iblk m c 0 t) (Rect.unit ![4, 0, 256] ![1, 512, 256] inb_S6x512x512_S1x512x256_4_0_256))
    (View.ld (iblk m c 0 t) (Rect.unit ![5, 0, 0] ![1, 512, 512] inb_S6x512x512_S1x512x512_5_0_0))
    (View.ld (iblk m c 1 t) (Rect.unit ![3, 0, 0, 0] ![1, 1, 1024, 768] inb_S4x1x1024x768_S1x1x1024x768_3_0_0_0))

/-- What the arrays hold that a point computes from. -/
theorem reads (t : Fin cfg0.N) : Reads (trows m c t) (dhAt (m := m) (c := c) t) (Kernel5Ideal.Gen.k0_pay4 (iblk m c 2 t)) (iblk m c 5 t)
    (Kernel5Ideal.Gen.k0_pay5 (iblk m c 3 t)) (iblk m c 4 t) where
  dh := dh_tile (f := cutRows m c t) (ω := a4 m c) (pieces rfl t 0 0 1 rfl rfl rfl rfl (by decide) rfl _ _) (pieces rfl t 1 1 2 rfl rfl rfl rfl (by decide) rfl _ _)
    (pieces rfl t 2 3 4 rfl rfl rfl rfl (by decide) rfl _ _) (pieces rfl t 3 4 5 rfl rfl rfl rfl (by decide) rfl _ _) (chip t 0 _) (chip t 1 _) (chip t 2 _) (chip t 3 _)
  x r d := (Tail.Tile.same_x _ r d).trans (iblk2 t r d)
  ct := iblk5 t
  g r d := (Tail.Tile.same_g _ 0 d).trans (iblk3 t r d)
  sc := iblk4 t

/-! ## The outputs at a point -/

theorem out6 (t : Fin cfg0.N) (r : Fin 512) (d : Fin 1024) :
    (outsAt0 m c t.val t.isLt).1 (ix2 r d) = (trows m c t r).dx d := by
  have ht := lt8 t
  by_cases hA : t.val % 4 = 0
  · by_cases hZ : t.val % 8 = 0
    · rw [outsAt0_A m c t hA (not_not.mpr hA) hA (not_not.mpr hA) hZ (by omega)]
      frame_out
      exact (congrFun (dx_eq ..) _).trans (Tail.Tile.dx_at (reads t) r d)
    · rw [outsAt0_C m c t hA (not_not.mpr hA) hA (not_not.mpr hA) hZ (by omega)]
      frame_out
      exact (congrFun (dx_eq ..) _).trans (Tail.Tile.dx_at (reads t) r d)
  · rw [outsAt0_B m c t hA hA hA hA (by omega) (by omega)]
    frame_out
    exact (congrFun (dx_eq ..) _).trans (Tail.Tile.dx_at (reads t) r d)

variable (m c) in
/-- A tile's part of the shift's gradient. -/
def part7 (t : Fin cfg0.N) (i : S1x1x1024.Idx) : EReal := ∑ r, (trows m c t r).dh (i 2)
variable (m c) in
/-- A tile's part of the scale's gradient. -/
def part8 (t : Fin cfg0.N) (i : S1x1x1024.Idx) : EReal := ∑ r, (trows m c t r).dh (i 2) * (trows m c t r).ng (i 2)
variable (m c) in
/-- A tile's part of the gain's gradient. -/
def part9 (t : Fin cfg0.N) (i : S1x1024.Idx) : EReal := ∑ r, (trows m c t r).dy (i 1) * (trows m c t r).n (i 1)

theorem out7_reset (t : Fin cfg0.N) (hA : t.val % 4 = 0) (i : S1x1x1024.Idx) :
    (outsAt0 m c t.val t.isLt).2.1 i = 0 + part7 m c t i := by
  have ht := lt8 t
  rw [zero_add]
  by_cases hZ : t.val % 8 = 0
  · rw [outsAt0_A m c t hA (not_not.mpr hA) hA (not_not.mpr hA) hZ (by omega)]
    frame_out
    exact (Tail.Tile.pay13_eq ..).trans (Tail.Tile.dsh_at (reads t) 0 (i 2))
  · rw [outsAt0_C m c t hA (not_not.mpr hA) hA (not_not.mpr hA) hZ (by omega)]
    frame_out
    exact (Tail.Tile.pay13_eq ..).trans (Tail.Tile.dsh_at (reads t) 0 (i 2))

theorem out7_step (t : Fin cfg0.N) (hA : ¬t.val % 4 = 0) (i : S1x1x1024.Idx) :
    (outsAt0 m c t.val t.isLt).2.1 i = (outsAt0 m c (t.val - 1) (Nat.lt_of_le_of_lt (Nat.sub_le _ _) t.isLt)).2.1 i + part7 m c t i := by
  rw [outsAt0_B m c t hA hA hA hA (by omega) (by omega)]
  frame_out
  exact (Tail.Tile.pay14_eq ..).trans (congrArg _ (Tail.Tile.dsh_at (reads t) 0 (i 2)))

theorem out8_reset (t : Fin cfg0.N) (hA : t.val % 4 = 0) (i : S1x1x1024.Idx) :
    (outsAt0 m c t.val t.isLt).2.2.1 i = 0 + part8 m c t i := by
  have ht := lt8 t
  rw [zero_add]
  by_cases hZ : t.val % 8 = 0
  · rw [outsAt0_A m c t hA (not_not.mpr hA) hA (not_not.mpr hA) hZ (by omega)]
    frame_out
    exact (Tail.Tile.pay15_eq ..).trans (Tail.Tile.dsc_at (reads t) 0 (i 2))
  · rw [outsAt0_C m c t hA (not_not.mpr hA) hA (not_not.mpr hA) hZ (by omega)]
    frame_out
    exact (Tail.Tile.pay15_eq ..).trans (Tail.Tile.dsc_at (reads t) 0 (i 2))

theorem out8_step (t : Fin cfg0.N) (hA : ¬t.val % 4 = 0) (i : S1x1x1024.Idx) :
    (outsAt0 m c t.val t.isLt).2.2.1 i = (outsAt0 m c (t.val - 1) (Nat.lt_of_le_of_lt (Nat.sub_le _ _) t.isLt)).2.2.1 i + part8 m c t i := by
  rw [outsAt0_B m c t hA hA hA hA (by omega) (by omega)]
  frame_out
  exact (Tail.Tile.pay16_eq ..).trans (congrArg _ (Tail.Tile.dsc_at (reads t) 0 (i 2)))

theorem out9_reset (t : Fin cfg0.N) (hZ : t.val % 8 = 0) (i : S1x1024.Idx) :
    (outsAt0 m c t.val t.isLt).2.2.2 i = 0 + part9 m c t i := by
  have ht := lt8 t
  have hA : t.val % 4 = 0 := by omega
  rw [zero_add, outsAt0_A m c t hA (not_not.mpr hA) hA (not_not.mpr hA) hZ (by omega)]
  frame_out
  idx_vars i
  exact (congrFun (dg_eq ..) _).trans (Tail.Tile.dg_at (reads t) i0 i1)

theorem out9_step (t : Fin cfg0.N) (hZ : ¬t.val % 8 = 0) (i : S1x1024.Idx) :
    (outsAt0 m c t.val t.isLt).2.2.2 i = (outsAt0 m c (t.val - 1) (Nat.lt_of_le_of_lt (Nat.sub_le _ _) t.isLt)).2.2.2 i + part9 m c t i := by
  by_cases hA : t.val % 4 = 0
  · rw [outsAt0_C m c t hA (not_not.mpr hA) hA (not_not.mpr hA) hZ (by omega)]
    frame_out
    exact (Tail.Tile.pay1_eq ..).trans (congrArg _ (Tail.Tile.dg_at (reads t) 0 (i 1)))
  · rw [outsAt0_B m c t hA hA hA hA hZ (by omega)]
    frame_out
    exact (Tail.Tile.pay1_eq ..).trans (congrArg _ (Tail.Tile.dg_at (reads t) 0 (i 1)))

end Cert.MixDh
end
-- ==== Proof.MixDh.Claim.lean ====
/- The kernel of the gradient at the mixer's input computes what the reference computes, over the extended
   reals. -/
module

public import proofs.«01_k».proof.Defs
public import proofs.«01_k».proof.Proof.Ffn.Arrays
public import proofs.«01_k».proof.Proof.MixDh.Outs
public import proofs.«01_k».proof.Proof.Gen.Kernel11Ideal.Value
public import proofs.«01_k».proof.Proof.Gen.Reference11Ideal.Run

@[expose] public section

set_option maxRecDepth 16384

noncomputable section

namespace Cert.MixDh

open Idealize.ShloMosaic Idealize.SL.Sem
open Cert.Tail (tokOf rows sum_run sum_all)

/-! ## The arrays the call leaves -/

section Arrays

open Cert.Kernel11Ideal Cert.Kernel11Ideal.Gen
open Cert.Ffn.Host (at2)
open Idealize.ShloMosaic.Pipeline (Dat)

variable {m : (ℓ : Loc nD τ sig) → Buf (Elt Ideal) ℓ} {c : Dev nD}

set_option maxHeartbeats 1000000

theorem array6 : (dats m 0 c).arrAt 6 (cfgs 0).N = (fun i => ((inp m c).tok (i 0)).dx (i 1) : FVec Ideal S4096x1024 .f32) := by
  refine (dats m 0 c).arrAt_eq_of_covers 6 _ (by decide +kernel) fun t _ y => ?_
  blk_simp
  rw [after0_6]
  refine (congrArg _ (eq_ix2 y)).trans ((out6 t (y 0) (y 1)).trans ?_)
  show ((inp m c).tok (tokOf t.val (lt8 t) (y 0))).dx (y 1) = ((inp m c).tok ((win0_6.blk t).view.emb y 0)).dx ((win0_6.blk t).view.emb y 1)
  generalize inp m c = A
  refine at2 (fun t d => (A.tok t).dx d) ?_ ?_ <;> (try unfold tokOf) <;> blk_simp [idx t] <;> (try omega)

theorem array7 : (dats m 0 c).arrAt 7 (cfgs 0).N = (fun i => (inp m c).dsh (i 0) (i 2) : FVec Ideal S2x1x1024 .f32) := by
  refine (dats m 0 c).arrAt_eq_of_covers 7 _ (by decide +kernel) fun t hf y => ?_
  blk_simp
  rw [after0_7, Pipeline.eq_sum_fin_of_reset_step_apply_of_flush (fun n h => (outsAt0 m c n h).2.1) 4 (fun _ => 0) (part7 m c)
    out7_reset out7_step t ((flush0_7 t).mp hf) y, zero_add]
  have ht := lt8 t
  obtain ⟨b, hb⟩ : ∃ b : Fin 2, b.val = t.val / 4 := ⟨⟨t.val / 4, by omega⟩, rfl⟩
  have hy : (y 0).val < 1 := (y 0).isLt
  have e0 : ((win0_7.blk t).view.emb y 0 : Fin 2) = b := Fin.ext (by
    rw [hb]
    blk_simp [idx t])
  have e2 : ((win0_7.blk t).view.emb y 2 : Fin 1024) = y 2 := Fin.ext (by blk_simp [idx t] <;> (try omega))
  refine Eq.trans ?_ (congrArg₂ (inp m c).dsh e0.symm e2.symm)
  exact sum_run (inp m c) b (fun R => R.dh (y 2)) (fun s => 4 * (t.val / 4) + s.val) (fun s => by omega) fun s => by dsimp only; rw [hb]

theorem array8 : (dats m 0 c).arrAt 8 (cfgs 0).N = (fun i => (inp m c).dsc (i 0) (i 2) : FVec Ideal S2x1x1024 .f32) := by
  refine (dats m 0 c).arrAt_eq_of_covers 8 _ (by decide +kernel) fun t hf y => ?_
  blk_simp
  rw [after0_8, Pipeline.eq_sum_fin_of_reset_step_apply_of_flush (fun n h => (outsAt0 m c n h).2.2.1) 4 (fun _ => 0) (part8 m c)
    out8_reset out8_step t ((flush0_8 t).mp hf) y, zero_add]
  have ht := lt8 t
  obtain ⟨b, hb⟩ : ∃ b : Fin 2, b.val = t.val / 4 := ⟨⟨t.val / 4, by omega⟩, rfl⟩
  have hy : (y 0).val < 1 := (y 0).isLt
  have e0 : ((win0_8.blk t).view.emb y 0 : Fin 2) = b := Fin.ext (by
    rw [hb]
    blk_simp [idx t])
  have e2 : ((win0_8.blk t).view.emb y 2 : Fin 1024) = y 2 := Fin.ext (by blk_simp [idx t] <;> (try omega))
  refine Eq.trans ?_ (congrArg₂ (inp m c).dsc e0.symm e2.symm)
  exact sum_run (inp m c) b (fun R => R.dh (y 2) * R.ng (y 2)) (fun s => 4 * (t.val / 4) + s.val) (fun s => by omega) fun s => by dsimp only; rw [hb]

theorem array9 : (dats m 0 c).arrAt 9 (cfgs 0).N = (fun i => (inp m c).dg (i 1) : FVec Ideal S1x1024 .f32) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0) (part9 m c)
    out9_reset out9_step t ((flush0_9 t).mp hf) y, zero_add]
  have ht := lt8 t
  have e1 : ((win0_9.blk t).view.emb y 1 : Fin 1024) = y 1 := Fin.ext (by blk_simp [idx t] <;> (try omega))
  refine Eq.trans ?_ (congrArg (inp m c).dg e1.symm)
  exact sum_all (inp m c) (fun R => R.dy (y 1) * R.n (y 1)) (fun s => 8 * (t.val / 8) + s.val) (fun s => by omega) fun s => by dsimp only; omega

end Arrays

/-! ## The claim -/

open Cert.Kernel11Ideal in
/-- The results: the rows' gradient, and the shift's, the scale's and the gain's. -/
def res (A : Tail.In) : FVec Ideal S4096x1024 .f32 × FVec Ideal S2x1x1024 .f32 × FVec Ideal S2x1x1024 .f32 × FVec Ideal S1x1024 .f32 :=
  (fun i => (A.tok (i 0)).dx (i 1), fun i => A.dsh (i 0) (i 2), fun i => A.dsc (i 0) (i 2), fun i => A.dg (i 1))

open Cert.Reference11Ideal Cert.Reference11Ideal.Gen Cert.Reference11Ideal.Value Cert.Reference11Ideal.Read in
/-- The reference, run at the same arguments, ends with the results `res`. -/
theorem reference_run (m : (ℓ : Loc nD τ sig) → Buf (Elt Ideal) ℓ) (ρ : Dev nD → PrngReg) (x : Dev nD → FVec Ideal S2x2048x1024 .f32)
    (g : Dev nD → FVec Ideal S1024 .f32) (sc : Dev nD → FVec Ideal S2x1024 .f32) (w : Dev nD → FVec Ideal S1024x3072 .f32)
    (q : Dev nD → FVec Ideal S2x2048x3072 .f32) (ct : Dev nD → FVec Ideal S2x2048x1024 .f32)
    (h0 : ∀ c, m (c, Proc.devRef .tc main_arg0) = x c) (h1 : ∀ c, m (c, Proc.devRef .tc main_arg1) = g c)
    (h3 : ∀ c, m (c, Proc.devRef .tc main_arg3) = sc c) (h4 : ∀ c, m (c, Proc.devRef .tc main_arg4) = w c)
    (h5 : ∀ c, m (c, Proc.devRef .tc main_arg5) = q c) (h6 : ∀ c, m (c, Proc.devRef .tc main_arg6) = ct c) :
    θ_run defs (onTc (τ := τ) (main (F := Ideal))) ⟨m, fun _ => 0, ρ⟩ fun r => ∀ c : Dev nD,
      r.2.mem ((c.tc : Thread nD τ).loc main_v56) = (res (tail (x c) (g c) (sc c) (w c) (q c) (ct c))).1
      ∧ r.2.mem ((c.tc : Thread nD τ).loc main_v57) = (res (tail (x c) (g c) (sc c) (w c) (q c) (ct c))).2.1
      ∧ r.2.mem ((c.tc : Thread nD τ).loc main_v58) = (res (tail (x c) (g c) (sc c) (w c) (q c) (ct c))).2.2.1
      ∧ r.2.mem ((c.tc : Thread nD τ).loc main_v59) = (res (tail (x c) (g c) (sc c) (w c) (q c) (ct c))).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨e0, e1, e2, e3, e⟩ := h c
  replace e0 := e0.trans (val_main_v56_eq m c)
  replace e1 := e1.trans (val_main_v57_eq ..)
  replace e2 := e2.trans (val_main_v58_eq ..)
  replace e3 := e3.trans (val_main_v59_eq ..)
  simp only [h0 c, h1 c, h3 c, h4 c, h5 c, h6 c] at e0 e1 e2 e3
  exact ⟨e0.trans (funext fun i => v56 ..), e1.trans (funext fun i => v57 ..), e2.trans (funext fun i => v58 ..),
    e3.trans (funext fun i => v59 ..), e⟩

/-- Kernel and reference end with equal results. -/
theorem algebraic : Cert.algebraic_Kernel11Ideal_Reference11Ideal := by
  intro m g m' g' _ hagree
  refine ⟨fun c => (res (inp m c)).1, fun c => (res (inp m c)).2.1, fun c => (res (inp m c)).2.2.1, fun c => (res (inp m c)).2.2.2, ?_, ?_⟩
  · refine (θ_run _ _ _).mono (fun r h c => ?_) (Cert.Kernel11Ideal.Value.run_blocks (F := Ideal) m g)
    obtain ⟨e0, e1, e2, e3, e⟩ := h c
    exact ⟨e0.trans array6, e1.trans array7, e2.trans array8, e3.trans array9, e⟩
  · exact reference_run m' g' (a0 m) (a1 m) (a3 m) (a4 m) (a5 m) (a6 m) (fun c => (hagree c).1) (fun c => (hagree c).2.1)
      (fun c => (hagree c).2.2.2.1) (fun c => (hagree c).2.2.2.2.1) (fun c => (hagree c).2.2.2.2.2.1) (fun c => (hagree c).2.2.2.2.2.2)

end Cert.MixDh
-- ==== Proof.Adam.Step.lean ====
/- The optimiser's step at one entry, over the extended reals: the new first and second moments and the change of the weight. -/
module

public import Idealize.ShloMosaic.Lib.Pointwise

@[expose] public section

noncomputable section

namespace Cert.Adam

open Idealize.ShloMosaic

/-- The new first moment, of the gradient and the old one. -/
def fst (g m : Ideal .f32) : Ideal .f32 :=
  FloatOps.addf (FloatOps.mulf (FloatOps.ofBits .f32 0x3F666666#32) m) (FloatOps.mulf (FloatOps.ofBits .f32 0x3DCCCCCD#32) g)

/-- The new second moment. -/
def snd (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight: the quotient of the two moments, each corrected for the number of steps, and the decay. -/
def delta (w g m v : Ideal .f32) : Ideal .f32 :=
  FloatOps.mulf (FloatOps.ofBits .f32 0xBA83126F#32)
    (FloatOps.addf
      (FloatOps.divf (FloatOps.divf (fst g m) (FloatOps.ofBits .f32 0x3F26BD02#32))
        (FloatOps.addf (FloatOps.sqrt (FloatOps.divf (snd g v) (FloatOps.ofBits .f32 0x3C231ACC#32))) (FloatOps.ofBits .f32 0x322BCC77#32)))
      (FloatOps.mulf (FloatOps.ofBits .f32 0x3C23D70A#32) w))

/-- The step at every entry of an array: the gradient, the change, and the two moments. -/
def step {S : Shape} (w g m v : FVec Ideal S .f32) : FVec Ideal S .f32 × FVec Ideal S .f32 × FVec Ideal S .f32 × FVec Ideal S .f32 :=
  (g, fun i => delta (w i) (g i) (m i) (v i), fun i => fst (g i) (m i), fun i => snd (g i) (v i))

/-- Two entries at the same place are equal. -/
theorem at2 {R C : ℕ} (f : FVec Ideal ⟨2, ![R, C]⟩ .f32) {i i' : (⟨2, ![R, C]⟩ : Shape).Idx} (h0 : (i 0).val = (i' 0).val)
    (h1 : (i 1).val = (i' 1).val) : f i = f i' := by
  rw [eq_ix2 i, eq_ix2 i', Fin.ext h0, Fin.ext h1]

end Cert.Adam
-- ==== Proof.Adam.WAda.lean ====
/- The optimiser's kernel at the modulation's weight computes the reference's step, over the extended reals. -/
module

public import proofs.«01_k».proof.Defs
public import Idealize.ShloMosaic.Lib.Pipeline.ValueKit
public import Idealize.ShloMosaic.Lib.StableHlo.RunRead
public import proofs.«01_k».proof.Proof.Adam.Step
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Adam.WAda

open Idealize.ShloMosaic Idealize.ShloMosaic.TcCoe Idealize.SL.Sem
open Cert.Kernel12Ideal Cert.Kernel12Ideal.Gen

/-- A weight's array as the kernel reads it. -/
def rows (w : FVec Ideal S1x1024x2304 .f32) : FVec Ideal S1024x2304 .f32 := fun i => w (ix3 0 (i 0) (i 1))

/-- The host's dropping of the leading axis. -/
def lay (w : FVec Ideal S1x1024x2304 .f32) : FVec Ideal S1024x2304 .f32 := shapeCast S1024x2304 w Facts₀.shapeCasts_S1x1024x2304_S1024x2304

theorem lay_eq (w : FVec Ideal S1x1024x2304 .f32) : lay w = rows w := by
  funext i
  rw [eq_ix2 i]
  unfold rows
  pointwise [lay]

variable (m : (ℓ : Loc nD τ sig) → Buf (Elt Ideal) ℓ) (c : Dev nD)

/-- Argument arrays, as launched: the weight, its gradient and the two moments. -/
abbrev w : FVec Ideal S1x1024x2304 .f32 := m (c, Proc.devRef .tc main_arg0)
abbrev g : FVec Ideal S1x1024x2304 .f32 := m (c, Proc.devRef .tc main_arg1)
abbrev mo : FVec Ideal S1x1024x2304 .f32 := m (c, Proc.devRef .tc main_arg2)
abbrev ve : FVec Ideal S1x1024x2304 .f32 := m (c, Proc.devRef .tc main_arg3)

theorem v0 : V m c main_v0 = rows (w m c) := by
  refine Eq.trans ?_ (lay_eq _)
  show StableHlo.after hostOps0 (fun b => m (c, b)) (Proc.devRef .tc main_v0) = _
  after_reads_simp; rfl
theorem v1 : V m c main_v1 = rows (mo m c) := by
  refine Eq.trans ?_ (lay_eq _)
  show StableHlo.after hostOps0 (fun b => m (c, b)) (Proc.devRef .tc main_v1) = _
  after_reads_simp; rfl
theorem v2 : V m c main_v2 = rows (ve m c) := by
  refine Eq.trans ?_ (lay_eq _)
  show StableHlo.after hostOps0 (fun b => m (c, b)) (Proc.devRef .tc main_v2) = _
  after_reads_simp; rfl
theorem grads : V m c main_arg1 = g m c := by
  show StableHlo.after hostOps0 (fun b => m (c, b)) (Proc.devRef .tc main_arg1) = _
  after_reads_simp

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 64) : Fin 1024 := ⟨t.val * 64 + r.val, by have : t.val < 16 := lt_of_lt_of_eq t.isLt N_0; omega⟩

variable {m c}

theorem iblk0 (t : Fin cfg0.N) (r : Fin 64) (d : Fin 2304) : (show FVec Ideal S64x2304 .f32 from iblk m c 0 t) (ix2 r d) = rows (w m c) (ix2 (row t r) d) := by
  rw [← v0]; unfold row; blk_ext [iblk, idx t]
theorem iblk1 (t : Fin cfg0.N) (r : Fin 64) (d : Fin 2304) : (show FVec Ideal S1x64x2304 .f32 from iblk m c 1 t) (ix3 0 r d) = rows (g m c) (ix2 (row t r) d) := by
  refine Eq.trans (b := V m c main_arg1 (ix3 0 (row t r) d)) ?_ (congrFun (grads m c) _)
  unfold row; blk_ext [iblk, idx t]
theorem iblk2 (t : Fin cfg0.N) (r : Fin 64) (d : Fin 2304) : (show FVec Ideal S64x2304 .f32 from iblk m c 2 t) (ix2 r d) = rows (mo m c) (ix2 (row t r) d) := by
  rw [← v1]; unfold row; blk_ext [iblk, idx t]
theorem iblk3 (t : Fin cfg0.N) (r : Fin 64) (d : Fin 2304) : (show FVec Ideal S64x2304 .f32 from iblk m c 3 t) (ix2 r d) = rows (ve m c) (ix2 (row t r) d) := by
  rw [← v2]; unfold row; blk_ext [iblk, idx t]

/-! ## A tile's body -/

section Body
variable (x0 x2 x3 : FVec Ideal S64x2304 .f32) (x1 : FVec Ideal S1x64x2304 .f32) (r : Fin 64) (d : Fin 2304)

theorem out4 : (out0_4 (F := Ideal) x0 x1 x2 x3 : FVec Ideal S64x2304 .f32) (ix2 r d) = x1 (ix3 0 r d) := by
  unfold out0_4
  simp (disch := decide) only [show r0_1 = Rect.unit (s := S64x2304) ![0, 0] S64x2304.size inb_S64x2304_S64x2304_0_0 from rfl,
    show r0_0 = Rect.unit (s := S1x64x2304) ![0, 0, 0] S1x64x2304.size inb_S1x64x2304_S1x64x2304_0_0_0 from rfl, View.canon_cons_unit_lit', View.ld_unit_lit']
  pointwise [k0_pay2]
theorem out5 : (out0_5 (F := Ideal) x0 x1 x2 x3 : FVec Ideal S64x2304 .f32) (ix2 r d) = delta (x0 (ix2 r d)) (x1 (ix3 0 r d)) (x2 (ix2 r d)) (x3 (ix2 r d)) := by
  unfold out0_5
  simp (disch := decide) only [show r0_1 = Rect.unit (s := S64x2304) ![0, 0] S64x2304.size inb_S64x2304_S64x2304_0_0 from rfl,
    show r0_0 = Rect.unit (s := S1x64x2304) ![0, 0, 0] S1x64x2304.size inb_S1x64x2304_S1x64x2304_0_0_0 from rfl, View.canon_cons_unit_lit', View.ld_unit_lit']
  unfold delta fst snd
  pointwise [k0_pay1, k0_pay5, k0_pay2, k0_pay3, k0_pay4]
theorem out6 : (out0_6 (F := Ideal) x0 x1 x2 x3 : FVec Ideal S64x2304 .f32) (ix2 r d) = fst (x1 (ix3 0 r d)) (x2 (ix2 r d)) := by
  unfold out0_6
  simp (disch := decide) only [show r0_1 = Rect.unit (s := S64x2304) ![0, 0] S64x2304.size inb_S64x2304_S64x2304_0_0 from rfl,
    show r0_0 = Rect.unit (s := S1x64x2304) ![0, 0, 0] S1x64x2304.size inb_S1x64x2304_S1x64x2304_0_0_0 from rfl, View.canon_cons_unit_lit', View.ld_unit_lit']
  unfold fst
  pointwise [k0_pay3, k0_pay2]
theorem out7 : (out0_7 (F := Ideal) x0 x1 x2 x3 : FVec Ideal S64x2304 .f32) (ix2 r d) = snd (x1 (ix3 0 r d)) (x3 (ix2 r d)) := by
  unfold out0_7
  simp (disch := decide) only [show r0_1 = Rect.unit (s := S64x2304) ![0, 0] S64x2304.size inb_S64x2304_S64x2304_0_0 from rfl,
    show r0_0 = Rect.unit (s := S1x64x2304) ![0, 0, 0] S1x64x2304.size inb_S1x64x2304_S1x64x2304_0_0_0 from rfl, View.canon_cons_unit_lit', View.ld_unit_lit']
  unfold snd
  pointwise [k0_pay4, k0_pay2]

end Body

/-! ## The results' arrays -/

/-- The results, as arrays. -/
def res (m : (ℓ : Loc nD τ sig) → Buf (Elt Ideal) ℓ) (c : Dev nD) :
    FVec Ideal S1024x2304 .f32 × FVec Ideal S1024x2304 .f32 × FVec Ideal S1024x2304 .f32 × FVec Ideal S1024x2304 .f32 :=
  step (rows (w m c)) (rows (g m c)) (rows (mo m c)) (rows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel12Ideal_Reference12Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel12Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference12Ideal.Value.run (F := Ideal) m' n')
    obtain ⟨h0, h1, h2, h3⟩ := hagree c
    obtain ⟨e0, e1, e2, e3, e⟩ := h c
    replace e0 := e0.trans (Cert.Reference12Ideal.Read.val_main_v24_eq ..)
    replace e1 := e1.trans (Cert.Reference12Ideal.Read.val_main_v25_eq ..)
    replace e2 := e2.trans (Cert.Reference12Ideal.Read.val_main_v26_eq ..)
    replace e3 := e3.trans (Cert.Reference12Ideal.Read.val_main_v27_eq ..)
    simp only [h0, h1, h2, h3] at e0 e1 e2 e3
    exact ⟨e0.trans (lay_eq (g m c)), e1.trans (lay_eq (step (w m c) (g m c) (mo m c) (ve m c)).2.1),
      e2.trans (lay_eq (step (w m c) (g m c) (mo m c) (ve m c)).2.2.1), e3.trans (lay_eq (step (w m c) (g m c) (mo m c) (ve m c)).2.2.2), e⟩

end Cert.Adam.WAda
-- ==== Proof.Adam.Ffn.lean ====
/- What the optimiser's kernels at the feed-forward halves' weights share, over the extended reals: the layout of their arrays,
   the gradients as the exchange leaves them, and a tile's body. -/
module

public import proofs.«01_k».proof.Defs
public import Idealize.ShloMosaic.Lib.Pipeline.ValueKit
public import Idealize.ShloMosaic.Lib.StableHlo.RunRead
public import proofs.«01_k».proof.Proof.Adam.Step
public import proofs.«01_k».proof.Proof.Gen.Kernel20Ideal.Value
public import proofs.«01_k».proof.Proof.Gen.Kernel13Ideal.Value

@[expose] public section

set_option maxRecDepth 16384

noncomputable section

namespace Cert.Adam.Ffn

open Idealize.ShloMosaic Idealize.ShloMosaic.TcCoe Idealize.SL.Sem

section Layout
open Cert.Kernel20Ideal Cert.Kernel20Ideal.Gen

/-- A weight's array as the kernel reads it: its columns as rows. -/
def trows (w : FVec Ideal S1x1024x704 .f32) : FVec Ideal S704x1024 .f32 := fun i => w (ix3 0 (i 1) (i 0))

/-- The host's turning of such an array. -/
def tlay (w : FVec Ideal S1x1024x704 .f32) : FVec Ideal S704x1024 .f32 :=
  shapeCast S704x1024 (transpose S1x704x1024 [0, 2, 1] w Facts₀.transposes_S1x1024x704_S1x704x1024_0_2_1) Facts₀.shapeCasts_S1x704x1024_S704x1024

theorem tlay_eq (w : FVec Ideal S1x1024x704 .f32) : tlay w = trows w := by
  funext i
  rw [eq_ix2 i]
  unfold trows
  pointwise [tlay]

/-- A weight's array as the kernel reads it. -/
def rows (w : FVec Ideal S1x704x1024 .f32) : FVec Ideal S704x1024 .f32 := fun i => w (ix3 0 (i 0) (i 1))

/-- The host's dropping of the leading axis. -/
def lay (w : FVec Ideal S1x704x1024 .f32) : FVec Ideal S704x1024 .f32 := shapeCast S704x1024 w Facts₀.shapeCasts_S1x704x1024_S704x1024

theorem lay_eq (w : FVec Ideal S1x704x1024 .f32) : lay w = rows w := by
  funext i
  rw [eq_ix2 i]
  unfold rows
  pointwise [lay]

/-- Three gradients, one above the other. -/
def three (g gu : FVec Ideal S1x1024x704 .f32) (gd : FVec Ideal S1x704x1024 .f32) : FVec Ideal S3x704x1024 .f32 :=
  concatenate S3x704x1024 0 [⟨S1x704x1024, broadcastInDim S1x704x1024 ![1, 2] Facts₀.bcast_S704x1024_S1x704x1024_1_2 (tlay g)⟩,
    ⟨S1x704x1024, broadcastInDim S1x704x1024 ![1, 2] Facts₀.bcast_S704x1024_S1x704x1024_1_2 (tlay gu)⟩,
    ⟨S1x704x1024, broadcastInDim S1x704x1024 ![1, 2] Facts₀.bcast_S704x1024_S1x704x1024_1_2 (lay gd)⟩] Facts₀.concatenates_S1x704x1024_S1x704x1024_S1x704x1024_S3x704x1024_d0

section At
variable (g gu : FVec Ideal S1x1024x704 .f32) (gd : FVec Ideal S1x704x1024 .f32) (i : Fin 704) (j : Fin 1024)
theorem three_at0 : three g gu gd (ix3 0 i j) = trows g (ix2 i j) := by
  rw [← tlay_eq]
  pointwise [three]
theorem three_at1 : three g gu gd (ix3 1 i j) = trows gu (ix2 i j) := by
  rw [← tlay_eq]
  pointwise [three]
theorem three_at2 : three g gu gd (ix3 2 i j) = rows gd (ix2 i j) := by
  rw [← lay_eq]
  pointwise [three]
end At

/-! ## A tile's body -/

section Body
variable (x0 x2 x3 : FVec Ideal S176x1024 .f32) (x1 : FVec Ideal S1x176x1024 .f32) (r : Fin 176) (d : Fin 1024)

theorem out4 : (out0_4 (F := Ideal) x0 x1 x2 x3 : FVec Ideal S176x1024 .f32) (ix2 r d) = x1 (ix3 0 r d) := by
  unfold out0_4
  simp (disch := decide) only [show r0_1 = Rect.unit (s := S176x1024) ![0, 0] S176x1024.size inb_S176x1024_S176x1024_0_0 from rfl,
    show r0_0 = Rect.unit (s := S1x176x1024) ![0, 0, 0] S1x176x1024.size inb_S1x176x1024_S1x176x1024_0_0_0 from rfl, View.canon_cons_unit_lit', View.ld_unit_lit']
  pointwise [k0_pay2]
theorem out5 : (out0_5 (F := Ideal) x0 x1 x2 x3 : FVec Ideal S176x1024 .f32) (ix2 r d) = delta (x0 (ix2 r d)) (x1 (ix3 0 r d)) (x2 (ix2 r d)) (x3 (ix2 r d)) := by
  unfold out0_5
  simp (disch := decide) only [show r0_1 = Rect.unit (s := S176x1024) ![0, 0] S176x1024.size inb_S176x1024_S176x1024_0_0 from rfl,
    show r0_0 = Rect.unit (s := S1x176x1024) ![0, 0, 0] S1x176x1024.size inb_S1x176x1024_S1x176x1024_0_0_0 from rfl, View.canon_cons_unit_lit', View.ld_unit_lit']
  unfold delta fst snd
  pointwise [k0_pay1, k0_pay5, k0_pay2, k0_pay3, k0_pay4]
theorem out6 : (out0_6 (F := Ideal) x0 x1 x2 x3 : FVec Ideal S176x1024 .f32) (ix2 r d) = fst (x1 (ix3 0 r d)) (x2 (ix2 r d)) := by
  unfold out0_6
  simp (disch := decide) only [show r0_1 = Rect.unit (s := S176x1024) ![0, 0] S176x1024.size inb_S176x1024_S176x1024_0_0 from rfl,
    show r0_0 = Rect.unit (s := S1x176x1024) ![0, 0, 0] S1x176x1024.size inb_S1x176x1024_S1x176x1024_0_0_0 from rfl, View.canon_cons_unit_lit', View.ld_unit_lit']
  unfold fst
  pointwise [k0_pay3, k0_pay2]
theorem out7 : (out0_7 (F := Ideal) x0 x1 x2 x3 : FVec Ideal S176x1024 .f32) (ix2 r d) = snd (x1 (ix3 0 r d)) (x3 (ix2 r d)) := by
  unfold out0_7
  simp (disch := decide) only [show r0_1 = Rect.unit (s := S176x1024) ![0, 0] S176x1024.size inb_S176x1024_S176x1024_0_0 from rfl,
    show r0_0 = Rect.unit (s := S1x176x1024) ![0, 0, 0] S1x176x1024.size inb_S1x176x1024_S1x176x1024_0_0_0 from rfl, View.canon_cons_unit_lit', View.ld_unit_lit']
  unfold snd
  pointwise [k0_pay4, k0_pay2]

end Body

end Layout

section Two
open Cert.Kernel13Ideal Cert.Kernel13Ideal.Gen

/-- Two gradients, one above the other. -/
def two (g gu : FVec Ideal S1x1024x704 .f32) : FVec Ideal S2x704x1024 .f32 :=
  concatenate S2x704x1024 0 [⟨S1x704x1024, broadcastInDim S1x704x1024 ![1, 2] Facts₀.bcast_S704x1024_S1x704x1024_1_2 (tlay g)⟩,
    ⟨S1x704x1024, broadcastInDim S1x704x1024 ![1, 2] Facts₀.bcast_S704x1024_S1x704x1024_1_2 (tlay gu)⟩] Facts₀.concatenates_S1x704x1024_S1x704x1024_S2x704x1024_d0

section At
variable (g gu : FVec Ideal S1x1024x704 .f32) (i : Fin 704) (j : Fin 1024)
theorem two_at0 : two g gu (ix3 0 i j) = trows g (ix2 i j) := by
  rw [← tlay_eq]
  pointwise [two]
theorem two_at1 : two g gu (ix3 1 i j) = trows gu (ix2 i j) := by
  rw [← tlay_eq]
  pointwise [two]
end At

end Two

end Cert.Adam.Ffn
-- ==== Proof.Adam.W1Gate.lean ====
/- The optimiser's kernel at the first half's gate weight computes the reference's step, over the extended reals. -/
module

public import proofs.«01_k».proof.Defs
public import proofs.«01_k».proof.Proof.Adam.Ffn
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Adam.W1Gate

open Idealize.ShloMosaic Idealize.ShloMosaic.TcCoe Idealize.SL.Sem
open Cert.Kernel13Ideal Cert.Kernel13Ideal.Gen
open Cert.Adam.Ffn (trows tlay tlay_eq two two_at0 two_at1 out4 out5 out6 out7)

variable (m : (ℓ : Loc nD τ sig) → Buf (Elt Ideal) ℓ) (c : Dev nD)

/-- Argument arrays, as launched: the weight, its gradient and the two moments. -/
abbrev w : FVec Ideal S1x1024x704 .f32 := m (c, Proc.devRef .tc main_arg0)
abbrev g : FVec Ideal S1x1024x704 .f32 := m (c, Proc.devRef .tc main_arg1)
abbrev mo : FVec Ideal S1x1024x704 .f32 := m (c, Proc.devRef .tc main_arg3)
abbrev ve : FVec Ideal S1x1024x704 .f32 := m (c, Proc.devRef .tc main_arg4)

theorem v8 : V m c main_v8 = trows (w m c) := by
  refine Eq.trans ?_ (tlay_eq _)
  show StableHlo.after hostOps0 (fun b => m (c, b)) (Proc.devRef .tc main_v8) = _
  after_reads_simp; rfl
theorem v10 : V m c main_v10 = trows (mo m c) := by
  refine Eq.trans ?_ (tlay_eq _)
  show StableHlo.after hostOps0 (fun b => m (c, b)) (Proc.devRef .tc main_v10) = _
  after_reads_simp; rfl
theorem v12 : V m c main_v12 = trows (ve m c) := by
  refine Eq.trans ?_ (tlay_eq _)
  show StableHlo.after hostOps0 (fun b => m (c, b)) (Proc.devRef .tc main_v12) = _
  after_reads_simp; rfl
theorem grads : V m c main_v6 = two (m (c, Proc.devRef .tc main_arg1)) (m (c, Proc.devRef .tc main_arg2)) := by
  show StableHlo.after hostOps0 (fun b => m (c, b)) (Proc.devRef .tc main_v6) = _
  after_reads_simp; rfl

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = trows (w m c) (ix2 (row t r) d) := by
  rw [← v8]; unfold row; blk_ext [iblk, idx t]
theorem iblk1 (t : Fin cfg0.N) (r : Fin 176) (d : Fin 1024) : (show FVec Ideal S1x176x1024 .f32 from iblk m c 1 t) (ix3 0 r d) = trows (g m c) (ix2 (row t r) d) := by
  refine Eq.trans (b := V m c main_v6 (ix3 0 (row t r) d)) ?_ (by rw [grads]; exact two_at0 ..)
  unfold row; blk_ext [iblk, idx t]
theorem iblk2 (t : Fin cfg0.N) (r : Fin 176) (d : Fin 1024) : (show FVec Ideal S176x1024 .f32 from iblk m c 2 t) (ix2 r d) = trows (mo m c) (ix2 (row t r) d) := by
  rw [← v10]; unfold row; blk_ext [iblk, idx t]
theorem iblk3 (t : Fin cfg0.N) (r : Fin 176) (d : Fin 1024) : (show FVec Ideal S176x1024 .f32 from iblk m c 3 t) (ix2 r d) = trows (ve m c) (ix2 (row t r) d) := by
  rw [← v12]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (trows (w m c)) (trows (g m c)) (trows (mo m c)) (trows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel13Ideal_Reference13Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel13Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference13Ideal.Value.run (F := Ideal) m' n')
    obtain ⟨h0, h1, h2, h3, h4⟩ := hagree c
    obtain ⟨e0, e1, e2, e3, e⟩ := h c
    replace e0 := e0.trans (Cert.Reference13Ideal.Read.val_main_v25_eq ..)
    replace e1 := e1.trans (Cert.Reference13Ideal.Read.val_main_v27_eq ..)
    replace e2 := e2.trans (Cert.Reference13Ideal.Read.val_main_v29_eq ..)
    replace e3 := e3.trans (Cert.Reference13Ideal.Read.val_main_v31_eq ..)
    simp only [h0, h1, h3, h4] at e0 e1 e2 e3
    exact ⟨e0.trans (tlay_eq (g m c)), e1.trans (tlay_eq (step (w m c) (g m c) (mo m c) (ve m c)).2.1),
      e2.trans (tlay_eq (step (w m c) (g m c) (mo m c) (ve m c)).2.2.1), e3.trans (tlay_eq (step (w m c) (g m c) (mo m c) (ve m c)).2.2.2), e⟩

end Cert.Adam.W1Gate
-- ==== Proof.Adam.W1Up.lean ====
/- The optimiser's kernel at the first half's up weight computes the reference's step, over the extended reals. -/
module

public import proofs.«01_k».proof.Defs
public import proofs.«01_k».proof.Proof.Adam.Ffn
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Adam.W1Up

open Idealize.ShloMosaic Idealize.ShloMosaic.TcCoe Idealize.SL.Sem
open Cert.Kernel14Ideal Cert.Kernel14Ideal.Gen
open Cert.Adam.Ffn (trows tlay tlay_eq two two_at0 two_at1 out4 out5 out6 out7)

variable (m : (ℓ : Loc nD τ sig) → Buf (Elt Ideal) ℓ) (c : Dev nD)

/-- Argument arrays, as launched: the weight, its gradient and the two moments. -/
abbrev w : FVec Ideal S1x1024x704 .f32 := m (c, Proc.devRef .tc main_arg0)
abbrev g : FVec Ideal S1x1024x704 .f32 := m (c, Proc.devRef .tc main_arg2)
abbrev mo : FVec Ideal S1x1024x704 .f32 := m (c, Proc.devRef .tc main_arg3)
abbrev ve : FVec Ideal S1x1024x704 .f32 := m (c, Proc.devRef .tc main_arg4)

theorem v8 : V m c main_v8 = trows (w m c) := by
  refine Eq.trans ?_ (tlay_eq _)
  show StableHlo.after hostOps0 (fun b => m (c, b)) (Proc.devRef .tc main_v8) = _
  after_reads_simp; rfl
theorem v10 : V m c main_v10 = trows (mo m c) := by
  refine Eq.trans ?_ (tlay_eq _)
  show StableHlo.after hostOps0 (fun b => m (c, b)) (Proc.devRef .tc main_v10) = _
  after_reads_simp; rfl
theorem v12 : V m c main_v12 = trows (ve m c) := by
  refine Eq.trans ?_ (tlay_eq _)
  show StableHlo.after hostOps0 (fun b => m (c, b)) (Proc.devRef .tc main_v12) = _
  after_reads_simp; rfl
theorem grads : V m c main_v6 = two (m (c, Proc.devRef .tc main_arg1)) (m (c, Proc.devRef .tc main_arg2)) := by
  show StableHlo.after hostOps0 (fun b => m (c, b)) (Proc.devRef .tc main_v6) = _
  after_reads_simp; rfl

/-- The windows' block indices at every point. -/
theorem idx : ∀ t : Fin cfg0.N, win0_0.index t = ![t.val, 0] ∧ win0_1.index t = ![1, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = trows (w m c) (ix2 (row t r) d) := by
  rw [← v8]; unfold row; blk_ext [iblk, idx t]
theorem iblk1 (t : Fin cfg0.N) (r : Fin 176) (d : Fin 1024) : (show FVec Ideal S1x176x1024 .f32 from iblk m c 1 t) (ix3 0 r d) = trows (g m c) (ix2 (row t r) d) := by
  refine Eq.trans (b := V m c main_v6 (ix3 1 (row t r) d)) ?_ (by rw [grads]; exact two_at1 ..)
  unfold row; blk_ext [iblk, idx t]
theorem iblk2 (t : Fin cfg0.N) (r : Fin 176) (d : Fin 1024) : (show FVec Ideal S176x1024 .f32 from iblk m c 2 t) (ix2 r d) = trows (mo m c) (ix2 (row t r) d) := by
  rw [← v10]; unfold row; blk_ext [iblk, idx t]
theorem iblk3 (t : Fin cfg0.N) (r : Fin 176) (d : Fin 1024) : (show FVec Ideal S176x1024 .f32 from iblk m c 3 t) (ix2 r d) = trows (ve m c) (ix2 (row t r) d) := by
  rw [← v12]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (trows (w m c)) (trows (g m c)) (trows (mo m c)) (trows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel14Ideal_Reference14Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel14Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference14Ideal.Value.run (F := Ideal) m' n')
    obtain ⟨h0, h1, h2, h3, h4⟩ := hagree c
    obtain ⟨e0, e1, e2, e3, e⟩ := h c
    replace e0 := e0.trans (Cert.Reference14Ideal.Read.val_main_v25_eq ..)
    replace e1 := e1.trans (Cert.Reference14Ideal.Read.val_main_v27_eq ..)
    replace e2 := e2.trans (Cert.Reference14Ideal.Read.val_main_v29_eq ..)
    replace e3 := e3.trans (Cert.Reference14Ideal.Read.val_main_v31_eq ..)
    simp only [h0, h2, h3, h4] at e0 e1 e2 e3
    exact ⟨e0.trans (tlay_eq (g m c)), e1.trans (tlay_eq (step (w m c) (g m c) (mo m c) (ve m c)).2.1),
      e2.trans (tlay_eq (step (w m c) (g m c) (mo m c) (ve m c)).2.2.1), e3.trans (tlay_eq (step (w m c) (g m c) (mo m c) (ve m c)).2.2.2), e⟩

end Cert.Adam.W1Up
-- ==== Proof.Adam.W1Down.lean ====
/- The optimiser's kernel at the first half's inner weight computes the reference's step, over the extended reals. -/
module

public import proofs.«01_k».proof.Defs
public import proofs.«01_k».proof.Proof.Adam.Ffn
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Adam.W1Down

open Idealize.ShloMosaic Idealize.ShloMosaic.TcCoe Idealize.SL.Sem
open Cert.Kernel15Ideal Cert.Kernel15Ideal.Gen
open Cert.Adam.Ffn (rows lay lay_eq out4 out5 out6 out7)

variable (m : (ℓ : Loc nD τ sig) → Buf (Elt Ideal) ℓ) (c : Dev nD)

/-- Argument arrays, as launched: the weight, its gradient and the two moments. -/
abbrev w : FVec Ideal S1x704x1024 .f32 := m (c, Proc.devRef .tc main_arg0)
abbrev g : FVec Ideal S1x704x1024 .f32 := m (c, Proc.devRef .tc main_arg1)
abbrev mo : FVec Ideal S1x704x1024 .f32 := m (c, Proc.devRef .tc main_arg2)
abbrev ve : FVec Ideal S1x704x1024 .f32 := m (c, Proc.devRef .tc main_arg3)

theorem v0 : V m c main_v0 = rows (w m c) := by
  refine Eq.trans ?_ (lay_eq _)
  show StableHlo.after hostOps0 (fun b => m (c, b)) (Proc.devRef .tc main_v0) = _
  after_reads_simp; rfl
theorem v1 : V m c main_v1 = rows (mo m c) := by
  refine Eq.trans ?_ (lay_eq _)
  show StableHlo.after hostOps0 (fun b => m (c, b)) (Proc.devRef .tc main_v1) = _
  after_reads_simp; rfl
theorem v2 : V m c main_v2 = rows (ve m c) := by
  refine Eq.trans ?_ (lay_eq _)
  show StableHlo.after hostOps0 (fun b => m (c, b)) (Proc.devRef .tc main_v2) = _
  after_reads_simp; rfl
theorem grads : V m c main_arg1 = g m c := by
  show StableHlo.after hostOps0 (fun b => m (c, b)) (Proc.devRef .tc main_arg1) = _
  after_reads_simp

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = rows (w m c) (ix2 (row t r) d) := by
  rw [← v0]; unfold row; blk_ext [iblk, idx t]
theorem iblk1 (t : Fin cfg0.N) (r : Fin 176) (d : Fin 1024) : (show FVec Ideal S1x176x1024 .f32 from iblk m c 1 t) (ix3 0 r d) = rows (g m c) (ix2 (row t r) d) := by
  refine Eq.trans (b := V m c main_arg1 (ix3 0 (row t r) d)) ?_ (congrFun (grads m c) _)
  unfold row; blk_ext [iblk, idx t]
theorem iblk2 (t : Fin cfg0.N) (r : Fin 176) (d : Fin 1024) : (show FVec Ideal S176x1024 .f32 from iblk m c 2 t) (ix2 r d) = rows (mo m c) (ix2 (row t r) d) := by
  rw [← v1]; unfold row; blk_ext [iblk, idx t]
theorem iblk3 (t : Fin cfg0.N) (r : Fin 176) (d : Fin 1024) : (show FVec Ideal S176x1024 .f32 from iblk m c 3 t) (ix2 r d) = rows (ve m c) (ix2 (row t r) d) := by
  rw [← v2]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (rows (w m c)) (rows (g m c)) (rows (mo m c)) (rows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel15Ideal_Reference15Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel15Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference15Ideal.Value.run (F := Ideal) m' n')
    obtain ⟨h0, h1, h2, h3⟩ := hagree c
    obtain ⟨e0, e1, e2, e3, e⟩ := h c
    replace e0 := e0.trans (Cert.Reference15Ideal.Read.val_main_v24_eq ..)
    replace e1 := e1.trans (Cert.Reference15Ideal.Read.val_main_v25_eq ..)
    replace e2 := e2.trans (Cert.Reference15Ideal.Read.val_main_v26_eq ..)
    replace e3 := e3.trans (Cert.Reference15Ideal.Read.val_main_v27_eq ..)
    simp only [h0, h1, h2, h3] at e0 e1 e2 e3
    exact ⟨e0.trans (lay_eq (g m c)), e1.trans (lay_eq (step (w m c) (g m c) (mo m c) (ve m c)).2.1),
      e2.trans (lay_eq (step (w m c) (g m c) (mo m c) (ve m c)).2.2.1), e3.trans (lay_eq (step (w m c) (g m c) (mo m c) (ve m c)).2.2.2), e⟩

end Cert.Adam.W1Down
-- ==== Proof.Adam.WIn.lean ====
/- The optimiser's kernel at the mixer's input weight computes the reference's step, over the extended reals. -/
module

public import proofs.«01_k».proof.Defs
public import Idealize.ShloMosaic.Lib.Pipeline.ValueKit
public import Idealize.ShloMosaic.Lib.StableHlo.RunRead
public import proofs.«01_k».proof.Proof.Adam.Step
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Adam.WIn

open Idealize.ShloMosaic Idealize.ShloMosaic.TcCoe Idealize.SL.Sem
open Cert.Kernel16Ideal Cert.Kernel16Ideal.Gen

/-- A weight's array as the kernel reads it. -/
def rows (w : FVec Ideal S1x1024x768 .f32) : FVec Ideal S1024x768 .f32 := fun i => w (ix3 0 (i 0) (i 1))

/-- The host's dropping of the leading axis. -/
def lay (w : FVec Ideal S1x1024x768 .f32) : FVec Ideal S1024x768 .f32 := shapeCast S1024x768 w Facts₀.shapeCasts_S1x1024x768_S1024x768

theorem lay_eq (w : FVec Ideal S1x1024x768 .f32) : lay w = rows w := by
  funext i
  rw [eq_ix2 i]
  unfold rows
  pointwise [lay]

variable (m : (ℓ : Loc nD τ sig) → Buf (Elt Ideal) ℓ) (c : Dev nD)

/-- Argument arrays, as launched: the weight, its gradient and the two moments. -/
abbrev w : FVec Ideal S1x1024x768 .f32 := m (c, Proc.devRef .tc main_arg0)
abbrev g : FVec Ideal S1x1024x768 .f32 := m (c, Proc.devRef .tc main_arg1)
abbrev mo : FVec Ideal S1x1024x768 .f32 := m (c, Proc.devRef .tc main_arg2)
abbrev ve : FVec Ideal S1x1024x768 .f32 := m (c, Proc.devRef .tc main_arg3)

theorem v0 : V m c main_v0 = rows (w m c) := by
  refine Eq.trans ?_ (lay_eq _)
  show StableHlo.after hostOps0 (fun b => m (c, b)) (Proc.devRef .tc main_v0) = _
  after_reads_simp; rfl
theorem v1 : V m c main_v1 = rows (mo m c) := by
  refine Eq.trans ?_ (lay_eq _)
  show StableHlo.after hostOps0 (fun b => m (c, b)) (Proc.devRef .tc main_v1) = _
  after_reads_simp; rfl
theorem v2 : V m c main_v2 = rows (ve m c) := by
  refine Eq.trans ?_ (lay_eq _)
  show StableHlo.after hostOps0 (fun b => m (c, b)) (Proc.devRef .tc main_v2) = _
  after_reads_simp; rfl
theorem grads : V m c main_arg1 = g m c := by
  show StableHlo.after hostOps0 (fun b => m (c, b)) (Proc.devRef .tc main_arg1) = _
  after_reads_simp

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 256) : Fin 1024 := ⟨t.val * 256 + r.val, by have : t.val < 4 := lt_of_lt_of_eq t.isLt N_0; omega⟩

variable {m c}

theorem iblk0 (t : Fin cfg0.N) (r : Fin 256) (d : Fin 768) : (show FVec Ideal S256x768 .f32 from iblk m c 0 t) (ix2 r d) = rows (w m c) (ix2 (row t r) d) := by
  rw [← v0]; unfold row; blk_ext [iblk, idx t]
theorem iblk1 (t : Fin cfg0.N) (r : Fin 256) (d : Fin 768) : (show FVec Ideal S1x256x768 .f32 from iblk m c 1 t) (ix3 0 r d) = rows (g m c) (ix2 (row t r) d) := by
  refine Eq.trans (b := V m c main_arg1 (ix3 0 (row t r) d)) ?_ (congrFun (grads m c) _)
  unfold row; blk_ext [iblk, idx t]
theorem iblk2 (t : Fin cfg0.N) (r : Fin 256) (d : Fin 768) : (show FVec Ideal S256x768 .f32 from iblk m c 2 t) (ix2 r d) = rows (mo m c) (ix2 (row t r) d) := by
  rw [← v1]; unfold row; blk_ext [iblk, idx t]
theorem iblk3 (t : Fin cfg0.N) (r : Fin 256) (d : Fin 768) : (show FVec Ideal S256x768 .f32 from iblk m c 3 t) (ix2 r d) = rows (ve m c) (ix2 (row t r) d) := by
  rw [← v2]; unfold row; blk_ext [iblk, idx t]

/-! ## A tile's body -/

section Body
variable (x0 x2 x3 : FVec Ideal S256x768 .f32) (x1 : FVec Ideal S1x256x768 .f32) (r : Fin 256) (d : Fin 768)

theorem out4 : (out0_4 (F := Ideal) x0 x1 x2 x3 : FVec Ideal S256x768 .f32) (ix2 r d) = x1 (ix3 0 r d) := by
  unfold out0_4
  simp (disch := decide) only [show r0_1 = Rect.unit (s := S256x768) ![0, 0] S256x768.size inb_S256x768_S256x768_0_0 from rfl,
    show r0_0 = Rect.unit (s := S1x256x768) ![0, 0, 0] S1x256x768.size inb_S1x256x768_S1x256x768_0_0_0 from rfl, View.canon_cons_unit_lit', View.ld_unit_lit']
  pointwise [k0_pay2]
theorem out5 : (out0_5 (F := Ideal) x0 x1 x2 x3 : FVec Ideal S256x768 .f32) (ix2 r d) = delta (x0 (ix2 r d)) (x1 (ix3 0 r d)) (x2 (ix2 r d)) (x3 (ix2 r d)) := by
  unfold out0_5
  simp (disch := decide) only [show r0_1 = Rect.unit (s := S256x768) ![0, 0] S256x768.size inb_S256x768_S256x768_0_0 from rfl,
    show r0_0 = Rect.unit (s := S1x256x768) ![0, 0, 0] S1x256x768.size inb_S1x256x768_S1x256x768_0_0_0 from rfl, View.canon_cons_unit_lit', View.ld_unit_lit']
  unfold delta fst snd
  pointwise [k0_pay1, k0_pay5, k0_pay2, k0_pay3, k0_pay4]
theorem out6 : (out0_6 (F := Ideal) x0 x1 x2 x3 : FVec Ideal S256x768 .f32) (ix2 r d) = fst (x1 (ix3 0 r d)) (x2 (ix2 r d)) := by
  unfold out0_6
  simp (disch := decide) only [show r0_1 = Rect.unit (s := S256x768) ![0, 0] S256x768.size inb_S256x768_S256x768_0_0 from rfl,
    show r0_0 = Rect.unit (s := S1x256x768) ![0, 0, 0] S1x256x768.size inb_S1x256x768_S1x256x768_0_0_0 from rfl, View.canon_cons_unit_lit', View.ld_unit_lit']
  unfold fst
  pointwise [k0_pay3, k0_pay2]
theorem out7 : (out0_7 (F := Ideal) x0 x1 x2 x3 : FVec Ideal S256x768 .f32) (ix2 r d) = snd (x1 (ix3 0 r d)) (x3 (ix2 r d)) := by
  unfold out0_7
  simp (disch := decide) only [show r0_1 = Rect.unit (s := S256x768) ![0, 0] S256x768.size inb_S256x768_S256x768_0_0 from rfl,
    show r0_0 = Rect.unit (s := S1x256x768) ![0, 0, 0] S1x256x768.size inb_S1x256x768_S1x256x768_0_0_0 from rfl, View.canon_cons_unit_lit', View.ld_unit_lit']
  unfold snd
  pointwise [k0_pay4, k0_pay2]

end Body

/-! ## The results' arrays -/

/-- The results, as arrays. -/
def res (m : (ℓ : Loc nD τ sig) → Buf (Elt Ideal) ℓ) (c : Dev nD) :
    FVec Ideal S1024x768 .f32 × FVec Ideal S1024x768 .f32 × FVec Ideal S1024x768 .f32 × FVec Ideal S1024x768 .f32 :=
  step (rows (w m c)) (rows (g m c)) (rows (mo m c)) (rows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel16Ideal_Reference16Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel16Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference16Ideal.Value.run (F := Ideal) m' n')
    obtain ⟨h0, h1, h2, h3⟩ := hagree c
    obtain ⟨e0, e1, e2, e3, e⟩ := h c
    replace e0 := e0.trans (Cert.Reference16Ideal.Read.val_main_v24_eq ..)
    replace e1 := e1.trans (Cert.Reference16Ideal.Read.val_main_v25_eq ..)
    replace e2 := e2.trans (Cert.Reference16Ideal.Read.val_main_v26_eq ..)
    replace e3 := e3.trans (Cert.Reference16Ideal.Read.val_main_v27_eq ..)
    simp only [h0, h1, h2, h3] at e0 e1 e2 e3
    exact ⟨e0.trans (lay_eq (g m c)), e1.trans (lay_eq (step (w m c) (g m c) (mo m c) (ve m c)).2.1),
      e2.trans (lay_eq (step (w m c) (g m c) (mo m c) (ve m c)).2.2.1), e3.trans (lay_eq (step (w m c) (g m c) (mo m c) (ve m c)).2.2.2), e⟩

end Cert.Adam.WIn
-- ==== Proof.Adam.WOut.lean ====
/- The optimiser's kernel at the mixer's output weight computes the reference's step, over the extended reals. -/
module

public import proofs.«01_k».proof.Defs
public import Idealize.ShloMosaic.Lib.Pipeline.ValueKit
public import Idealize.ShloMosaic.Lib.StableHlo.RunRead
public import proofs.«01_k».proof.Proof.Adam.Step
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Adam.WOut

open Idealize.ShloMosaic Idealize.ShloMosaic.TcCoe Idealize.SL.Sem
open Cert.Kernel17Ideal Cert.Kernel17Ideal.Gen

/-- A weight's array as the kernel reads it. -/
def rows (w : FVec Ideal S1x256x1024 .f32) : FVec Ideal S256x1024 .f32 := fun i => w (ix3 0 (i 0) (i 1))

/-- The host's dropping of the leading axis. -/
def lay (w : FVec Ideal S1x256x1024 .f32) : FVec Ideal S256x1024 .f32 := shapeCast S256x1024 w Facts₀.shapeCasts_S1x256x1024_S256x1024

theorem lay_eq (w : FVec Ideal S1x256x1024 .f32) : lay w = rows w := by
  funext i
  rw [eq_ix2 i]
  unfold rows
  pointwise [lay]

variable (m : (ℓ : Loc nD τ sig) → Buf (Elt Ideal) ℓ) (c : Dev nD)

/-- Argument arrays, as launched: the weight, its gradient and the two moments. -/
abbrev w : FVec Ideal S1x256x1024 .f32 := m (c, Proc.devRef .tc main_arg0)
abbrev g : FVec Ideal S1x256x1024 .f32 := m (c, Proc.devRef .tc main_arg1)
abbrev mo : FVec Ideal S1x256x1024 .f32 := m (c, Proc.devRef .tc main_arg2)
abbrev ve : FVec Ideal S1x256x1024 .f32 := m (c, Proc.devRef .tc main_arg3)

theorem v0 : V m c main_v0 = rows (w m c) := by
  refine Eq.trans ?_ (lay_eq _)
  show StableHlo.after hostOps0 (fun b => m (c, b)) (Proc.devRef .tc main_v0) = _
  after_reads_simp; rfl
theorem v1 : V m c main_v1 = rows (mo m c) := by
  refine Eq.trans ?_ (lay_eq _)
  show StableHlo.after hostOps0 (fun b => m (c, b)) (Proc.devRef .tc main_v1) = _
  after_reads_simp; rfl
theorem v2 : V m c main_v2 = rows (ve m c) := by
  refine Eq.trans ?_ (lay_eq _)
  show StableHlo.after hostOps0 (fun b => m (c, b)) (Proc.devRef .tc main_v2) = _
  after_reads_simp; rfl
theorem grads : V m c main_arg1 = g m c := by
  show StableHlo.after hostOps0 (fun b => m (c, b)) (Proc.devRef .tc main_arg1) = _
  after_reads_simp

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 256) : Fin 256 := ⟨t.val * 256 + r.val, by have : t.val < 1 := lt_of_lt_of_eq t.isLt N_0; omega⟩

variable {m c}

theorem iblk0 (t : Fin cfg0.N) (r : Fin 256) (d : Fin 1024) : (show FVec Ideal S256x1024 .f32 from iblk m c 0 t) (ix2 r d) = rows (w m c) (ix2 (row t r) d) := by
  rw [← v0]; unfold row; blk_ext [iblk, idx t]
theorem iblk1 (t : Fin cfg0.N) (r : Fin 256) (d : Fin 1024) : (show FVec Ideal S1x256x1024 .f32 from iblk m c 1 t) (ix3 0 r d) = rows (g m c) (ix2 (row t r) d) := by
  refine Eq.trans (b := V m c main_arg1 (ix3 0 (row t r) d)) ?_ (congrFun (grads m c) _)
  unfold row; blk_ext [iblk, idx t]
theorem iblk2 (t : Fin cfg0.N) (r : Fin 256) (d : Fin 1024) : (show FVec Ideal S256x1024 .f32 from iblk m c 2 t) (ix2 r d) = rows (mo m c) (ix2 (row t r) d) := by
  rw [← v1]; unfold row; blk_ext [iblk, idx t]
theorem iblk3 (t : Fin cfg0.N) (r : Fin 256) (d : Fin 1024) : (show FVec Ideal S256x1024 .f32 from iblk m c 3 t) (ix2 r d) = rows (ve m c) (ix2 (row t r) d) := by
  rw [← v2]; unfold row; blk_ext [iblk, idx t]

/-! ## A tile's body -/

section Body
variable (x0 x2 x3 : FVec Ideal S256x1024 .f32) (x1 : FVec Ideal S1x256x1024 .f32) (r : Fin 256) (d : Fin 1024)

theorem out4 : (out0_4 (F := Ideal) x0 x1 x2 x3 : FVec Ideal S256x1024 .f32) (ix2 r d) = x1 (ix3 0 r d) := by
  unfold out0_4
  simp (disch := decide) only [show r0_1 = Rect.unit (s := S256x1024) ![0, 0] S256x1024.size inb_S256x1024_S256x1024_0_0 from rfl,
    show r0_0 = Rect.unit (s := S1x256x1024) ![0, 0, 0] S1x256x1024.size inb_S1x256x1024_S1x256x1024_0_0_0 from rfl, View.canon_cons_unit_lit', View.ld_unit_lit']
  pointwise [k0_pay2]
theorem out5 : (out0_5 (F := Ideal) x0 x1 x2 x3 : FVec Ideal S256x1024 .f32) (ix2 r d) = delta (x0 (ix2 r d)) (x1 (ix3 0 r d)) (x2 (ix2 r d)) (x3 (ix2 r d)) := by
  unfold out0_5
  simp (disch := decide) only [show r0_1 = Rect.unit (s := S256x1024) ![0, 0] S256x1024.size inb_S256x1024_S256x1024_0_0 from rfl,
    show r0_0 = Rect.unit (s := S1x256x1024) ![0, 0, 0] S1x256x1024.size inb_S1x256x1024_S1x256x1024_0_0_0 from rfl, View.canon_cons_unit_lit', View.ld_unit_lit']
  unfold delta fst snd
  pointwise [k0_pay1, k0_pay5, k0_pay2, k0_pay3, k0_pay4]
theorem out6 : (out0_6 (F := Ideal) x0 x1 x2 x3 : FVec Ideal S256x1024 .f32) (ix2 r d) = fst (x1 (ix3 0 r d)) (x2 (ix2 r d)) := by
  unfold out0_6
  simp (disch := decide) only [show r0_1 = Rect.unit (s := S256x1024) ![0, 0] S256x1024.size inb_S256x1024_S256x1024_0_0 from rfl,
    show r0_0 = Rect.unit (s := S1x256x1024) ![0, 0, 0] S1x256x1024.size inb_S1x256x1024_S1x256x1024_0_0_0 from rfl, View.canon_cons_unit_lit', View.ld_unit_lit']
  unfold fst
  pointwise [k0_pay3, k0_pay2]
theorem out7 : (out0_7 (F := Ideal) x0 x1 x2 x3 : FVec Ideal S256x1024 .f32) (ix2 r d) = snd (x1 (ix3 0 r d)) (x3 (ix2 r d)) := by
  unfold out0_7
  simp (disch := decide) only [show r0_1 = Rect.unit (s := S256x1024) ![0, 0] S256x1024.size inb_S256x1024_S256x1024_0_0 from rfl,
    show r0_0 = Rect.unit (s := S1x256x1024) ![0, 0, 0] S1x256x1024.size inb_S1x256x1024_S1x256x1024_0_0_0 from rfl, View.canon_cons_unit_lit', View.ld_unit_lit']
  unfold snd
  pointwise [k0_pay4, k0_pay2]

end Body

/-! ## The results' arrays -/

/-- The results, as arrays. -/
def res (m : (ℓ : Loc nD τ sig) → Buf (Elt Ideal) ℓ) (c : Dev nD) :
    FVec Ideal S256x1024 .f32 × FVec Ideal S256x1024 .f32 × FVec Ideal S256x1024 .f32 × FVec Ideal S256x1024 .f32 :=
  step (rows (w m c)) (rows (g m c)) (rows (mo m c)) (rows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel17Ideal_Reference17Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel17Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference17Ideal.Value.run (F := Ideal) m' n')
    obtain ⟨h0, h1, h2, h3⟩ := hagree c
    obtain ⟨e0, e1, e2, e3, e⟩ := h c
    replace e0 := e0.trans (Cert.Reference17Ideal.Read.val_main_v24_eq ..)
    replace e1 := e1.trans (Cert.Reference17Ideal.Read.val_main_v25_eq ..)
    replace e2 := e2.trans (Cert.Reference17Ideal.Read.val_main_v26_eq ..)
    replace e3 := e3.trans (Cert.Reference17Ideal.Read.val_main_v27_eq ..)
    simp only [h0, h1, h2, h3] at e0 e1 e2 e3
    exact ⟨e0.trans (lay_eq (g m c)), e1.trans (lay_eq (step (w m c) (g m c) (mo m c) (ve m c)).2.1),
      e2.trans (lay_eq (step (w m c) (g m c) (mo m c) (ve m c)).2.2.1), e3.trans (lay_eq (step (w m c) (g m c) (mo m c) (ve m c)).2.2.2), e⟩

end Cert.Adam.WOut
-- ==== Proof.Adam.W2Gate.lean ====
/- The optimiser's kernel at the second half's gate weight computes the reference's step, over the extended reals. -/
module

public import proofs.«01_k».proof.Defs
public import proofs.«01_k».proof.Proof.Adam.Ffn
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Adam.W2Gate

open Idealize.ShloMosaic Idealize.ShloMosaic.TcCoe Idealize.SL.Sem
open Cert.Kernel18Ideal Cert.Kernel18Ideal.Gen
open Cert.Adam.Ffn (trows tlay tlay_eq three three_at0 three_at1 out4 out5 out6 out7)

variable (m : (ℓ : Loc nD τ sig) → Buf (Elt Ideal) ℓ) (c : Dev nD)

/-- Argument arrays, as launched: the weight, its gradient and the two moments. -/
abbrev w : FVec Ideal S1x1024x704 .f32 := m (c, Proc.devRef .tc main_arg0)
abbrev g : FVec Ideal S1x1024x704 .f32 := m (c, Proc.devRef .tc main_arg1)
abbrev mo : FVec Ideal S1x1024x704 .f32 := m (c, Proc.devRef .tc main_arg4)
abbrev ve : FVec Ideal S1x1024x704 .f32 := m (c, Proc.devRef .tc main_arg5)

theorem v10 : V m c main_v10 = trows (w m c) := by
  refine Eq.trans ?_ (tlay_eq _)
  show StableHlo.after hostOps0 (fun b => m (c, b)) (Proc.devRef .tc main_v10) = _
  after_reads_simp; rfl
theorem v12 : V m c main_v12 = trows (mo m c) := by
  refine Eq.trans ?_ (tlay_eq _)
  show StableHlo.after hostOps0 (fun b => m (c, b)) (Proc.devRef .tc main_v12) = _
  after_reads_simp; rfl
theorem v14 : V m c main_v14 = trows (ve m c) := by
  refine Eq.trans ?_ (tlay_eq _)
  show StableHlo.after hostOps0 (fun b => m (c, b)) (Proc.devRef .tc main_v14) = _
  after_reads_simp; rfl
theorem grads : V m c main_v8 = three (m (c, Proc.devRef .tc main_arg1)) (m (c, Proc.devRef .tc main_arg2)) (m (c, Proc.devRef .tc main_arg3)) := by
  show StableHlo.after hostOps0 (fun b => m (c, b)) (Proc.devRef .tc main_v8) = _
  after_reads_simp; rfl

/-- The windows' block indices at every point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = trows (w m c) (ix2 (row t r) d) := by
  rw [← v10]; unfold row; blk_ext [iblk, idx t]
theorem iblk1 (t : Fin cfg0.N) (r : Fin 176) (d : Fin 1024) : (show FVec Ideal S1x176x1024 .f32 from iblk m c 1 t) (ix3 0 r d) = trows (g m c) (ix2 (row t r) d) := by
  refine Eq.trans (b := V m c main_v8 (ix3 0 (row t r) d)) ?_ (by rw [grads]; exact three_at0 ..)
  unfold row; blk_ext [iblk, idx t]
theorem iblk2 (t : Fin cfg0.N) (r : Fin 176) (d : Fin 1024) : (show FVec Ideal S176x1024 .f32 from iblk m c 2 t) (ix2 r d) = trows (mo m c) (ix2 (row t r) d) := by
  rw [← v12]; unfold row; blk_ext [iblk, idx t]
theorem iblk3 (t : Fin cfg0.N) (r : Fin 176) (d : Fin 1024) : (show FVec Ideal S176x1024 .f32 from iblk m c 3 t) (ix2 r d) = trows (ve m c) (ix2 (row t r) d) := by
  rw [← v14]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (trows (w m c)) (trows (g m c)) (trows (mo m c)) (trows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel18Ideal_Reference18Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel18Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference18Ideal.Value.run (F := Ideal) m' n')
    obtain ⟨h0, h1, h2, h3, h4, h5⟩ := hagree c
    obtain ⟨e0, e1, e2, e3, e⟩ := h c
    replace e0 := e0.trans (Cert.Reference18Ideal.Read.val_main_v25_eq ..)
    replace e1 := e1.trans (Cert.Reference18Ideal.Read.val_main_v27_eq ..)
    replace e2 := e2.trans (Cert.Reference18Ideal.Read.val_main_v29_eq ..)
    replace e3 := e3.trans (Cert.Reference18Ideal.Read.val_main_v31_eq ..)
    simp only [h0, h1, h4, h5] at e0 e1 e2 e3
    exact ⟨e0.trans (tlay_eq (g m c)), e1.trans (tlay_eq (step (w m c) (g m c) (mo m c) (ve m c)).2.1),
      e2.trans (tlay_eq (step (w m c) (g m c) (mo m c) (ve m c)).2.2.1), e3.trans (tlay_eq (step (w m c) (g m c) (mo m c) (ve m c)).2.2.2), e⟩

end Cert.Adam.W2Gate
-- ==== Proof.Adam.W2Up.lean ====
/- The optimiser's kernel at the second half's up weight computes the reference's step, over the extended reals. -/
module

public import proofs.«01_k».proof.Defs
public import proofs.«01_k».proof.Proof.Adam.Ffn
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

namespace Cert.Adam.W2Up

open Idealize.ShloMosaic Idealize.ShloMosaic.TcCoe Idealize.SL.Sem
open Cert.Kernel19Ideal Cert.Kernel19Ideal.Gen
open Cert.Adam.Ffn (trows tlay tlay_eq three three_at0 three_at1 out4 out5 out6 out7)

variable (m : (ℓ : Loc nD τ sig) → Buf (Elt Ideal) ℓ) (c : Dev nD)

/-- Argument arrays, as launched: the weight, its gradient and the two moments. -/
abbrev w : FVec Ideal S1x1024x704 .f32 := m (c, Proc.devRef .tc main_arg0)
abbrev g : FVec Ideal S1x1024x704 .f32 := m (c, Proc.devRef .tc main_arg2)
abbrev mo : FVec Ideal S1x1024x704 .f32 := m (c, Proc.devRef .tc main_arg4)
abbrev ve : FVec Ideal S1x1024x704 .f32 := m (c, Proc.devRef .tc main_arg5)

theorem v10 : V m c main_v10 = trows (w m c) := by
  refine Eq.trans ?_ (tlay_eq _)
  show StableHlo.after hostOps0 (fun b => m (c, b)) (Proc.devRef .tc main_v10) = _
  after_reads_simp; rfl
theorem v12 : V m c main_v12 = trows (mo m c) := by
  refine Eq.trans ?_ (tlay_eq _)
  show StableHlo.after hostOps0 (fun b => m (c, b)) (Proc.devRef .tc main_v12) = _
  after_reads_simp; rfl
theorem v14 : V m c main_v14 = trows (ve m c) := by
  refine Eq.trans ?_ (tlay_eq _)
  show StableHlo.after hostOps0 (fun b => m (c, b)) (Proc.devRef .tc main_v14) = _
  after_reads_simp; rfl
theorem grads : V m c main_v8 = three (m (c, Proc.devRef .tc main_arg1)) (m (c, Proc.devRef .tc main_arg2)) (m (c, Proc.devRef .tc main_arg3)) := by
  show StableHlo.after hostOps0 (fun b => m (c, b)) (Proc.devRef .tc main_v8) = _
  after_reads_simp; rfl

/-- The windows' block indices at every point. -/
theorem idx : ∀ t : Fin cfg0.N, win0_0.index t = ![t.val, 0] ∧ win0_1.index t = ![1, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = trows (w m c) (ix2 (row t r) d) := by
  rw [← v10]; unfold row; blk_ext [iblk, idx t]
theorem iblk1 (t : Fin cfg0.N) (r : Fin 176) (d : Fin 1024) : (show FVec Ideal S1x176x1024 .f32 from iblk m c 1 t) (ix3 0 r d) = trows (g m c) (ix2 (row t r) d) := by
  refine Eq.trans (b := V m c main_v8 (ix3 1 (row t r) d)) ?_ (by rw [grads]; exact three_at1 ..)
  unfold row; blk_ext [iblk, idx t]
theorem iblk2 (t : Fin cfg0.N) (r : Fin 176) (d : Fin 1024) : (show FVec Ideal S176x1024 .f32 from iblk m c 2 t) (ix2 r d) = trows (mo m c) (ix2 (row t r) d) := by
  rw [← v12]; unfold row; blk_ext [iblk, idx t]
theorem iblk3 (t : Fin cfg0.N) (r : Fin 176) (d : Fin 1024) : (show FVec Ideal S176x1024 .f32 from iblk m c 3 t) (ix2 r d) = trows (ve m c) (ix2 (row t r) d) := by
  rw [← v14]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (trows (w m c)) (trows (g m c)) (trows (mo m c)) (trows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel19Ideal_Reference19Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel19Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference19Ideal.Value.run (F := Ideal) m' n')
    obtain ⟨h0, h1, h2, h3, h4, h5⟩ := hagree c
    obtain ⟨e0, e1, e2, e3, e⟩ := h c
    replace e0 := e0.trans (Cert.Reference19Ideal.Read.val_main_v25_eq ..)
    replace e1 := e1.trans (Cert.Reference19Ideal.Read.val_main_v27_eq ..)
    replace e2 := e2.trans (Cert.Reference19Ideal.Read.val_main_v29_eq ..)
    replace e3 := e3.trans (Cert.Reference19Ideal.Read.val_main_v31_eq ..)
    simp only [h0, h2, h4, h5] at e0 e1 e2 e3
    exact ⟨e0.trans (tlay_eq (g m c)), e1.trans (tlay_eq (step (w m c) (g m c) (mo m c) (ve m c)).2.1),
      e2.trans (tlay_eq (step (w m c) (g m c) (mo m c) (ve m c)).2.2.1), e3.trans (tlay_eq (step (w m c) (g m c) (mo m c) (ve m c)).2.2.2), e⟩

end Cert.Adam.W2Up
-- ==== Proof.Adam.W2Down.lean ====
/- The optimiser's kernel at the second half's inner weight computes the reference's step, over the extended reals. -/
module

public import proofs.«01_k».proof.Defs
public import proofs.«01_k».proof.Proof.Adam.Ffn
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Adam.W2Down

open Idealize.ShloMosaic Idealize.ShloMosaic.TcCoe Idealize.SL.Sem
open Cert.Kernel20Ideal Cert.Kernel20Ideal.Gen
open Cert.Adam.Ffn (rows lay lay_eq three three_at2 out4 out5 out6 out7)

variable (m : (ℓ : Loc nD τ sig) → Buf (Elt Ideal) ℓ) (c : Dev nD)

/-- Argument arrays, as launched: the weight, its gradient and the two moments. -/
abbrev w : FVec Ideal S1x704x1024 .f32 := m (c, Proc.devRef .tc main_arg0)
abbrev g : FVec Ideal S1x704x1024 .f32 := m (c, Proc.devRef .tc main_arg3)
abbrev mo : FVec Ideal S1x704x1024 .f32 := m (c, Proc.devRef .tc main_arg4)
abbrev ve : FVec Ideal S1x704x1024 .f32 := m (c, Proc.devRef .tc main_arg5)

theorem v9 : V m c main_v9 = rows (w m c) := by
  refine Eq.trans ?_ (lay_eq _)
  show StableHlo.after hostOps0 (fun b => m (c, b)) (Proc.devRef .tc main_v9) = _
  after_reads_simp; rfl
theorem v10 : V m c main_v10 = rows (mo m c) := by
  refine Eq.trans ?_ (lay_eq _)
  show StableHlo.after hostOps0 (fun b => m (c, b)) (Proc.devRef .tc main_v10) = _
  after_reads_simp; rfl
theorem v11 : V m c main_v11 = rows (ve m c) := by
  refine Eq.trans ?_ (lay_eq _)
  show StableHlo.after hostOps0 (fun b => m (c, b)) (Proc.devRef .tc main_v11) = _
  after_reads_simp; rfl
theorem grads : V m c main_v8 = three (m (c, Proc.devRef .tc main_arg1)) (m (c, Proc.devRef .tc main_arg2)) (m (c, Proc.devRef .tc main_arg3)) := by
  show StableHlo.after hostOps0 (fun b => m (c, b)) (Proc.devRef .tc main_v8) = _
  after_reads_simp; rfl

/-- The windows' block indices at every point. -/
theorem idx : ∀ t : Fin cfg0.N, win0_0.index t = ![t.val, 0] ∧ win0_1.index t = ![2, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile of point `t`. -/
def row (t : Fin cfg0.N) (r : Fin 176) : Fin 704 := ⟨t.val * 176 + r.val, by have : t.val < 4 := lt_of_lt_of_eq t.isLt N_0; omega⟩

variable {m c}

theorem iblk0 (t : Fin cfg0.N) (r : Fin 176) (d : Fin 1024) : (show FVec Ideal S176x1024 .f32 from iblk m c 0 t) (ix2 r d) = rows (w m c) (ix2 (row t r) d) := by
  rw [← v9]; unfold row; blk_ext [iblk, idx t]
theorem iblk1 (t : Fin cfg0.N) (r : Fin 176) (d : Fin 1024) : (show FVec Ideal S1x176x1024 .f32 from iblk m c 1 t) (ix3 0 r d) = rows (g m c) (ix2 (row t r) d) := by
  refine Eq.trans (b := V m c main_v8 (ix3 2 (row t r) d)) ?_ (by rw [grads]; exact three_at2 ..)
  unfold row; blk_ext [iblk, idx t]
theorem iblk2 (t : Fin cfg0.N) (r : Fin 176) (d : Fin 1024) : (show FVec Ideal S176x1024 .f32 from iblk m c 2 t) (ix2 r d) = rows (mo m c) (ix2 (row t r) d) := by
  rw [← v10]; unfold row; blk_ext [iblk, idx t]
theorem iblk3 (t : Fin cfg0.N) (r : Fin 176) (d : Fin 1024) : (show FVec Ideal S176x1024 .f32 from iblk m c 3 t) (ix2 r d) = rows (ve m c) (ix2 (row t r) d) := by
  rw [← v11]; unfold row; blk_ext [iblk, idx t]

/-! ## The results' arrays -/

/-- The results, as arrays. -/
def res (m : (ℓ : Loc nD τ sig) → Buf (Elt Ideal) ℓ) (c : Dev nD) :
    FVec Ideal S704x1024 .f32 × FVec Ideal S704x1024 .f32 × FVec Ideal S704x1024 .f32 × FVec Ideal S704x1024 .f32 :=
  step (rows (w m c)) (rows (g m c)) (rows (mo m c)) (rows (ve m c))

theorem array4 : (dats m 0 c).arrAt 4 (cfgs 0).N = (res m c).1 := by
  refine (dats m 0 c).arrAt_eq_of_covers 4 _ (by decide +kernel) fun t _ y => ?_
  blk_simp
  rw [after0_4]
  refine (congrArg _ (eq_ix2 y)).trans ((out4 (iblk m c 0 t) (iblk m c 2 t) (iblk m c 3 t) (iblk m c 1 t) (y 0) (y 1)).trans ((iblk1 t _ _).trans ?_))
  refine at2 (res m c).1 (i := ix2 (row t (y 0)) (y 1)) ?_ ?_ <;> (try unfold row) <;> blk_simp [idx t] <;> (try omega)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((out5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (row t (y 0)) (y 1)) ?_ ?_ <;> (try unfold row) <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((out6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (row t (y 0)) (y 1)) ?_ ?_ <;> (try unfold row) <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((out7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (row t (y 0)) (y 1)) ?_ ?_ <;> (try unfold row) <;> blk_simp [idx t] <;> (try omega)

/-- Kernel and reference end with equal results. -/
theorem algebraic : Cert.algebraic_Kernel20Ideal_Reference20Ideal := by
  intro m n m' n' _ hagree
  refine ⟨fun c => (res m c).1, fun c => (res m c).2.1, fun c => (res m c).2.2.1, fun c => (res m c).2.2.2, ?_, ?_⟩
  · refine (θ_run _ _ _).mono (fun r h c => ?_) (Cert.Kernel20Ideal.Value.run_blocks (F := Ideal) m n)
    obtain ⟨e0, e1, e2, e3, e⟩ := h c
    exact ⟨e0.trans array4, e1.trans array5, e2.trans array6, e3.trans array7, e⟩
  · refine (θ_run _ _ _).mono (fun r h c => ?_) (Cert.Reference20Ideal.Value.run (F := Ideal) m' n')
    obtain ⟨h0, h1, h2, h3, h4, h5⟩ := hagree c
    obtain ⟨e0, e1, e2, e3, e⟩ := h c
    replace e0 := e0.trans (Cert.Reference20Ideal.Read.val_main_v24_eq ..)
    replace e1 := e1.trans (Cert.Reference20Ideal.Read.val_main_v25_eq ..)
    replace e2 := e2.trans (Cert.Reference20Ideal.Read.val_main_v26_eq ..)
    replace e3 := e3.trans (Cert.Reference20Ideal.Read.val_main_v27_eq ..)
    simp only [h0, h3, h4, h5] at e0 e1 e2 e3
    exact ⟨e0.trans (lay_eq (g m c)), e1.trans (lay_eq (step (w m c) (g m c) (mo m c) (ve m c)).2.1),
      e2.trans (lay_eq (step (w m c) (g m c) (mo m c) (ve m c)).2.2.1), e3.trans (lay_eq (step (w m c) (g m c) (mo m c) (ve m c)).2.2.2), e⟩

end Cert.Adam.W2Down
-- ==== Proof.Adam.Pack.lean ====
/- The small parameters laid one after another in one block, and each of them read back out of it. -/
module

public import proofs.«01_k».proof.Defs
public import proofs.«01_k».proof.Proof.Adam.Step
public import proofs.«01_k».proof.Proof.Gen.Kernel21Ideal.Frame
public import Idealize.ShloMosaic.Lib.Pipeline.ValueKit
public import Idealize.ShloMosaic.Lib.StableHlo.RunRead
public import Idealize.ShloMosaic.Lib.Pointwise

@[expose] public section

set_option maxRecDepth 16384

noncomputable section

namespace Cert.Adam.Pack

open Idealize.ShloMosaic Idealize.ShloMosaic.TcCoe Idealize.SL.Sem
open Cert.Kernel21Ideal Cert.Kernel21Ideal.Gen

/-- Nine vectors, one after another. -/
def flat (a : FVec Ideal S9216 .f32) (b₁ b₂ b₃ b₄ : FVec Ideal S1024 .f32) (s₁ s₂ : FVec Ideal S512 .f32) (r : FVec Ideal S256 .f32)
    (z : FVec Ideal S768 .f32) : FVec Ideal S15360 .f32 :=
  concatenate S15360 0 [⟨S9216, a⟩, ⟨S1024, b₁⟩, ⟨S1024, b₂⟩, ⟨S1024, b₃⟩, ⟨S1024, b₄⟩, ⟨S512, s₁⟩, ⟨S512, s₂⟩, ⟨S256, r⟩, ⟨S768, z⟩]
    Facts₀.concatenates_S9216_S1024_S1024_S1024_S1024_S512_S512_S256_S768_S15360_d0

section Pieces
variable (a : FVec Ideal S9216 .f32) (b₁ b₂ b₃ b₄ : FVec Ideal S1024 .f32) (s₁ s₂ : FVec Ideal S512 .f32) (r : FVec Ideal S256 .f32) (z : FVec Ideal S768 .f32)

theorem piece0 : extractStridedSlice S9216 ![0] (flat a b₁ b₂ b₃ b₄ s₁ s₂ r z) Facts₀.slices_S15360_S9216_0 = a := by
  funext i
  unfold flat extractStridedSlice
  refine concatenate_apply_piece (t := S15360) 0 _ _ _ 0 ?_ S9216 a ?_ rfl 0 ?_ i (fun b hb => absurd (Subsingleton.elim _ _) hb) ?_
  exacts [(by decide : 0 < 9), rfl, rfl, rfl]
theorem piece1 : extractStridedSlice S1024 ![9216] (flat a b₁ b₂ b₃ b₄ s₁ s₂ r z) Facts₀.slices_S15360_S1024_9216 = b₁ := by
  funext i
  unfold flat extractStridedSlice
  refine concatenate_apply_piece (t := S15360) 0 _ _ _ 1 ?_ S1024 b₁ ?_ rfl 9216 ?_ i (fun b hb => absurd (Subsingleton.elim _ _) hb) ?_
  exacts [(by decide : 1 < 9), rfl, rfl, rfl]
theorem piece2 : extractStridedSlice S1024 ![10240] (flat a b₁ b₂ b₃ b₄ s₁ s₂ r z) Facts₀.slices_S15360_S1024_10240 = b₂ := by
  funext i
  unfold flat extractStridedSlice
  refine concatenate_apply_piece (t := S15360) 0 _ _ _ 2 ?_ S1024 b₂ ?_ rfl 10240 ?_ i (fun b hb => absurd (Subsingleton.elim _ _) hb) ?_
  exacts [(by decide : 2 < 9), rfl, rfl, rfl]
theorem piece3 : extractStridedSlice S1024 ![11264] (flat a b₁ b₂ b₃ b₄ s₁ s₂ r z) Facts₀.slices_S15360_S1024_11264 = b₃ := by
  funext i
  unfold flat extractStridedSlice
  refine concatenate_apply_piece (t := S15360) 0 _ _ _ 3 ?_ S1024 b₃ ?_ rfl 11264 ?_ i (fun b hb => absurd (Subsingleton.elim _ _) hb) ?_
  exacts [(by decide : 3 < 9), rfl, rfl, rfl]
theorem piece4 : extractStridedSlice S1024 ![12288] (flat a b₁ b₂ b₃ b₄ s₁ s₂ r z) Facts₀.slices_S15360_S1024_12288 = b₄ := by
  funext i
  unfold flat extractStridedSlice
  refine concatenate_apply_piece (t := S15360) 0 _ _ _ 4 ?_ S1024 b₄ ?_ rfl 12288 ?_ i (fun b hb => absurd (Subsingleton.elim _ _) hb) ?_
  exacts [(by decide : 4 < 9), rfl, rfl, rfl]
theorem piece5 : extractStridedSlice S512 ![13312] (flat a b₁ b₂ b₃ b₄ s₁ s₂ r z) Facts₀.slices_S15360_S512_13312 = s₁ := by
  funext i
  unfold flat extractStridedSlice
  refine concatenate_apply_piece (t := S15360) 0 _ _ _ 5 ?_ S512 s₁ ?_ rfl 13312 ?_ i (fun b hb => absurd (Subsingleton.elim _ _) hb) ?_
  exacts [(by decide : 5 < 9), rfl, rfl, rfl]
theorem piece6 : extractStridedSlice S512 ![13824] (flat a b₁ b₂ b₃ b₄ s₁ s₂ r z) Facts₀.slices_S15360_S512_13824 = s₂ := by
  funext i
  unfold flat extractStridedSlice
  refine concatenate_apply_piece (t := S15360) 0 _ _ _ 6 ?_ S512 s₂ ?_ rfl 13824 ?_ i (fun b hb => absurd (Subsingleton.elim _ _) hb) ?_
  exacts [(by decide : 6 < 9), rfl, rfl, rfl]
theorem piece7 : extractStridedSlice S256 ![14336] (flat a b₁ b₂ b₃ b₄ s₁ s₂ r z) Facts₀.slices_S15360_S256_14336 = r := by
  funext i
  unfold flat extractStridedSlice
  refine concatenate_apply_piece (t := S15360) 0 _ _ _ 7 ?_ S256 r ?_ rfl 14336 ?_ i (fun b hb => absurd (Subsingleton.elim _ _) hb) ?_
  exacts [(by decide : 7 < 9), rfl, rfl, rfl]

end Pieces

/-- The eight small parameters in one block of 120 rows, followed by `z`. -/
def pack (a : FVec Ideal S1x9216 .f32) (b₁ b₂ b₃ : FVec Ideal S1x1024 .f32) (b₄ : FVec Ideal S1024 .f32) (s₁ s₂ : FVec Ideal S1x8x64 .f32)
    (r : FVec Ideal S32x8 .f32) (z : FVec Ideal S768 .f32) : FVec Ideal S120x128 .f32 :=
  shapeCast S120x128 (flat (shapeCast S9216 a Facts₀.shapeCasts_S1x9216_S9216) (shapeCast S1024 b₁ Facts₀.shapeCasts_S1x1024_S1024)
    (shapeCast S1024 b₂ Facts₀.shapeCasts_S1x1024_S1024) (shapeCast S1024 b₃ Facts₀.shapeCasts_S1x1024_S1024) b₄
    (shapeCast S512 s₁ Facts₀.shapeCasts_S1x8x64_S512) (shapeCast S512 s₂ Facts₀.shapeCasts_S1x8x64_S512) (shapeCast S256 r Facts₀.shapeCasts_S32x8_S256) z)
    Facts₀.shapeCasts_S15360_S120x128

/-- The block's entries in order. -/
def entries (x : FVec Ideal S120x128 .f32) : FVec Ideal S15360 .f32 := shapeCast S15360 x Facts₀.shapeCasts_S120x128_S15360

/-- The parameters' places in the block. -/
def out0 (x : FVec Ideal S120x128 .f32) : FVec Ideal S1x9216 .f32 :=
  shapeCast S1x9216 (extractStridedSlice S9216 ![0] (entries x) Facts₀.slices_S15360_S9216_0) Facts₀.shapeCasts_S9216_S1x9216
def out1 (x : FVec Ideal S120x128 .f32) : FVec Ideal S1x1024 .f32 :=
  shapeCast S1x1024 (extractStridedSlice S1024 ![9216] (entries x) Facts₀.slices_S15360_S1024_9216) Facts₀.shapeCasts_S1024_S1x1024
def out2 (x : FVec Ideal S120x128 .f32) : FVec Ideal S1x1024 .f32 :=
  shapeCast S1x1024 (extractStridedSlice S1024 ![10240] (entries x) Facts₀.slices_S15360_S1024_10240) Facts₀.shapeCasts_S1024_S1x1024
def out3 (x : FVec Ideal S120x128 .f32) : FVec Ideal S1x1024 .f32 :=
  shapeCast S1x1024 (extractStridedSlice S1024 ![11264] (entries x) Facts₀.slices_S15360_S1024_11264) Facts₀.shapeCasts_S1024_S1x1024
def out4 (x : FVec Ideal S120x128 .f32) : FVec Ideal S1024 .f32 :=
  extractStridedSlice S1024 ![12288] (entries x) Facts₀.slices_S15360_S1024_12288
def out5 (x : FVec Ideal S120x128 .f32) : FVec Ideal S1x8x64 .f32 :=
  shapeCast S1x8x64 (extractStridedSlice S512 ![13312] (entries x) Facts₀.slices_S15360_S512_13312) Facts₀.shapeCasts_S512_S1x8x64
def out6 (x : FVec Ideal S120x128 .f32) : FVec Ideal S1x8x64 .f32 :=
  shapeCast S1x8x64 (extractStridedSlice S512 ![13824] (entries x) Facts₀.slices_S15360_S512_13824) Facts₀.shapeCasts_S512_S1x8x64
def out7 (x : FVec Ideal S120x128 .f32) : FVec Ideal S32x8 .f32 :=
  shapeCast S32x8 (extractStridedSlice S256 ![14336] (entries x) Facts₀.slices_S15360_S256_14336) Facts₀.shapeCasts_S256_S32x8

section Unpack
variable (a : FVec Ideal S1x9216 .f32) (b₁ b₂ b₃ : FVec Ideal S1x1024 .f32) (b₄ : FVec Ideal S1024 .f32) (s₁ s₂ : FVec Ideal S1x8x64 .f32)
  (r : FVec Ideal S32x8 .f32) (z : FVec Ideal S768 .f32)

theorem out0_pack : out0 (pack a b₁ b₂ b₃ b₄ s₁ s₂ r z) = a := by
  unfold out0 entries pack; rw [shapeCast_shapeCast, piece0, shapeCast_shapeCast]
theorem out1_pack : out1 (pack a b₁ b₂ b₃ b₄ s₁ s₂ r z) = b₁ := by
  unfold out1 entries pack; rw [shapeCast_shapeCast, piece1, shapeCast_shapeCast]
theorem out2_pack : out2 (pack a b₁ b₂ b₃ b₄ s₁ s₂ r z) = b₂ := by
  unfold out2 entries pack; rw [shapeCast_shapeCast, piece2, shapeCast_shapeCast]
theorem out3_pack : out3 (pack a b₁ b₂ b₃ b₄ s₁ s₂ r z) = b₃ := by
  unfold out3 entries pack; rw [shapeCast_shapeCast, piece3, shapeCast_shapeCast]
theorem out4_pack : out4 (pack a b₁ b₂ b₃ b₄ s₁ s₂ r z) = b₄ := by
  unfold out4 entries pack; rw [shapeCast_shapeCast, piece4]
theorem out5_pack : out5 (pack a b₁ b₂ b₃ b₄ s₁ s₂ r z) = s₁ := by
  unfold out5 entries pack; rw [shapeCast_shapeCast, piece5, shapeCast_shapeCast]
theorem out6_pack : out6 (pack a b₁ b₂ b₃ b₄ s₁ s₂ r z) = s₂ := by
  unfold out6 entries pack; rw [shapeCast_shapeCast, piece6, shapeCast_shapeCast]
theorem out7_pack : out7 (pack a b₁ b₂ b₃ b₄ s₁ s₂ r z) = r := by
  unfold out7 entries pack; rw [shapeCast_shapeCast, piece7, shapeCast_shapeCast]

end Unpack

/-! ## The body at its block -/

section Body
variable (x0 x2 x3 : FVec Ideal S120x128 .f32) (x1 : FVec Ideal S1x120x128 .f32) (r : Fin 120) (d : Fin 128)

theorem body5 : (out0_5 (F := Ideal) x0 x1 x2 x3 : FVec Ideal S120x128 .f32) (ix2 r d) = delta (x0 (ix2 r d)) (x1 (ix3 0 r d)) (x2 (ix2 r d)) (x3 (ix2 r d)) := by
  unfold out0_5
  simp (disch := decide) only [show r0_1 = Rect.unit (s := S120x128) ![0, 0] S120x128.size inb_S120x128_S120x128_0_0 from rfl,
    show r0_0 = Rect.unit (s := S1x120x128) ![0, 0, 0] S1x120x128.size inb_S1x120x128_S1x120x128_0_0_0 from rfl, View.canon_cons_unit_lit', View.ld_unit_lit']
  unfold delta fst snd
  pointwise [k0_pay1, k0_pay5, k0_pay2, k0_pay3, k0_pay4]
theorem body6 : (out0_6 (F := Ideal) x0 x1 x2 x3 : FVec Ideal S120x128 .f32) (ix2 r d) = fst (x1 (ix3 0 r d)) (x2 (ix2 r d)) := by
  unfold out0_6
  simp (disch := decide) only [show r0_1 = Rect.unit (s := S120x128) ![0, 0] S120x128.size inb_S120x128_S120x128_0_0 from rfl,
    show r0_0 = Rect.unit (s := S1x120x128) ![0, 0, 0] S1x120x128.size inb_S1x120x128_S1x120x128_0_0_0 from rfl, View.canon_cons_unit_lit', View.ld_unit_lit']
  unfold fst
  pointwise [k0_pay3, k0_pay2]
theorem body7 : (out0_7 (F := Ideal) x0 x1 x2 x3 : FVec Ideal S120x128 .f32) (ix2 r d) = snd (x1 (ix3 0 r d)) (x3 (ix2 r d)) := by
  unfold out0_7
  simp (disch := decide) only [show r0_1 = Rect.unit (s := S120x128) ![0, 0] S120x128.size inb_S120x128_S120x128_0_0 from rfl,
    show r0_0 = Rect.unit (s := S1x120x128) ![0, 0, 0] S1x120x128.size inb_S1x120x128_S1x120x128_0_0_0 from rfl, View.canon_cons_unit_lit', View.ld_unit_lit']
  unfold snd
  pointwise [k0_pay4, k0_pay2]

end Body

end Cert.Adam.Pack
-- ==== Proof.Adam.Small.lean ====
/- The optimiser's kernel at the small parameters, all eight in one block, computes the reference's step at each, over the extended reals. -/
module

public import proofs.«01_k».proof.Defs
public import proofs.«01_k».proof.Proof.Adam.Pack
public import proofs.«01_k».proof.Proof.Gen.Kernel21Ideal.Frame
public import proofs.«01_k».proof.Proof.Gen.Reference21Ideal.Run
public import proofs.«01_k».proof.Proof.Gen.Reference21Ideal.Read

@[expose] public section

set_option maxRecDepth 16384

noncomputable section

namespace Cert.Adam.Small

open Idealize.ShloMosaic Idealize.ShloMosaic.TcCoe Idealize.SL.Sem
open Cert.Kernel21Ideal Cert.Kernel21Ideal.Gen
open Cert.Adam.Pack

variable (m : (ℓ : Loc nD τ sig) → Buf (Elt Ideal) ℓ) (c : Dev nD)

/-- Argument `b`, as launched. -/
abbrev arg (b : Ref sig .tc) : Buf (Elt Ideal) ((c.tc : Thread nD τ).loc b) := m (c, Proc.devRef .tc b)

/-- The blocks of the weights, of their gradients and of the two moments. The gradients' block carries the loss after them. -/
def blkW : FVec Ideal S120x128 .f32 := pack (arg m c main_arg1) (arg m c main_arg2) (arg m c main_arg3) (arg m c main_arg4) (arg m c main_arg5) (arg m c main_arg6) (arg m c main_arg7) (arg m c main_arg8)
    (V m c main_v7)
def blkG : FVec Ideal S120x128 .f32 := pack (arg m c main_arg9) (arg m c main_arg10) (arg m c main_arg11) (arg m c main_arg12) (arg m c main_arg13) (arg m c main_arg14) (arg m c main_arg15) (arg m c main_arg16)
    (V m c main_v19)
def blkM : FVec Ideal S120x128 .f32 := pack (arg m c main_arg17) (arg m c main_arg18) (arg m c main_arg19) (arg m c main_arg20) (arg m c main_arg21) (arg m c main_arg22) (arg m c main_arg23) (arg m c main_arg24)
    (V m c main_v30)
def blkE : FVec Ideal S120x128 .f32 := pack (arg m c main_arg25) (arg m c main_arg26) (arg m c main_arg27) (arg m c main_arg28) (arg m c main_arg29) (arg m c main_arg30) (arg m c main_arg31) (arg m c main_arg32)
    (V m c main_v40)

theorem hostW : V m c main_v9 = blkW m c := by
  unfold blkW V V0
  after_reads_simp; rfl
theorem hostM : V m c main_v32 = blkM m c := by
  unfold blkM V V0
  after_reads_simp; rfl
theorem hostE : V m c main_v42 = blkE m c := by
  unfold blkE V V0
  after_reads_simp; rfl
theorem hostG : V m c main_v22 = shapeCast S1x120x128 (blkG m c) Facts₀.shapeCasts_S120x128_S1x120x128 := by
  unfold blkG V V0
  after_reads_simp; rfl

theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable {m c}

/-- Each block is staged whole. -/
theorem iblk0 (t : Fin cfg0.N) (r : Fin 120) (d : Fin 128) : (show FVec Ideal S120x128 .f32 from iblk m c 0 t) (ix2 r d) = blkW m c (ix2 r d) := by
  rw [← hostW]; blk_ext [iblk, idx t]
theorem iblk1 (t : Fin cfg0.N) (r : Fin 120) (d : Fin 128) : (show FVec Ideal S1x120x128 .f32 from iblk m c 1 t) (ix3 0 r d) = blkG m c (ix2 r d) := by
  refine Eq.trans (b := V m c main_v22 (ix3 0 r d)) ?_ (by rw [hostG]; pointwise [])
  blk_ext [iblk, idx t]
theorem iblk2 (t : Fin cfg0.N) (r : Fin 120) (d : Fin 128) : (show FVec Ideal S120x128 .f32 from iblk m c 2 t) (ix2 r d) = blkM m c (ix2 r d) := by
  rw [← hostM]; blk_ext [iblk, idx t]
theorem iblk3 (t : Fin cfg0.N) (r : Fin 120) (d : Fin 128) : (show FVec Ideal S120x128 .f32 from iblk m c 3 t) (ix2 r d) = blkE m c (ix2 r d) := by
  rw [← hostE]; blk_ext [iblk, idx t]

/-! ## The call's results, as arrays -/

/-- The step on the blocks. -/
def res (m : (ℓ : Loc nD τ sig) → Buf (Elt Ideal) ℓ) (c : Dev nD) :
    FVec Ideal S120x128 .f32 × FVec Ideal S120x128 .f32 × FVec Ideal S120x128 .f32 × FVec Ideal S120x128 .f32 :=
  step (blkW m c) (blkG m c) (blkM m c) (blkE m c)

theorem array5 : (dats m 0 c).arrAt 5 (cfgs 0).N = (res m c).2.1 := by
  refine (dats m 0 c).arrAt_eq_of_covers 5 _ (by decide +kernel) fun t _ y => ?_
  blk_simp
  rw [after0_5]
  refine (congrArg _ (eq_ix2 y)).trans ((body5 (iblk m c 0 t) (iblk m c 2 t) (iblk m c 3 t) (iblk m c 1 t) (y 0) (y 1)).trans ((congr (congr (congrArg₂ delta (iblk0 t _ _) (iblk1 t _ _)) (iblk2 t _ _)) (iblk3 t _ _)).trans ?_))
  refine at2 (res m c).2.1 (i := ix2 (y 0) (y 1)) ?_ ?_ <;> blk_simp [idx t] <;> (try omega)

theorem array6 : (dats m 0 c).arrAt 6 (cfgs 0).N = (res m c).2.2.1 := by
  refine (dats m 0 c).arrAt_eq_of_covers 6 _ (by decide +kernel) fun t _ y => ?_
  blk_simp
  rw [after0_6]
  refine (congrArg _ (eq_ix2 y)).trans ((body6 (iblk m c 0 t) (iblk m c 2 t) (iblk m c 3 t) (iblk m c 1 t) (y 0) (y 1)).trans ((congrArg₂ fst (iblk1 t _ _) (iblk2 t _ _)).trans ?_))
  refine at2 (res m c).2.2.1 (i := ix2 (y 0) (y 1)) ?_ ?_ <;> blk_simp [idx t] <;> (try omega)

theorem array7 : (dats m 0 c).arrAt 7 (cfgs 0).N = (res m c).2.2.2 := by
  refine (dats m 0 c).arrAt_eq_of_covers 7 _ (by decide +kernel) fun t _ y => ?_
  blk_simp
  rw [after0_7]
  refine (congrArg _ (eq_ix2 y)).trans ((body7 (iblk m c 0 t) (iblk m c 2 t) (iblk m c 3 t) (iblk m c 1 t) (y 0) (y 1)).trans ((congrArg₂ snd (iblk1 t _ _) (iblk3 t _ _)).trans ?_))
  refine at2 (res m c).2.2.2 (i := ix2 (y 0) (y 1)) ?_ ?_ <;> blk_simp [idx t] <;> (try omega)

/-! ## The lines after the call: each result is its part of the block -/

section After
variable (U : Valuation τ sig (Elt Ideal))

theorem cuts1 : StableHlo.after hostOps1 U (Proc.devRef .tc main_v64) = out0 (U (Proc.devRef .tc main_v43_1))
    ∧ StableHlo.after hostOps1 U (Proc.devRef .tc main_v66) = out1 (U (Proc.devRef .tc main_v43_1))
    ∧ StableHlo.after hostOps1 U (Proc.devRef .tc main_v68) = out2 (U (Proc.devRef .tc main_v43_1))
    ∧ StableHlo.after hostOps1 U (Proc.devRef .tc main_v70) = out3 (U (Proc.devRef .tc main_v43_1))
    ∧ StableHlo.after hostOps1 U (Proc.devRef .tc main_v71) = out4 (U (Proc.devRef .tc main_v43_1))
    ∧ StableHlo.after hostOps1 U (Proc.devRef .tc main_v73) = out5 (U (Proc.devRef .tc main_v43_1))
    ∧ StableHlo.after hostOps1 U (Proc.devRef .tc main_v75) = out6 (U (Proc.devRef .tc main_v43_1))
    ∧ StableHlo.after hostOps1 U (Proc.devRef .tc main_v77) = out7 (U (Proc.devRef .tc main_v43_1)) := by
  refine ⟨?_, ?_, ?_, ?_, ?_, ?_, ?_, ?_⟩ <;> (after_reads_simp; rfl)
theorem cuts2 : StableHlo.after hostOps1 U (Proc.devRef .tc main_v82) = out0 (U (Proc.devRef .tc main_v43_2))
    ∧ StableHlo.after hostOps1 U (Proc.devRef .tc main_v84) = out1 (U (Proc.devRef .tc main_v43_2))
    ∧ StableHlo.after hostOps1 U (Proc.devRef .tc main_v86) = out2 (U (Proc.devRef .tc main_v43_2))
    ∧ StableHlo.after hostOps1 U (Proc.devRef .tc main_v88) = out3 (U (Proc.devRef .tc main_v43_2))
    ∧ StableHlo.after hostOps1 U (Proc.devRef .tc main_v89) = out4 (U (Proc.devRef .tc main_v43_2))
    ∧ StableHlo.after hostOps1 U (Proc.devRef .tc main_v91) = out5 (U (Proc.devRef .tc main_v43_2))
    ∧ StableHlo.after hostOps1 U (Proc.devRef .tc main_v93) = out6 (U (Proc.devRef .tc main_v43_2))
    ∧ StableHlo.after hostOps1 U (Proc.devRef .tc main_v95) = out7 (U (Proc.devRef .tc main_v43_2)) := by
  refine ⟨?_, ?_, ?_, ?_, ?_, ?_, ?_, ?_⟩ <;> (after_reads_simp; rfl)
theorem cuts3 : StableHlo.after hostOps1 U (Proc.devRef .tc main_v100) = out0 (U (Proc.devRef .tc main_v43_3))
    ∧ StableHlo.after hostOps1 U (Proc.devRef .tc main_v102) = out1 (U (Proc.devRef .tc main_v43_3))
    ∧ StableHlo.after hostOps1 U (Proc.devRef .tc main_v104) = out2 (U (Proc.devRef .tc main_v43_3))
    ∧ StableHlo.after hostOps1 U (Proc.devRef .tc main_v106) = out3 (U (Proc.devRef .tc main_v43_3))
    ∧ StableHlo.after hostOps1 U (Proc.devRef .tc main_v107) = out4 (U (Proc.devRef .tc main_v43_3))
    ∧ StableHlo.after hostOps1 U (Proc.devRef .tc main_v109) = out5 (U (Proc.devRef .tc main_v43_3))
    ∧ StableHlo.after hostOps1 U (Proc.devRef .tc main_v111) = out6 (U (Proc.devRef .tc main_v43_3))
    ∧ StableHlo.after hostOps1 U (Proc.devRef .tc main_v113) = out7 (U (Proc.devRef .tc main_v43_3)) := by
  refine ⟨?_, ?_, ?_, ?_, ?_, ?_, ?_, ?_⟩ <;> (after_reads_simp; rfl)

end After

/-- What the lines after the call find in the call's results. -/
def left (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem distinct : Function.Injective (Pipeline.arrRef (cfgs 0).spec) := by decide +kernel

theorem left1 : left m c (Proc.devRef .tc main_v43_1) = (res m c).2.1 := (Pipeline.withArrays_arr _ distinct c _ _ 5).trans array5
theorem left2 : left m c (Proc.devRef .tc main_v43_2) = (res m c).2.2.1 := (Pipeline.withArrays_arr _ distinct c _ _ 6).trans array6
theorem left3 : left m c (Proc.devRef .tc main_v43_3) = (res m c).2.2.2 := (Pipeline.withArrays_arr _ distinct c _ _ 7).trans array7

theorem tail_eq (b : Ref sig .tc) : Pipeline.afterTail₀ cfgs (dats m) 0 (V0 m) [hostOps1] c b = StableHlo.after hostOps1 (left m c) (Proc.devRef .tc b) := by
  unfold Pipeline.afterTail₀ left
  rw [List.flatten_cons, List.flatten_nil, List.append_nil]

/-! ## The parts of the step are the steps of the parts -/

/-- The step at parameter 0. -/
def part0 (m : (ℓ : Loc nD τ sig) → Buf (Elt Ideal) ℓ) (c : Dev nD) : FVec Ideal S1x9216 .f32 × FVec Ideal S1x9216 .f32 × FVec Ideal S1x9216 .f32 × FVec Ideal S1x9216 .f32 :=
  step (S := S1x9216) (arg m c main_arg1) (arg m c main_arg9) (arg m c main_arg17) (arg m c main_arg25)
theorem step0 : step (out0 (blkW m c)) (out0 (blkG m c)) (out0 (blkM m c)) (out0 (blkE m c)) = part0 m c := by
  unfold blkW blkG blkM blkE part0; rw [out0_pack, out0_pack, out0_pack, out0_pack]
theorem read0 : (out0 (res m c).2.1, out0 (res m c).2.2.1, out0 (res m c).2.2.2) = (part0 m c).2 := Eq.trans rfl (congrArg Prod.snd step0)

/-- The step at parameter 1. -/
def part1 (m : (ℓ : Loc nD τ sig) → Buf (Elt Ideal) ℓ) (c : Dev nD) : FVec Ideal S1x1024 .f32 × FVec Ideal S1x1024 .f32 × FVec Ideal S1x1024 .f32 × FVec Ideal S1x1024 .f32 :=
  step (S := S1x1024) (arg m c main_arg2) (arg m c main_arg10) (arg m c main_arg18) (arg m c main_arg26)
theorem step1 : step (out1 (blkW m c)) (out1 (blkG m c)) (out1 (blkM m c)) (out1 (blkE m c)) = part1 m c := by
  unfold blkW blkG blkM blkE part1; rw [out1_pack, out1_pack, out1_pack, out1_pack]
theorem read1 : (out1 (res m c).2.1, out1 (res m c).2.2.1, out1 (res m c).2.2.2) = (part1 m c).2 := Eq.trans rfl (congrArg Prod.snd step1)

/-- The step at parameter 2. -/
def part2 (m : (ℓ : Loc nD τ sig) → Buf (Elt Ideal) ℓ) (c : Dev nD) : FVec Ideal S1x1024 .f32 × FVec Ideal S1x1024 .f32 × FVec Ideal S1x1024 .f32 × FVec Ideal S1x1024 .f32 :=
  step (S := S1x1024) (arg m c main_arg3) (arg m c main_arg11) (arg m c main_arg19) (arg m c main_arg27)
theorem step2 : step (out2 (blkW m c)) (out2 (blkG m c)) (out2 (blkM m c)) (out2 (blkE m c)) = part2 m c := by
  unfold blkW blkG blkM blkE part2; rw [out2_pack, out2_pack, out2_pack, out2_pack]
theorem read2 : (out2 (res m c).2.1, out2 (res m c).2.2.1, out2 (res m c).2.2.2) = (part2 m c).2 := Eq.trans rfl (congrArg Prod.snd step2)

/-- The step at parameter 3. -/
def part3 (m : (ℓ : Loc nD τ sig) → Buf (Elt Ideal) ℓ) (c : Dev nD) : FVec Ideal S1x1024 .f32 × FVec Ideal S1x1024 .f32 × FVec Ideal S1x1024 .f32 × FVec Ideal S1x1024 .f32 :=
  step (S := S1x1024) (arg m c main_arg4) (arg m c main_arg12) (arg m c main_arg20) (arg m c main_arg28)
theorem step3 : step (out3 (blkW m c)) (out3 (blkG m c)) (out3 (blkM m c)) (out3 (blkE m c)) = part3 m c := by
  unfold blkW blkG blkM blkE part3; rw [out3_pack, out3_pack, out3_pack, out3_pack]
theorem read3 : (out3 (res m c).2.1, out3 (res m c).2.2.1, out3 (res m c).2.2.2) = (part3 m c).2 := Eq.trans rfl (congrArg Prod.snd step3)

/-- The step at parameter 4. -/
def part4 (m : (ℓ : Loc nD τ sig) → Buf (Elt Ideal) ℓ) (c : Dev nD) : FVec Ideal S1024 .f32 × FVec Ideal S1024 .f32 × FVec Ideal S1024 .f32 × FVec Ideal S1024 .f32 :=
  step (S := S1024) (arg m c main_arg5) (arg m c main_arg13) (arg m c main_arg21) (arg m c main_arg29)
theorem step4 : step (out4 (blkW m c)) (out4 (blkG m c)) (out4 (blkM m c)) (out4 (blkE m c)) = part4 m c := by
  unfold blkW blkG blkM blkE part4; rw [out4_pack, out4_pack, out4_pack, out4_pack]
theorem read4 : (out4 (res m c).2.1, out4 (res m c).2.2.1, out4 (res m c).2.2.2) = (part4 m c).2 := Eq.trans rfl (congrArg Prod.snd step4)

/-- The step at parameter 5. -/
def part5 (m : (ℓ : Loc nD τ sig) → Buf (Elt Ideal) ℓ) (c : Dev nD) : FVec Ideal S1x8x64 .f32 × FVec Ideal S1x8x64 .f32 × FVec Ideal S1x8x64 .f32 × FVec Ideal S1x8x64 .f32 :=
  step (S := S1x8x64) (arg m c main_arg6) (arg m c main_arg14) (arg m c main_arg22) (arg m c main_arg30)
theorem step5 : step (out5 (blkW m c)) (out5 (blkG m c)) (out5 (blkM m c)) (out5 (blkE m c)) = part5 m c := by
  unfold blkW blkG blkM blkE part5; rw [out5_pack, out5_pack, out5_pack, out5_pack]
theorem read5 : (out5 (res m c).2.1, out5 (res m c).2.2.1, out5 (res m c).2.2.2) = (part5 m c).2 := Eq.trans rfl (congrArg Prod.snd step5)

/-- The step at parameter 6. -/
def part6 (m : (ℓ : Loc nD τ sig) → Buf (Elt Ideal) ℓ) (c : Dev nD) : FVec Ideal S1x8x64 .f32 × FVec Ideal S1x8x64 .f32 × FVec Ideal S1x8x64 .f32 × FVec Ideal S1x8x64 .f32 :=
  step (S := S1x8x64) (arg m c main_arg7) (arg m c main_arg15) (arg m c main_arg23) (arg m c main_arg31)
theorem step6 : step (out6 (blkW m c)) (out6 (blkG m c)) (out6 (blkM m c)) (out6 (blkE m c)) = part6 m c := by
  unfold blkW blkG blkM blkE part6; rw [out6_pack, out6_pack, out6_pack, out6_pack]
theorem read6 : (out6 (res m c).2.1, out6 (res m c).2.2.1, out6 (res m c).2.2.2) = (part6 m c).2 := Eq.trans rfl (congrArg Prod.snd step6)

/-- The step at parameter 7. -/
def part7 (m : (ℓ : Loc nD τ sig) → Buf (Elt Ideal) ℓ) (c : Dev nD) : FVec Ideal S32x8 .f32 × FVec Ideal S32x8 .f32 × FVec Ideal S32x8 .f32 × FVec Ideal S32x8 .f32 :=
  step (S := S32x8) (arg m c main_arg8) (arg m c main_arg16) (arg m c main_arg24) (arg m c main_arg32)
theorem step7 : step (out7 (blkW m c)) (out7 (blkG m c)) (out7 (blkM m c)) (out7 (blkE m c)) = part7 m c := by
  unfold blkW blkG blkM blkE part7; rw [out7_pack, out7_pack, out7_pack, out7_pack]
theorem read7 : (out7 (res m c).2.1, out7 (res m c).2.2.1, out7 (res m c).2.2.2) = (part7 m c).2 := Eq.trans rfl (congrArg Prod.snd step7)

/-- Kernel and reference end with equal results. -/
theorem algebraic : Cert.algebraic_Kernel21Ideal_Reference21Ideal := by
  intro m n m' n' _ hagree
  refine ⟨fun c => (part0 m c).2.1, fun c => (part1 m c).2.1, fun c => (part2 m c).2.1, fun c => (part3 m c).2.1, fun c => (part4 m c).2.1, fun c => (part5 m c).2.1, fun c => (part6 m c).2.1, fun c => (part7 m c).2.1, fun c => (part0 m c).2.2.1, fun c => (part1 m c).2.2.1, fun c => (part2 m c).2.2.1, fun c => (part3 m c).2.2.1, fun c => (part4 m c).2.2.1, fun c => (part5 m c).2.2.1, fun c => (part6 m c).2.2.1, fun c => (part7 m c).2.2.1, fun c => (part0 m c).2.2.2, fun c => (part1 m c).2.2.2, fun c => (part2 m c).2.2.2, fun c => (part3 m c).2.2.2, fun c => (part4 m c).2.2.2, fun c => (part5 m c).2.2.2, fun c => (part6 m c).2.2.2, fun c => (part7 m c).2.2.2, ?_, ?_⟩
  · refine (θ_run _ _ _).mono (fun r h c => ?_) (run_main (F := Ideal) m n)
    have rd : ∀ b : Ref sig .tc, b ∈ Pipeline.restRefs sig (cfgs 0).spec → r.2.mem ((c.tc : Thread nD τ).loc b) = StableHlo.after hostOps1 (left m c) (Proc.devRef .tc b) :=
      fun b hb => ((h c).2 b hb).trans (tail_eq b)
    have kp : ∀ b : Ref sig .tc, b ∈ Pipeline.restRefs sig (cfgs 0).spec → Pipeline.afterTail₀ cfgs (dats m) 0 (V0 m) [hostOps1] c b = m ((c.tc : Thread nD τ).loc b)
        → r.2.mem ((c.tc : Thread nD τ).loc b) = m ((c.tc : Thread nD τ).loc b) := fun b hb e => ((h c).2 b hb).trans e
    exact ⟨(rd main_v64 (Pipeline.mem_restRefs_of main_v64 (by decide) (by decide))).trans ((cuts1 _).1.trans ((congrArg out0 left1).trans (congrArg (·.1) read0))),
      (rd main_v66 (Pipeline.mem_restRefs_of main_v66 (by decide) (by decide))).trans ((cuts1 _).2.1.trans ((congrArg out1 left1).trans (congrArg (·.1) read1))),
      (rd main_v68 (Pipeline.mem_restRefs_of main_v68 (by decide) (by decide))).trans ((cuts1 _).2.2.1.trans ((congrArg out2 left1).trans (congrArg (·.1) read2))),
      (rd main_v70 (Pipeline.mem_restRefs_of main_v70 (by decide) (by decide))).trans ((cuts1 _).2.2.2.1.trans ((congrArg out3 left1).trans (congrArg (·.1) read3))),
      (rd main_v71 (Pipeline.mem_restRefs_of main_v71 (by decide) (by decide))).trans ((cuts1 _).2.2.2.2.1.trans ((congrArg out4 left1).trans (congrArg (·.1) read4))),
      (rd main_v73 (Pipeline.mem_restRefs_of main_v73 (by decide) (by decide))).trans ((cuts1 _).2.2.2.2.2.1.trans ((congrArg out5 left1).trans (congrArg (·.1) read5))),
      (rd main_v75 (Pipeline.mem_restRefs_of main_v75 (by decide) (by decide))).trans ((cuts1 _).2.2.2.2.2.2.1.trans ((congrArg out6 left1).trans (congrArg (·.1) read6))),
      (rd main_v77 (Pipeline.mem_restRefs_of main_v77 (by decide) (by decide))).trans ((cuts1 _).2.2.2.2.2.2.2.trans ((congrArg out7 left1).trans (congrArg (·.1) read7))),
      (rd main_v82 (Pipeline.mem_restRefs_of main_v82 (by decide) (by decide))).trans ((cuts2 _).1.trans ((congrArg out0 left2).trans (congrArg (·.2.1) read0))),
      (rd main_v84 (Pipeline.mem_restRefs_of main_v84 (by decide) (by decide))).trans ((cuts2 _).2.1.trans ((congrArg out1 left2).trans (congrArg (·.2.1) read1))),
      (rd main_v86 (Pipeline.mem_restRefs_of main_v86 (by decide) (by decide))).trans ((cuts2 _).2.2.1.trans ((congrArg out2 left2).trans (congrArg (·.2.1) read2))),
      (rd main_v88 (Pipeline.mem_restRefs_of main_v88 (by decide) (by decide))).trans ((cuts2 _).2.2.2.1.trans ((congrArg out3 left2).trans (congrArg (·.2.1) read3))),
      (rd main_v89 (Pipeline.mem_restRefs_of main_v89 (by decide) (by decide))).trans ((cuts2 _).2.2.2.2.1.trans ((congrArg out4 left2).trans (congrArg (·.2.1) read4))),
      (rd main_v91 (Pipeline.mem_restRefs_of main_v91 (by decide) (by decide))).trans ((cuts2 _).2.2.2.2.2.1.trans ((congrArg out5 left2).trans (congrArg (·.2.1) read5))),
      (rd main_v93 (Pipeline.mem_restRefs_of main_v93 (by decide) (by decide))).trans ((cuts2 _).2.2.2.2.2.2.1.trans ((congrArg out6 left2).trans (congrArg (·.2.1) read6))),
      (rd main_v95 (Pipeline.mem_restRefs_of main_v95 (by decide) (by decide))).trans ((cuts2 _).2.2.2.2.2.2.2.trans ((congrArg out7 left2).trans (congrArg (·.2.1) read7))),
      (rd main_v100 (Pipeline.mem_restRefs_of main_v100 (by decide) (by decide))).trans ((cuts3 _).1.trans ((congrArg out0 left3).trans (congrArg (·.2.2) read0))),
      (rd main_v102 (Pipeline.mem_restRefs_of main_v102 (by decide) (by decide))).trans ((cuts3 _).2.1.trans ((congrArg out1 left3).trans (congrArg (·.2.2) read1))),
      (rd main_v104 (Pipeline.mem_restRefs_of main_v104 (by decide) (by decide))).trans ((cuts3 _).2.2.1.trans ((congrArg out2 left3).trans (congrArg (·.2.2) read2))),
      (rd main_v106 (Pipeline.mem_restRefs_of main_v106 (by decide) (by decide))).trans ((cuts3 _).2.2.2.1.trans ((congrArg out3 left3).trans (congrArg (·.2.2) read3))),
      (rd main_v107 (Pipeline.mem_restRefs_of main_v107 (by decide) (by decide))).trans ((cuts3 _).2.2.2.2.1.trans ((congrArg out4 left3).trans (congrArg (·.2.2) read4))),
      (rd main_v109 (Pipeline.mem_restRefs_of main_v109 (by decide) (by decide))).trans ((cuts3 _).2.2.2.2.2.1.trans ((congrArg out5 left3).trans (congrArg (·.2.2) read5))),
      (rd main_v111 (Pipeline.mem_restRefs_of main_v111 (by decide) (by decide))).trans ((cuts3 _).2.2.2.2.2.2.1.trans ((congrArg out6 left3).trans (congrArg (·.2.2) read6))),
      (rd main_v113 (Pipeline.mem_restRefs_of main_v113 (by decide) (by decide))).trans ((cuts3 _).2.2.2.2.2.2.2.trans ((congrArg out7 left3).trans (congrArg (·.2.2) read7))),
      kp main_arg0 (Pipeline.mem_restRefs_of main_arg0 (by decide) (by decide)) (W_main_arg0 m (dats m) c),
      kp main_arg1 (Pipeline.mem_restRefs_of main_arg1 (by decide) (by decide)) (W_main_arg1 m (dats m) c),
      kp main_arg2 (Pipeline.mem_restRefs_of main_arg2 (by decide) (by decide)) (W_main_arg2 m (dats m) c),
      kp main_arg3 (Pipeline.mem_restRefs_of main_arg3 (by decide) (by decide)) (W_main_arg3 m (dats m) c),
      kp main_arg4 (Pipeline.mem_restRefs_of main_arg4 (by decide) (by decide)) (W_main_arg4 m (dats m) c),
      kp main_arg5 (Pipeline.mem_restRefs_of main_arg5 (by decide) (by decide)) (W_main_arg5 m (dats m) c),
      kp main_arg6 (Pipeline.mem_restRefs_of main_arg6 (by decide) (by decide)) (W_main_arg6 m (dats m) c),
      kp main_arg7 (Pipeline.mem_restRefs_of main_arg7 (by decide) (by decide)) (W_main_arg7 m (dats m) c),
      kp main_arg8 (Pipeline.mem_restRefs_of main_arg8 (by decide) (by decide)) (W_main_arg8 m (dats m) c),
      kp main_arg9 (Pipeline.mem_restRefs_of main_arg9 (by decide) (by decide)) (W_main_arg9 m (dats m) c),
      kp main_arg10 (Pipeline.mem_restRefs_of main_arg10 (by decide) (by decide)) (W_main_arg10 m (dats m) c),
      kp main_arg11 (Pipeline.mem_restRefs_of main_arg11 (by decide) (by decide)) (W_main_arg11 m (dats m) c),
      kp main_arg12 (Pipeline.mem_restRefs_of main_arg12 (by decide) (by decide)) (W_main_arg12 m (dats m) c),
      kp main_arg13 (Pipeline.mem_restRefs_of main_arg13 (by decide) (by decide)) (W_main_arg13 m (dats m) c),
      kp main_arg14 (Pipeline.mem_restRefs_of main_arg14 (by decide) (by decide)) (W_main_arg14 m (dats m) c),
      kp main_arg15 (Pipeline.mem_restRefs_of main_arg15 (by decide) (by decide)) (W_main_arg15 m (dats m) c),
      kp main_arg16 (Pipeline.mem_restRefs_of main_arg16 (by decide) (by decide)) (W_main_arg16 m (dats m) c),
      kp main_arg17 (Pipeline.mem_restRefs_of main_arg17 (by decide) (by decide)) (W_main_arg17 m (dats m) c),
      kp main_arg18 (Pipeline.mem_restRefs_of main_arg18 (by decide) (by decide)) (W_main_arg18 m (dats m) c),
      kp main_arg19 (Pipeline.mem_restRefs_of main_arg19 (by decide) (by decide)) (W_main_arg19 m (dats m) c),
      kp main_arg20 (Pipeline.mem_restRefs_of main_arg20 (by decide) (by decide)) (W_main_arg20 m (dats m) c),
      kp main_arg21 (Pipeline.mem_restRefs_of main_arg21 (by decide) (by decide)) (W_main_arg21 m (dats m) c),
      kp main_arg22 (Pipeline.mem_restRefs_of main_arg22 (by decide) (by decide)) (W_main_arg22 m (dats m) c),
      kp main_arg23 (Pipeline.mem_restRefs_of main_arg23 (by decide) (by decide)) (W_main_arg23 m (dats m) c),
      kp main_arg24 (Pipeline.mem_restRefs_of main_arg24 (by decide) (by decide)) (W_main_arg24 m (dats m) c),
      kp main_arg25 (Pipeline.mem_restRefs_of main_arg25 (by decide) (by decide)) (W_main_arg25 m (dats m) c),
      kp main_arg26 (Pipeline.mem_restRefs_of main_arg26 (by decide) (by decide)) (W_main_arg26 m (dats m) c),
      kp main_arg27 (Pipeline.mem_restRefs_of main_arg27 (by decide) (by decide)) (W_main_arg27 m (dats m) c),
      kp main_arg28 (Pipeline.mem_restRefs_of main_arg28 (by decide) (by decide)) (W_main_arg28 m (dats m) c),
      kp main_arg29 (Pipeline.mem_restRefs_of main_arg29 (by decide) (by decide)) (W_main_arg29 m (dats m) c),
      kp main_arg30 (Pipeline.mem_restRefs_of main_arg30 (by decide) (by decide)) (W_main_arg30 m (dats m) c),
      kp main_arg31 (Pipeline.mem_restRefs_of main_arg31 (by decide) (by decide)) (W_main_arg31 m (dats m) c),
      kp main_arg32 (Pipeline.mem_restRefs_of main_arg32 (by decide) (by decide)) (W_main_arg32 m (dats m) c)⟩
  · refine (θ_run _ _ _).mono (fun r h c => ?_) (Cert.Reference21Ideal.Value.run (F := Ideal) m' n')
    obtain ⟨h0, h1, h2, h3, h4, h5, h6, h7, h8, h9, h10, h11, h12, h13, h14, h15, h16, h17, h18, h19, h20, h21, h22, h23, h24, h25, h26, h27, h28, h29, h30, h31, h32⟩ := hagree c
    obtain ⟨e0, e1, e2, e3, e4, e5, e6, e7, e8, e9, e10, e11, e12, e13, e14, e15, e16, e17, e18, e19, e20, e21, e22, e23, e⟩ := h c
    replace e0 := e0.trans (Cert.Reference21Ideal.Read.val_main_v23_eq ..)
    replace e1 := e1.trans (Cert.Reference21Ideal.Read.val_main_v47_eq ..)
    replace e2 := e2.trans (Cert.Reference21Ideal.Read.val_main_v71_eq ..)
    replace e3 := e3.trans (Cert.Reference21Ideal.Read.val_main_v95_eq ..)
    replace e4 := e4.trans (Cert.Reference21Ideal.Read.val_main_v119_eq ..)
    replace e5 := e5.trans (Cert.Reference21Ideal.Read.val_main_v143_eq ..)
    replace e6 := e6.trans (Cert.Reference21Ideal.Read.val_main_v167_eq ..)
    replace e7 := e7.trans (Cert.Reference21Ideal.Read.val_main_v191_eq ..)
    replace e8 := e8.trans (Cert.Reference21Ideal.Read.val_main_v4_eq ..)
    replace e9 := e9.trans (Cert.Reference21Ideal.Read.val_main_v28_eq ..)
    replace e10 := e10.trans (Cert.Reference21Ideal.Read.val_main_v52_eq ..)
    replace e11 := e11.trans (Cert.Reference21Ideal.Read.val_main_v76_eq ..)
    replace e12 := e12.trans (Cert.Reference21Ideal.Read.val_main_v100_eq ..)
    replace e13 := e13.trans (Cert.Reference21Ideal.Read.val_main_v124_eq ..)
    replace e14 := e14.trans (Cert.Reference21Ideal.Read.val_main_v148_eq ..)
    replace e15 := e15.trans (Cert.Reference21Ideal.Read.val_main_v172_eq ..)
    replace e16 := e16.trans (Cert.Reference21Ideal.Read.val_main_v10_eq ..)
    replace e17 := e17.trans (Cert.Reference21Ideal.Read.val_main_v34_eq ..)
    replace e18 := e18.trans (Cert.Reference21Ideal.Read.val_main_v58_eq ..)
    replace e19 := e19.trans (Cert.Reference21Ideal.Read.val_main_v82_eq ..)
    replace e20 := e20.trans (Cert.Reference21Ideal.Read.val_main_v106_eq ..)
    replace e21 := e21.trans (Cert.Reference21Ideal.Read.val_main_v130_eq ..)
    replace e22 := e22.trans (Cert.Reference21Ideal.Read.val_main_v154_eq ..)
    replace e23 := e23.trans (Cert.Reference21Ideal.Read.val_main_v178_eq ..)
    simp only [h1, h2, h3, h4, h5, h6, h7, h8, h9, h10, h11, h12, h13, h14, h15, h16, h17, h18, h19, h20, h21, h22, h23, h24, h25, h26, h27, h28, h29, h30, h31, h32] at e0 e1 e2 e3 e4 e5 e6 e7 e8 e9 e10 e11 e12 e13 e14 e15 e16 e17 e18 e19 e20 e21 e22 e23
    exact ⟨e0.trans rfl, e1.trans rfl, e2.trans rfl, e3.trans rfl, e4.trans rfl, e5.trans rfl, e6.trans rfl, e7.trans rfl, e8.trans rfl, e9.trans rfl, e10.trans rfl, e11.trans rfl, e12.trans rfl, e13.trans rfl, e14.trans rfl, e15.trans rfl, e16.trans rfl, e17.trans rfl, e18.trans rfl, e19.trans rfl, e20.trans rfl, e21.trans rfl, e22.trans rfl, e23.trans rfl, e⟩

end Cert.Adam.Small
-- ==== Proof.Head.Reference.lean ====
/- The loss at the head of the step: rows of the residual stream, normalised with a gain, against a target.  The mean over the
   features of the squared distance, halved and summed over the tokens, with its gradients at the rows and at the gain; and the
   reference holds them. -/
module

public import proofs.«01_k».proof.Proof.Gen.Reference22Ideal.Read
public import proofs.«01_k».proof.Proof.Ffn.Reference
public import proofs.«01_k».proof.Proof.Tail.Row
public import Idealize.ShloMosaic.Lib.Pointwise

@[expose] public section

set_option maxRecDepth 16384

noncomputable section

namespace Cert.Head

open Idealize.ShloMosaic Idealize.ShloMosaic.TcCoe Cert.Reference22Ideal Cert.Reference22Ideal.Gen Cert.Reference22Ideal.Read
open Cert.Ffn (word_1024 word_eps word_neg_half word_half)
open Cert.Ffn.Ref (hostReduceAdd_two)
open Cert.Tail (sum_mul_real)

/-! ## The mathematics -/

/-- The arrays: the gated columns, the down projection, the residual stream, its gates, the norm's gain and the target. -/
structure Args where
  s : FVec Ideal S2x2048x2816 .f32
  w : FVec Ideal S2816x1024 .f32
  x : FVec Ideal S2x2048x1024 .f32
  gt : FVec Ideal S2x1024 .f32
  g : FVec Ideal S1024 .f32
  target : FVec Ideal S2x2048x1024 .f32

namespace Args

variable (A : Args)

/-- The product with the down projection. -/
def down (b : Fin 2) (t : Fin 2048) (d : Fin 1024) : EReal := ∑ k, A.s (ix3 b t k) * A.w (ix2 k d)
/-- The residual stream behind the half. -/
def stream : FVec Ideal S2x2048x1024 .f32 := fun i => A.x i + Ideal.ofBits .f32 0x3F000000#32 * A.gt (ix2 (i 0) (i 2)) * A.down (i 0) (i 1) (i 2)
/-- The stream's rows and the gain, without a gradient. -/
def base : Tail.In where
  x := A.stream
  g := A.g
  sc _ := 0
  ct _ := 0
  dh _ _ _ := 0
/-- The normalised row's distance from the target. -/
def err (b : Fin 2) (t : Fin 2048) (d : Fin 1024) : EReal := (A.base.row b t).ng d - A.target (ix3 b t d)
/-- The stream's rows and the gain, with the loss's gradient at the normalised rows: the distance over the number of features. -/
def inp : Tail.In := { A.base with dh := fun b t d => A.err b t d * ((1 / 1024 : ℝ) : EReal) }
/-- The loss: half of the mean over the features of the squared distance, summed over the tokens. -/
def loss : EReal := (∑ b, ∑ t, ∑ d, A.err b t d * A.err b t d) * ((1 / 2048 : ℝ) : EReal)

theorem dy_eq (b : Fin 2) (t : Fin 2048) (d : Fin 1024) : (A.inp.row b t).dy d = A.err b t d * ((1 / 1024 : ℝ) : EReal) := by
  show _ * (1 + (0 : EReal)) = _
  rw [add_zero, mul_one]; rfl

end Args

/-! ## What the reference's arrays hold -/

theorem word_two : Ideal.ofBits .f32 0x40000000#32 = ((2 : ℝ) : EReal) := by
  simp [Ideal.ofBits, Ideal.ieee, -EReal.coe_mul]; norm_num

variable (A : Args)

theorem v0_at (b : Fin 2) (t : Fin 2048) (d : Fin 1024) : val_main_v0 (F := Ideal) A.s A.w (ix3 b t d) = A.down b t d := by
  pointwise [val_main_v0]; rfl

theorem v6_at (b : Fin 2) (t : Fin 2048) (d : Fin 1024) : val_main_v6 (F := Ideal) A.s A.w A.x A.gt (ix3 b t d) = A.stream (ix3 b t d) := by
  pointwise [val_main_v6, val_main_v5, val_main_v4, val_main_v3, val_main_v2, val_main_v1, val_main_cst]
  rw [v0_at]; rfl

theorem v6_eq : val_main_v6 (F := Ideal) A.s A.w A.x A.gt = A.stream :=
  funext fun i => (congrArg _ (eq_ix3 i)).trans ((v6_at A (i 0) (i 1) (i 2)).trans (congrArg _ (eq_ix3 i).symm))

theorem ms_at (b : Fin 2) (t : Fin 2048) (z : Fin 1) : val_main_v13 (F := Ideal) A.s A.w A.x A.gt (ix3 b t z) = (A.inp.row b t).ms := by
  pointwise [val_main_v13, val_main_v12, val_main_v11, val_main_v10, val_main_v9, val_main_v8, val_main_v7, val_main_cst_0, val_main_cst_1, val_main_cst_2]
  rw [v6_eq, word_1024, word_eps]
  rfl

theorem r_at (b : Fin 2) (t : Fin 2048) (z : Fin 1) : val_main_v14 (F := Ideal) A.s A.w A.x A.gt (ix3 b t z) = (A.inp.row b t).r :=
  congrArg Ideal.rsqrt (ms_at A b t z)

theorem root_at (b : Fin 2) (t : Fin 2048) (z : Fin 1) : val_main_v17 (F := Ideal) A.s A.w A.x A.gt (ix3 b t z) = (A.inp.row b t).root := by
  pointwise [val_main_v17, val_main_v16, val_main_v15, val_main_cst_3]
  rw [word_neg_half, r_at, ms_at]
  rfl

theorem n_at (b : Fin 2) (t : Fin 2048) (d : Fin 1024) : val_main_v19 (F := Ideal) A.s A.w A.x A.gt (ix3 b t d) = (A.inp.row b t).n d := by
  pointwise [val_main_v19, val_main_v18]
  rw [r_at, v6_at]; rfl

theorem err_at (b : Fin 2) (t : Fin 2048) (d : Fin 1024) :
    val_main_v23 (F := Ideal) A.s A.w A.x A.gt A.g A.target (ix3 b t d) = A.err b t d := by
  pointwise [val_main_v23, val_main_v22, val_main_v21, val_main_v20]
  rw [n_at]; rfl

/-- Half of twice a distance over the number of features. -/
theorem half_twice (y : EReal) : Ideal.div ((1 / 2 : ℝ) : EReal) ((1024 : ℝ) : EReal) * (((2 : ℝ) : EReal) * y) = y * ((1 / 1024 : ℝ) : EReal) := by
  rw [Ideal.div_coe (by norm_num), ← mul_assoc, ← EReal.coe_mul, ← EReal.coe_mul, mul_comm]
  congr 2
  norm_num

theorem dy_at (b : Fin 2) (t : Fin 2048) (d : Fin 1024) :
    val_main_v37 (F := Ideal) A.s A.w A.x A.gt A.g A.target (ix3 b t d) = (A.inp.row b t).dy d := by
  pointwise [val_main_v37, val_main_v36, val_main_v35, val_main_v34, val_main_v33, val_main_v32, val_main_v26, val_main_v25, val_main_cst_4, val_main_cst_9,
    val_main_cst_10, val_main_cst_11]
  rw [err_at, word_half, word_1024, word_two, half_twice, A.dy_eq]

theorem dn_at (b : Fin 2) (t : Fin 2048) (d : Fin 1024) :
    val_main_v42 (F := Ideal) A.s A.w A.x A.gt A.g A.target (ix3 b t d) = (A.inp.row b t).dn d := by
  pointwise [val_main_v42, val_main_v41, val_main_v20]
  rw [dy_at]; rfl

theorem dg_at (z : Fin 1) (d : Fin 1024) : val_main_v61 (F := Ideal) A.s A.w A.x A.gt A.g A.target (ix2 z d) = A.inp.dg d := by
  pointwise [val_main_v61, val_main_v43, val_main_v40, val_main_v39, val_main_cst_12, val_main_cst_13]
  simp only [Host.reduceAdd, Ideal.hostReduceAdd_def]
  rw [hostReduceAdd_two _ (fun _ => rfl)]
  rw [Fin.sum_univ_one, Fin.sum_univ_one, zero_add]
  have e : ∀ w : FVec Ideal S1024 .f32, shapeCast S1x1x1024 w shapeCasts_S1024_S1x1x1024 (ix3 0 0 d) = w (ix1 d) := fun w => by pointwise []
  refine (e _).trans ?_
  rw [hostReduceAdd_two _ (fun _ => rfl)]
  rw [show (constant S_ .f32 0x00000000#32 : FVec Ideal S_ .f32) (Shape.Idx.first h_S_) = 0 from Ideal.ofBits_zero_f32, zero_add]
  unfold Tail.In.dg
  refine Finset.sum_congr rfl fun b _ => Finset.sum_congr rfl fun t _ => ?_
  show _ * _ = _
  refine (congrArg₂ (· * ·) (n_at A b t d) (dy_at A b t d)).trans ?_
  rw [mul_comm]

theorem through_at (b : Fin 2) (t : Fin 2048) (d : Fin 1024) :
    val_main_v53 (F := Ideal) A.s A.w A.x A.gt A.g A.target (ix3 b t d) = (A.inp.row b t).through := by
  have e : (∑ e : Fin 1024, A.stream (ix3 b t e) * val_main_v42 (F := Ideal) A.s A.w A.x A.gt A.g A.target (ix3 b t e) : EReal)
      = ∑ e, (A.inp.row b t).x e * (A.inp.row b t).dn e :=
    Finset.sum_congr (M := EReal) rfl fun e _ => by rw [dn_at]; rfl
  pointwise [val_main_v53, val_main_v52, val_main_v51, val_main_v50, val_main_v49, val_main_v46, val_main_v45, val_main_v44, val_main_cst_14, val_main_cst_15,
    val_main_cst_16]
  simp only [Fin.sum_univ_one]
  rw [v6_eq, e, root_at, word_1024]
  rfl

theorem dx_at (t : Fin 4096) (d : Fin 1024) : val_main_v60 (F := Ideal) A.s A.w A.x A.gt A.g A.target (ix2 t d) = (A.inp.tok t).dx d := by
  pointwise [val_main_v60, val_main_v57, val_main_v56, val_main_v55, val_main_v54, val_main_v48, val_main_v47]
  rw [dn_at, through_at, r_at, v6_at]
  refine Eq.trans ?_ ((A.inp.tok t).dx_chain d)
  rw [show (A.inp.tok t).ct d = 0 from rfl, zero_add]
  rfl

theorem f_at (t : Fin 4096) (d : Fin 1024) :
    val_main_v59 (F := Ideal) A.s A.w (ix2 t d) = A.down ⟨t.val / 2048, by omega⟩ ⟨t.val % 2048, by omega⟩ d := by
  pointwise [val_main_v59, val_main_v58]
  exact v0_at A _ _ d

theorem loss_at (z : Fin 1) (l : Fin 128) : val_main_v62 (F := Ideal) A.s A.w A.x A.gt A.g A.target (ix2 z l) = A.loss := by
  pointwise [val_main_v62, val_main_v31, val_main_v30, val_main_v29, val_main_v28, val_main_v27, val_main_v24, val_main_cst_5, val_main_cst_6, val_main_cst_7,
    val_main_cst_8]
  rw [word_half, word_1024, mul_comm]
  simp only [err_at, Ideal.div_coe (show (1024 : ℝ) ≠ 0 by norm_num)]
  unfold Args.loss
  rw [Finset.sum_congr rfl fun b _ => (sum_mul_real Finset.univ (fun t => ∑ d, A.err b t d * A.err b t d) (by norm_num : (0 : ℝ) ≤ 1 / 1024)).symm,
    ← sum_mul_real Finset.univ _ (by norm_num : (0 : ℝ) ≤ 1 / 1024), mul_assoc, ← EReal.coe_mul]
  congr 2
  norm_num

end Cert.Head
end
-- ==== Proof.Head.Tile.lean ====
/- What one tile of 512 rows computes of the loss and its gradients: every value the body stores, read at a row and a column, is
   the row's own (`Head.Args`), or a sum of those over the tile.  Each lemma takes the blocks it reads as hypotheses. -/
module

public import proofs.«01_k».proof.Proof.Gen.Kernel22Ideal.Skeleton
public import proofs.«01_k».proof.Proof.FfnDown.Claim
public import proofs.«01_k».proof.Proof.Tail.Flat
public import proofs.«01_k».proof.Proof.Head.Reference

@[expose] public section

set_option maxRecDepth 16384

noncomputable section

namespace Cert.Head.Tile

open Idealize.ShloMosaic Idealize.ShloMosaic.TcCoe Cert.Kernel22Ideal Cert.Kernel22Ideal.Gen
open Cert.Ffn (word_1024 word_eps)
open Cert.Tail (tokOf rows)

theorem word_inv_1024 : Ideal.ofBits .f32 0x3A800000#32 = ((1 / 1024 : ℝ) : EReal) := by
  simp [Ideal.ofBits, Ideal.ieee, -EReal.coe_mul]; norm_num
theorem word_inv_2048 : Ideal.ofBits .f32 0x3A000000#32 = ((1 / 2048 : ℝ) : EReal) := by
  simp [Ideal.ofBits, Ideal.ieee, -EReal.coe_mul]; norm_num

/-- The distance at row `r` of tile `n`. -/
def dist (A : Args) (n : ℕ) (h : n < 8) (r : Fin 512) (d : Fin 1024) : EReal :=
  A.err ⟨(tokOf n h r).val / 2048, by omega⟩ ⟨(tokOf n h r).val % 2048, by omega⟩ d

/-- What the arrays one tile reads hold. -/
structure Reads (A : Args) (n : ℕ) (h : n < 8) (v22 v25 : FVec Ideal S512x1024 .f32) (v27 : FVec Ideal S1x1x1024 .f32) (v34 : FVec Ideal S1x1024 .f32)
    (v48 : FVec Ideal S512x1024 .f32) : Prop where
  x : ∀ r d, k0_pay8 (F := Ideal) v22 v25 v27 (ix2 r d) = (rows A.inp n h r).x d
  g : ∀ d, v34 (ix2 0 d) = A.g (ix1 d)
  target : ∀ r d, v48 (ix2 r d) = A.target (ix3 ⟨(tokOf n h r).val / 2048, by omega⟩ ⟨(tokOf n h r).val % 2048, by omega⟩ d)

/-- The stream at a tile's row, of the product, the stream before and the gates. -/
theorem stream_at (f x : FVec Ideal S512x1024 .f32) (g : FVec Ideal S1x1x1024 .f32) (r : Fin 512) (d : Fin 1024) :
    k0_pay8 (F := Ideal) f x g (ix2 r d) = x (ix2 r d) + Ideal.ofBits .f32 0x3F000000#32 * g (ix3 0 0 d) * f (ix2 r d) := by
  pointwise [k0_pay8]

/-- Four chips' products, added. -/
theorem prod_at (v0 v5 v11 v17 : FVec Ideal S1x512x704 .bf16) (v2 v7 v13 v19 : FVec Ideal S1x1x704x1024 .bf16) (r : Fin 512) (d : Fin 1024) :
    k0_pay6 (F := Ideal) v0 v2 v5 v7 v11 v13 v17 v19 (ix2 r d) = ∑ k, v0 (ix3 0 r k) * v2 (ix4 0 0 k d) + ∑ k, v5 (ix3 0 r k) * v7 (ix4 0 0 k d)
      + ∑ k, v11 (ix3 0 r k) * v13 (ix4 0 0 k d) + ∑ k, v17 (ix3 0 r k) * v19 (ix4 0 0 k d) := by
  pointwise [k0_pay6]

theorem gain_at (v34 : FVec Ideal S1x1024 .f32) (z : Fin 1) (d : Fin 1024) : k0_pay9 (F := Ideal) v34 (ix2 z d) = v34 (ix2 z d) := by
  pointwise [k0_pay9]
theorem gain_row_at (v34 : FVec Ideal S1x1024 .f32) (r : Fin 512) (d : Fin 1024) : k0_pay16 (F := Ideal) v34 (ix2 r d) = v34 (ix2 0 d) := by
  pointwise [k0_pay16]
  exact gain_at v34 0 d

variable {A : Args} {n : ℕ} {hn : n < 8} {v22 v25 v48 : FVec Ideal S512x1024 .f32} {v27 : FVec Ideal S1x1x1024 .f32} {v34 : FVec Ideal S1x1024 .f32}
  (h : Reads A n hn v22 v25 v27 v34 v48)
include h

theorem r_at (r) : k0_pay10 (F := Ideal) v22 v25 v27 (ix2 r 0) = (rows A.inp n hn r).r := by
  have e : (∑ d, k0_pay8 (F := Ideal) v22 v25 v27 (ix2 r d) * k0_pay8 (F := Ideal) v22 v25 v27 (ix2 r d) : EReal)
      = ∑ d, (rows A.inp n hn r).x d * (rows A.inp n hn r).x d :=
    Finset.sum_congr (M := EReal) rfl fun d _ => congrArg₂ (· * ·) (h.x r d) (h.x r d)
  pointwise [k0_pay10]
  rw [e, word_1024, word_eps]
  rfl

theorem n_at (r d) : k0_pay11 (F := Ideal) v22 v25 v27 (ix2 r d) = (rows A.inp n hn r).n d := by
  pointwise [k0_pay11]
  rw [h.x, r_at h]; rfl

theorem dist_at (r d) : k0_pay12 (F := Ideal) v22 v25 v27 v34 v48 (ix2 r d) = dist A n hn r d := by
  pointwise [k0_pay12]
  rw [n_at h, gain_at, h.g, h.target]; rfl

theorem dy_at (r d) : k0_pay13 (F := Ideal) v22 v25 v27 v34 v48 (ix2 r d) = (rows A.inp n hn r).dy d := by
  pointwise [k0_pay13]
  rw [dist_at h, word_inv_1024]
  exact (A.dy_eq _ _ d).symm

theorem dg_at (z : Fin 1) (d) : k0_pay14 (F := Ideal) v22 v25 v27 v34 v48 (ix2 z d) = ∑ r, (rows A.inp n hn r).dy d * (rows A.inp n hn r).n d := by
  pointwise [k0_pay14]
  exact Finset.sum_congr (M := EReal) rfl fun r _ => by rw [dy_at h, n_at h]

theorem dx_at (r d) : k0_pay1 (F := Ideal) (k0_pay10 v22 v25 v27) (k0_pay11 v22 v25 v27) (k0_pay13 v22 v25 v27 v34 v48) (k0_pay16 v34) (ix2 r d)
    = (rows A.inp n hn r).dx d := by
  have hdn : ∀ d, k0_pay13 (F := Ideal) v22 v25 v27 v34 v48 (ix2 r d) * k0_pay16 (F := Ideal) v34 (ix2 r d) = (rows A.inp n hn r).dn d := fun d => by
    rw [dy_at h, gain_row_at, h.g]; rfl
  have e : (∑ d, k0_pay13 (F := Ideal) v22 v25 v27 v34 v48 (ix2 r d) * k0_pay16 (F := Ideal) v34 (ix2 r d) * k0_pay11 (F := Ideal) v22 v25 v27 (ix2 r d) : EReal)
      = ∑ d, (rows A.inp n hn r).dn d * (rows A.inp n hn r).n d :=
    Finset.sum_congr (M := EReal) rfl fun d _ => congrArg₂ (· * ·) (hdn d) (n_at h r d)
  pointwise [k0_pay1]
  rw [e, hdn, n_at h, r_at h, word_1024]
  exact (zero_add _).symm

theorem square_at (z : Fin 1) (d) : k0_pay2 (F := Ideal) (k0_pay12 v22 v25 v27 v34 v48) (ix2 z d) = ∑ r, dist A n hn r d * dist A n hn r d := by
  pointwise [k0_pay2]
  exact Finset.sum_congr (M := EReal) rfl fun r _ => by rw [dist_at h]

omit h

/-! ## What is added at a tile to a sum over tokens -/

theorem pay15_eq (acc : FVec Ideal S1x1024 .f32) (i : S1x1024.Idx) :
    k0_pay15 (F := Ideal) v22 v25 v27 v34 v48 acc i = acc i + k0_pay14 (F := Ideal) v22 v25 v27 v34 v48 (ix2 0 (i 1)) := by
  idx_vars i; obtain rfl : i0 = 0 := Subsingleton.elim _ _
  pointwise [k0_pay15]
theorem pay3_eq (v50 : FVec Ideal S512x1024 .f32) (i : S1x1024.Idx) : k0_pay3 (F := Ideal) v50 i = k0_pay2 (F := Ideal) v50 (ix2 0 (i 1)) := by
  idx_vars i; obtain rfl : i0 = 0 := Subsingleton.elim _ _
  pointwise [k0_pay3]
theorem pay4_eq (v50 : FVec Ideal S512x1024 .f32) (acc : FVec Ideal S1x1024 .f32) (i : S1x1024.Idx) :
    k0_pay4 (F := Ideal) v50 acc i = acc i + k0_pay2 (F := Ideal) v50 (ix2 0 (i 1)) := by
  idx_vars i; obtain rfl : i0 = 0 := Subsingleton.elim _ _
  pointwise [k0_pay4]
theorem pay5_eq (acc : FVec Ideal S1x1024 .f32) (i : S1x128.Idx) : k0_pay5 (F := Ideal) acc i = (∑ d, acc (ix2 0 d)) * ((1 / 2048 : ℝ) : EReal) := by
  idx_vars i; obtain rfl : i0 = 0 := Subsingleton.elim _ _
  pointwise [k0_pay5]
  rw [word_inv_2048]

end Cert.Head.Tile
end
-- ==== Proof.Head.Outs.lean ====
/- What the body of the loss's kernel leaves in each output's buffer at a grid point: the tile's rows of the product and of the
   stream's gradient, and what the point before left of the sums over tokens plus the tile's own sums.  Tile `t` holds the 512
   tokens from `512 t` on. -/
module

public import proofs.«01_k».proof.Proof.Head.Tile
public import proofs.«01_k».proof.Proof.Gen.Kernel22Ideal.Value
public import Idealize.ShloMosaic.Lib.Pipeline.ValueKit

@[expose] public section

set_option maxRecDepth 16384

noncomputable section

namespace Cert.Head

open Idealize.ShloMosaic Idealize.ShloMosaic.TcCoe Cert.Kernel22Ideal Cert.Kernel22Ideal.Gen
open Cert.FfnW (col narrow wide cut)
open Cert.Ffn.Host (ld3)
open Cert.FfnDown (chips chips_at gates gates_at)
open Cert.Tail (tokOf rows flat flat_at gain gain_at)
open Cert.Head.Tile (dist Reads)

variable (m : (ℓ : Loc nD τ sig) → Buf (Elt Ideal) ℓ) (c : Dev nD)

/-- The argument arrays, as launched. -/
def args : Args where
  s := m (c, Proc.devRef .tc main_arg0)
  w := m (c, Proc.devRef .tc main_arg1)
  x := m (c, Proc.devRef .tc main_arg2)
  gt := m (c, Proc.devRef .tc main_arg3)
  g := m (c, Proc.devRef .tc main_arg4)
  target := m (c, Proc.devRef .tc main_arg5)

/-! ## The arrays and their blocks -/

theorem v2 : V m c main_v2 = cut (args m c).s := by
  show StableHlo.after hostOps0 (fun b => m (c, b)) (Proc.devRef .tc main_v2) = _
  after_reads_simp; rfl
theorem v4 : V m c main_v4 = chips (args m c).w := by
  show StableHlo.after hostOps0 (fun b => m (c, b)) (Proc.devRef .tc main_v4) = _
  after_reads_simp; rfl
theorem v5 : V m c main_v5 = flat (args m c).x := by
  show StableHlo.after hostOps0 (fun b => m (c, b)) (Proc.devRef .tc main_v5) = _
  after_reads_simp; rfl
theorem v6 : V m c main_v6 = gates (args m c).gt := by
  show StableHlo.after hostOps0 (fun b => m (c, b)) (Proc.devRef .tc main_v6) = _
  after_reads_simp; rfl
theorem v7 : V m c main_v7 = gain (args m c).g := by
  show StableHlo.after hostOps0 (fun b => m (c, b)) (Proc.devRef .tc main_v7) = _
  after_reads_simp; rfl
theorem v8 : V m c main_v8 = flat (args m c).target := by
  show StableHlo.after hostOps0 (fun b => m (c, b)) (Proc.devRef .tc main_v8) = _
  after_reads_simp; rfl

/-- The windows' block indices at every point. -/
theorem idx : ∀ t : Fin cfg0.N, win0_0.index t = ![0, t.val, 0] ∧ win0_1.index t = ![0, 0, 0, 0] ∧ win0_2.index t = ![t.val, 0]
    ∧ win0_3.index t = ![t.val / 4, 0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

theorem lt8 (t : Fin cfg0.N) : t.val < 8 := lt_of_lt_of_eq t.isLt N_0

/-- Token `r` of the tile read at point `t`. -/
abbrev tok (t : Fin cfg0.N) (r : Fin 512) : Fin 4096 := tokOf t.val (lt8 t) r

variable {m c}

theorem iblk0 (t : Fin cfg0.N) (j : Fin 4) (r : Fin 512) (k : Fin 704) :
    (show FVec Ideal S4x512x704 .bf16 from iblk m c 0 t) (ix3 j r k) = wide (args m c).s (tok t r) (col j k) := by
  rw [← Cert.FfnW.cut_at, ← v2]
  unfold tok tokOf
  blk_ext [iblk, idx t]
theorem iblk1 (t : Fin cfg0.N) (j : Fin 4) (k : Fin 704) (d : Fin 1024) :
    (show FVec Ideal S4x1x704x1024 .bf16 from iblk m c 1 t) (ix4 j 0 k d) = (args m c).w (ix2 (col j k) d) := by
  rw [← chips_at (args m c).w, ← v4]
  blk_ext [iblk, idx t]
theorem iblk2 (t : Fin cfg0.N) (r : Fin 512) (d : Fin 1024) :
    (show FVec Ideal S512x1024 .f32 from iblk m c 2 t) (ix2 r d) = narrow (args m c).x (tok t r) d := by
  refine Eq.trans ?_ (flat_at (args m c).x (tok t r) d)
  rw [← v5]
  unfold tok tokOf
  blk_ext [iblk, idx t]
theorem iblk3 (t : Fin cfg0.N) (r : Fin 512) (d : Fin 1024) :
    (show FVec Ideal S1x1x1024 .f32 from iblk m c 3 t) (ix3 0 0 d) = (args m c).gt (ix2 ⟨(tok t r).val / 2048, by omega⟩ d) := by
  have ht := lt8 t
  have hr : (tok t r).val / 2048 = t.val / 4 := by unfold tok tokOf; dsimp only; omega
  rw [← gates_at (args m c).gt, ← v6]
  blk_ext [iblk, idx t]
theorem iblk4 (t : Fin cfg0.N) (d : Fin 1024) :
    (show FVec Ideal S1x1024 .f32 from iblk m c 4 t) (ix2 0 d) = (args m c).g (ix1 d) := by
  refine Eq.trans ?_ (gain_at (args m c).g 0 d)
  rw [← v7]
  blk_ext [iblk, idx t]
theorem iblk5 (t : Fin cfg0.N) (r : Fin 512) (d : Fin 1024) :
    (show FVec Ideal S512x1024 .f32 from iblk m c 5 t) (ix2 r d) = narrow (args m c).target (tok t r) d := by
  refine Eq.trans ?_ (flat_at (args m c).target (tok t r) d)
  rw [← v8]
  unfold tok tokOf
  blk_ext [iblk, idx t]

/-! ## The product, and what a point reads -/

/-- The product with the down projection at token `t`. -/
def fat (A : Args) (t : Fin 4096) (d : Fin 1024) : EReal := A.down ⟨t.val / 2048, by omega⟩ ⟨t.val % 2048, by omega⟩ d

/-- A tile's product, of the blocks as the body loads them. -/
theorem prod_of (t : Fin cfg0.N) {h0 h2 h4 h6 h1 h3 h5 h7} (r : Fin 512) (d : Fin 1024) :
    k0_pay6 (F := Ideal) (View.ld (iblk m c 0 t : Vec Ideal S4x512x704 .bf16) (Rect.unit ![0, 0, 0] ![1, 512, 704] h0))
      (View.ld (iblk m c 1 t : Vec Ideal S4x1x704x1024 .bf16) (Rect.unit ![0, 0, 0, 0] ![1, 1, 704, 1024] h1))
      (View.ld (iblk m c 0 t : Vec Ideal S4x512x704 .bf16) (Rect.unit ![1, 0, 0] ![1, 512, 704] h2))
      (View.ld (iblk m c 1 t : Vec Ideal S4x1x704x1024 .bf16) (Rect.unit ![1, 0, 0, 0] ![1, 1, 704, 1024] h3))
      (View.ld (iblk m c 0 t : Vec Ideal S4x512x704 .bf16) (Rect.unit ![2, 0, 0] ![1, 512, 704] h4))
      (View.ld (iblk m c 1 t : Vec Ideal S4x1x704x1024 .bf16) (Rect.unit ![2, 0, 0, 0] ![1, 1, 704, 1024] h5))
      (View.ld (iblk m c 0 t : Vec Ideal S4x512x704 .bf16) (Rect.unit ![3, 0, 0] ![1, 512, 704] h6))
      (View.ld (iblk m c 1 t : Vec Ideal S4x1x704x1024 .bf16) (Rect.unit ![3, 0, 0, 0] ![1, 1, 704, 1024] h7)) (ix2 r d)
      = fat (args m c) (tok t r) d := by
  unfold fat Args.down
  rw [Fin.sum_univ_tiles 4 704 rfl, Fin.sum_univ_four]
  have p : ∀ (j : Fin 4) {f : Fin 704 → EReal} {g : Fin 704 → EReal} (hf : ∀ k, f k = wide (args m c).s (tok t r) (col j k))
      (hg : ∀ k, g k = (args m c).w (ix2 (col j k) d)), (∑ k, f k * g k) = ∑ k, wide (args m c).s (tok t r) (col j k) * (args m c).w (ix2 (col j k) d) :=
    fun j _ _ hf hg => Finset.sum_congr rfl fun k _ => congrArg₂ _ (hf k) (hg k)
  have x : ∀ (j : Fin 4) (h) (k : Fin 704), (View.ld (iblk m c 0 t : Vec Ideal S4x512x704 .bf16) (Rect.unit ![(j : ℕ), 0, 0] ![1, 512, 704] h) :
      Vec Ideal S1x512x704 .bf16) (ix3 0 r k) = wide (args m c).s (tok t r) (col j k) := fun j h k => (Cert.FfnDown.ld_cols _ j h r k).trans (iblk0 t j r k)
  have y : ∀ (j : Fin 4) (h) (k : Fin 704), (View.ld (iblk m c 1 t : Vec Ideal S4x1x704x1024 .bf16) (Rect.unit ![(j : ℕ), 0, 0, 0] ![1, 1, 704, 1024] h) :
      Vec Ideal S1x1x704x1024 .bf16) (ix4 0 0 k d) = (args m c).w (ix2 (col j k) d) := fun j h k => (ld3 _ j h k d).trans (iblk1 t j k d)
  exact (Tile.prod_at _ _ _ _ _ _ _ _ r d).trans (congrArg₂ _ (congrArg₂ _ (congrArg₂ _ (p 0 (x 0 h0) (y 0 h1)) (p 1 (x 1 h2) (y 1 h3)))
    (p 2 (x 2 h4) (y 2 h5))) (p 3 (x 3 h6) (y 3 h7)))

theorem reads (t : Fin cfg0.N) {f : FVec Ideal S512x1024 .f32} (hf : ∀ r d, f (ix2 r d) = fat (args m c) (tok t r) d) :
    Reads (args m c) t.val (lt8 t) f (iblk m c 2 t) (iblk m c 3 t) (iblk m c 4 t) (iblk m c 5 t) where
  x r d := (Tile.stream_at _ _ _ r d).trans (congrArg₂ _ (iblk2 t r d) (congrArg₂ _ (congrArg _ (iblk3 t r d)) (hf r d)))
  g := iblk4 t
  target := iblk5 t

/-! ## The outputs at a point -/

set_option maxHeartbeats 4000000

theorem out6 (t : Fin cfg0.N) (r : Fin 512) (d : Fin 1024) : (outsAt0 m c t.val t.isLt).1 (ix2 r d) = fat (args m c) (tok t r) d := by
  have ht := lt8 t
  by_cases hA : t.val % 8 = 0
  · rw [outsAt0_A m c t hA (by omega) hA (by omega) (by omega)]
    frame_out
    exact prod_of t r d
  · by_cases hC : t.val % 8 = 7
    · rw [outsAt0_C m c t hA (by omega) hA (by omega) hC]
      frame_out
      exact prod_of t r d
    · rw [outsAt0_B m c t hA (by omega) hA (by omega) hC]
      frame_out
      exact prod_of t r d

theorem out7 (t : Fin cfg0.N) (r : Fin 512) (d : Fin 1024) : (outsAt0 m c t.val t.isLt).2.1 (ix2 r d) = ((args m c).inp.tok (tok t r)).dx d := by
  have ht := lt8 t
  by_cases hA : t.val % 8 = 0
  · rw [outsAt0_A m c t hA (by omega) hA (by omega) (by omega)]
    frame_out
    exact Tile.dx_at (reads t (prod_of t)) r d
  · by_cases hC : t.val % 8 = 7
    · rw [outsAt0_C m c t hA (by omega) hA (by omega) hC]
      frame_out
      exact Tile.dx_at (reads t (prod_of t)) r d
    · rw [outsAt0_B m c t hA (by omega) hA (by omega) hC]
      frame_out
      exact Tile.dx_at (reads t (prod_of t)) r d

variable (m c) in
/-- A tile's part of the gain's gradient. -/
def part8 (t : Fin cfg0.N) (i : S1x1024.Idx) : EReal :=
  ∑ r, (rows (args m c).inp t.val (lt8 t) r).dy (i 1) * (rows (args m c).inp t.val (lt8 t) r).n (i 1)
variable (m c) in
/-- A tile's part of the squared distances, feature by feature. -/
def part9 (t : Fin cfg0.N) (i : S1x1024.Idx) : EReal := ∑ r, dist (args m c) t.val (lt8 t) r (i 1) * dist (args m c) t.val (lt8 t) r (i 1)

theorem out8_reset (t : Fin cfg0.N) (hA : t.val % 8 = 0) (i : S1x1024.Idx) : (outsAt0 m c t.val t.isLt).2.2.1 i = 0 + part8 m c t i := by
  have ht := lt8 t
  rw [zero_add, outsAt0_A m c t hA (by omega) hA (by omega) (by omega)]
  frame_out
  idx_vars i
  exact Tile.dg_at (reads t (prod_of t)) i0 i1

theorem out8_step (t : Fin cfg0.N) (hA : ¬t.val % 8 = 0) (i : S1x1024.Idx) :
    (outsAt0 m c t.val t.isLt).2.2.1 i = (outsAt0 m c (t.val - 1) (Nat.lt_of_le_of_lt (Nat.sub_le _ _) t.isLt)).2.2.1 i + part8 m c t i := by
  have ht := lt8 t
  by_cases hC : t.val % 8 = 7
  · rw [outsAt0_C m c t hA (by omega) hA (by omega) hC]
    frame_out
    exact (Tile.pay15_eq ..).trans (congrArg _ (Tile.dg_at (reads t (prod_of t)) 0 (i 1)))
  · rw [outsAt0_B m c t hA (by omega) hA (by omega) hC]
    frame_out
    exact (Tile.pay15_eq ..).trans (congrArg _ (Tile.dg_at (reads t (prod_of t)) 0 (i 1)))

theorem sum_reset (t : Fin cfg0.N) (hA : t.val % 8 = 0) (i : S1x1024.Idx) : (outsAt0 m c t.val t.isLt).2.2.2.2 i = 0 + part9 m c t i := by
  have ht := lt8 t
  rw [zero_add, outsAt0_A m c t hA (by omega) hA (by omega) (by omega)]
  frame_out
  exact (Tile.pay3_eq ..).trans (Tile.square_at (reads t (prod_of t)) 0 (i 1))

theorem sum_step (t : Fin cfg0.N) (hA : ¬t.val % 8 = 0) (i : S1x1024.Idx) :
    (outsAt0 m c t.val t.isLt).2.2.2.2 i = (outsAt0 m c (t.val - 1) (Nat.lt_of_le_of_lt (Nat.sub_le _ _) t.isLt)).2.2.2.2 i + part9 m c t i := by
  have ht := lt8 t
  by_cases hC : t.val % 8 = 7
  · rw [outsAt0_C m c t hA (by omega) hA (by omega) hC]
    frame_out
    exact (Tile.pay4_eq ..).trans (congrArg₂ _ (congrFun (Memref.IsWhole.read_unread _ _) i) (Tile.square_at (reads t (prod_of t)) 0 (i 1)))
  · rw [outsAt0_B m c t hA (by omega) hA (by omega) hC]
    frame_out
    exact (Tile.pay4_eq ..).trans (congrArg₂ _ (congrFun (Memref.IsWhole.read_unread _ _) i) (Tile.square_at (reads t (prod_of t)) 0 (i 1)))

/-- The last point's loss, of the sums it leaves. -/
theorem out9 (t : Fin cfg0.N) (hC : t.val % 8 = 7) (i : S1x128.Idx) :
    (outsAt0 m c t.val t.isLt).2.2.2.1 i = (∑ d, (outsAt0 m c t.val t.isLt).2.2.2.2 (ix2 0 d)) * ((1 / 2048 : ℝ) : EReal) := by
  have ht := lt8 t
  rw [outsAt0_C m c t (by omega) (by omega) (by omega) (by omega) hC]
  frame_out
  exact Tile.pay5_eq _ i

end Cert.Head
end
-- ==== Proof.Head.Claim.lean ====
/- The kernel of the half's down projection and the loss computes what the reference computes, over the extended reals: the
   product, the gradients of the loss at the stream and at the gain, and the loss. -/
module

public import proofs.«01_k».proof.Defs
public import proofs.«01_k».proof.Proof.Head.Outs
public import proofs.«01_k».proof.Proof.Gen.Reference22Ideal.Run

@[expose] public section

set_option maxRecDepth 16384

noncomputable section

namespace Cert.Head

open Idealize.ShloMosaic Idealize.ShloMosaic.TcCoe Idealize.SL.Sem
open Cert.Ffn.Host (at2)
open Cert.Head.Tile (dist)

section Arrays
open Cert.Kernel22Ideal Cert.Kernel22Ideal.Gen

/-- The results: the product, the stream's gradient, the gain's gradient, and the loss, once a lane. -/
def res (A : Args) : FVec Ideal S4096x1024 .bf16 × FVec Ideal S4096x1024 .f32 × FVec Ideal S1x1024 .f32 × FVec Ideal S1x128 .f32 :=
  (fun i => fat A (i 0) (i 1), fun i => (A.inp.tok (i 0)).dx (i 1), fun i => A.inp.dg (i 1), fun _ => A.loss)

/-- The squared distances of all tiles, summed: those of all tokens, summed. -/
theorem sum_squares (A : Args) (n : Fin 8 → ℕ) (h : ∀ s, n s < 8) (hn : ∀ s, n s = s.val) :
    (∑ d, ∑ s, ∑ r, dist A (n s) (h s) r d * dist A (n s) (h s) r d) * ((1 / 2048 : ℝ) : EReal) = A.loss := by
  refine congrArg (· * _) ?_
  rw [Finset.sum_comm, Finset.sum_congr rfl fun s _ => Finset.sum_comm]
  exact Cert.Tail.sum_all { A.base with dh := A.err } (fun R => ∑ d, R.dh d * R.dh d) n h hn

variable (m : (ℓ : Loc nD τ sig) → Buf (Elt Ideal) ℓ) (c : Dev nD)

set_option maxHeartbeats 1000000

theorem array6 : (dats m 0 c).arrAt 6 (cfgs 0).N = (res (args m c)).1 := by
  refine (dats m 0 c).arrAt_eq_of_covers 6 _ (by decide +kernel) fun t _ y => ?_
  blk_simp
  rw [after0_6]
  refine (congrArg _ (eq_ix2 y)).trans ((out6 t (y 0) (y 1)).trans ?_)
  refine at2 (fat (args m c)) ?_ ?_ <;> (try unfold tok Tail.tokOf) <;> blk_simp [idx t] <;> (try omega)

theorem array7 : (dats m 0 c).arrAt 7 (cfgs 0).N = (res (args m c)).2.1 := by
  refine (dats m 0 c).arrAt_eq_of_covers 7 _ (by decide +kernel) fun t _ y => ?_
  blk_simp
  rw [after0_7]
  refine (congrArg _ (eq_ix2 y)).trans ((out7 t (y 0) (y 1)).trans ?_)
  refine at2 (fun t d => ((args m c).inp.tok t).dx d) ?_ ?_ <;> (try unfold tok Tail.tokOf) <;> blk_simp [idx t] <;> (try omega)

theorem array8 : (dats m 0 c).arrAt 8 (cfgs 0).N = (res (args m c)).2.2.1 := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0) (part8 m c)
    out8_reset out8_step t ((flush0_8 t).mp hf) y, zero_add]
  have ht := lt8 t
  have e1 : ((win0_8.blk t).view.emb y 1 : Fin 1024) = y 1 := Fin.ext (by blk_simp [idx t] <;> (try omega))
  refine Eq.trans ?_ (congrArg (args m c).inp.dg e1.symm)
  exact Tail.sum_all (args m c).inp (fun R => R.dy (y 1) * R.n (y 1)) (fun s => 8 * (t.val / 8) + s.val) (fun s => by omega) fun s => by dsimp only; omega

theorem array9 : (dats m 0 c).arrAt 9 (cfgs 0).N = (res (args m c)).2.2.2 := by
  refine (dats m 0 c).arrAt_eq_of_covers 9 _ (by decide +kernel) fun t hf y => ?_
  blk_simp
  have ht := lt8 t
  have hC := (flush0_9 t).mp hf
  have e : ∀ d : Fin 1024, (outsAt0 m c t.val t.isLt).2.2.2.2 (ix2 0 d) = _ := fun d =>
    (Pipeline.eq_sum_fin_of_reset_step_apply_of_flush (fun n h => (outsAt0 m c n h).2.2.2.2) 8 (fun _ => 0) (part9 m c)
      sum_reset sum_step t hC (ix2 0 d)).trans (zero_add _)
  rw [after0_9]
  refine (out9 t hC y).trans (Eq.trans ?_ (sum_squares (args m c) (fun s => 8 * (t.val / 8) + s.val) (fun s => by omega) fun s => by dsimp only; omega))
  exact congrArg (· * _) (Finset.sum_congr rfl fun d _ => e d)

end Arrays

/-! ## The claim -/

open Cert.Reference22Ideal Cert.Reference22Ideal.Gen Cert.Reference22Ideal.Value Cert.Reference22Ideal.Read in
/-- The reference, run at the same arguments, ends with the results `res`. -/
theorem reference_run (m : (ℓ : Loc nD τ sig) → Buf (Elt Ideal) ℓ) (ρ : Dev nD → PrngReg) (A : Dev nD → Args)
    (h0 : ∀ c, m (c, Proc.devRef .tc main_arg0) = (A c).s) (h1 : ∀ c, m (c, Proc.devRef .tc main_arg1) = (A c).w)
    (h2 : ∀ c, m (c, Proc.devRef .tc main_arg2) = (A c).x) (h3 : ∀ c, m (c, Proc.devRef .tc main_arg3) = (A c).gt)
    (h4 : ∀ c, m (c, Proc.devRef .tc main_arg4) = (A c).g) (h5 : ∀ c, m (c, Proc.devRef .tc main_arg5) = (A c).target) :
    θ_run defs (onTc (τ := τ) (main (F := Ideal))) ⟨m, fun _ => 0, ρ⟩ fun r => ∀ c : Dev nD,
      r.2.mem ((c.tc : Thread nD τ).loc main_v59) = (res (A c)).1
      ∧ r.2.mem ((c.tc : Thread nD τ).loc main_v60) = (res (A c)).2.1
      ∧ r.2.mem ((c.tc : Thread nD τ).loc main_v61) = (res (A c)).2.2.1
      ∧ r.2.mem ((c.tc : Thread nD τ).loc main_v62) = (res (A c)).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Cert.Reference22Ideal.Value.run (F := Ideal) m ρ)
  obtain ⟨e0, e1, e2, e3, e⟩ := h c
  replace e0 := e0.trans (val_main_v59_eq ..)
  replace e1 := e1.trans (val_main_v60_eq m c)
  replace e2 := e2.trans (val_main_v61_eq m c)
  replace e3 := e3.trans (val_main_v62_eq m c)
  have g0 := h0 c; have g1 := h1 c; have g2 := h2 c; have g3 := h3 c; have g4 := h4 c; have g5 := h5 c
  rw [g0, g1] at e0
  rw [g0, g1, g2, g3, g4, g5] at e1 e2 e3
  exact ⟨e0.trans (funext fun i => (congrArg _ (eq_ix2 i)).trans (f_at (A c) (i 0) (i 1))),
    e1.trans (funext fun i => (congrArg _ (eq_ix2 i)).trans (dx_at (A c) (i 0) (i 1))),
    e2.trans (funext fun i => (congrArg _ (eq_ix2 i)).trans (dg_at (A c) (i 0) (i 1))),
    e3.trans (funext fun i => (congrArg _ (eq_ix2 i)).trans (loss_at (A c) (i 0) (i 1))), e⟩

/-- Kernel and reference end with equal results. -/
theorem algebraic : Cert.algebraic_Kernel22Ideal_Reference22Ideal := by
  intro m g m' g' _ hagree
  refine ⟨fun c => (res (args m c)).1, fun c => (res (args m c)).2.1, fun c => (res (args m c)).2.2.1, fun c => (res (args m c)).2.2.2, ?_, ?_⟩
  · refine (θ_run _ _ _).mono (fun r h c => ?_) (Cert.Kernel22Ideal.Value.run_blocks (F := Ideal) m g)
    obtain ⟨e0, e1, e2, e3, e⟩ := h c
    exact ⟨e0.trans (array6 m c), e1.trans (array7 m c), e2.trans (array8 m c), e3.trans (array9 m c), e⟩
  · exact reference_run m' g' (args m) (fun c => (hagree c).1) (fun c => (hagree c).2.1) (fun c => (hagree c).2.2.1) (fun c => (hagree c).2.2.2.1)
      (fun c => (hagree c).2.2.2.2.1) (fun c => (hagree c).2.2.2.2.2)

end Cert.Head
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Ffn.Claim
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnW.Claim
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.FfnUp.Claim
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.FfnDs.Claim
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.FfnDh.Claim
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.FfnWd.Claim
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.FfnWu.Claim
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.FfnDown.Claim
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.DwIn.Claim
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.MixOut.Claim
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.MixDh.Claim
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Adam.WAda
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Adam.W1Gate
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Adam.W1Up
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Adam.W1Down
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Adam.WIn
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Adam.WOut
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam.W2Gate
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam.W2Up
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam.W2Down
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Adam.Small
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Head.Claim
public import Idealize.ShloMosaic.Adequacy
public import Idealize.ShloMosaic.Init

@[expose] public section

noncomputable section

namespace Cert.Proof

open Idealize.ShloMosaic Idealize.SL.Sem Cert.Kernel

/-- The reference's frame: it ends, its arguments unchanged and every semaphore at zero. -/
theorem frame_reference : Cert.quiescent_ReferenceIdeal (hReferenceIdeal := Cert.ReferenceIdeal.Gen.facts) := by
  intro m g _
  refine (θ_run _ _ _).mono (fun r h => ⟨fun c => ?_, sem_eq_zero_of_no_sems (by decide) _⟩) (Cert.ReferenceIdeal.Value.run (F := Ideal) m g)
  obtain ⟨_, _, _, _, _, _, _, _, e⟩ := h c
  exact e

/-- The frame of the weight gradients' reference. -/
theorem frame_reference2 : Cert.quiescent_Reference2Ideal (hReference2Ideal := Cert.Reference2Ideal.Gen.facts) := by
  intro m g _
  exact (θ_run _ _ _).mono (fun r h => ⟨fun c => (h c).2, sem_eq_zero_of_no_sems (by decide) _⟩) (Cert.Reference2Ideal.Value.run (F := Ideal) m g)

/-- The frame of the reference of the forward gate products. -/
theorem frame_reference3 : Cert.quiescent_Reference3Ideal (hReference3Ideal := Cert.Reference3Ideal.Gen.facts) := by
  intro m g _
  exact (θ_run _ _ _).mono (fun r h => ⟨fun c => (h c).2.2.2.2, sem_eq_zero_of_no_sems (by decide) _⟩) (Cert.Reference3Ideal.Value.run (F := Ideal) m g)

/-- The frame of the reference of the first half's gate gradient. -/
theorem frame_reference4 : Cert.quiescent_Reference4Ideal (hReference4Ideal := Cert.Reference4Ideal.Gen.facts) := by
  intro m g _
  exact (θ_run _ _ _).mono (fun r h => ⟨fun c => (h c).2.2.2.2, sem_eq_zero_of_no_sems (by decide) _⟩) (Cert.Reference4Ideal.Value.run (F := Ideal) m g)

/-- The frame of the reference of the first half's input gradient. -/
theorem frame_reference5 : Cert.quiescent_Reference5Ideal (hReference5Ideal := Cert.Reference5Ideal.Gen.facts) := by
  intro m g _
  exact (θ_run _ _ _).mono (fun r h => ⟨fun c => (h c).2.2.2.2, sem_eq_zero_of_no_sems (by decide) _⟩) (Cert.Reference5Ideal.Value.run (F := Ideal) m g)

/-- The frame of the reference of the gradient of the inner projection. -/
theorem frame_reference6 : Cert.quiescent_Reference6Ideal (hReference6Ideal := Cert.Reference6Ideal.Gen.facts) := by
  intro m g _
  exact (θ_run _ _ _).mono (fun r h => ⟨fun c => (h c).2, sem_eq_zero_of_no_sems (by decide) _⟩) (Cert.Reference6Ideal.Value.run (F := Ideal) m g)

/-- The frame of the reference of the gradients of the two gate projections. -/
theorem frame_reference7 : Cert.quiescent_Reference7Ideal (hReference7Ideal := Cert.Reference7Ideal.Gen.facts) := by
  intro m g _
  exact (θ_run _ _ _).mono (fun r h => ⟨fun c => (h c).2, sem_eq_zero_of_no_sems (by decide) _⟩) (Cert.Reference7Ideal.Value.run (F := Ideal) m g)

/-- The frame of the reference of the forward inner projection. -/
theorem frame_reference8 : Cert.quiescent_Reference8Ideal (hReference8Ideal := Cert.Reference8Ideal.Gen.facts) := by
  intro m g _
  exact (θ_run _ _ _).mono (fun r h => ⟨fun c => (h c).2.2, sem_eq_zero_of_no_sems (by decide) _⟩) (Cert.Reference8Ideal.Value.run (F := Ideal) m g)

/-- The frame of the reference of the gradient of the mixer's input projection. -/
theorem frame_reference9 : Cert.quiescent_Reference9Ideal (hReference9Ideal := Cert.Reference9Ideal.Gen.facts) := by
  intro m g _
  exact (θ_run _ _ _).mono (fun r h => ⟨fun c => (h c).2, sem_eq_zero_of_no_sems (by decide) _⟩) (Cert.Reference9Ideal.Value.run (F := Ideal) m g)

/-- The frame of the reference of the mixer's output projection. -/
theorem frame_reference10 : Cert.quiescent_Reference10Ideal (hReference10Ideal := Cert.Reference10Ideal.Gen.facts) := by
  intro m g _
  exact (θ_run _ _ _).mono (fun r h => ⟨fun c => (h c).2.2, sem_eq_zero_of_no_sems (by decide) _⟩) (Cert.Reference10Ideal.Value.run (F := Ideal) m g)

/-- The frame of the reference of the gradient at the mixer's input. -/
theorem frame_reference11 : Cert.quiescent_Reference11Ideal (hReference11Ideal := Cert.Reference11Ideal.Gen.facts) := by
  intro m g _
  exact (θ_run _ _ _).mono (fun r h => ⟨fun c => (h c).2.2.2.2, sem_eq_zero_of_no_sems (by decide) _⟩) (Cert.Reference11Ideal.Value.run (F := Ideal) m g)

/-- The frame of the reference of the optimiser's step at the modulation's weight. -/
theorem frame_reference12 : Cert.quiescent_Reference12Ideal (hReference12Ideal := Cert.Reference12Ideal.Gen.facts) := by
  intro m g _
  exact (θ_run _ _ _).mono (fun r h => ⟨fun c => (h c).2.2.2.2, sem_eq_zero_of_no_sems (by decide) _⟩) (Cert.Reference12Ideal.Value.run (F := Ideal) m g)

/-- The frame of the reference of the optimiser's step at the first half's gate weight. -/
theorem frame_reference13 : Cert.quiescent_Reference13Ideal (hReference13Ideal := Cert.Reference13Ideal.Gen.facts) := by
  intro m g _
  exact (θ_run _ _ _).mono (fun r h => ⟨fun c => (h c).2.2.2.2, sem_eq_zero_of_no_sems (by decide) _⟩) (Cert.Reference13Ideal.Value.run (F := Ideal) m g)

/-- The frame of the reference of the optimiser's step at the first half's up weight. -/
theorem frame_reference14 : Cert.quiescent_Reference14Ideal (hReference14Ideal := Cert.Reference14Ideal.Gen.facts) := by
  intro m g _
  exact (θ_run _ _ _).mono (fun r h => ⟨fun c => (h c).2.2.2.2, sem_eq_zero_of_no_sems (by decide) _⟩) (Cert.Reference14Ideal.Value.run (F := Ideal) m g)

/-- The frame of the reference of the optimiser's step at the first half's inner weight. -/
theorem frame_reference15 : Cert.quiescent_Reference15Ideal (hReference15Ideal := Cert.Reference15Ideal.Gen.facts) := by
  intro m g _
  exact (θ_run _ _ _).mono (fun r h => ⟨fun c => (h c).2.2.2.2, sem_eq_zero_of_no_sems (by decide) _⟩) (Cert.Reference15Ideal.Value.run (F := Ideal) m g)

/-- The frame of the reference of the optimiser's step at the mixer's input weight. -/
theorem frame_reference16 : Cert.quiescent_Reference16Ideal (hReference16Ideal := Cert.Reference16Ideal.Gen.facts) := by
  intro m g _
  exact (θ_run _ _ _).mono (fun r h => ⟨fun c => (h c).2.2.2.2, sem_eq_zero_of_no_sems (by decide) _⟩) (Cert.Reference16Ideal.Value.run (F := Ideal) m g)

/-- The frame of the reference of the optimiser's step at the mixer's output weight. -/
theorem frame_reference17 : Cert.quiescent_Reference17Ideal (hReference17Ideal := Cert.Reference17Ideal.Gen.facts) := by
  intro m g _
  exact (θ_run _ _ _).mono (fun r h => ⟨fun c => (h c).2.2.2.2, sem_eq_zero_of_no_sems (by decide) _⟩) (Cert.Reference17Ideal.Value.run (F := Ideal) m g)

/-- The frame of the reference of the optimiser's step at the second half's gate weight. -/
theorem frame_reference18 : Cert.quiescent_Reference18Ideal (hReference18Ideal := Cert.Reference18Ideal.Gen.facts) := by
  intro m g _
  exact (θ_run _ _ _).mono (fun r h => ⟨fun c => (h c).2.2.2.2, sem_eq_zero_of_no_sems (by decide) _⟩) (Cert.Reference18Ideal.Value.run (F := Ideal) m g)

/-- The frame of the reference of the optimiser's step at the second half's up weight. -/
theorem frame_reference19 : Cert.quiescent_Reference19Ideal (hReference19Ideal := Cert.Reference19Ideal.Gen.facts) := by
  intro m g _
  exact (θ_run _ _ _).mono (fun r h => ⟨fun c => (h c).2.2.2.2, sem_eq_zero_of_no_sems (by decide) _⟩) (Cert.Reference19Ideal.Value.run (F := Ideal) m g)

/-- The frame of the reference of the optimiser's step at the second half's inner weight. -/
theorem frame_reference20 : Cert.quiescent_Reference20Ideal (hReference20Ideal := Cert.Reference20Ideal.Gen.facts) := by
  intro m g _
  exact (θ_run _ _ _).mono (fun r h => ⟨fun c => (h c).2.2.2.2, sem_eq_zero_of_no_sems (by decide) _⟩) (Cert.Reference20Ideal.Value.run (F := Ideal) m g)

/-- The frame of the reference of the optimiser's step at the small parameters. -/
theorem frame_reference21 : Cert.quiescent_Reference21Ideal (hReference21Ideal := Cert.Reference21Ideal.Gen.facts) := by
  intro m g _
  exact (θ_run _ _ _).mono (fun r h => ⟨fun c => (h c).2.2.2.2.2.2.2.2.2.2.2.2.2.2.2.2.2.2.2.2.2.2.2.2, sem_eq_zero_of_no_sems (by decide) _⟩) (Cert.Reference21Ideal.Value.run (F := Ideal) m g)

/-- The frame of the reference of the second half's inner projection and the loss. -/
theorem frame_reference22 : Cert.quiescent_Reference22Ideal (hReference22Ideal := Cert.Reference22Ideal.Gen.facts) := by
  intro m g _
  exact (θ_run _ _ _).mono (fun r h => ⟨fun c => (h c).2.2.2.2, sem_eq_zero_of_no_sems (by decide) _⟩) (Cert.Reference22Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Ffn.preFacts, Cert.FfnUp.preFacts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, fun m g _ => Cert.Kernel3Ideal.Gen.frame m g,
  frame_reference3, fun m g _ => frame_reference3 m g trivial,
  fun m g _ => Cert.Kernel4.Gen.frame m g, fun m g _ => Cert.Kernel4Ideal.Gen.frame m g, fun m g _ => Cert.Kernel4Ideal.Gen.frame m g,
  frame_reference4, fun m g _ => frame_reference4 m g trivial,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, frame_reference16,
  fun m g _ => Cert.Kernel17.Gen.frame m g, fun m g _ => Cert.Kernel17Ideal.Gen.frame m g, frame_reference17,
  fun m g _ => Cert.Kernel18.Gen.frame m g, fun m g _ => Cert.Kernel18Ideal.Gen.frame m g, frame_reference18,
  fun m g _ => Cert.Kernel19.Gen.frame m g, fun m g _ => Cert.Kernel19Ideal.Gen.frame m g, frame_reference19,
  fun m g _ => Cert.Kernel20.Gen.frame m g, fun m g _ => Cert.Kernel20Ideal.Gen.frame m g, frame_reference20,
  fun m g _ => Cert.Kernel21.Gen.frame m g, fun m g _ => Cert.Kernel21Ideal.Gen.frame m g, frame_reference21,
  fun m g _ => Cert.Kernel22.Gen.frame m g, fun m g _ => Cert.Kernel22Ideal.Gen.frame m g, frame_reference22,
  trivial, Cert.Ffn.algebraic, trivial, Cert.FfnW.algebraic, trivial, Cert.FfnUp.algebraic, trivial, Cert.FfnDs.algebraic, trivial, Cert.FfnDh.algebraic, trivial, Cert.FfnWd.algebraic, trivial, Cert.FfnWu.algebraic, trivial, Cert.FfnDown.algebraic, trivial, Cert.DwIn.algebraic, trivial, Cert.MixOut.algebraic, trivial, Cert.MixDh.algebraic, trivial, Cert.Adam.WAda.algebraic, trivial, Cert.Adam.W1Gate.algebraic, trivial, Cert.Adam.W1Up.algebraic, trivial, Cert.Adam.W1Down.algebraic, trivial, Cert.Adam.WIn.algebraic, trivial, Cert.Adam.WOut.algebraic, trivial, Cert.Adam.W2Gate.algebraic, trivial, Cert.Adam.W2Up.algebraic, trivial, Cert.Adam.W2Down.algebraic, trivial, Cert.Adam.Small.algebraic, trivial, Cert.Head.algebraic⟩

end Cert.Proof

end
